-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_gate [hPre_finite_gate : Cert.Pre_finite_gate.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_gate.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).1 = (fun _ => 1#1)
    ∧ (Cert.Pre_finite_gate.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.1 = (fun _ => 1#1)
    ∧ (Cert.Pre_finite_gate.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_gate [hPre_finite_gate : Cert.Pre_finite_gate.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_gate.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).1 = (fun _ => 1#1)
    ∧ (Cert.Pre_finite_gate.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.1 = (fun _ => 1#1)
    ∧ (Cert.Pre_finite_gate.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_products [hPre_finite_products : Cert.Pre_finite_products.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_products.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))).1 = (fun _ => 1#1)
    ∧ (Cert.Pre_finite_products.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))).2.1 = (fun _ => 1#1)
    ∧ (Cert.Pre_finite_products.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))).2.2.1 = (fun _ => 1#1)
    ∧ (Cert.Pre_finite_products.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))).2.2.2.1 = (fun _ => 1#1)
    ∧ (Cert.Pre_finite_products.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))).2.2.2.2.1 = (fun _ => 1#1)
    ∧ (Cert.Pre_finite_products.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))).2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_products [hPre_finite_products : Cert.Pre_finite_products.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_products.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))).1 = (fun _ => 1#1)
    ∧ (Cert.Pre_finite_products.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))).2.1 = (fun _ => 1#1)
    ∧ (Cert.Pre_finite_products.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))).2.2.1 = (fun _ => 1#1)
    ∧ (Cert.Pre_finite_products.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))).2.2.2.1 = (fun _ => 1#1)
    ∧ (Cert.Pre_finite_products.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))).2.2.2.2.1 = (fun _ => 1#1)
    ∧ (Cert.Pre_finite_products.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))).2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_mixer [hPre_finite_mixer : Cert.Pre_finite_mixer.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_mixer.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).1 = (fun _ => 1#1)
    ∧ (Cert.Pre_finite_mixer.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2.1 = (fun _ => 1#1)
    ∧ (Cert.Pre_finite_mixer.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_mixer [hPre_finite_mixer : Cert.Pre_finite_mixer.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_mixer.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).1 = (fun _ => 1#1)
    ∧ (Cert.Pre_finite_mixer.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).2.1 = (fun _ => 1#1)
    ∧ (Cert.Pre_finite_mixer.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_gate [hKernel10Ideal : Cert.Kernel10Ideal.Facts] [hPre_finite_gate : Cert.Pre_finite_gate.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_gate m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_gate [hReference10Ideal : Cert.Reference10Ideal.Facts] [hPre_finite_gate : Cert.Pre_finite_gate.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_gate m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Kernel11Ideal_pre_finite_products [hKernel11Ideal : Cert.Kernel11Ideal.Facts] [hPre_finite_products : Cert.Pre_finite_products.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_products m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Reference11Ideal_pre_finite_products [hReference11Ideal : Cert.Reference11Ideal.Facts] [hPre_finite_products : Cert.Pre_finite_products.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_products m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite_mixer [hKernel14Ideal : Cert.Kernel14Ideal.Facts] [hPre_finite_mixer : Cert.Pre_finite_mixer.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_mixer m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite_mixer [hReference14Ideal : Cert.Reference14Ideal.Facts] [hPre_finite_mixer : Cert.Pre_finite_mixer.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_mixer m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite_gate [hKernel10Ideal : Cert.Kernel10Ideal.Facts] [hReference10Ideal : Cert.Reference10Ideal.Facts] [hPre_finite_gate : Cert.Pre_finite_gate.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_gate m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite_products [hKernel11Ideal : Cert.Kernel11Ideal.Facts] [hReference11Ideal : Cert.Reference11Ideal.Facts] [hPre_finite_products : Cert.Pre_finite_products.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_products m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v76) = v0 c
          ∧ r.2.mem ((c.tc : Thread Cert.Reference11Ideal.nD Cert.Reference11Ideal.τ).loc Cert.Reference11Ideal.main_v59) = v1 c
          ∧ r.2.mem ((c.tc : Thread Cert.Reference11Ideal.nD Cert.Reference11Ideal.τ).loc Cert.Reference11Ideal.main_v38) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v59) = v0 c
          ∧ r.2.mem ((c.tc : Thread Cert.Reference12Ideal.nD Cert.Reference12Ideal.τ).loc Cert.Reference12Ideal.main_v58) = v1 c
          ∧ r.2.mem ((c.tc : Thread Cert.Reference12Ideal.nD Cert.Reference12Ideal.τ).loc Cert.Reference12Ideal.main_v31) = v2 c
          ∧ r.2.mem ((c.tc : Thread Cert.Reference12Ideal.nD Cert.Reference12Ideal.τ).loc Cert.Reference12Ideal.main_v42) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite_mixer [hKernel14Ideal : Cert.Kernel14Ideal.Facts] [hReference14Ideal : Cert.Reference14Ideal.Facts] [hPre_finite_mixer : Cert.Pre_finite_mixer.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_mixer m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v75) = v0 c
          ∧ r.2.mem ((c.tc : Thread Cert.Reference14Ideal.nD Cert.Reference14Ideal.τ).loc Cert.Reference14Ideal.main_v76) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m ((c.tc : Thread Cert.Kernel15Ideal.nD Cert.Kernel15Ideal.τ).loc Cert.Kernel15Ideal.main_arg0) = Layout.block ⟨2, ![2048, 1024]⟩ ⟨2, ![4096, 1024]⟩ 0 2 c (m' (((0 : Dev Cert.Reference15Ideal.nD).tc : Thread Cert.Reference15Ideal.nD Cert.Reference15Ideal.τ).loc Cert.Reference15Ideal.main_arg0))) →
    ∃ (v0 : Buf (Elt Ideal) (((0 : Dev Cert.Reference15Ideal.nD).tc : Thread Cert.Reference15Ideal.nD Cert.Reference15Ideal.τ).loc Cert.Reference15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = Layout.block ⟨2, ![2048, 1024]⟩ ⟨2, ![4096, 1024]⟩ 0 2 c v0
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r =>
          r.2.mem (((0 : Dev Cert.Reference15Ideal.nD).tc : Thread Cert.Reference15Ideal.nD Cert.Reference15Ideal.τ).loc Cert.Reference15Ideal.main_v2) = v0
          ∧ r.2.mem (((0 : Dev Cert.Reference15Ideal.nD).tc : Thread Cert.Reference15Ideal.nD Cert.Reference15Ideal.τ).loc Cert.Reference15Ideal.main_arg0) = m' (((0 : Dev Cert.Reference15Ideal.nD).tc : Thread Cert.Reference15Ideal.nD Cert.Reference15Ideal.τ).loc Cert.Reference15Ideal.main_arg0))

def preserves_Kernel16_Kernel16Ideal : Prop :=
  IdealRules.named_const.Statement Cert.Kernel16Ideal.κ "m_scale" .f32 0x3FC48605#32 ((8388608 / 5463681 : ℝ) : EReal)
  ∧ IdealRules.named_const.Statement Cert.Kernel16Ideal.κ "v_scale" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  IdealRules.named_const.Statement Cert.Kernel17Ideal.κ "m_scale" .f32 0x3FC48605#32 ((8388608 / 5463681 : ℝ) : EReal)
  ∧ IdealRules.named_const.Statement Cert.Kernel17Ideal.κ "v_scale" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "m_scale" .f32 0x3FC48605#32 ((8388608 / 5463681 : ℝ) : EReal)
  ∧ IdealRules.named_const.Statement Cert.Kernel18Ideal.κ "v_scale" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "m_scale" .f32 0x3FC48605#32 ((8388608 / 5463681 : ℝ) : EReal)
  ∧ IdealRules.named_const.Statement Cert.Kernel19Ideal.κ "v_scale" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  IdealRules.named_const.Statement Cert.Kernel20Ideal.κ "m_scale" .f32 0x3FC48605#32 ((8388608 / 5463681 : ℝ) : EReal)
  ∧ IdealRules.named_const.Statement Cert.Kernel20Ideal.κ "v_scale" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  IdealRules.named_const.Statement Cert.Kernel21Ideal.κ "m_scale" .f32 0x3FC48605#32 ((8388608 / 5463681 : ℝ) : EReal)
  ∧ IdealRules.named_const.Statement Cert.Kernel21Ideal.κ "v_scale" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite_gate : Cert.Pre_finite_gate.Facts) (hPre_finite_products : Cert.Pre_finite_products.Facts) (hPre_finite_mixer : Cert.Pre_finite_mixer.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_gate (hKernel10Ideal := hKernel10Ideal) (hPre_finite_gate := hPre_finite_gate)
    ∧ quiescent_Reference10Ideal (hReference10Ideal := hReference10Ideal)
    ∧ quiescent_Reference10Ideal_pre_finite_gate (hReference10Ideal := hReference10Ideal) (hPre_finite_gate := hPre_finite_gate)
    ∧ quiescent_Kernel11 (hKernel11 := hKernel11)
    ∧ quiescent_Kernel11Ideal (hKernel11Ideal := hKernel11Ideal)
    ∧ quiescent_Kernel11Ideal_pre_finite_products (hKernel11Ideal := hKernel11Ideal) (hPre_finite_products := hPre_finite_products)
    ∧ quiescent_Reference11Ideal (hReference11Ideal := hReference11Ideal)
    ∧ quiescent_Reference11Ideal_pre_finite_products (hReference11Ideal := hReference11Ideal) (hPre_finite_products := hPre_finite_products)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_mixer (hKernel14Ideal := hKernel14Ideal) (hPre_finite_mixer := hPre_finite_mixer)
    ∧ quiescent_Reference14Ideal (hReference14Ideal := hReference14Ideal)
    ∧ quiescent_Reference14Ideal_pre_finite_mixer (hReference14Ideal := hReference14Ideal) (hPre_finite_mixer := hPre_finite_mixer)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_gate (hKernel10Ideal := hKernel10Ideal) (hReference10Ideal := hReference10Ideal) (hPre_finite_gate := hPre_finite_gate)
    ∧ preserves_Kernel11_Kernel11Ideal
    ∧ algebraic_Kernel11Ideal_Reference11Ideal_pre_finite_products (hKernel11Ideal := hKernel11Ideal) (hReference11Ideal := hReference11Ideal) (hPre_finite_products := hPre_finite_products)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_mixer (hKernel14Ideal := hKernel14Ideal) (hReference14Ideal := hReference14Ideal) (hPre_finite_mixer := hPre_finite_mixer)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite_gate.lean ====
abbrev S16384x1024 : Shape := ⟨2, ![16384, 1024]⟩
abbrev S512x1024 : Shape := ⟨2, ![512, 1024]⟩
abbrev S16384x512 : Shape := ⟨2, ![16384, 512]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S512x1024 : S_.BroadcastsInDim S512x1024 (![] : Fin 0 → Fin S512x1024.rank)
  bcast_S_S16384x512 : S_.BroadcastsInDim S16384x512 (![] : Fin 0 → Fin S16384x512.rank)

variable [Facts]

def fn {F : FTy → Type} [FloatOps F] (main_arg0 : FVec F S16384x1024 .f32) (main_arg1 : FVec F S512x1024 .bf16) (main_arg2 : FVec F S16384x512 .f32) (main_arg3 : FVec F S16384x1024 .bf16) : IVec S16384x1024 1 × IVec S512x1024 1 × IVec S16384x512 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S512x1024 .f32 := (extf .f32 · bitsLt_bf16_f32) main_arg1
  let main_v4 : FVec F S512x1024 .f32 := Host.absf main_v3
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_v7 : FVec F S16384x512 .f32 := Host.absf main_arg2
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  (main_v2, main_v6, main_v9)
-- ==== Pre_finite_mixer.lean ====
abbrev S16384x4096 : Shape := ⟨2, ![16384, 4096]⟩
abbrev S16384x1024 : Shape := ⟨2, ![16384, 1024]⟩
abbrev S3x1024 : Shape := ⟨2, ![3, 1024]⟩
abbrev S16384x3072 : Shape := ⟨2, ![16384, 3072]⟩
abbrev S_ : Shape := ⟨0, ![]⟩

class Facts : Prop where
  slices_S16384x4096_S16384x3072_0_0 : S16384x4096.Slices ![0, 0] S16384x3072
  bitsLt_bf16_f32 : FTy.bits .bf16 < FTy.bits .f32
  bcast_S_S16384x3072 : S_.BroadcastsInDim S16384x3072 (![] : Fin 0 → Fin S16384x3072.rank)
  bcast_S_S16384x1024 : S_.BroadcastsInDim S16384x1024 (![] : Fin 0 → Fin S16384x1024.rank)
  bcast_S_S3x1024 : S_.BroadcastsInDim S3x1024 (![] : Fin 0 → Fin S3x1024.rank)

variable [Facts]

def fn {F : FTy → Type} [FloatOps F] (main_arg0 : FVec F S16384x4096 .bf16) (main_arg1 : FVec F S16384x1024 .f32) (main_arg2 : FVec F S3x1024 .f32) : IVec S16384x3072 1 × IVec S16384x1024 1 × IVec S3x1024 1 :=
  let main_v0 : FVec F S16384x3072 .bf16 := (extractStridedSlice S16384x3072 ![0, 0] · slices_S16384x4096_S16384x3072_0_0) main_arg0
  let main_v1 : FVec F S16384x3072 .f32 := (extf .f32 · bitsLt_bf16_f32) main_v0
  let main_v2 : FVec F S16384x3072 .f32 := Host.absf main_v1
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  let main_v5 : FVec F S16384x1024 .f32 := Host.absf main_arg1
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S3x1024 .f32 := Host.absf main_arg2
  let main_cst_1 : FVec F S_ .f32 := constant S_ .f32 0x7F800000#32
  let main_v9 : FVec F S3x1024 .f32 := broadcastInDim S3x1024 ![] bcast_S_S3x1024 main_cst_1
  let main_v10 : IVec S3x1024 1 := cmpf .olt main_v8 main_v9
  (main_v4, main_v7, main_v10)
-- ==== Pre_finite_products.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_v3 : IVec S16384x1024 1) (main_v6 : IVec S16384x1024 1) (main_v10 : IVec S1024x1024 1) (main_v14 : IVec S1024x1024 1) (main_v17 : IVec S1x1024 1) (main_v18 : FVec F S1x1024 .f32) : IVec S16384x1024 1 × IVec S16384x1024 1 × IVec S1024x1024 1 × IVec S1024x1024 1 × IVec S1x1024 1 × IVec S1x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  (main_v3, main_v6, main_v10, main_v14, main_v17, main_v20)

def fn {F : FTy → Type} [FloatOps F] (main_arg0 : FVec F S16384x1024 .f32) (main_arg1 : FVec F S16384x1024 .bf16) (main_arg2 : FVec F S16384x1024 .f32) (main_arg3 : FVec F S1024x1024 .bf16) (main_arg4 : FVec F S1024x1024 .bf16) (main_arg5 : FVec F S1x1024 .f32) (main_arg6 : FVec F S1x1024 .f32) (main_arg7 : FVec F S16384x1024 .f32) : IVec S16384x1024 1 × IVec S16384x1024 1 × IVec S1024x1024 1 × IVec S1024x1024 1 × IVec S1x1024 1 × IVec S1x1024 1 :=
  let main_v0 : FVec F S16384x1024 .f32 := (extf .f32 · bitsLt_bf16_f32) main_arg1
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := Host.absf main_arg2
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_v7 : FVec F S1024x1024 .f32 := (extf .f32 · bitsLt_bf16_f32) main_arg3
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1024x1024 .f32 := (extf .f32 · bitsLt_bf16_f32) main_arg4
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_v15 : FVec F S1x1024 .f32 := Host.absf main_arg5
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  let main_v18 : FVec F S1x1024 .f32 := Host.absf main_arg6
  fn_part1 (F := F) main_v3 main_v6 main_v10 main_v14 main_v17 main_v18
-- ==== Kernel.lean ====
abbrev S16384x1024 : Shape := ⟨2, ![16384, 1024]⟩
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x63 : Shape := ⟨3, ![8, 16384, 63]⟩
abbrev S8x16384x1 : Shape := ⟨3, ![8, 16384, 1]⟩
abbrev S2x4x16384x64 : Shape := ⟨4, ![2, 4, 16384, 64]⟩
abbrev S128 : Shape := ⟨1, ![128]⟩
abbrev S256x256 : Shape := ⟨2, ![256, 256]⟩
abbrev S1x4x256x64 : Shape := ⟨4, ![1, 4, 256, 64]⟩
abbrev S16384x256 : Shape := ⟨2, ![16384, 256]⟩
abbrev S2 : Shape := ⟨1, ![2]⟩
abbrev S1 : Shape := ⟨1, ![1]⟩
abbrev S256x64 : Shape := ⟨2, ![256, 64]⟩
abbrev S256x1 : Shape := ⟨2, ![256, 1]⟩
abbrev S1x1x256x64 : Shape := ⟨4, ![1, 1, 256, 64]⟩
abbrev S256 : Shape := ⟨1, ![256]⟩

abbrev nBuf : Space → Nat
  | .hbm => 60
  | .vmem => 14
  | .smem => 1
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .f32⟩
  | .hbm, ⟨3, _⟩ => ⟨S16384x512, .bf16⟩
  | .hbm, ⟨4, _⟩ => ⟨S16384x512, .f32⟩
  | .hbm, ⟨5, _⟩ => ⟨S16384x8x64, .f32⟩
  | .hbm, ⟨6, _⟩ => ⟨S8x16384x64, .f32⟩
  | .hbm, ⟨7, _⟩ => ⟨S16384x512, .bf16⟩
  | .hbm, ⟨8, _⟩ => ⟨S16384x512, .f32⟩
  | .hbm, ⟨9, _⟩ => ⟨S16384x8x64, .f32⟩
  | .hbm, ⟨10, _⟩ => ⟨S8x16384x64, .f32⟩
  | .hbm, ⟨11, _⟩ => ⟨S8x16384x16384, .f32⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .i1⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S8x16384x16384, .f32⟩
  | .hbm, ⟨39, _⟩ => ⟨S_, .f32⟩
  | .hbm, ⟨40, _⟩ => ⟨S_, .f32⟩
  | .hbm, ⟨41, _⟩ => ⟨S8x16384x16384, .i1⟩
  | .hbm, ⟨42, _⟩ => ⟨S8x16384x16384, .f32⟩
  | .hbm, ⟨43, _⟩ => ⟨S8x16384x16384, .f32⟩
  | .hbm, ⟨44, _⟩ => ⟨S_, .f32⟩
  | .hbm, ⟨45, _⟩ => ⟨S_, .f32⟩
  | .hbm, ⟨46, _⟩ => ⟨S8x16384x16384, .f32⟩
  | .hbm, ⟨47, _⟩ => ⟨S8x16384x63, .f32⟩
  | .hbm, ⟨48, _⟩ => ⟨S_, .f32⟩
  | .hbm, ⟨49, _⟩ => ⟨S8x16384x1, .f32⟩
  | .hbm, ⟨50, _⟩ => ⟨S8x16384x64, .f32⟩
  | .hbm, ⟨51, _⟩ => ⟨S2x4x16384x64, .f32⟩
  | .hbm, ⟨52, _⟩ => ⟨S_, .i32⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S256x256, .bf16⟩
  | .hbm, ⟨57, _⟩ => ⟨S256x256, .bf16⟩
  | .hbm, ⟨58, _⟩ => ⟨S16384x512, .bf16⟩
  | .hbm, ⟨59, _⟩ => ⟨S16384x1024, .f32⟩
  | .local _ .vmem, ⟨0, _⟩ => ⟨S256x256, .bf16⟩
  | .local _ .vmem, ⟨1, _⟩ => ⟨S256x256, .bf16⟩
  | .local _ .vmem, ⟨2, _⟩ => ⟨S1x4x256x64, .f32⟩
  | .local _ .vmem, ⟨3, _⟩ => ⟨S1x4x256x64, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S16384x256, .bf16⟩
  | .local _ .vmem, ⟨11, _⟩ => ⟨S16384x256, .bf16⟩
  | .local _ .vmem, ⟨12, _⟩ => ⟨S16384x256, .f32⟩
  | .local _ .vmem, ⟨13, _⟩ => ⟨S16384x256, .f32⟩
  | .local _ .smem, ⟨0, _⟩ => ⟨S128, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_call2_cst : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_cst_1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32_0 : Ref sig .tc := ⟨.hbm, 58, rfl⟩
abbrev main_v32_1 : Ref sig .tc := ⟨.hbm, 59, rfl⟩
abbrev main_v26 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 64], ![false, false]⟩

abbrev pre0 : Pipeline.Prefetch sig := ⟨1, ![main_v26.idx], fun | 0 => main_v26.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let v2 : Index := Scalar.indexCast v1
  ![v2.toNat]
def k0_mult1 (i : grid0.Coords) : BitVec 32 :=
  let arg0 : BitVec 32 := BitVec.ofNat 32 (i 0).val
  let c256_i32 : BitVec 32 := 256#32
  let v6 : BitVec 32 := Scalar.muli arg0 c256_i32
  v6
def k0_mult2 (i : grid0.Coords) : BitVec 32 :=
  let c2_i32 : BitVec 32 := 2#32
  let arg0 : BitVec 32 := BitVec.ofNat 32 (i 0).val
  let v8 : BitVec 32 := Scalar.addi c2_i32 arg0
  let c256_i32_0 : BitVec 32 := 256#32
  let v9 : BitVec 32 := Scalar.muli v8 c256_i32_0
  v9
def k0_cond1 (i : grid0.Coords) : BitVec 1 :=
  let arg1 : BitVec 32 := BitVec.ofNat 32 (i 1).val
  let c0_i32_1 : BitVec 32 := 0#32
  let v11 : BitVec 1 := Scalar.cmpi .eq arg1 c0_i32_1
  let v12 : BitVec 32 := Scalar.extui v11
  let c0_i32_2 : BitVec 32 := 0#32
  let v13 : BitVec 1 := Scalar.cmpi .ne v12 c0_i32_2
  v13

def k0_off2 (i : grid0.Coords) : Fin 2 → Nat :=
  let c0_i32_88 : BitVec 32 := 0#32
  let arg0 : BitVec 32 := BitVec.ofNat 32 (i 0).val
  let c256_i32 : BitVec 32 := 256#32
  let v6 : BitVec 32 := Scalar.muli arg0 c256_i32
  let v7 : BitVec 32 := v6
  ![0, v7.toNat]
def k0_off3 (i : grid0.Coords) : Fin 2 → Nat :=
  let c0_i32_90 : BitVec 32 := 0#32
  let c2_i32 : BitVec 32 := 2#32
  let arg0 : BitVec 32 := BitVec.ofNat 32 (i 0).val
  let v8 : BitVec 32 := Scalar.addi c2_i32 arg0
  let c256_i32_0 : BitVec 32 := 256#32
  let v9 : BitVec 32 := Scalar.muli v8 c256_i32_0
  let v10 : BitVec 32 := v9
  ![0, v10.toNat]
@[reducible] def k0_t1_loop (i : grid0.Coords) (v3 : BitVec 32) : Scf.Loop 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let c1_i32_18 : BitVec 32 := 1#32
  ⟨v5, v47, c1_i32_18⟩

def k0_mult3 (i : grid0.Coords) (v3 : BitVec 32) (k0_t1 : Fin (k0_t1_loop i v3).trips) : BitVec 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32_18 : BitVec 32 := 1#32
  let arg16 : BitVec 32 := Scf.iv v5 c1_i32_18 k0_t1
  let c256_i32_87 : BitVec 32 := 256#32
  let v244 : BitVec 32 := Scalar.muli arg16 c256_i32_87
  v244
def k0_off4 (i : grid0.Coords) (v3 : BitVec 32) (k0_t1 : Fin (k0_t1_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32_18 : BitVec 32 := 1#32
  let arg16 : BitVec 32 := Scf.iv v5 c1_i32_18 k0_t1
  let c256_i32_87 : BitVec 32 := 256#32
  let v244 : BitVec 32 := Scalar.muli arg16 c256_i32_87
  let v245 : BitVec 32 := v244
  let v246 : Index := Scalar.indexCast v245
  let c0_88 : Index := 0#32
  ![v246.toNat, 0]
@[reducible] def k0_t2_loop (i : grid0.Coords) (v3 : BitVec 32) : Scf.Loop 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let v44 : BitVec 32 := Scalar.addi v5 v43
  let c1_i32_19 : BitVec 32 := 1#32
  ⟨v47, v44, c1_i32_19⟩
def k0_mult4 (i : grid0.Coords) (v3 : BitVec 32) (k0_t2 : Fin (k0_t2_loop i v3).trips) : BitVec 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let c1_i32_19 : BitVec 32 := 1#32
  let arg16 : BitVec 32 := Scf.iv v47 c1_i32_19 k0_t2
  let c256_i32_87 : BitVec 32 := 256#32
  let v244 : BitVec 32 := Scalar.muli arg16 c256_i32_87
  v244
def k0_off5 (i : grid0.Coords) (v3 : BitVec 32) (k0_t2 : Fin (k0_t2_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let c1_i32_19 : BitVec 32 := 1#32
  let arg16 : BitVec 32 := Scf.iv v47 c1_i32_19 k0_t2
  let c256_i32_87 : BitVec 32 := 256#32
  let v244 : BitVec 32 := Scalar.muli arg16 c256_i32_87
  let v245 : BitVec 32 := v244
  let v246 : Index := Scalar.indexCast v245
  let c0_88 : Index := 0#32
  ![v246.toNat, 0]

def k0_chk1 (i : grid0.Coords) (v3 : BitVec 32) : Prop :=
  ((k0_t1_loop i v3).OK) ∧
  (∀ k0_t1 : Fin (k0_t1_loop i v3).trips, 256 ∣ (k0_mult3 i v3 k0_t1).toNat) ∧
  (∀ k0_t1 : Fin (k0_t1_loop i v3).trips, ∀ a, (k0_off4 i v3 k0_t1) a + S256x256.size a ≤ S16384x256.size a) ∧
  ((k0_t2_loop i v3).OK) ∧
  (∀ k0_t2 : Fin (k0_t2_loop i v3).trips, 256 ∣ (k0_mult4 i v3 k0_t2).toNat) ∧
  (∀ k0_t2 : Fin (k0_t2_loop i v3).trips, ∀ a, (k0_off5 i v3 k0_t2) a + S256x256.size a ≤ S16384x256.size a)
theorem k0_t1_ok : ∀ (i : grid0.Coords) (v3 : BitVec 32) (k0_hw1 : k0_chk1 i v3), (k0_t1_loop i v3).OK := fun i v3 k0_hw1 => k0_hw1.1
theorem k0_mult3_dvd : ∀ (i : grid0.Coords) (v3 : BitVec 32) (k0_hw1 : k0_chk1 i v3) (k0_t1 : Fin (k0_t1_loop i v3).trips), 256 ∣ (k0_mult3 i v3 k0_t1).toNat := fun i v3 k0_hw1 k0_t1 => k0_hw1.2.1 k0_t1
theorem k0_off4_inb : ∀ (i : grid0.Coords) (v3 : BitVec 32) (k0_hw1 : k0_chk1 i v3) (k0_t1 : Fin (k0_t1_loop i v3).trips), ∀ a, (k0_off4 i v3 k0_t1) a + S256x256.size a ≤ S16384x256.size a := fun i v3 k0_hw1 k0_t1 => k0_hw1.2.2.1 k0_t1
theorem k0_t2_ok : ∀ (i : grid0.Coords) (v3 : BitVec 32) (k0_hw1 : k0_chk1 i v3), (k0_t2_loop i v3).OK := fun i v3 k0_hw1 => k0_hw1.2.2.2.1
theorem k0_mult4_dvd : ∀ (i : grid0.Coords) (v3 : BitVec 32) (k0_hw1 : k0_chk1 i v3) (k0_t2 : Fin (k0_t2_loop i v3).trips), 256 ∣ (k0_mult4 i v3 k0_t2).toNat := fun i v3 k0_hw1 k0_t2 => k0_hw1.2.2.2.2.1 k0_t2
theorem k0_off5_inb : ∀ (i : grid0.Coords) (v3 : BitVec 32) (k0_hw1 : k0_chk1 i v3) (k0_t2 : Fin (k0_t2_loop i v3).trips), ∀ a, (k0_off5 i v3 k0_t2) a + S256x256.size a ≤ S16384x256.size a := fun i v3 k0_hw1 k0_t2 => k0_hw1.2.2.2.2.2 k0_t2

def k0_mult5 (i : grid0.Coords) : BitVec 32 :=
  let arg1 : BitVec 32 := BitVec.ofNat 32 (i 1).val
  let c256_i32_20 : BitVec 32 := 256#32
  let v50 : BitVec 32 := Scalar.muli arg1 c256_i32_20
  v50
def k0_off6 (i : grid0.Coords) : Fin 2 → Nat :=
  let arg1 : BitVec 32 := BitVec.ofNat 32 (i 1).val
  let c256_i32_20 : BitVec 32 := 256#32
  let v50 : BitVec 32 := Scalar.muli arg1 c256_i32_20
  let v51 : BitVec 32 := v50
  let v52 : Index := Scalar.indexCast v51
  let c0_21 : Index := 0#32
  ![v52.toNat, 0]
def k0_cond2 (i : grid0.Coords) : BitVec 1 :=
  let arg1 : BitVec 32 := BitVec.ofNat 32 (i 1).val
  let c63_i32 : BitVec 32 := 63#32
  let v241 : BitVec 1 := Scalar.cmpi .eq arg1 c63_i32
  let v242 : BitVec 32 := Scalar.extui v241
  let c0_i32_86 : BitVec 32 := 0#32
  let v243 : BitVec 1 := Scalar.cmpi .ne v242 c0_i32_86
  v243

def k0_off7 (i : grid0.Coords) : Fin 2 → Nat :=
  let c0_i32_88 : BitVec 32 := 0#32
  let arg0 : BitVec 32 := BitVec.ofNat 32 (i 0).val
  let c256_i32 : BitVec 32 := 256#32
  let v6 : BitVec 32 := Scalar.muli arg0 c256_i32
  let v7 : BitVec 32 := v6
  ![0, v7.toNat]
def k0_off8 (i : grid0.Coords) : Fin 2 → Nat :=
  let c0_i32_90 : BitVec 32 := 0#32
  let c2_i32 : BitVec 32 := 2#32
  let arg0 : BitVec 32 := BitVec.ofNat 32 (i 0).val
  let v8 : BitVec 32 := Scalar.addi c2_i32 arg0
  let c256_i32_0 : BitVec 32 := 256#32
  let v9 : BitVec 32 := Scalar.muli v8 c256_i32_0
  let v10 : BitVec 32 := v9
  ![0, v10.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x1024 : Shape := ⟨2, ![16384, 1024]⟩
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 129
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x512, .f32⟩
  | 3 => ⟨S16384x512, .bf16⟩
  | 4 => ⟨S16384x1024, .f32⟩
  | 5 => ⟨S16384x512, .f32⟩
  | 6 => ⟨S16384x512, .f32⟩
  | 7 => ⟨S16384x512, .f32⟩
  | 8 => ⟨S16384x8x64, .f32⟩
  | 9 => ⟨S8x16384x64, .f32⟩
  | 10 => ⟨S16384x8x64, .f32⟩
  | 11 => ⟨S8x16384x64, .f32⟩
  | 12 => ⟨S8x16384x16384, .f32⟩
  | 13 => ⟨S_, .f32⟩
  | 14 => ⟨S8x16384x16384, .f32⟩
  | 15 => ⟨S8x16384x16384, .f32⟩
  | 16 => ⟨S16384, .i32⟩
  | 17 => ⟨S1x16384, .i32⟩
  | 18 => ⟨S16384, .i32⟩
  | 19 => ⟨S16384x1, .i32⟩
  | 20 => ⟨S16384x16384, .i32⟩
  | 21 => ⟨S16384x16384, .i32⟩
  | 22 => ⟨S16384x16384, .i1⟩
  | 23 => ⟨S8x16384x16384, .f32⟩
  | 24 => ⟨S8x16384x16384, .f32⟩
  | 25 => ⟨S_, .f32⟩
  | 26 => ⟨S8x16384x16384, .f32⟩
  | 27 => ⟨S8x16384x16384, .f32⟩
  | 28 => ⟨S8x16384x16384, .f32⟩
  | 29 => ⟨S8x16384x16384, .f32⟩
  | 30 => ⟨S8x16384x16384, .i1⟩
  | 31 => ⟨S8x16384x16384, .f32⟩
  | 32 => ⟨S8x16384x16384, .f32⟩
  | 33 => ⟨S8x16384x16384, .f32⟩
  | 34 => ⟨S8x16384x16384, .f32⟩
  | 35 => ⟨S8x16384x16384, .f32⟩
  | 36 => ⟨S8x16384x16384, .f32⟩
  | 37 => ⟨S8x16384x16384, .f32⟩
  | 38 => ⟨S8x16384x16384, .f32⟩
  | 39 => ⟨S_, .f32⟩
  | 40 => ⟨S8x16384x16384, .f32⟩
  | 41 => ⟨S8x16384x16384, .i1⟩
  | 42 => ⟨S_, .f32⟩
  | 43 => ⟨S8x16384x16384, .f32⟩
  | 44 => ⟨S8x16384x16384, .f32⟩
  | 45 => ⟨S_, .f32⟩
  | 46 => ⟨S8x16384x16384, .f32⟩
  | 47 => ⟨S8x16384x16384, .i1⟩
  | 48 => ⟨S_, .f32⟩
  | 49 => ⟨S8x16384x16384, .f32⟩
  | 50 => ⟨S8x16384x16384, .f32⟩
  | 51 => ⟨S8x16384x16384, .f32⟩
  | 52 => ⟨S8x16384x16384, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x16384x16384, .f32⟩
  | 61 => ⟨S8x16384x16384, .i1⟩
  | 62 => ⟨S_, .f32⟩
  | 63 => ⟨S8x16384x16384, .f32⟩
  | 64 => ⟨S8x16384x16384, .f32⟩
  | 65 => ⟨S8x16384x16384, .f32⟩
  | 66 => ⟨S8x16384x16384, .f32⟩
  | 67 => ⟨S8x16384x16384, .f32⟩
  | 68 => ⟨S_, .f32⟩
  | 69 => ⟨S8x16384x16384, .f32⟩
  | 70 => ⟨S8x16384x16384, .f32⟩
  | 71 => ⟨S8x16384x16384, .f32⟩
  | 72 => ⟨S_, .f32⟩
  | 73 => ⟨S_, .f32⟩
  | 74 => ⟨S8x16384x16384, .i1⟩
  | 75 => ⟨S8x16384x16384, .f32⟩
  | 76 => ⟨S8x16384x16384, .f32⟩
  | 77 => ⟨S_, .f32⟩
  | 78 => ⟨S8x16384x16384, .f32⟩
  | 79 => ⟨S_, .f32⟩
  | 80 => ⟨S_, .f32⟩
  | 81 => ⟨S8x16384x16384, .f32⟩
  | 82 => ⟨S8x16384x16384, .f32⟩
  | 83 => ⟨S_, .f32⟩
  | 84 => ⟨S_, .f32⟩
  | 85 => ⟨S8x16384x16384, .i1⟩
  | 86 => ⟨S8x16384x16384, .f32⟩
  | 87 => ⟨S8x16384x16384, .f32⟩
  | 88 => ⟨S_, .f32⟩
  | 89 => ⟨S8x16384x16384, .f32⟩
  | 90 => ⟨S8x16384x16384, .f32⟩
  | 91 => ⟨S16384x8x64, .f32⟩
  | 92 => ⟨S8x16384x64, .f32⟩
  | 93 => ⟨S8x16384x64, .f32⟩
  | 94 => ⟨S16384x8x64, .f32⟩
  | 95 => ⟨S16384x512, .f32⟩
  | 96 => ⟨S16384x8x64, .f32⟩
  | 97 => ⟨S8x16384x64, .f32⟩
  | 98 => ⟨S8x64x16384, .f32⟩
  | 99 => ⟨S8x16384x64, .f32⟩
  | 100 => ⟨S8x16384x16384, .f32⟩
  | 101 => ⟨S16384x8x64, .f32⟩
  | 102 => ⟨S16384x512, .f32⟩
  | 103 => ⟨S8x16384x16384, .f32⟩
  | 104 => ⟨S_, .f32⟩
  | 105 => ⟨S8x16384x16384, .f32⟩
  | 106 => ⟨S8x16384x16384, .f32⟩
  | 107 => ⟨S_, .f32⟩
  | 108 => ⟨S_, .f32⟩
  | 109 => ⟨S8x16384x16384, .f32⟩
  | 110 => ⟨S_, .f32⟩
  | 111 => ⟨S8x16384x16384, .f32⟩
  | 112 => ⟨S8x16384x16384, .f32⟩
  | 113 => ⟨S8x16384x16384, .f32⟩
  | 114 => ⟨S8x16384x16384, .f32⟩
  | 115 => ⟨S8x16384x16384, .f32⟩
  | 116 => ⟨S8x16384x16384, .f32⟩
  | 117 => ⟨S8x16384x16384, .f32⟩
  | 118 => ⟨S_, .f32⟩
  | 119 => ⟨S8x16384x16384, .f32⟩
  | 120 => ⟨S8x16384x16384, .f32⟩
  | 121 => ⟨S8x16384x64, .f32⟩
  | 122 => ⟨S8x16384x64, .f32⟩
  | 123 => ⟨S16384x8x64, .f32⟩
  | 124 => ⟨S16384x512, .f32⟩
  | 125 => ⟨S16384x8x64, .f32⟩
  | 126 => ⟨S16384x512, .f32⟩
  | 127 => ⟨S16384x512, .bf16⟩
  | _ => ⟨S16384x1024, .bf16⟩

abbrev hbmTy0_1 (i : Nat) : BufTy := match i % 128 with
  | 0 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_cst_0 : Ref sig .tc := ⟨.hbm, 72, rfl⟩
abbrev main_call1_v0 : Ref sig .tc := ⟨.hbm, 73, rfl⟩
abbrev main_v21_1 : Ref sig .tc := ⟨.hbm, 74, rfl⟩
abbrev main_call1_v2 : Ref sig .tc := ⟨.hbm, 75, rfl⟩
abbrev main_v21_0 : Ref sig .tc := ⟨.hbm, 76, rfl⟩
abbrev main_call1_cst : Ref sig .tc := ⟨.hbm, 77, rfl⟩
abbrev main_v21_2 : Ref sig .tc := ⟨.hbm, 78, rfl⟩
abbrev main_call2_cst : Ref sig .tc := ⟨.hbm, 79, rfl⟩
abbrev main_call2_v0 : Ref sig .tc := ⟨.hbm, 80, rfl⟩
abbrev main_v22 : Ref sig .tc := ⟨.hbm, 81, rfl⟩
abbrev main_v23 : Ref sig .tc := ⟨.hbm, 82, rfl⟩
abbrev main_cst_1 : Ref sig .tc := ⟨.hbm, 83, rfl⟩
abbrev main_call3_v0 : Ref sig .tc := ⟨.hbm, 84, rfl⟩
abbrev main_v24_1 : Ref sig .tc := ⟨.hbm, 85, rfl⟩
abbrev main_call3_v2 : Ref sig .tc := ⟨.hbm, 86, rfl⟩
abbrev main_v24_0 : Ref sig .tc := ⟨.hbm, 87, rfl⟩
abbrev main_call3_cst : Ref sig .tc := ⟨.hbm, 88, rfl⟩
abbrev main_v24_2 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_call4_cst : Ref sig .tc := ⟨.hbm, 104, rfl⟩
abbrev main_call4_v0 : Ref sig .tc := ⟨.hbm, 105, rfl⟩
abbrev main_v39 : Ref sig .tc := ⟨.hbm, 106, rfl⟩
abbrev main_call5_cst : Ref sig .tc := ⟨.hbm, 107, rfl⟩
abbrev main_call5_v0 : Ref sig .tc := ⟨.hbm, 108, rfl⟩
abbrev main_v40 : Ref sig .tc := ⟨.hbm, 109, rfl⟩
abbrev main_call6_cst : Ref sig .tc := ⟨.hbm, 110, rfl⟩
abbrev main_call6_v0 : Ref sig .tc := ⟨.hbm, 111, rfl⟩
abbrev main_v41 : Ref sig .tc := ⟨.hbm, 112, rfl⟩
abbrev main_call7_v0 : Ref sig .tc := ⟨.hbm, 113, rfl⟩
abbrev main_call7_v1 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_cst_2 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S16384x4096 : Shape := ⟨2, ![16384, 4096]⟩
abbrev S4x1024x1024 : Shape := ⟨3, ![4, 1024, 1024]⟩
abbrev S512x1024 : Shape := ⟨2, ![512, 1024]⟩
abbrev S512x2048 : Shape := ⟨2, ![512, 2048]⟩
abbrev S2x1024x1024 : Shape := ⟨3, ![2, 1024, 1024]⟩
abbrev S1024x2048 : Shape := ⟨2, ![1024, 2048]⟩
abbrev S512 : Shape := ⟨1, ![512]⟩
abbrev S512x1 : Shape := ⟨2, ![512, 1]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x4096, .bf16⟩
  | .hbm, ⟨3, _⟩ => ⟨S4x1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2048, .bf16⟩
  | .local _ .vmem, ⟨4, _⟩ => ⟨S512x2048, .bf16⟩
  | .local _ .vmem, ⟨5, _⟩ => ⟨S2x1024x1024, .bf16⟩
  | .local _ .vmem, ⟨6, _⟩ => ⟨S2x1024x1024, .bf16⟩
  | .local _ .vmem, ⟨7, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S16384x1024 : Shape := ⟨2, ![16384, 1024]⟩
abbrev S1x1024 : Shape := ⟨2, ![1, 1024]⟩
abbrev S16384x4096 : Shape := ⟨2, ![16384, 4096]⟩
abbrev S_ : Shape := ⟨0, ![]⟩
abbrev S1024x4096 : Shape := ⟨2, ![1024, 4096]⟩
abbrev S16384 : Shape := ⟨1, ![16384]⟩
abbrev S16384x1 : Shape := ⟨2, ![16384, 1]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x4096, .bf16⟩
  | .hbm, ⟨3, _⟩ => ⟨S_, .f32⟩
  | .hbm, ⟨4, _⟩ => ⟨S1024x4096, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S16384x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | .hbm, ⟨26, _⟩ => ⟨S4x1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference4Ideal.lean ====
abbrev S16384x1024 : Shape := ⟨2, ![16384, 1024]⟩
abbrev S1x1024 : Shape := ⟨2, ![1, 1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference5Ideal.lean ====
abbrev S16384x1024 : Shape := ⟨2, ![16384, 1024]⟩
abbrev S1x1024 : Shape := ⟨2, ![1, 1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S16384x1024 : Shape := ⟨2, ![16384, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S16384x1024, .bf16⟩
  | .hbm, ⟨6, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x1024, .bf16⟩
  | .hbm, ⟨40, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S16384x512, .f32⟩
  | .hbm, ⟨3, _⟩ => ⟨S16384x1024, .bf16⟩
  | .hbm, ⟨4, _⟩ => ⟨S16384x512, .f32⟩
  | .hbm, ⟨5, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S16384x1024 : Shape := ⟨2, ![16384, 1024]⟩
abbrev S512x1024 : Shape := ⟨2, ![512, 1024]⟩
abbrev S16384x512 : Shape := ⟨2, ![16384, 512]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S16384x512, .f32⟩
  | .hbm, ⟨3, _⟩ => ⟨S16384x1024, .bf16⟩
  | .hbm, ⟨4, _⟩ => ⟨S16384x512, .bf16⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S512x1024, .f32⟩
  | .hbm, ⟨21, _⟩ => ⟨S16384x1024, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S1024x1024, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference11Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S1024x1024, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Kernel12.lean ====
abbrev S16384x512 : Shape := ⟨2, ![16384, 512]⟩
abbrev S16384x1024 : Shape := ⟨2, ![16384, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .bf16⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x512, .bf16⟩
  | .hbm, ⟨7, _⟩ => ⟨S16384x1024, .f32⟩
  | .hbm, ⟨8, _⟩ => ⟨S1x1024, .f32⟩
  | .hbm, ⟨9, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S16384x512 : Shape := ⟨2, ![16384, 512]⟩
abbrev S16384x1024 : Shape := ⟨2, ![16384, 1024]⟩
abbrev S512x1024 : Shape := ⟨2, ![512, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .bf16⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x512, .bf16⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S512x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩
abbrev main_cst_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel13.lean ====
abbrev S16384x4096 : Shape := ⟨2, ![16384, 4096]⟩
abbrev S3x1024 : Shape := ⟨2, ![3, 1024]⟩
abbrev S16384x1024 : Shape := ⟨2, ![16384, 1024]⟩
abbrev S512x1024 : Shape := ⟨2, ![512, 1024]⟩
abbrev S16x1024 : Shape := ⟨2, ![16, 1024]⟩
abbrev S1x1024 : Shape := ⟨2, ![1, 1024]⟩

abbrev nBuf : Space → Nat
  | .hbm => 3
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S3x1024, .f32⟩
  | .hbm, ⟨2, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S16384x4096 : Shape := ⟨2, ![16384, 4096]⟩
abbrev S3x1024 : Shape := ⟨2, ![3, 1024]⟩
abbrev S16384x1024 : Shape := ⟨2, ![16384, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S3x1024, .f32⟩
  | .hbm, ⟨2, _⟩ => ⟨S16384x4096, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S2x1024, .f32⟩
  | .hbm, ⟨9, _⟩ => ⟨S16384x1024, .f32⟩
  | .hbm, ⟨10, _⟩ => ⟨S16386x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel14.lean ====
abbrev S16384x4096 : Shape := ⟨2, ![16384, 4096]⟩
abbrev S16384x1024 : Shape := ⟨2, ![16384, 1024]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S512x4096 : Shape := ⟨2, ![512, 4096]⟩
abbrev S1x1024 : Shape := ⟨2, ![1, 1024]⟩
abbrev S1024 : Shape := ⟨1, ![1024]⟩

abbrev nBuf : Space → Nat
  | .hbm => 5
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S3x1024, .f32⟩
  | .hbm, ⟨3, _⟩ => ⟨S16384x4096, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .f32⟩
  | .local _ .vmem, ⟨19, _⟩ => ⟨S16x1024, .f32⟩
  | .local _ .vmem, ⟨20, _⟩ => ⟨S3x1024, .f32⟩
  | .local _ .vmem, ⟨21, _⟩ => ⟨S512x4096, .bf16⟩
  | .local _ .vmem, ⟨22, _⟩ => ⟨S512x4096, .bf16⟩
  | .local _ .vmem, ⟨23, _⟩ => ⟨S8x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c3_i32 : BitVec 32 := 3#32
  let c0_i32 : BitVec 32 := 0#32
  ![v2.toNat, c3_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference14Ideal.lean ====
abbrev S16384x4096 : Shape := ⟨2, ![16384, 4096]⟩
abbrev S16384x1024 : Shape := ⟨2, ![16384, 1024]⟩
abbrev S3x1024 : Shape := ⟨2, ![3, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S3x1024, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S2x1024, .f32⟩
  | .hbm, ⟨10, _⟩ => ⟨S16384x1024, .f32⟩
  | .hbm, ⟨11, _⟩ => ⟨S16386x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S16386x1024, .f32⟩
  | .hbm, ⟨70, _⟩ => ⟨S1x1024, .f32⟩
  | .hbm, ⟨71, _⟩ => ⟨S_, .f32⟩
  | .hbm, ⟨72, _⟩ => ⟨S3x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S16386x1024, .f32⟩
  | .hbm, ⟨83, _⟩ => ⟨S16386x1024, .f32⟩
  | .hbm, ⟨84, _⟩ => ⟨S1x1024, .f32⟩
  | .hbm, ⟨85, _⟩ => ⟨S_, .f32⟩
  | .hbm, ⟨86, _⟩ => ⟨S3x1024, .f32⟩
  | .hbm, ⟨87, _⟩ => ⟨S3x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S1024, .f32⟩
  | .hbm, ⟨96, _⟩ => ⟨S_, .f32⟩
  | .hbm, ⟨97, _⟩ => ⟨S16386x1024, .f32⟩
  | .hbm, ⟨98, _⟩ => ⟨S16386x1024, .f32⟩
  | .hbm, ⟨99, _⟩ => ⟨S1x1024, .f32⟩
  | .hbm, ⟨100, _⟩ => ⟨S_, .f32⟩
  | .hbm, ⟨101, _⟩ => ⟨S3x1024, .f32⟩
  | .hbm, ⟨102, _⟩ => ⟨S3x1024, .f32⟩
  | .hbm, ⟨103, _⟩ => ⟨S2x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S16384x4096, .f32⟩
  | .hbm, ⟨108, _⟩ => ⟨S16384x4096, .bf16⟩
  | .hbm, ⟨109, _⟩ => ⟨S_, .i32⟩
  | .hbm, ⟨110, _⟩ => ⟨S_, .f32⟩
  | .hbm, ⟨111, _⟩ => ⟨S8x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v32_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v32_1 : Ref sig .tc := ⟨.hbm, 49, rfl⟩
abbrev main_v32_0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c : Ref sig .tc := ⟨.hbm, 109, rfl⟩
abbrev main_call2_v0 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== Kernel15.lean ====
abbrev S2048x1024 : Shape := ⟨2, ![2048, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_1 : BitVec 32 := 1#32
  let v4 : BitVec 32 := Scalar.muli v3 c1_i32_1
  let v5 : BitVec 32 := Scalar.addi c0_i32 v4
  v5.toNat
-- ==== Reference15Ideal.lean ====
abbrev S4096x1024 : Shape := ⟨2, ![4096, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
variable {F : FTy → Type} [FloatOps F] [Named F]
def κ : String → Option EReal := fun
  | "m_scale" => some ((8388608 / 5463681 : ℝ) : EReal)
  | "v_scale" => some ((268435456 / 2672307 : ℝ) : EReal)
  | _ => none
-- ==== Reference16Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S2048x1024 : Shape := ⟨2, ![2048, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel17Ideal.lean ====
variable {F : FTy → Type} [FloatOps F] [Named F]
def κ : String → Option EReal := fun
  | "m_scale" => some ((8388608 / 5463681 : ℝ) : EReal)
  | "v_scale" => some ((268435456 / 2672307 : ℝ) : EReal)
  | _ => none
-- ==== Reference17Ideal.lean ====
abbrev S2048x1024 : Shape := ⟨2, ![2048, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S2048x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S2048x1024 : Shape := ⟨2, ![2048, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel18Ideal.lean ====
variable {F : FTy → Type} [FloatOps F] [Named F]
def κ : String → Option EReal := fun
  | "m_scale" => some ((8388608 / 5463681 : ℝ) : EReal)
  | "v_scale" => some ((268435456 / 2672307 : ℝ) : EReal)
  | _ => none
-- ==== Reference18Ideal.lean ====
abbrev S2048x1024 : Shape := ⟨2, ![2048, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S2048x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S2048x1024 : Shape := ⟨2, ![2048, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel19Ideal.lean ====
variable {F : FTy → Type} [FloatOps F] [Named F]
def κ : String → Option EReal := fun
  | "m_scale" => some ((8388608 / 5463681 : ℝ) : EReal)
  | "v_scale" => some ((268435456 / 2672307 : ℝ) : EReal)
  | _ => none
-- ==== Reference19Ideal.lean ====
abbrev S2048x1024 : Shape := ⟨2, ![2048, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S2048x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S2048x1024 : Shape := ⟨2, ![2048, 1024]⟩
abbrev S128x1024 : Shape := ⟨2, ![128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel20Ideal.lean ====
variable {F : FTy → Type} [FloatOps F] [Named F]
def κ : String → Option EReal := fun
  | "m_scale" => some ((8388608 / 5463681 : ℝ) : EReal)
  | "v_scale" => some ((268435456 / 2672307 : ℝ) : EReal)
  | _ => none
-- ==== Reference20Ideal.lean ====
abbrev S2048x1024 : Shape := ⟨2, ![2048, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S2048x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S2048x1024 : Shape := ⟨2, ![2048, 1024]⟩
abbrev S128x1024 : Shape := ⟨2, ![128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel21Ideal.lean ====
variable {F : FTy → Type} [FloatOps F] [Named F]
def κ : String → Option EReal := fun
  | "m_scale" => some ((8388608 / 5463681 : ℝ) : EReal)
  | "v_scale" => some ((268435456 / 2672307 : ℝ) : EReal)
  | _ => none
-- ==== Reference21Ideal.lean ====
abbrev S2048x1024 : Shape := ⟨2, ![2048, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S2048x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Run.Statement.lean ====
module

public import proofs.«01_k».proof.Proof.Gen.KernelIdeal.Frame.Runs

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Writes that cover a block determine what is read back, whatever was there before. -/
theorem read_covered {sp : Space} {S : Shape} {e : EltTy} (v : View sig .tc sp S e) (f : v.ty.Contents (Elt F)) (L : List (View.Piece (Elt F) S e))
    (h : ∀ y, ∃ p ∈ L, y ∈ p.1.set) : v.read (Elt F) (v.writes (Elt F) f L) = v.read (Elt F) (v.writes (Elt F) v.junk L) :=
  View.read_writes_of_cover v f v v.junk L h

/-- What one grid point leaves: the block of dq it stores, the resident k and v, the two accumulators, and the
    array of dk and dv. -/
structure Out (F : FTy → Type) [FloatOps F] (c : Dev nD) where
  dq : Vec F S256x256 .bf16
  k : Vec F S16384x256 .bf16
  v : Vec F S16384x256 .bf16
  dk : Vec F S16384x256 .f32
  dv : Vec F S16384x256 .f32
  dkv : HbBuf0 (F := F) c hbM0_1

/-- The inputs of a grid point: q, the carries in, do, the two matrices of ones, the block counts, k and v. -/
structure Ins (F : FTy → Type) [FloatOps F] (c : Dev nD) where
  q : Vec F S256x256 .bf16
  cin : Vec F S1x4x256x64 .f32
  dout : Vec F S256x256 .f32
  ones : Vec F S256x256 .bf16
  onesT : Vec F S256x256 .bf16
  first : TbBuf0 (F := F) c tbM0_0
  kv : HbBuf0 (F := F) c hbM0_0

/-- The number of skipped blocks the point reads, and the side condition the body asks of it. -/
abbrev firstWord (c : Dev nD) (i : grid0.Coords) (x : Ins F c) : Elt F .i32 :=
  tbM0_0.view.readAt (Elt F) (Rect.unit (s := S128) (k0_off1 i) S1.size (k0_off1_inb i)).toLoadRect x.first (Shape.Idx.first (numel1_S1.symm ▸ Nat.one_pos))

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

/-- The inputs and the two idle copy counters, held. -/
def insHeld (x : Ins F c) : sProp 𝕄 :=
  iprop(owns (c : Thread nD τ) arg3 fullShare x.q ∗ owns (c : Thread nD τ) arg5 fullShare x.cin ∗ owns (c : Thread nD τ) arg6 fullShare x.dout
    ∗ owns (c : Thread nD τ) arg7 fullShare x.ones ∗ owns (c : Thread nD τ) arg8 fullShare x.onesT ∗ tbPt0 c tbM0_0 x.first
    ∗ semVal ((c : Thread nD τ), SemLoc.dma 10) 0 ∗ semVal ((c : Thread nD τ), SemLoc.dma 11) 0 ∗ hbPt0 c hbM0_0 x.kv)

/-- What is carried from one grid point to the next, at named contents. -/
def carried (y : Out F c) : sProp 𝕄 :=
  iprop(owns (c : Thread nD τ) arg11 fullShare y.k ∗ owns (c : Thread nD τ) arg12 fullShare y.v ∗ owns (c : Thread nD τ) arg13 fullShare y.dk
    ∗ owns (c : Thread nD τ) arg14 fullShare y.dv ∗ hbPt0 c hbM0_1 y.dkv)

/-- The same with the buffers of the kernel's own at any contents. -/
def carriedAny (f : HbBuf0 (F := F) c hbM0_1) : sProp 𝕄 :=
  iprop((∃ d, owns (c : Thread nD τ) arg11 fullShare d) ∗ (∃ d, owns (c : Thread nD τ) arg12 fullShare d) ∗ (∃ d, owns (c : Thread nD τ) arg13 fullShare d)
    ∗ (∃ d, owns (c : Thread nD τ) arg14 fullShare d) ∗ hbPt0 c hbM0_1 f)

theorem carried_any (y : Out F c) : carried c arg11 arg12 arg13 arg14 y ⊢ carriedAny c arg11 arg12 arg13 arg14 y.dkv := by
  unfold carried carriedAny
  iintro ⟨H0, H1, H2, H3, H4⟩
  isplitl [H0]; · iexists _; iexact H0
  isplitl [H1]; · iexists _; iexact H1
  isplitl [H2]; · iexists _; iexact H2
  isplitl [H3]; · iexists _; iexact H3
  iexact H4

/-- The body at a grid point, from the inputs `x` and `pre`, ends with the inputs as they were and the rest at `y`. -/
def RunsTo (x : Ins F c) (pre : sProp 𝕄) (y : Out F c) : Prop :=
  ∀ (W : Waits sig Unit) (K : PUnit → sProp 𝕄),
    iprop(insHeld c arg3 arg5 arg6 arg7 arg8 x ∗ (∃ d, owns (c : Thread nD τ) arg9 fullShare d) ∗ pre ∗ owes (c : Thread nD τ) 0 W
      ∗ (iprop(insHeld c arg3 arg5 arg6 arg7 arg8 x ∗ owns (c : Thread nD τ) arg9 fullShare y.dq ∗ carried c arg11 arg12 arg13 arg14 y
          ∗ (∃ W', owes (c : Thread nD τ) 0 W')) -∗ K ⟨⟩))
    ⊢ wp frame (wpE (defs₀ (F := F)) Variants.none c none) Set.univ
        (cc0_attention_bwd i tbM0_0 htbM0_0 arg3 harg3 (Memref.whole main_arg1) (Memref.isWhole_whole _) arg5 harg5 arg6 harg6 arg7 harg7 arg8 harg8 arg9 harg9
          (Memref.whole main_v32_1) (Memref.isWhole_whole _) arg11 harg11 arg12 harg12 arg13 harg13 arg14 harg14 cc0_scratch4) K

end AttnBwd

end
-- ==== Proof.Run.First.lean ====
module

public import proofs.«01_k».proof.Proof.Run.Statement

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

set_option maxHeartbeats 1600000 in
/-- The first grid point of a pair of head groups: k and v are copied in and the accumulators cleared. -/
def firstRun (hc0 : cond0_0 i) (hc1 : ¬cond0_1 i) (x : Ins F c) (f : HbBuf0 (F := F) c hbM0_1) (hw : k0_chk1 i (firstWord c i x)) :
    { y : Out F c // RunsTo c i arg3 harg3 arg5 harg5 arg6 harg6 arg7 harg7 arg8 harg8 arg9 harg9 arg11 harg11 arg12 harg12 arg13 harg13 arg14 harg14 x (carriedAny c arg11 arg12 arg13 arg14 f) y } := by
  refine ⟨⟨?dq, ?k, ?v, ?dk, ?dv, f⟩, ?run⟩
  case run =>
    intro W K
    unfold firstWord at hw
    simp only [cc0_attention_bwd_eq_skeleton]; unfold cc0_attention_bwd_skel
    simp only [k0_part9_eq_skeleton, k0_part10_eq_skeleton, k0_part11_eq_skeleton, k0_part12_eq_skeleton, k0_part13_eq_skeleton]
    unfold insHeld carriedAny carried owns
    iintro ⟨⟨⟨%f0, %hf0, H0⟩, ⟨%f1, %hf1, H1⟩, ⟨%f2, %hf2, H2⟩, ⟨%f3, %hf3, H3⟩, ⟨%f4, %hf4, H4⟩, HT0, Hq0, Hq1, Hh0⟩, ⟨%d5, %f5, -, H5⟩, ⟨⟨%ds0, %fs0, -, HS0⟩, ⟨%ds1, %fs1, -, HS1⟩, ⟨%ds2, %fs2, -, HS2⟩, ⟨%ds3, %fs3, -, HS3⟩, Hh1⟩, HW, Hk⟩
    obtain rfl := harg3.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hw)
    sl_step
    iapply Hk
    dsimp only
    isplitl [H0 H1 H2 H3 H4 HT0 Hq0 Hq1 Hh0]
    · isplitl [H0]
      · iexists _; isplitr; · ipureintro; exact harg3.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [HT0]; · iexact HT0
      isplitl [Hq0]; · iexact Hq0
      isplitl [Hq1]; · iexact Hq1
      iexact Hh0
    isplitl [H5]
    · iexists _; isplitr
      swap; · iexact H5
      ipureintro; refine read_covered (F := F) arg9.view _ _ ?_; exact View.cover_of_tiledL _ S256x256.size (by sl_kernel_rfl)
    isplitl [HS0 HS1 HS2 HS3 Hh1]
    · isplitl [HS0]
      · iexists _; isplitr
        swap; · iexact HS0
        ipureintro; refine read_covered (F := F) arg11.view _ _ ?_; exact View.cover_of_tiledL _ S16384x256.size (by sl_kernel_rfl)
      isplitl [HS1]
      · iexists _; isplitr
        swap; · iexact HS1
        ipureintro; refine read_covered (F := F) arg12.view _ _ ?_; exact View.cover_of_tiledL _ S16384x256.size (by sl_kernel_rfl)
      isplitl [HS2]
      · iexists _; isplitr
        swap; · iexact HS2
        ipureintro; refine read_covered (F := F) arg13.view _ _ ?_; exact View.cover_of_wholeMem _ (by sl_whole_mem)
      isplitl [HS3]
      · iexists _; isplitr
        swap; · iexact HS3
        ipureintro; refine read_covered (F := F) arg14.view _ _ ?_; exact View.cover_of_wholeMem _ (by sl_whole_mem)
      iexact Hh1
    iexists _; iexact HW

end AttnBwd

end
-- ==== Proof.Run.Middle.lean ====
module

public import proofs.«01_k».proof.Proof.Run.First

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

set_option maxHeartbeats 1600000 in
/-- A grid point that is neither the first nor the last of its head group. -/
def middleRun (hc0 : ¬cond0_0 i) (hc1 : ¬cond0_1 i) (x : Ins F c) (p : Out F c) (hw : k0_chk1 i (firstWord c i x)) :
    { y : Out F c // RunsTo c i arg3 harg3 arg5 harg5 arg6 harg6 arg7 harg7 arg8 harg8 arg9 harg9 arg11 harg11 arg12 harg12 arg13 harg13 arg14 harg14 x (carried c arg11 arg12 arg13 arg14 p) y } := by
  refine ⟨⟨?dq, p.k, p.v, ?dk, ?dv, p.dkv⟩, ?run⟩
  case run =>
    intro W K
    unfold firstWord at hw
    simp only [cc0_attention_bwd_eq_skeleton]; unfold cc0_attention_bwd_skel
    simp only [k0_part9_eq_skeleton, k0_part10_eq_skeleton, k0_part11_eq_skeleton, k0_part12_eq_skeleton, k0_part13_eq_skeleton]
    unfold insHeld carried owns
    iintro ⟨⟨⟨%f0, %hf0, H0⟩, ⟨%f1, %hf1, H1⟩, ⟨%f2, %hf2, H2⟩, ⟨%f3, %hf3, H3⟩, ⟨%f4, %hf4, H4⟩, HT0, Hq0, Hq1, Hh0⟩, ⟨%d5, %f5, -, H5⟩, ⟨⟨%fs0, %hfs0, HS0⟩, ⟨%fs1, %hfs1, HS1⟩, ⟨%fs2, %hfs2, HS2⟩, ⟨%fs3, %hfs3, HS3⟩, Hh1⟩, HW, Hk⟩
    obtain rfl := harg3.eq_unread hf0; obtain rfl := harg5.eq_unread hf1; obtain rfl := harg6.eq_unread hf2; obtain rfl := harg7.eq_unread hf3; obtain rfl := harg8.eq_unread hf4
    obtain rfl := harg11.eq_unread hfs0; obtain rfl := harg12.eq_unread hfs1; obtain rfl := harg13.eq_unread hfs2; obtain rfl := harg14.eq_unread hfs3
    sl_exec (disch := first | sl_exact hc0 | sl_exact hc1 | sl_exact hw)
    sl_step
    iapply Hk
    dsimp only
    isplitl [H0 H1 H2 H3 H4 HT0 Hq0 Hq1 Hh0]
    · isplitl [H0]
      · iexists _; isplitr; · ipureintro; exact harg3.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [HT0]; · iexact HT0
      isplitl [Hq0]; · iexact Hq0
      isplitl [Hq1]; · iexact Hq1
      iexact Hh0
    isplitl [H5]
    · iexists _; isplitr
      swap; · iexact H5
      ipureintro; refine read_covered (F := F) arg9.view _ _ ?_; exact View.cover_of_tiledL _ S256x256.size (by sl_kernel_rfl)
    isplitl [HS0 HS1 HS2 HS3 Hh1]
    · isplitl [HS0]
      · iexists _; isplitr; · ipureintro; exact harg11.read_unread _
        iexact HS0
      isplitl [HS1]
      · iexists _; isplitr; · ipureintro; exact harg12.read_unread _
        iexact HS1
      isplitl [HS2]
      · iexists _; isplitr
        swap; · iexact HS2
        ipureintro; rfl
      isplitl [HS3]
      · iexists _; isplitr
        swap; · iexact HS3
        ipureintro; rfl
      iexact Hh1
    iexists _; iexact HW

end AttnBwd

end
-- ==== Proof.Run.Last.lean ====
module

public import proofs.«01_k».proof.Proof.Run.Middle

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

set_option maxHeartbeats 1600000 in
set_option sl_exec.dmaWindow true in set_option sl_exec.dmaWindowSet true in set_option sl_exec.dmaWindowLent true in
/-- The last grid point of a head group: the two accumulators are copied out. -/
def lastRun (hc0 : ¬cond0_0 i) (hc1 : cond0_1 i) (hd : Disjoint
      (((Memref.whole main_v32_1).slice (Rect.unit (s := S16384x1024) (k0_off8 i) S16384x256.size (k0_off8_inb i hc1)) (fun _ => rfl))).view.set
      (((Memref.whole main_v32_1).slice (Rect.unit (s := S16384x1024) (k0_off7 i) S16384x256.size (k0_off7_inb i hc1)) (fun _ => rfl))).view.set)
    (x : Ins F c) (p : Out F c) (hw : k0_chk1 i (firstWord c i x)) :
    { y : Out F c // RunsTo c i arg3 harg3 arg5 harg5 arg6 harg6 arg7 harg7 arg8 harg8 arg9 harg9 arg11 harg11 arg12 harg12 arg13 harg13 arg14 harg14 x (carried c arg11 arg12 arg13 arg14 p) y } := by
  refine ⟨⟨?dq, p.k, p.v, ?dk, ?dv, ?dkv⟩, ?run⟩
  case run =>
    intro W K
    unfold firstWord at hw
    simp only [cc0_attention_bwd_eq_skeleton]; unfold cc0_attention_bwd_skel
    simp only [k0_part9_eq_skeleton, k0_part10_eq_skeleton, k0_part11_eq_skeleton, k0_part12_eq_skeleton, k0_part13_eq_skeleton]
    unfold insHeld carried owns
    iintro ⟨⟨⟨%f0, %hf0, H0⟩, ⟨%f1, %hf1, H1⟩, ⟨%f2, %hf2, H2⟩, ⟨%f3, %hf3, H3⟩, ⟨%f4, %hf4, H4⟩, HT0, Hq0, Hq1, Hh0⟩, ⟨%d5, %f5, -, H5⟩, ⟨⟨%fs0, %hfs0, HS0⟩, ⟨%fs1, %hfs1, HS1⟩, ⟨%fs2, %hfs2, HS2⟩, ⟨%fs3, %hfs3, HS3⟩, Hh1⟩, HW, Hk⟩
    obtain rfl := harg3.eq_unread hf0; obtain rfl := harg5.eq_unread hf1; obtain rfl := harg6.eq_unread hf2; obtain rfl := harg7.eq_unread hf3; obtain rfl := harg8.eq_unread hf4
    obtain rfl := harg11.eq_unread hfs0; obtain rfl := harg12.eq_unread hfs1; obtain rfl := harg13.eq_unread hfs2; obtain rfl := harg14.eq_unread hfs3
    sl_exec (disch := first | sl_exact hc0 | sl_exact hc1 | sl_exact hw)
    sl_step
    iapply Hk
    dsimp only
    isplitl [H0 H1 H2 H3 H4 HT0 Hq0 Hq1 Hh0]
    · isplitl [H0]
      · iexists _; isplitr; · ipureintro; exact harg3.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [HT0]; · iexact HT0
      isplitl [Hq0]; · iexact Hq0
      isplitl [Hq1]; · iexact Hq1
      iexact Hh0
    isplitl [H5]
    · iexists _; isplitr
      swap; · iexact H5
      ipureintro; refine read_covered (F := F) arg9.view _ _ ?_; exact View.cover_of_tiledL _ S256x256.size (by sl_kernel_rfl)
    isplitl [HS0 HS1 HS2 HS3 Hh1]
    · isplitl [HS0]
      · iexists _; isplitr; · ipureintro; exact harg11.read_unread _
        iexact HS0
      isplitl [HS1]
      · iexists _; isplitr; · ipureintro; exact harg12.read_unread _
        iexact HS1
      isplitl [HS2]
      · iexists _; isplitr
        swap; · iexact HS2
        ipureintro; rfl
      isplitl [HS3]
      · iexists _; isplitr
        swap; · iexact HS3
        ipureintro; rfl
      iexact Hh1
    iexists _; iexact HW

end AttnBwd

end
-- ==== Proof.Run.Whole.lean ====
module

public import proofs.«01_k».proof.Proof.Run.Last
public import Idealize.ShloMosaic.Lib.Claim
public import Idealize.ShloMosaic.Lib.Pipeline.FrameValue

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What every grid point leaves -/

/-- The two column blocks of the result that are written at the last point of a head group are disjoint. -/
theorem columns_disjoint : ∀ t : Fin grid0.N, ∀ (hg : cond0_1 (grid0.coords t)),
    LoadRect.disj (Rect.unit (s := S16384x1024) (k0_off8 (grid0.coords t)) S16384x256.size (k0_off8_inb (grid0.coords t) hg))
      (Rect.unit (s := S16384x1024) (k0_off7 (grid0.coords t)) S16384x256.size (k0_off7_inb (grid0.coords t) hg)).toLoadRect = true := by
  decide +kernel

/-- The inputs of grid point `t`. -/
def insAt (hO : Ok m) (c : Dev nD) (t : Fin (cfgM m hO).N) : Ins F c where
  q := iblk m hO c 0 t
  cin := iblk m hO c 1 t
  dout := iblk m hO c 2 t
  ones := iblk m hO c 3 t
  onesT := iblk m hO c 4 t
  first := tbl m 0
  kv := V m c main_arg1

/-- The run at a point that starts a head group, -/
def runAtFirst (hO : Ok m) (hH : Hyps m hO) (c : Dev nD) (t : Fin (cfgM m hO).N) (h0 : t.val % 64 = 0) (f : HbBuf0 (F := F) c hbM0_1) :=
  firstRun c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
    scM0_0 (Memref.isWhole_whole _) scM0_1 (Memref.isWhole_whole _) scM0_2 (Memref.isWhole_whole _) scM0_3 (Memref.isWhole_whole _)
    ((hcond0_0 t).mpr h0) (fun h => by have := (hcond0_1 t).mp h; omega) (insAt m hO c t) f (Hyps.c0 hH c t)

/-- at one that ends it, -/
def runAtLast (hO : Ok m) (hH : Hyps m hO) (c : Dev nD) (t : Fin (cfgM m hO).N) (h1 : t.val % 64 = 63) (p : Out F c) :=
  lastRun c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
    scM0_0 (Memref.isWhole_whole _) scM0_1 (Memref.isWhole_whole _) scM0_2 (Memref.isWhole_whole _) scM0_3 (Memref.isWhole_whole _)
    (fun h => by have := (hcond0_0 t).mp h; omega) ((hcond0_1 t).mpr h1)
    (by
      exact View.disjoint_slice_of_disj (Memref.whole main_v32_1).view
        (Rect.unit (s := S16384x1024) (k0_off8 (grid0.coords t)) S16384x256.size (k0_off8_inb (grid0.coords t) ((hcond0_1 t).mpr h1)))
        (Rect.unit (s := S16384x1024) (k0_off7 (grid0.coords t)) S16384x256.size (k0_off7_inb (grid0.coords t) ((hcond0_1 t).mpr h1)))
        (columns_disjoint t ((hcond0_1 t).mpr h1)))
    (insAt m hO c t) p (Hyps.c0 hH c t)

/-- and at any other. -/
def runAtMiddle (hO : Ok m) (hH : Hyps m hO) (c : Dev nD) (t : Fin (cfgM m hO).N) (h0 : ¬t.val % 64 = 0) (h1 : ¬t.val % 64 = 63) (p : Out F c) :=
  middleRun c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
    scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (insAt m hO c t) p (Hyps.c0 hH c t)

/-- What point `t` leaves, after a point that left `p`. -/
def next (hO : Ok m) (hH : Hyps m hO) (c : Dev nD) (t : Fin (cfgM m hO).N) (p : Out F c) : Out F c :=
  if h0 : t.val % 64 = 0 then (runAtFirst m hO hH c t h0 p.dkv).1
  else if h1 : t.val % 64 = 63 then (runAtLast m hO hH c t h1 p).1
  else (runAtMiddle m hO hH c t h0 h1 p).1

/-- What the first `n` points leave, one after the other. -/
def leaves (hO : Ok m) (hH : Hyps m hO) (c : Dev nD) : ℕ → Out F c
  | 0 => ⟨VO0_5.read (Elt F) VO0_5.junk, VS0_0.read (Elt F) VS0_0.junk, VS0_1.read (Elt F) VS0_1.junk, VS0_2.read (Elt F) VS0_2.junk,
      VS0_3.read (Elt F) VS0_3.junk, V m c main_v32_1⟩
  | n + 1 => if h : n < (cfgM m hO).N then next m hO hH c ⟨n, h⟩ (leaves hO hH c n) else leaves hO hH c n

theorem leaves_succ (hO : Ok m) (hH : Hyps m hO) (c : Dev nD) (t : Fin (cfgM m hO).N) :
    leaves m hO hH c (t.val + 1) = next m hO hH c t (leaves m hO hH c t.val) := dif_pos t.isLt

/-! ## The invariant and the pipeline's proof data -/

/-- What is carried before point `n`: nothing is known of the kernel's own buffers before the first. -/
def heldAt (hO : Ok m) (hH : Hyps m hO) (c : Dev nD) (n : ℕ) : sProp 𝕄 :=
  if n = 0 then carriedAny c scM0_0 scM0_1 scM0_2 scM0_3 (V m c main_v32_1)
  else carried c scM0_0 scM0_1 scM0_2 scM0_3 (leaves m hO hH c n)

theorem heldAt_any (hO : Ok m) (hH : Hyps m hO) (c : Dev nD) (n : ℕ) :
    (heldAt m hO hH c n : sProp 𝕄) ⊢ carriedAny c scM0_0 scM0_1 scM0_2 scM0_3 (leaves m hO hH c n).dkv := by
  unfold heldAt
  by_cases h : n = 0
  · subst h; rw [if_pos rfl]; exact Idealize.SL.BI.Entails.refl _
  · rw [if_neg h]; exact carried_any c scM0_0 scM0_1 scM0_2 scM0_3 _

/-- The region's invariant before point `n`. -/
def inv (hO : Ok m) (hH : Hyps m hO) (c : Dev nD) (n : ℕ) : sProp 𝕄 :=
  iprop(heldAt m hO hH c n ∗ (∃ r, prngReg c r) ∗ semVal ((c : Thread nD τ), SemLoc.dma 10) 0 ∗ semVal ((c : Thread nD τ), SemLoc.dma 11) 0
    ∗ hbPt0 c hbM0_0 (V m c main_arg1) ∗ Pipeline.ΦT pre0 (tbl m) c)

/-- The proof data: every input block stays, the block of dq is what the point leaves. -/
def dats (hO : Ok m) (hH : Hyps m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (leaves m hO hH c (t.val + 1)).dq
  Φ t := inv m hO hH c t.val
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem inv_before (hO : Ok m) (hH : Hyps m hO) (c : Dev nD) (t : Fin (cfgM m hO).N) : (dats m hO hH 0 c).Φ t.castSucc = inv m hO hH c t.val := by
  dsimp only [dats]; rw [Fin.val_castSucc]
theorem inv_after (hO : Ok m) (hH : Hyps m hO) (c : Dev nD) (t : Fin (cfgM m hO).N) : (dats m hO hH 0 c).Φ t.succ = inv m hO hH c (t.val + 1) := by
  dsimp only [dats]; rw [Fin.val_succ]

theorem after_0 (hO : Ok m) (hH : Hyps m hO) (c : Dev nD) (t : Fin (cfgM m hO).N) : (dats m hO hH 0 c).after 0 t = iblk m hO c 0 t := by dsimp only [dats]; try rfl
theorem after_1 (hO : Ok m) (hH : Hyps m hO) (c : Dev nD) (t : Fin (cfgM m hO).N) : (dats m hO hH 0 c).after 1 t = iblk m hO c 1 t := by dsimp only [dats]; try rfl
theorem after_2 (hO : Ok m) (hH : Hyps m hO) (c : Dev nD) (t : Fin (cfgM m hO).N) : (dats m hO hH 0 c).after 2 t = iblk m hO c 2 t := by dsimp only [dats]; try rfl
theorem after_3 (hO : Ok m) (hH : Hyps m hO) (c : Dev nD) (t : Fin (cfgM m hO).N) : (dats m hO hH 0 c).after 3 t = iblk m hO c 3 t := by dsimp only [dats]; try rfl
theorem after_4 (hO : Ok m) (hH : Hyps m hO) (c : Dev nD) (t : Fin (cfgM m hO).N) : (dats m hO hH 0 c).after 4 t = iblk m hO c 4 t := by dsimp only [dats]; try rfl
theorem after_5 (hO : Ok m) (hH : Hyps m hO) (c : Dev nD) (t : Fin (cfgM m hO).N) : (dats m hO hH 0 c).after 5 t = (leaves m hO hH c (t.val + 1)).dq := by
  dsimp only [dats]; try rfl

theorem before_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after_0 m hO hH c) t d
theorem before_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after_1 m hO hH c) t d
theorem before_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after_2 m hO hH c) t d
theorem before_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after_3 m hO hH c) t d
theorem before_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after_4 m hO hH c) t d

/-! ## The body at a generic point -/

set_option maxHeartbeats 800000 in
/-- From any run of the body at point `t` to what it leaves there, the body's obligation at `t`. -/
theorem sound_of_run (hO : Ok m) (hH : Hyps m hO) (c : Dev nD) (t : Fin (cfgM m hO).N) (pre : sProp 𝕄) (hpre : heldAt m hO hH c t.val ⊢ pre)
    (h : RunsTo c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) (insAt m hO c t) pre (leaves m hO hH c (t.val + 1))) :
    iprop((dats m hO hH 0 c).Φ t.castSucc ∗ (dats m hO hH 0 c).owesAt () t.castSucc
      ∗ (∃ d, owns (c : Thread nD τ) (ms0_0 m hO t) fullShare ((dats m hO hH 0 c).before 0 t d))
      ∗ (∃ d, owns (c : Thread nD τ) (ms0_1 m hO t) fullShare ((dats m hO hH 0 c).before 1 t d))
      ∗ (∃ d, owns (c : Thread nD τ) (ms0_2 m hO t) fullShare ((dats m hO hH 0 c).before 2 t d))
      ∗ (∃ d, owns (c : Thread nD τ) (ms0_3 m hO t) fullShare ((dats m hO hH 0 c).before 3 t d))
      ∗ (∃ d, owns (c : Thread nD τ) (ms0_4 m hO t) fullShare ((dats m hO hH 0 c).before 4 t d))
      ∗ (∃ d, owns (c : Thread nD τ) (ms0_5 m hO t) fullShare ((dats m hO hH 0 c).before 5 t d)))
    ⊢ wp frame (wpE (defs₀ (F := F)) Variants.none c none) Set.univ (bodyAt0 (adm m hO) t) (fun _ =>
      iprop((dats m hO hH 0 c).Φ t.succ ∗ (dats m hO hH 0 c).owesAt () t.succ
      ∗ owns (c : Thread nD τ) (ms0_0 m hO t) fullShare ((dats m hO hH 0 c).after 0 t)
      ∗ owns (c : Thread nD τ) (ms0_1 m hO t) fullShare ((dats m hO hH 0 c).after 1 t)
      ∗ owns (c : Thread nD τ) (ms0_2 m hO t) fullShare ((dats m hO hH 0 c).after 2 t)
      ∗ owns (c : Thread nD τ) (ms0_3 m hO t) fullShare ((dats m hO hH 0 c).after 3 t)
      ∗ owns (c : Thread nD τ) (ms0_4 m hO t) fullShare ((dats m hO hH 0 c).after 4 t)
      ∗ owns (c : Thread nD τ) (ms0_5 m hO t) fullShare ((dats m hO hH 0 c).after 5 t))) := by
  unfold bodyAt0
  simp only [before_0, before_1, before_2, before_3, before_4]
  rw [inv_before, inv_after, after_0, after_1, after_2, after_3, after_4, after_5]
  unfold Dat.owesAt Pipeline.owesWithin inv
  rw [show (dats m hO hH 0 c).owed t.castSucc = 0 from rfl, show (dats m hO hH 0 c).owed t.succ = 0 from rfl, PhiT0_eq]
  rw [show heldAt m hO hH c (t.val + 1) = carried c scM0_0 scM0_1 scM0_2 scM0_3 (leaves m hO hH c (t.val + 1)) from if_neg (Nat.succ_ne_zero _)]
  refine (sep_mono (sep_mono hpre .rfl) .rfl).trans ?_
  iintro ⟨⟨HS, Hg, Hq0, Hq1, Hh0, HT0⟩, ⟨%W, -, HW⟩, ⟨%d0, H0⟩, ⟨%d1, H1⟩, ⟨%d2, H2⟩, ⟨%d3, H3⟩, ⟨%d4, H4⟩, ⟨%d5, H5⟩⟩
  iapply (h W _)
  unfold insHeld insAt
  dsimp only
  isplitl [H0 H1 H2 H3 H4 HT0 Hq0 Hq1 Hh0]
  · isplitl [H0]; · iexact H0
    isplitl [H1]; · iexact H1
    isplitl [H2]; · iexact H2
    isplitl [H3]; · iexact H3
    isplitl [H4]; · iexact H4
    isplitl [HT0]; · iexact HT0
    isplitl [Hq0]; · iexact Hq0
    isplitl [Hq1]; · iexact Hq1
    iexact Hh0
  isplitl [H5]; · iexists _; iexact H5
  isplitl [HS]; · iexact HS
  isplitl [HW]; · iexact HW
  iintro ⟨⟨H0, H1, H2, H3, H4, HT0, Hq0, Hq1, Hh0⟩, H5, HS, ⟨%W', HW'⟩⟩
  isplitl [HS Hg Hq0 Hq1 Hh0 HT0]
  · isplitl [HS]; · iexact HS
    isplitl [Hg]; · iexact Hg
    isplitl [Hq0]; · iexact Hq0
    isplitl [Hq1]; · iexact Hq1
    isplitl [Hh0]; · iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body's obligation at every point. -/
theorem body_obligation (hO : Ok m) (hH : Hyps m hO) (c : Dev nD) : BodyObligation (dats (F := F) m hO hH 0 c) (defs₀ (F := F)) Variants.none () Set.univ := fun t => by
  have row : defs₀ (F := F) .tc (cfgM m hO).body ((cfgM m hO).bodyArgs t ((cfgM m hO).slots t)) = bodyAt0 (adm m hO) t := by
    unfold defs₀; rw [Defs.onTc_tc]
  rw [bigSep_W0, bigSep_W0, row]
  refine triple_restated ?_ rfl .rfl fun _ => .rfl
  by_cases h0 : t.val % 64 = 0
  · refine sound_of_run m hO hH c t _ (heldAt_any m hO hH c t.val) ?_
    rw [leaves_succ, next, dif_pos h0]
    exact (runAtFirst m hO hH c t h0 _).2
  · have held : heldAt m hO hH c t.val = carried c scM0_0 scM0_1 scM0_2 scM0_3 (leaves m hO hH c t.val) := if_neg (fun h => h0 (by rw [h]))
    refine sound_of_run m hO hH c t _ (by rw [held]) ?_
    rw [leaves_succ, next, dif_neg h0]
    by_cases h1 : t.val % 64 = 63
    · rw [dif_pos h1]; exact (runAtLast m hO hH c t h1 _).2
    · rw [dif_neg h1]; exact (runAtMiddle m hO hH c t h0 h1 _).2

/-! ## The launch -/

/-- The contents the region leaves in the arrays it copies out into. -/
def finals (hO : Ok m) (hH : Hyps m hO) (c : Dev nD) : (b : Ref sig .tc) → Buf (Elt F) ((c.tc : Thread nD τ).loc b) :=
  Function.update (V m c) main_v32_1 (leaves m hO hH c 128).dkv

/-- The launch's invariant, conjunct by conjunct. -/
theorem routed_split (G : (c : Dev nD) → (b : Ref sig .tc) → Buf (Elt F) ((c.tc : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d))
          ∗ (∃ r, prngReg c r) ∗ iprop(semVal ((c : Thread nD τ), SemLoc.dma 10) 0 ∗ semVal ((c : Thread nD τ), SemLoc.dma 11) 0)
          ∗ iprop(hbPt0 c hbM0_0 (V m c main_arg1)) ∗ hbPt0 c hbM0_1 (G c main_v32_1)) := by
  have hr : (Pipeline.routed R0 c (G c) : sProp 𝕄) = hbPt0 c hbM0_1 (G c main_v32_1) := by
    unfold Pipeline.routed; rw [BI.bigSep_eq_bigSepL_of_eq [main_v32_1] (by decide) (by decide)]; rfl
  rw [Pipeline.ΦDRG_eq, scopedRest0_eq, ownSems00_eq, hbmPts0_eq, hr]; simp only [scM0_0, scM0_1, scM0_2, scM0_3, owns_whole]; try rfl

theorem hin (hO : Ok m) (hH : Hyps m hO) (c : Dev nD) :
    iprop(Pipeline.ΦDRG osem0 spec0 H0 R0 (V m) (V m) c ∗ Pipeline.ΦT pre0 (tbl m) c) ⊢ (dats m hO hH 0 c).Φ 0 := by
  rw [show (dats m hO hH 0 c).Φ 0 = inv m hO hH c 0 from by dsimp only [dats]; rfl, routed_split]
  unfold inv heldAt carriedAny
  rw [if_pos rfl]
  iintro ⟨⟨⟨HS0, HS1, HS2, HS3⟩, Hg, ⟨Hq0, Hq1⟩, Hh0, Hh1⟩, HT0⟩
  isplitl [HS0 HS1 HS2 HS3 Hh1]
  · isplitl [HS0]; · iexact HS0
    isplitl [HS1]; · iexact HS1
    isplitl [HS2]; · iexact HS2
    isplitl [HS3]; · iexact HS3
    iexact Hh1
  isplitl [Hg]; · iexact Hg
  isplitl [Hq0]; · iexact Hq0
  isplitl [Hq1]; · iexact Hq1
  isplitl [Hh0]; · iexact Hh0
  iexact HT0

theorem hout (hO : Ok m) (hH : Hyps m hO) (c : Dev nD) :
    (dats m hO hH 0 c).Φ (Fin.last (cfgM m hO).N) ⊢ Pipeline.ΦDRG osem0 spec0 H0 R0 (V m) (finals m hO hH) c := by
  have last : (dats m hO hH 0 c).Φ (Fin.last (cfgM m hO).N) = inv m hO hH c 128 := by
    dsimp only [dats]; rw [Fin.val_last]; exact congrArg (inv m hO hH c) N_0
  rw [last, routed_split]
  unfold inv
  have held : (heldAt m hO hH c 128 : sProp 𝕄) ⊢ carriedAny c scM0_0 scM0_1 scM0_2 scM0_3 (finals m hO hH c main_v32_1) :=
    (heldAt_any m hO hH c 128).trans (by rw [finals, Function.update_self])
  refine (sep_mono held .rfl).trans ?_
  unfold carriedAny
  iintro ⟨⟨HS0, HS1, HS2, HS3, Hh1⟩, Hg, Hq0, Hq1, Hh0, -⟩
  isplitl [HS0 HS1 HS2 HS3]
  · isplitl [HS0]; · iexact HS0
    isplitl [HS1]; · iexact HS1
    isplitl [HS2]; · iexact HS2
    iexact HS3
  isplitl [Hg]; · iexact Hg
  isplitl [Hq0 Hq1]
  · isplitl [Hq0]; · iexact Hq0
    iexact Hq1
  isplitl [Hh0]; · iexact Hh0
  iexact Hh1

set_option backward.isDefEq.respectTransparency.types false in
/-- The run of the whole program: every array of the pipeline ends at what the points leave in it, the array of dk and dv at
    what the last point leaves there, every other array as it was, every counter at zero. -/
theorem run_main (hO : Ok m) (hH : Hyps m hO) : θ_run defs (onTc (τ := τ) (main (F := F))) (s₀ m ρ) (fun r =>
    Pipeline.FramePostRG (Pipeline.pin pcfgs fun _ => adm m hO) (dats m hO hH) 0 R0 (V m) (finals m hO hH) r ∧ r.2.sem = fun _ => 0) :=
  Pipeline.θ_run_frameP_dmaRG (Q' := _) pcfgs (fun _ => adm m hO) (dats m hO hH) (0 : Fin 1) launch0 osem0 defs₀ Variants.none ownSemFacts0 H0 R0 H0_sub R0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (G := finals m hO hH)
    (hin := hin m hO hH) (hout := hout m hO hH) (hQ' := fun _ h => h)

end AttnBwd

end
-- ==== Proof.Run.Side.lean ====
module
public import proofs.«01_k».proof.KernelIdeal
public import Idealize.ShloMosaic.Lib.WordCmp

set_option maxRecDepth 16384

/-! # The words the kernel computes with

The block at which a query block's loop starts is read from a table, and clipped to lie between 0 and the
query block's own number.  So whatever word is read, every slab the loops touch is inside its array. -/

@[expose] public section
namespace AttnBwd
open Idealize.ShloMosaic Cert.KernelIdeal

/-- The clipped start of the loop, as a word. -/
def startWord (a v : BitVec 32) : BitVec 32 := Scalar.minsi a (Scalar.maxsi 0#32 v)

theorem startWord_le (n : ℕ) (hn : n < 64) (v : BitVec 32) : (startWord (BitVec.ofNat 32 n) v).toNat ≤ n := by
  have e : (BitVec.ofNat 32 n).toNat = n := by rw [BitVec.toNat_ofNat]; omega
  have i : (BitVec.ofNat 32 n).toInt = n := by rw [BitVec.toInt_eq_toNat_of_lt] <;> omega
  unfold startWord Scalar.minsi Scalar.maxsi IntOp.minsi IntOp.maxsi
  have key : ∀ u : BitVec 32, 0 ≤ u.toInt → (if (BitVec.ofNat 32 n).slt u then BitVec.ofNat 32 n else u).toNat ≤ n := by
    intro u hu
    split
    · omega
    · next h =>
      rw [BitVec.slt_iff_toInt_lt, i, not_lt] at h
      have : u.toInt = u.toNat := by
        have c := BitVec.toInt_eq_toNat_cond u
        have := u.isLt
        split at c <;> omega
      omega
  apply key
  split
  · decide
  · next h => rw [BitVec.slt_iff_toInt_lt, not_lt] at h; exact h

theorem div_one (x : BitVec 32) : Scalar.divsi x 1#32 = x := by
  unfold Scalar.divsi IntOp.divsi
  rw [if_neg (by unfold IntOp.SDivCorner; simp)]
  simp

theorem toInt_small (x : BitVec 32) (h : x.toNat < 64) : x.toInt = x.toNat := BitVec.toInt_eq_toNat_of_lt (by omega)

/-- Where the first loop ends: at the query block's own number. -/
theorem end_word (n : ℕ) (hn : n < 64) (s : BitVec 32) (hs : s.toNat ≤ n) :
    s + (BitVec.ofNat 32 n - s) = BitVec.ofNat 32 n := by
  rw [BitVec.add_comm, BitVec.sub_add_cancel]

theorem loop1_eq (i : grid0.Coords) (v : BitVec 32) :
    k0_t1_loop i v = ⟨startWord (BitVec.ofNat 32 (i 1).val) v, BitVec.ofNat 32 (i 1).val, 1#32⟩ := by
  show Scf.Loop.mk _ _ _ = _
  congr 1
  show startWord (BitVec.ofNat 32 (i 1).val) v + Scalar.divsi (BitVec.ofNat 32 (i 1).val - startWord (BitVec.ofNat 32 (i 1).val) v) 1#32 * 1#32 = _
  rw [div_one, BitVec.mul_one, end_word _ (i 1).isLt _ (startWord_le _ (i 1).isLt v)]

theorem loop2_eq (i : grid0.Coords) (v : BitVec 32) :
    k0_t2_loop i v = ⟨BitVec.ofNat 32 (i 1).val, BitVec.ofNat 32 (i 1).val, 1#32⟩ := by
  show Scf.Loop.mk _ _ _ = _
  congr 1
  · show startWord (BitVec.ofNat 32 (i 1).val) v + Scalar.divsi (BitVec.ofNat 32 (i 1).val - startWord (BitVec.ofNat 32 (i 1).val) v) 1#32 * 1#32 = _
    rw [div_one, BitVec.mul_one, end_word _ (i 1).isLt _ (startWord_le _ (i 1).isLt v)]
  · show startWord (BitVec.ofNat 32 (i 1).val) v + (BitVec.ofNat 32 (i 1).val - startWord (BitVec.ofNat 32 (i 1).val) v) = _
    rw [end_word _ (i 1).isLt _ (startWord_le _ (i 1).isLt v)]

theorem trips_one (a b : BitVec 32) (ha : a.toNat < 64) (hb : b.toNat < 64) : Scf.trips a b 1#32 = b.toNat - a.toNat := by
  unfold Scf.trips
  rw [toInt_small a ha, toInt_small b hb, show (1#32 : BitVec 32).toInt = 1 from rfl]
  omega

theorem ok_one (a b : BitVec 32) (ha : a.toNat < 64) (hb : b.toNat < 64) : Scf.OK a b 1#32 := by
  refine ⟨by decide, ?_⟩
  rw [trips_one a b ha hb, toInt_small a ha, show (1#32 : BitVec 32).toInt = 1 from rfl]
  omega

theorem start_lt (i : grid0.Coords) (v : BitVec 32) : (startWord (BitVec.ofNat 32 (i 1).val) v).toNat < 64 :=
  lt_of_le_of_lt (startWord_le _ (i 1).isLt v) (i 1).isLt

theorem row_toNat (i : grid0.Coords) : (BitVec.ofNat 32 (i 1).val).toNat = (i 1).val := by
  have := (i 1).isLt
  rw [BitVec.toNat_ofNat]; have : (i 1).val < 64 := (i 1).isLt; omega

theorem trips1 (i : grid0.Coords) (v : BitVec 32) :
    (k0_t1_loop i v).trips = (i 1).val - (startWord (BitVec.ofNat 32 (i 1).val) v).toNat := by
  show Scf.trips (k0_t1_loop i v).lb (k0_t1_loop i v).ub (k0_t1_loop i v).st = _
  rw [loop1_eq]
  rw [trips_one _ _ (start_lt i v) (by rw [row_toNat]; exact (i 1).isLt), row_toNat]

theorem trips2 (i : grid0.Coords) (v : BitVec 32) : (k0_t2_loop i v).trips = 0 := by
  show Scf.trips (k0_t2_loop i v).lb (k0_t2_loop i v).ub (k0_t2_loop i v).st = _
  rw [loop2_eq]
  rw [trips_one _ _ (by rw [row_toNat]; exact (i 1).isLt) (by rw [row_toNat]; exact (i 1).isLt)]
  exact Nat.sub_self _

/-- The slab of trip `k`. -/
theorem slab_word (s : BitVec 32) (k : ℕ) (h : s.toNat + k < 64) :
    (Scalar.muli (Scf.iv s 1#32 k) 256#32).toNat = 256 * (s.toNat + k) := by
  show ((s + BitVec.ofNat 32 k * 1#32) * 256#32).toNat = _
  rw [BitVec.mul_one, BitVec.toNat_mul, BitVec.toNat_add, BitVec.toNat_ofNat]
  simp only [BitVec.toNat_ofNat]
  omega

theorem slab1 (i : grid0.Coords) (v : BitVec 32) (k : Fin (k0_t1_loop i v).trips) :
    (k0_mult3 i v k).toNat = 256 * ((startWord (BitVec.ofNat 32 (i 1).val) v).toNat + k.val) := by
  have hk := k.isLt
  have := trips1 i v
  have h64 : (i 1).val < 64 := (i 1).isLt
  exact slab_word (startWord (BitVec.ofNat 32 (i 1).val) v) k.val (by omega)

/-- The side condition holds whatever word is read. -/
theorem check (i : grid0.Coords) (v : BitVec 32) : k0_chk1 i v := by
  have h64 : (i 1).val < 64 := (i 1).isLt
  have t1 := trips1 i v
  have t2 := trips2 i v
  refine ⟨?_, fun k => ?_, fun k a => ?_, ?_, fun k => absurd k.isLt (by omega), fun k => absurd k.isLt (by omega)⟩
  · show Scf.OK (k0_t1_loop i v).lb (k0_t1_loop i v).ub (k0_t1_loop i v).st
    rw [loop1_eq]; exact ok_one _ _ (start_lt i v) (by rw [row_toNat]; exact h64)
  · rw [slab1]; exact ⟨_, rfl⟩
  · have hk := k.isLt
    have e : k0_off4 i v k = ![(k0_mult3 i v k).toNat, 0] := rfl
    rw [e, slab1]
    fin_cases a
    · show 256 * _ + 256 ≤ 16384
      omega
    · show 0 + 256 ≤ 256
      omega
  · show Scf.OK (k0_t2_loop i v).lb (k0_t2_loop i v).ub (k0_t2_loop i v).st
    rw [loop2_eq]; exact ok_one _ _ (by rw [row_toNat]; exact h64) (by rw [row_toNat]; exact h64)

end AttnBwd
-- ==== Proof.Frames.lean ====
module
public import proofs.«01_k».proof.Proof.Run.Whole
public import proofs.«01_k».proof.Proof.Run.Side
public import proofs.«01_k».proof.Proof.Gen.Kernel.Launch
public import proofs.«01_k».proof.Defs
public import Idealize.ShloMosaic.Lib.Tactic

set_option maxRecDepth 16384

/-! # The program runs, leaves its arguments alone and leaves every counter at zero

Both copies of the kernel are the same text, so one run over any floats serves both. -/

public section
noncomputable section
namespace AttnBwd
open Idealize.ShloMosaic Idealize.SL.Sem Cert.KernelIdeal Cert.KernelIdeal.Gen

variable {F : FTy → Type} [FloatOps F]
variable (m : (ℓ : Loc nD τ sig) → Buf (Elt F) ℓ) (ρ : Dev nD → PrngReg)

theorem ok : Ok m := by unfold Ok; trivial

theorem hyps (hO : Ok m) : Hyps m hO := Hyps.of fun c t => check _ _

/-- The run, its side conditions discharged. -/
theorem run : θ_run defs (onTc (τ := τ) (main (F := F))) (s₀ m ρ) (fun r =>
    Pipeline.FramePostRG (Pipeline.pin pcfgs fun _ => adm m (ok m)) (dats m (ok m) (hyps m (ok m))) 0 R0 (V m) (finals m (ok m) (hyps m (ok m))) r
      ∧ r.2.sem = fun _ => 0) :=
  run_main m ρ (ok m) (hyps m (ok m))

/-- What the run says of the arguments and of the counters. -/
theorem args_kept {r} (h : Pipeline.FramePostRG (Pipeline.pin pcfgs fun _ => adm m (ok m)) (dats m (ok m) (hyps m (ok m))) 0 R0 (V m)
      (finals m (ok m) (hyps m (ok m))) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h.1 c).1 0).trans (((dats m (ok m) (hyps m (ok m)) 0 c).arrAt_in 0 rfl _).trans ((A_eq m (ok m) (hyps m (ok m)) c 0).trans (V_main_arg0 m c))),
    ((h.1 c).2 main_arg1 (by decide : main_arg1 ∈ Pipeline.restRefs sig spec0 \ R0)).trans (V_main_arg1 m c),
    ((h.1 c).1 2).trans (((dats m (ok m) (hyps m (ok m)) 0 c).arrAt_in 2 rfl _).trans ((A_eq m (ok m) (hyps m (ok m)) c 2).trans (V_main_arg2 m c)))⟩

/-- The run, read at the arguments and the counters. -/
theorem quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_kept m h.1 c, h.2⟩) (run m ρ)

end AttnBwd

open Idealize.ShloMosaic Idealize.SL.Sem AttnBwd

theorem frame_kernel_ideal : @Cert.quiescent_KernelIdeal Cert.KernelIdeal.Gen.facts := fun m ρ _ => quiet (F := Ideal) m ρ

/-- The claim about the program as printed is the same sentence. -/
theorem frame_same : @Cert.quiescent_Kernel Cert.Kernel.Gen.facts
    = ∀ (m : (ℓ : Loc Cert.KernelIdeal.nD Cert.KernelIdeal.τ Cert.KernelIdeal.sig) → Buf (Elt Bits) ℓ) (ρ : Dev Cert.KernelIdeal.nD → PrngReg), True →
      θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by sl_kernel_rfl

theorem frame_kernel : @Cert.quiescent_Kernel Cert.Kernel.Gen.facts := by
  rw [frame_same]
  exact fun m ρ _ => quiet (F := Bits) m ρ
end
-- ==== Proof.ReferenceFrame.lean ====
module
public import proofs.«01_k».proof.Proof.Gen.ReferenceIdeal.Run
public import proofs.«01_k».proof.Defs
public import Idealize.ShloMosaic.Lib.Quiescent

/-! # The reference runs

It is a straight line of host operations and declares no semaphore. -/

public section
open Idealize.ShloMosaic Idealize.SL.Sem

theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)
-- ==== Proof.Value.Stages.lean ====
module

public import proofs.«01_k».proof.Proof.Gen.ReferenceIdeal.Run

@[expose] public section

set_option maxRecDepth 16384

noncomputable section

/-! The operations of the plain gradient, stage by stage: the heads apart, the scores, the logarithms, their sums from a
    key on, the weights, and the gradients. -/

namespace AttnBwd.Stages

open Cert.ReferenceIdeal Cert.ReferenceIdeal.Gen
open Idealize.ShloMosaic Idealize.ShloMosaic.TcCoe

variable {F : FTy → Type} [FloatOps F]

/-- Eight heads of 64 columns. -/
abbrev Eight (F : FTy → Type) := FVec F S8x16384x64 .f32
/-- A number for each head, query and key. -/
abbrev Square (F : FTy → Type) := FVec F S8x16384x16384 .f32
/-- The heads side by side. -/
abbrev Wide (F : FTy → Type) := FVec F S16384x512 .f32

def apart (x : Wide F) : Eight F :=
  transpose S8x16384x64 [1, 0, 2] (shapeCast S16384x8x64 x shapeCasts_S16384x512_S16384x8x64) transposes_S16384x8x64_S8x16384x64_1_0_2

def together (x : Eight F) : Wide F :=
  shapeCast S16384x512 (transpose S16384x8x64 [1, 0, 2] x transposes_S8x16384x64_S16384x8x64_1_0_2) shapeCasts_S16384x8x64_S16384x512

/-- The same number everywhere. -/
def all (b : BitVec 32) : Square F := broadcastInDim S8x16384x16384 ![] bcast_S_S8x16384x16384 (constant S_ .f32 b)

/-- The rows of one against the rows of the other. -/
def rows (x y : Eight F) : Square F := Host.dotGeneral dot_S8x16384x64_S8x16384x64_S8x16384x16384_2_2_1_1_0_0 none x y

def scores (q k : Eight F) : Square F := mulf (rows q k) (all 0x3E000000#32)

/-- The keys before the query. -/
def before : IVec S8x16384x16384 1 :=
  broadcastInDim S8x16384x16384 ![1, 2] bcast_S16384x16384_S8x16384x16384_1_2
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- `log (1 + exp x)`. -/
def softplus (x : Square F) : Square F :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))

/-- The logarithms of `1 - sigmoid z` on the keys before the query. -/
def logs (z : Square F) : Square F := select before (Host.negf (softplus (Host.negf (Host.negf z)))) (all 0x00000000#32)

/-- Sums from a key on. -/
def from_ (l : Square F) : Square F :=
  Host.reduceWindowAdd ![1, 1, 16384] ![1, 1, 1] ![0, 0, 0] ![0, 0, 16383] l (broadcastInDim S_ ![] bcast_S_S_ (constant S_ .f32 0x00000000#32))
    reduceWindows_S8x16384x16384_S8x16384x16384_w1s1p0_0_w1s1p0_0_w16384s1p0_16383 h_S_

/-- Sums up to a key. -/
def upTo (l : Square F) : Square F :=
  Host.reduceWindowAdd ![1, 1, 16384] ![1, 1, 1] ![0, 0, 16383] ![0, 0, 0] l (broadcastInDim S_ ![] bcast_S_S_ (constant S_ .f32 0x00000000#32))
    reduceWindows_S8x16384x16384_S8x16384x16384_w1s1p0_0_w1s1p0_0_w16384s1p16383_0 h_S_

def weights (z : Square F) : Square F := Host.exp (select before (addf z (from_ (logs z))) (all 0xFF800000#32))

/-- `sigmoid x`. -/
def sigmoid (x : Square F) : Square F :=
  Host.exp (subf (select (cmpf .oeq x (all 0x7F800000#32)) (all 0x00000000#32) x)
    (select (cmpf .oeq (softplus x) (all 0x7F800000#32)) (all 0x00000000#32) (softplus x)))

/-- The weights times their gradients. -/
def shares (z : Square F) (d v : Eight F) : Square F := select before (mulf (rows d v) (weights z)) (all 0x00000000#32)

/-- The gradient of the scores before their scale. -/
def scoreGrad (z : Square F) (d v : Eight F) : Square F :=
  mulf (addf (shares z d v) (Host.negf (Host.negf (mulf (Host.negf (select before (upTo (shares z d v)) (all 0x00000000#32))) (sigmoid (Host.negf (Host.negf z)))))))
    (all 0x3E000000#32)

def queryGrad (z : Square F) (k d v : Eight F) : Eight F :=
  Host.dotGeneral dot_S8x16384x16384_S8x16384x64_S8x16384x64_2_1_1_2_0_0 none (scoreGrad z d v) k

def keyGrad (z : Square F) (q d v : Eight F) : Eight F :=
  Host.dotGeneral dot_S8x16384x16384_S8x16384x64_S8x16384x64_1_1_2_2_0_0 none (scoreGrad z d v) q

def valueGrad (z : Square F) (d : Eight F) : Eight F :=
  transpose S8x16384x64 [0, 2, 1] (Host.dotGeneral dot_S8x16384x64_S8x16384x16384_S8x64x16384_1_1_2_2_0_0 none d (weights z)) transposes_S8x64x16384_S8x16384x64_0_2_1

section Args

variable (qg kv : FVec F S16384x1024 .bf16) (dout : Wide F)

def queries : Eight F := apart (extf .f32 (extractStridedSlice S16384x512 ![0, 0] qg slices_S16384x1024_S16384x512_0_0) bitsLt_bf16_f32)

def keys : Eight F := apart (extractStridedSlice S16384x512 ![0, 0] (extf .f32 kv bitsLt_bf16_f32) slices_S16384x1024_S16384x512_0_0)

def vals : Eight F := apart (extractStridedSlice S16384x512 ![0, 512] (extf .f32 kv bitsLt_bf16_f32) slices_S16384x1024_S16384x512_0_512)

/-- The gradient of the queries. -/
def outQ : FVec F S16384x512 .bf16 :=
  truncf .bf16 (together (queryGrad (scores (queries qg) (keys kv)) (keys kv) (apart dout) (vals kv))) bitsLt_bf16_f32

/-- The gradient of the keys and of the values. -/
def outKv : FVec F S16384x1024 .f32 :=
  Cert.ReferenceIdeal.Value.fn_main_v54 (together (keyGrad (scores (queries qg) (keys kv)) (queries qg) (apart dout) (vals kv)))
    (together (valueGrad (scores (queries qg) (keys kv)) (apart dout)))

end Args

variable (m : (ℓ : Loc nD τ sig) → Buf (Elt F) ℓ) (c : Dev nD)

theorem out_q : Cert.ReferenceIdeal.Value.res_main_v53 m c
    = outQ (m ((c.tc : Thread nD τ).loc main_arg0)) (m ((c.tc : Thread nD τ).loc main_arg1)) (m ((c.tc : Thread nD τ).loc main_arg2)) := rfl

theorem out_kv : Cert.ReferenceIdeal.Value.res_main_v54 m c
    = outKv (m ((c.tc : Thread nD τ).loc main_arg0)) (m ((c.tc : Thread nD τ).loc main_arg1)) (m ((c.tc : Thread nD τ).loc main_arg2)) := rfl

end AttnBwd.Stages

end
-- ==== Proof.Value.HostArrays.lean ====
module

public import proofs.«01_k».proof.Proof.Gen.KernelIdeal.Frame.Runs
public import proofs.«01_k».proof.Proof.Value.Stages
public import Idealize.ShloMosaic.Lib.StableHlo.RunRead
public import Idealize.ShloMosaic.Lib.Tactic

@[expose] public section

set_option maxRecDepth 16384

noncomputable section

/-! The arrays the host computes before the call: the table of carries, the two triangles and the table of first blocks. -/

namespace AttnBwd

open Cert.KernelIdeal Cert.KernelIdeal.Gen
open Idealize.ShloMosaic Idealize.ShloMosaic.TcCoe Idealize.ShloMosaic.Tactic Idealize.ShloMosaic.StableHlo

variable {F : FTy → Type} [FloatOps F]

/-- The sum of the logarithms after each block of 256 keys, nothing after the last. -/
def carries (qg kv : FVec F S16384x1024 .bf16) : FVec F S2x4x16384x64 .f32 :=
  shapeCast S2x4x16384x64 (concatenate S8x16384x64 2
    [⟨S8x16384x63, Host.slice S8x16384x63 ![0, 0, 256] ![1, 1, 256] (Stages.from_ (Stages.logs (Stages.scores (Stages.queries qg) (Stages.queries kv)))) slicesBy_S8x16384x16384_S8x16384x63_0s1_0s1_256s256⟩,
      ⟨S8x16384x1, broadcastInDim S8x16384x1 ![] bcast_S_S8x16384x1 (constant S_ .f32 0x00000000#32)⟩] concatenates_S8x16384x63_S8x16384x1_S8x16384x64_d2)
    shapeCasts_S8x16384x64_S2x4x16384x64

/-- Ones where the row is not before the column. -/
def lowerOnes : FVec F S256x256 .bf16 := uitofp .bf16 (cmpi .sge (iotaInDim S256x256 32 0) (iotaInDim S256x256 32 1))

def upperOnes : FVec F S256x256 .bf16 := transpose S256x256 [1, 0] (lowerOnes (F := F)) transposes_S256x256_S256x256_1_0

variable (m : (ℓ : Loc nD τ sig) → Buf (Elt F) ℓ) (c : Dev nD)

set_option maxHeartbeats 4000000 in
theorem host_first : V m c main_v26 = broadcastInDim S128 ![] bcast_S_S128 (constantI S_ 32 0#32) := by
  unfold V
  simp only [hostOps0, hostOps0_1, hostOps0_2, hostOps0_3, hostOps0_4, hostOps0_5, List.flatten_cons, List.flatten_nil, List.append_nil, List.cons_append, List.nil_append,
    TRef.binary, TRef.nullary, TRef.ternary, TRef.unary, TRef.toBuf, TRef.ofBuf, cast_eq]
  after_reads_simp

set_option maxHeartbeats 4000000 in
theorem host_ones : V m c main_v30 = lowerOnes := by
  unfold V
  simp only [hostOps0, hostOps0_1, hostOps0_2, hostOps0_3, hostOps0_4, hostOps0_5, List.flatten_cons, List.flatten_nil, List.append_nil, List.cons_append, List.nil_append,
    TRef.binary, TRef.nullary, TRef.ternary, TRef.unary, TRef.toBuf, TRef.ofBuf, cast_eq]
  after_reads_simp
  rfl

set_option maxHeartbeats 4000000 in
theorem host_onesT : V m c main_v31 = upperOnes := by
  unfold V
  simp only [hostOps0, hostOps0_1, hostOps0_2, hostOps0_3, hostOps0_4, hostOps0_5, List.flatten_cons, List.flatten_nil, List.append_nil, List.cons_append, List.nil_append,
    TRef.binary, TRef.nullary, TRef.ternary, TRef.unary, TRef.toBuf, TRef.ofBuf, cast_eq]
  after_reads_simp
  rfl

set_option maxHeartbeats 8000000 in
theorem host_carries : V m c main_v25 = carries (m ((c.tc : Thread nD τ).loc main_arg0)) (m ((c.tc : Thread nD τ).loc main_arg1)) := by
  unfold V
  simp only [hostOps0, hostOps0_1, hostOps0_2, hostOps0_3, hostOps0_4, hostOps0_5, List.flatten_cons, List.flatten_nil, List.append_nil, List.cons_append, List.nil_append,
    TRef.binary, TRef.nullary, TRef.ternary, TRef.unary, TRef.toBuf, TRef.ofBuf, cast_eq]
  after_reads_simp
  rfl

end AttnBwd

end
-- ==== Proof.Value.Cumsum.lean ====
module

public import Idealize.ShloMosaic.Lib.ValueIdx
public import Idealize.ShloMosaic.Lib.Pipeline.Value
public import Idealize.ShloMosaic.PureOps.Ideal.Laws
public import Idealize.ShloMosaic.Lib.ShapeFacts

@[expose] public section

set_option maxRecDepth 16384

noncomputable section

/-! Running sums along the last of three axes: a window of the whole length padded on one side sums a suffix or a prefix. -/

namespace AttnBwd

open Idealize.ShloMosaic Idealize.ShloMosaic.ValueIdx

theorem foldl_add {n : ℕ} (g : Fin n → EReal) (v : EReal) : (List.finRange n).foldl (fun r k => r + g k) v = v + ∑ k, g k := by
  have key : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [key, Fin.sum_univ_def]

theorem numel_line (N : ℕ) : (⟨3, ![1, 1, N]⟩ : Shape).numel = N := by
  rw [Shape.numel_rank3]
  show 1 * 1 * N = N
  omega

theorem place_line {N : ℕ} (n : Fin (⟨3, ![1, 1, N]⟩ : Shape).numel) :
    (⟨3, ![1, 1, N]⟩ : Shape).rowMajor.symm n = ix3 (0 : Fin 1) (0 : Fin 1) (n.cast (numel_line N)) :=
  ((⟨3, ![1, 1, N]⟩ : Shape).rowMajor.symm_apply_eq).2 (Fin.ext (by
    rw [Shape.rowMajor_val_three]
    show n.val = (0 * 1 + 0) * N + n.val
    omega))

theorem sum_line {N : ℕ} (g : ℕ → EReal) : ∑ n : Fin (⟨3, ![1, 1, N]⟩ : Shape).numel, g n.val = ∑ n ∈ Finset.range N, g n := by
  rw [Fin.sum_univ_eq_sum_range, numel_line]

/-- What one position of the window reads. -/
def lineTerm (N : ℕ) (lo : ℕ) (f : ℕ → EReal) (s n : ℕ) : EReal := if lo ≤ s + n ∧ s + n - lo < N then f (s + n - lo) else 0

theorem window_eq {H M N : ℕ} {u : Shape} (x : FVec Ideal ⟨3, ![H, M, N]⟩ .f32) (lo hi : ℕ) (init : FVec Ideal u .f32) (hu : 0 < u.numel)
    (hinit : init (Shape.Idx.first hu) = 0)
    (hw : (⟨3, ![H, M, N]⟩ : Shape).ReduceWindows ![1, 1, N] ![1, 1, 1] ![0, 0, lo] ![0, 0, hi] ⟨3, ![H, M, N]⟩)
    (h : Fin H) (t : Fin M) (s : Fin N) (f : ℕ → EReal) (hf : ∀ u : Fin N, x (ix3 h t u) = f u.val) :
    Host.reduceWindowAdd ![1, 1, N] ![1, 1, 1] ![0, 0, lo] ![0, 0, hi] x init hw hu (ix3 h t s) = ∑ n ∈ Finset.range N, lineTerm N lo f s.val n := by
  show Host.reduceWindow (· + ·) ![1, 1, N] ![1, 1, 1] ![0, 0, lo] ![0, 0, hi] x (fun _ : (⟨0, ![]⟩ : Shape).Idx => init (Shape.Idx.first hu)) hw (by decide) (ix3 h t s) = _
  rw [← sum_line, ← zero_add (∑ n : Fin (⟨3, ![1, 1, N]⟩ : Shape).numel, lineTerm N lo f s.val n.val), ← foldl_add (fun n : Fin (⟨3, ![1, 1, N]⟩ : Shape).numel => lineTerm N lo f s.val n.val)]
  unfold Host.reduceWindow
  dsimp only
  rw [hinit]
  refine congrArg (fun g => List.foldl g (0 : EReal) (List.finRange (⟨3, ![1, 1, N]⟩ : Shape).numel)) (funext fun r => funext fun n => congrArg (r + ·) ?_)
  have p0 : ((⟨3, ![1, 1, N]⟩ : Shape).rowMajor.symm n 0).val = 0 := by rw [place_line]; rfl
  have p1 : ((⟨3, ![1, 1, N]⟩ : Shape).rowMajor.symm n 1).val = 0 := by rw [place_line]; rfl
  have p2 : ((⟨3, ![1, 1, N]⟩ : Shape).rowMajor.symm n 2).val = n.val := by rw [place_line]; rfl
  have hh := h.isLt
  have ht := t.isLt
  unfold lineTerm
  split
  · next hin =>
    have h2 := hin 2
    change lo ≤ s.val * 1 + ((⟨3, ![1, 1, N]⟩ : Shape).rowMajor.symm n 2).val ∧ s.val * 1 + ((⟨3, ![1, 1, N]⟩ : Shape).rowMajor.symm n 2).val - lo < N at h2
    rw [p2] at h2
    rw [if_pos (by omega)]
    refine (congrArg x (funext fun a => Fin.ext ?_)).trans (hf ⟨s.val + n.val - lo, by omega⟩)
    match a with
    | ⟨0, _⟩ => show h.val * 1 + ((⟨3, ![1, 1, N]⟩ : Shape).rowMajor.symm n 0).val - 0 = h.val; rw [p0]; omega
    | ⟨1, _⟩ => show t.val * 1 + ((⟨3, ![1, 1, N]⟩ : Shape).rowMajor.symm n 1).val - 0 = t.val; rw [p1]; omega
    | ⟨2, _⟩ => show s.val * 1 + ((⟨3, ![1, 1, N]⟩ : Shape).rowMajor.symm n 2).val - lo = s.val + n.val - lo; rw [p2]; omega
  · next hin =>
    rw [if_neg fun hle => hin fun a => ?_]
    match a with
    | ⟨0, _⟩ => show 0 ≤ h.val * 1 + ((⟨3, ![1, 1, N]⟩ : Shape).rowMajor.symm n 0).val ∧ h.val * 1 + ((⟨3, ![1, 1, N]⟩ : Shape).rowMajor.symm n 0).val - 0 < H; rw [p0]; omega
    | ⟨1, _⟩ => show 0 ≤ t.val * 1 + ((⟨3, ![1, 1, N]⟩ : Shape).rowMajor.symm n 1).val ∧ t.val * 1 + ((⟨3, ![1, 1, N]⟩ : Shape).rowMajor.symm n 1).val - 0 < M; rw [p1]; omega
    | ⟨2, _⟩ => show lo ≤ s.val * 1 + ((⟨3, ![1, 1, N]⟩ : Shape).rowMajor.symm n 2).val ∧ s.val * 1 + ((⟨3, ![1, 1, N]⟩ : Shape).rowMajor.symm n 2).val - lo < N; rw [p2]; omega

theorem sum_suffix (N : ℕ) (f : ℕ → EReal) (s : ℕ) (hs : s < N) : ∑ n ∈ Finset.range N, lineTerm N 0 f s n = ∑ u ∈ Finset.Ico s N, f u := by
  rw [Finset.sum_Ico_eq_sum_range]
  symm
  refine Finset.sum_subset_zero_on_sdiff (Finset.range_subset_range.2 (Nat.sub_le _ _)) (fun n hn => ?_) fun n hn => ?_
  · rw [Finset.mem_sdiff, Finset.mem_range, Finset.mem_range] at hn
    exact if_neg (by omega)
  · rw [Finset.mem_range] at hn
    unfold lineTerm
    rw [if_pos (by omega), Nat.sub_zero]

theorem sum_prefix (N : ℕ) (f : ℕ → EReal) (s : ℕ) (hs : s < N) : ∑ n ∈ Finset.range N, lineTerm N (N - 1) f s n = ∑ u ∈ Finset.range (s + 1), f u := by
  rw [← Finset.sum_range_reflect, ← Finset.sum_range_reflect (fun u => f u) (s + 1)]
  symm
  refine Finset.sum_subset_zero_on_sdiff (Finset.range_subset_range.2 (by omega)) (fun n hn => ?_) fun n hn => ?_
  · rw [Finset.mem_sdiff, Finset.mem_range, Finset.mem_range] at hn
    exact if_neg (by omega)
  · rw [Finset.mem_range] at hn
    unfold lineTerm
    rw [if_pos (by omega)]
    congr 1
    omega

/-- Padded behind: the sum from here to the end. -/
theorem suffix_apply {H M N N1 : ℕ} {u : Shape} (x : FVec Ideal ⟨3, ![H, M, N]⟩ .f32) (init : FVec Ideal u .f32) (hu : 0 < u.numel)
    (hinit : init (Shape.Idx.first hu) = 0)
    (hw : (⟨3, ![H, M, N]⟩ : Shape).ReduceWindows ![1, 1, N] ![1, 1, 1] ![0, 0, 0] ![0, 0, N1] ⟨3, ![H, M, N]⟩)
    (h : Fin H) (t : Fin M) (s : Fin N) (f : ℕ → EReal) (hf : ∀ u : Fin N, x (ix3 h t u) = f u.val) :
    Host.reduceWindowAdd ![1, 1, N] ![1, 1, 1] ![0, 0, 0] ![0, 0, N1] x init hw hu (ix3 h t s) = ∑ u ∈ Finset.Ico s.val N, f u := by
  rw [window_eq x 0 N1 init hu hinit hw h t s f hf, sum_suffix N f s.val s.isLt]

/-- Padded in front: the sum from the start to here. -/
theorem prefix_apply {H M N N1 : ℕ} {u : Shape} (hN : N1 = N - 1) (x : FVec Ideal ⟨3, ![H, M, N]⟩ .f32) (init : FVec Ideal u .f32) (hu : 0 < u.numel)
    (hinit : init (Shape.Idx.first hu) = 0)
    (hw : (⟨3, ![H, M, N]⟩ : Shape).ReduceWindows ![1, 1, N] ![1, 1, 1] ![0, 0, N1] ![0, 0, 0] ⟨3, ![H, M, N]⟩)
    (h : Fin H) (t : Fin M) (s : Fin N) (f : ℕ → EReal) (hf : ∀ u : Fin N, x (ix3 h t u) = f u.val) :
    Host.reduceWindowAdd ![1, 1, N] ![1, 1, 1] ![0, 0, N1] ![0, 0, 0] x init hw hu (ix3 h t s) = ∑ u ∈ Finset.range (s.val + 1), f u := by
  subst hN
  rw [window_eq x (N - 1) 0 init hu hinit hw h t s f hf, sum_prefix N f s.val s.isLt]

end AttnBwd

end

end
-- ==== Proof.Value.Sums.lean ====
module

public import Idealize.ShloMosaic.Lib.ValueIdx
public import Idealize.ShloMosaic.PureOps.Ideal.Laws
public import Idealize.ShloMosaic.Lib.IdealHost

@[expose] public section

set_option maxRecDepth 16384

noncomputable section

/-! The gradient of one head of the stick-breaking attention as sums of extended reals, and how its running sums
    split along blocks of 256 keys. -/

namespace AttnBwd

open Idealize.ShloMosaic

/-- The length of the sequence. -/
abbrev len : ℕ := 16384

theorem len_eq : len = 256 * 64 := by norm_num

/-- The scale of the scores. -/
def eighth : EReal := Ideal.ofBits .f32 0x3E000000#32

theorem eighth_eq : eighth = (((1 : ℝ) / 8 : ℝ) : EReal) := by
  unfold eighth
  simp [Ideal.ofBits, Ideal.ieee]
  rw [← EReal.coe_mul]
  norm_num

theorem eighth_nonneg : 0 ≤ eighth := by
  rw [eighth_eq]; exact EReal.coe_nonneg.2 (by norm_num)

theorem eighth_ne_top : eighth ≠ ⊤ := by
  rw [eighth_eq]; exact EReal.coe_ne_top _

theorem eighth_ne_bot : eighth ≠ ⊥ := by
  rw [eighth_eq]; exact EReal.coe_ne_bot _

/-- The scale goes into a sum. -/
theorem sum_mul_eighth {ι : Type} (s : Finset ι) (f : ι → EReal) : (∑ x ∈ s, f x) * eighth = ∑ x ∈ s, f x * eighth := by
  classical
  induction s using Finset.induction_on with
  | empty => simp
  | insert a s ha ih => rw [Finset.sum_insert ha, Finset.sum_insert ha, EReal.right_distrib_of_nonneg_of_ne_top eighth_nonneg eighth_ne_top, ih]

/-- One head: the rows of its queries, its keys, its values and its cotangent. -/
structure Attn where
  q : ℕ → Fin 64 → EReal
  k : ℕ → Fin 64 → EReal
  v : ℕ → Fin 64 → EReal
  d : ℕ → Fin 64 → EReal

namespace Attn

variable (A : Attn)

/-- The score of query `t` at key `s`. -/
def z (t s : ℕ) : EReal := (∑ e, A.q t e * A.k s e) * eighth

/-- `log (1 - sigmoid z)`. -/
def l (t s : ℕ) : EReal := -(max (A.z t s) 0 + Ideal.log (1 + Ideal.exp (-(max (A.z t s) (-A.z t s)))))

/-- The same on the keys before the query, nothing elsewhere. -/
def lm (t s : ℕ) : EReal := if s < t then A.l t s else 0

/-- Its sum from key `s` on. -/
def rev (t s : ℕ) : EReal := ∑ u ∈ Finset.Ico s len, A.lm t u

/-- The weight of key `s`. -/
def w (t s : ℕ) : EReal := if s < t then Ideal.exp (A.z t s + A.rev t s) else 0

/-- The weight times its gradient. -/
def g (t s : ℕ) : EReal := (∑ e, A.d t e * A.v s e) * A.w t s

/-- Its sum up to key `s`. -/
def pre (t s : ℕ) : EReal := ∑ u ∈ Finset.range (s + 1), A.g t u

/-- The gradient of the score. -/
def dz (t s : ℕ) : EReal := if s < t then A.g t s - Ideal.exp (A.z t s + A.l t s) * A.pre t s else 0

def dq (t : ℕ) (e : Fin 64) : EReal := (∑ s ∈ Finset.range len, A.dz t s * A.k s e) * eighth

def dk (s : ℕ) (e : Fin 64) : EReal := ∑ t ∈ Finset.range len, A.dz t s * (A.q t e * eighth)

def dv (s : ℕ) (e : Fin 64) : EReal := ∑ t ∈ Finset.range len, A.w t s * A.d t e

theorem z_scaled (t s : ℕ) : ∑ e, A.q t e * eighth * A.k s e = A.z t s := by
  unfold z
  rw [sum_mul_eighth]
  exact Finset.sum_congr rfl fun e _ => by rw [mul_assoc, mul_comm eighth, ← mul_assoc]

theorem w_zero {t s : ℕ} (h : t ≤ s) : A.w t s = 0 := if_neg (by omega)
theorem dz_zero {t s : ℕ} (h : t ≤ s) : A.dz t s = 0 := if_neg (by omega)

/-- A score of ⊤ takes every weight up to its key away. -/
theorem pre_of_top {t s : ℕ} (h : s < t) (ht : t < len) (hz : A.z t s = ⊤) : A.pre t s = 0 := by
  have hl : A.lm t s = ⊥ := by
    unfold lm l
    rw [if_pos h, hz, EReal.neg_top, max_eq_left bot_le, max_eq_left le_top, EReal.neg_top, Ideal.exp_bot, add_zero,
      ← EReal.coe_one, Ideal.log_coe, if_neg (by norm_num), Real.log_one, EReal.coe_zero, add_zero, EReal.neg_top]
  refine Finset.sum_eq_zero fun u hu => ?_
  rw [Finset.mem_range] at hu
  have hr : A.rev t u = ⊥ := by
    unfold rev
    rw [← Finset.add_sum_erase _ _ (Finset.mem_Ico.2 ⟨by omega, by omega⟩ : s ∈ Finset.Ico u len), hl, EReal.bot_add]
  unfold g w
  rw [if_pos (by omega), hr, EReal.add_bot, Ideal.exp_bot, mul_zero]

theorem g_zero {t s : ℕ} (h : t ≤ s) : A.g t s = 0 := by unfold g; rw [A.w_zero h, mul_zero]

end Attn

/-! ## Blocks of 256 -/

theorem sum_block (f : ℕ → EReal) (j : ℕ) : ∑ u ∈ Finset.Ico (256 * j) (256 * (j + 1)), f u = ∑ y ∈ Finset.range 256, f (256 * j + y) := by
  rw [Finset.sum_Ico_eq_sum_range, show 256 * (j + 1) - 256 * j = 256 by omega]

/-- The end of a block, by a mask. -/
theorem sum_block_from (f : ℕ → EReal) (j c : ℕ) (hc : c < 256) :
    ∑ u ∈ Finset.Ico (256 * j + c) (256 * (j + 1)), f u = ∑ y ∈ Finset.range 256, if c ≤ y then f (256 * j + y) else 0 := by
  rw [← Finset.sum_filter, Finset.sum_Ico_eq_sum_range]
  symm
  refine Finset.sum_bij' (fun y _ => y - c) (fun y _ => c + y) ?_ ?_ ?_ ?_ ?_
  · intro y hy; rw [Finset.mem_filter, Finset.mem_range] at hy; rw [Finset.mem_range]; omega
  · intro y hy; rw [Finset.mem_range] at hy; rw [Finset.mem_filter, Finset.mem_range]; omega
  · intro y hy; rw [Finset.mem_filter, Finset.mem_range] at hy; omega
  · intro y hy; omega
  · intro y hy; rw [Finset.mem_filter, Finset.mem_range] at hy; congr 1; omega

/-- The start of a block, by a mask. -/
theorem sum_block_to (f : ℕ → EReal) (j c : ℕ) (hc : c < 256) :
    ∑ u ∈ Finset.Ico (256 * j) (256 * j + c + 1), f u = ∑ y ∈ Finset.range 256, if y ≤ c then f (256 * j + y) else 0 := by
  rw [← Finset.sum_filter, Finset.sum_Ico_eq_sum_range]
  symm
  refine Finset.sum_congr ?_ fun _ _ => rfl
  ext y
  rw [Finset.mem_filter, Finset.mem_range, Finset.mem_range]
  omega

theorem sum_range_blocks (f : ℕ → EReal) (n : ℕ) : ∑ u ∈ Finset.range (256 * n), f u = ∑ i ∈ Finset.range n, ∑ y ∈ Finset.range 256, f (256 * i + y) := by
  induction n with
  | zero => simp
  | succ n ih => rw [Finset.sum_range_succ, ← ih, ← sum_block, Finset.sum_range_add_sum_Ico _ (by omega)]

theorem sum_len (f : ℕ → EReal) : ∑ u ∈ Finset.range len, f u = ∑ i ∈ Finset.range 64, ∑ y ∈ Finset.range 256, f (256 * i + y) :=
  (congrArg (fun n => ∑ u ∈ Finset.range n, f u) len_eq).trans (sum_range_blocks f 64)

theorem sum_range_block (f : ℕ → EReal) (j : ℕ) :
    ∑ u ∈ Finset.range (256 * (j + 1)), f u = ∑ u ∈ Finset.range (256 * j), f u + ∑ y ∈ Finset.range 256, f (256 * j + y) := by
  rw [← sum_block, Finset.sum_range_add_sum_Ico _ (by omega)]

namespace Attn

variable (A : Attn)

/-- In a block before the query's, the sum from a key on is the sum after the block and a sum within the block. -/
theorem rev_left (t j c : ℕ) (hc : c < 256) (ht : 256 * (j + 1) ≤ t) (hl : t < len) :
    A.rev t (256 * j + c) = A.rev t (256 * (j + 1)) + ∑ y ∈ Finset.range 256, if c ≤ y then A.l t (256 * j + y) else 0 := by
  unfold rev
  rw [← Finset.sum_Ico_consecutive _ (show 256 * j + c ≤ 256 * (j + 1) by omega) (show 256 * (j + 1) ≤ len by omega), add_comm,
    sum_block_from _ j c hc]
  congr 1
  refine Finset.sum_congr rfl fun y hy => ?_
  rw [Finset.mem_range] at hy
  unfold lm
  rw [if_pos (by omega : 256 * j + y < t)]

/-- In the query's block it is a sum within the block. -/
theorem rev_diag (t i c : ℕ) (hc : c < 256) (ht : t < 256 * (i + 1)) (hi : i < 64) :
    A.rev t (256 * i + c) = ∑ y ∈ Finset.range 256, if c ≤ y then A.lm t (256 * i + y) else 0 := by
  unfold rev
  rw [← Finset.sum_Ico_consecutive _ (show 256 * i + c ≤ 256 * (i + 1) by omega) (show 256 * (i + 1) ≤ len by unfold len; omega), sum_block_from _ i c hc]
  rw [Finset.sum_eq_zero (s := Finset.Ico (256 * (i + 1)) len) (fun u hu => ?_), add_zero]
  rw [Finset.mem_Ico] at hu
  exact if_neg (by omega)

theorem pre_block (t j c : ℕ) (hc : c < 256) :
    A.pre t (256 * j + c) = ∑ u ∈ Finset.range (256 * j), A.g t u + ∑ y ∈ Finset.range 256, if y ≤ c then A.g t (256 * j + y) else 0 := by
  unfold pre
  rw [← sum_block_to _ j c hc, Finset.sum_range_add_sum_Ico _ (by omega)]

/-- The keys after the query's block carry nothing. -/
theorem dq_eq (t i : ℕ) (ht : t < 256 * (i + 1)) (hi : i < 64) (e : Fin 64) :
    A.dq t e = (∑ s ∈ Finset.range (256 * (i + 1)), A.dz t s * A.k s e) * eighth := by
  unfold dq
  refine congrArg (· * eighth) (Eq.symm ?_)
  refine Finset.sum_subset (Finset.range_subset_range.2 (by unfold len; omega)) fun s hs hn => ?_
  rw [Finset.mem_range] at hn
  rw [A.dz_zero (by omega), zero_mul]

/-- What the queries of block `i` add to the gradient of key `s`. -/
def dkTile (i s : ℕ) (e : Fin 64) : EReal := ∑ y ∈ Finset.range 256, A.dz (256 * i + y) s * (A.q (256 * i + y) e * eighth)

def dvTile (i s : ℕ) (e : Fin 64) : EReal := ∑ y ∈ Finset.range 256, A.w (256 * i + y) s * A.d (256 * i + y) e

theorem dk_eq (s : ℕ) (e : Fin 64) : A.dk s e = ∑ i ∈ Finset.range 64, A.dkTile i s e := by
  unfold dk dkTile
  rw [sum_len]

theorem dv_eq (s : ℕ) (e : Fin 64) : A.dv s e = ∑ i ∈ Finset.range 64, A.dvTile i s e := by
  unfold dv dvTile
  rw [sum_len]

theorem dkTile_zero {i s : ℕ} (h : i < s / 256) (e : Fin 64) : A.dkTile i s e = 0 :=
  Finset.sum_eq_zero fun y hy => by rw [Finset.mem_range] at hy; rw [A.dz_zero (by omega), zero_mul]

theorem dvTile_zero {i s : ℕ} (h : i < s / 256) (e : Fin 64) : A.dvTile i s e = 0 :=
  Finset.sum_eq_zero fun y hy => by rw [Finset.mem_range] at hy; rw [A.w_zero (by omega), zero_mul]

end Attn

end AttnBwd

end
-- ==== Proof.Value.StagesAt.lean ====
module

public import proofs.«01_k».proof.Proof.Value.Stages
public import proofs.«01_k».proof.Proof.Value.Cumsum
public import proofs.«01_k».proof.Proof.Value.Sums
public import Idealize.ShloMosaic.Lib.ValueIdx
public import Idealize.ShloMosaic.Lib.IdealHost
public import Idealize.ShloMosaic.Lib.Pointwise
public import Idealize.ShloMosaic.Lib.StableHlo.Predicate

@[expose] public section

set_option maxRecDepth 16384

noncomputable section

/-! The stages of the plain gradient at one head, one query and one key, over the extended reals. -/

namespace AttnBwd.Stages

open Cert.ReferenceIdeal Cert.ReferenceIdeal.Gen
open Idealize.ShloMosaic hiding ix0 ix1 ix2 ix3 ix4 ix5
open Idealize.ShloMosaic.TcCoe
open Idealize.ShloMosaic.ValueIdx Idealize.ShloMosaic.StableHlo.Predicate

/-- Column `e` of head `h`. -/
def wide (h : Fin 8) (e : Fin 64) : Fin 512 := ⟨64 * h.val + e.val, by omega⟩

theorem apart_at (x : Wide Ideal) (h : Fin 8) (t : Fin 16384) (e : Fin 64) : apart x (ix3 h t e) = x (ix2 t (wide h e)) := by
  unfold apart
  refine (transpose_apply _ _ transposes_S16384x8x64_S8x16384x64_1_0_2 (ix3 h t e) (ix3 t h e) fun b => ?_).trans ?_
  · match b with | 0 => rfl | 1 => rfl | 2 => rfl
  · refine shapeCast_apply x _ _ _ ?_
    rw [Shape.rowMajor_val_two, Shape.rowMajor_val_three]
    show t.val * 512 + (64 * h.val + e.val) = (t.val * 8 + h.val) * 64 + e.val
    omega

theorem together_at (x : Eight Ideal) (h : Fin 8) (t : Fin 16384) (e : Fin 64) : together x (ix2 t (wide h e)) = x (ix3 h t e) := by
  unfold together
  refine (shapeCast_apply _ _ _ (ix3 t h e) ?_).trans (transpose_apply _ _ transposes_S8x16384x64_S16384x8x64_1_0_2 (ix3 t h e) (ix3 h t e) fun b => ?_)
  · rw [Shape.rowMajor_val_two, Shape.rowMajor_val_three]
    show (t.val * 8 + h.val) * 64 + e.val = t.val * 512 + (64 * h.val + e.val)
    omega
  · match b with | 0 => rfl | 1 => rfl | 2 => rfl

theorem all_at (b : BitVec 32) (i : S8x16384x16384.Idx) : (all b : Square Ideal) i = Ideal.ofBits .f32 b := rfl

theorem rows_at (x y : Eight Ideal) (h : Fin 8) (t s : Fin 16384) : rows x y (ix3 h t s) = ∑ e : Fin 64, x (ix3 h t e) * y (ix3 h s e) := by
  unfold rows
  pointwise
  simp only [ix3_eq_valueIdx]

theorem before_at (h : Fin 8) (t s : Fin 16384) : before (ix3 h t s) = 1#1 ↔ s.val < t.val := by
  show IntOp.cmpi .slt (BitVec.ofNat 32 s.val) (BitVec.ofNat 32 t.val) = 1#1 ↔ _
  have e (n : Fin 16384) : (BitVec.ofNat 32 n.val).toNat = n.val := by rw [BitVec.toNat_ofNat]; omega
  rw [slt_iff_toNat (by rw [e]; omega) (by rw [e]; omega), e, e]

/-- A choice by the keys before the query. -/
theorem select_before (x y : Square Ideal) (h : Fin 8) (t s : Fin 16384) :
    select before x y (ix3 h t s) = if s.val < t.val then x (ix3 h t s) else y (ix3 h t s) := by
  rw [select_apply]
  split
  · rename_i hm
    rw [(before_at h t s).2 hm, select_one]
  · rename_i hm
    rw [eq_zero_of_ne_one (fun e => hm ((before_at h t s).1 e)), select_zero]

theorem cmp_une_self (x : EReal) : Ideal.cmp .une x x = 0#1 := by simp [Ideal.cmp]

theorem cmp_oeq_ne {x y : EReal} (h : x ≠ y) : Ideal.cmp .oeq x y = 0#1 := by simp [Ideal.cmp, h]

theorem softplus_at (x : Square Ideal) (i : S8x16384x16384.Idx) :
    softplus x i = max (x i) 0 + Ideal.log (1 + Ideal.exp (-(max (x i) (-(x i))))) := by
  have h0 : (all 0x00000000#32 : Square Ideal) i = 0 := Ideal.ofBits_zero_f32
  have hs : subf x (all 0x00000000#32 : Square Ideal) i = x i := by
    show x i - (all 0x00000000#32 : Square Ideal) i = x i
    rw [h0, sub_eq_add_neg, neg_zero, add_zero]
  unfold softplus
  rw [select_apply, cmpf_apply]
  have hc : FloatOps.cmpf .une (subf x (all 0x00000000#32 : Square Ideal) i) (subf x (all 0x00000000#32 : Square Ideal) i) = 0#1 := cmp_une_self _
  rw [hc, select_zero]
  show max (x i) ((all 0x00000000#32 : Square Ideal) i) + Ideal.log (1 + Ideal.exp (-(max (subf x (all 0x00000000#32 : Square Ideal) i) (-(subf x (all 0x00000000#32 : Square Ideal) i))))) = _
  rw [h0, hs]

theorem neg_neg_at (x : Square Ideal) : Host.negf (Host.negf x) = x := funext fun i => neg_neg (G := EReal) (x i)

theorem coe_max (a b : ℝ) : ((max a b : ℝ) : EReal) = max (a : EReal) b := EReal.coe_strictMono.monotone.map_max

/-- The softplus of a real number is real. -/
theorem softplus_real (r : ℝ) : ∃ y : ℝ, max (r : EReal) 0 + Ideal.log (1 + Ideal.exp (-(max (r : EReal) (-(r : EReal))))) = (y : EReal) := by
  have h1 : -(max (r : EReal) (-(r : EReal))) = ((-(max r (-r)) : ℝ) : EReal) := by
    rw [← EReal.coe_neg, ← coe_max, ← EReal.coe_neg]
  have h2 : (1 : EReal) + Ideal.exp ((-(max r (-r)) : ℝ) : EReal) = ((1 + Real.exp (-(max r (-r))) : ℝ) : EReal) := by
    rw [Ideal.exp_coe, ← EReal.coe_one, ← EReal.coe_add]
  have h3 : ¬ (1 + Real.exp (-(max r (-r))) ≤ 0) := by have := Real.exp_pos (-(max r (-r))); linarith
  rw [h1, h2, Ideal.log_coe, if_neg h3, ← EReal.coe_zero, ← coe_max, ← EReal.coe_add]
  exact ⟨_, rfl⟩

/-- The softplus is ⊤ only at ⊤. -/
theorem softplus_ne_top {x : EReal} (h : x ≠ ⊤) : max x 0 + Ideal.log (1 + Ideal.exp (-(max x (-x)))) ≠ ⊤ := by
  induction x with
  | bot =>
    rw [EReal.neg_bot, max_eq_right bot_le, max_eq_right bot_le, EReal.neg_top, Ideal.exp_bot, add_zero, zero_add,
      ← EReal.coe_one, Ideal.log_coe, if_neg (by norm_num)]
    exact EReal.coe_ne_top _
  | coe r =>
    obtain ⟨y, hy⟩ := softplus_real r
    rw [hy]
    exact EReal.coe_ne_top y
  | top => exact absurd rfl h

/-- The four inputs are those of eight heads. -/
structure Is (q k v d : Eight Ideal) (A : Fin 8 → Attn) : Prop where
  q : ∀ (h : Fin 8) (t : Fin 16384) (e : Fin 64), q (ix3 h t e) = (A h).q t.val e
  k : ∀ (h : Fin 8) (t : Fin 16384) (e : Fin 64), k (ix3 h t e) = (A h).k t.val e
  v : ∀ (h : Fin 8) (t : Fin 16384) (e : Fin 64), v (ix3 h t e) = (A h).v t.val e
  d : ∀ (h : Fin 8) (t : Fin 16384) (e : Fin 64), d (ix3 h t e) = (A h).d t.val e

namespace Is

variable {q k v d : Eight Ideal} {A : Fin 8 → Attn} (H : Is q k v d A)

include H

theorem scores_at (h : Fin 8) (t s : Fin 16384) : scores q k (ix3 h t s) = (A h).z t.val s.val := by
  unfold scores Attn.z
  show rows q k (ix3 h t s) * (all 0x3E000000#32 : Square Ideal) (ix3 h t s) = _
  rw [rows_at, all_at]
  exact congrArg (· * eighth) (Finset.sum_congr rfl fun e _ => by rw [H.q, H.k])

theorem logs_at (h : Fin 8) (t s : Fin 16384) : logs (scores q k) (ix3 h t s) = (A h).lm t.val s.val := by
  unfold logs
  rw [neg_neg_at, select_before]
  unfold Attn.lm
  refine congrArg₂ (fun x y => if s.val < t.val then x else y) ?_ Ideal.ofBits_zero_f32
  show -(softplus (scores q k) (ix3 h t s)) = _
  rw [softplus_at, H.scores_at]
  rfl

theorem from_at (h : Fin 8) (t s : Fin 16384) : from_ (logs (scores q k)) (ix3 h t s) = (A h).rev t.val s.val :=
  suffix_apply _ _ h_S_ Ideal.ofBits_zero_f32 reduceWindows_S8x16384x16384_S8x16384x16384_w1s1p0_0_w1s1p0_0_w16384s1p0_16383 h t s
    (fun u => (A h).lm t.val u) (fun u => H.logs_at h t u)

theorem weights_at (h : Fin 8) (t s : Fin 16384) : weights (scores q k) (ix3 h t s) = (A h).w t.val s.val := by
  unfold weights Attn.w
  show Ideal.exp (select before (addf (scores q k) (from_ (logs (scores q k)))) (all 0xFF800000#32 : Square Ideal) (ix3 h t s)) = _
  rw [select_before]
  split
  · show Ideal.exp (scores q k (ix3 h t s) + from_ (logs (scores q k)) (ix3 h t s)) = _
    rw [H.scores_at, H.from_at]
  · rw [all_at]
    have hb : Ideal.ofBits .f32 0xFF800000#32 = ⊥ := by simp [Ideal.ofBits, Ideal.ieee]
    rw [hb, Ideal.exp_bot]

theorem shares_at (h : Fin 8) (t s : Fin 16384) : shares (scores q k) d v (ix3 h t s) = (A h).g t.val s.val := by
  unfold shares
  rw [select_before]
  split
  · show rows d v (ix3 h t s) * weights (scores q k) (ix3 h t s) = _
    rw [rows_at, H.weights_at]
    exact congrArg (· * (A h).w t.val s.val) (Finset.sum_congr rfl fun e _ => by rw [H.d, H.v])
  · rename_i hm
    rw [(A h).g_zero (by omega)]
    exact Ideal.ofBits_zero_f32

theorem upTo_at (h : Fin 8) (t s : Fin 16384) : upTo (shares (scores q k) d v) (ix3 h t s) = (A h).pre t.val s.val :=
  prefix_apply (by norm_num) _ _ h_S_ Ideal.ofBits_zero_f32 reduceWindows_S8x16384x16384_S8x16384x16384_w1s1p0_0_w1s1p0_0_w16384s1p16383_0 h t s
    (fun u => (A h).g t.val u) (fun u => H.shares_at h t u)

theorem sigmoid_at (h : Fin 8) (t s : Fin 16384) (hz : (A h).z t.val s.val ≠ ⊤) :
    sigmoid (scores q k) (ix3 h t s) = Ideal.exp ((A h).z t.val s.val + (A h).l t.val s.val) := by
  have htop : (all 0x7F800000#32 : Square Ideal) (ix3 h t s) = ⊤ := by
    show Ideal.ofBits .f32 0x7F800000#32 = ⊤
    simp [Ideal.ofBits, Ideal.ieee]
  have hs := H.scores_at h t s
  have c1 : cmpf .oeq (scores q k) (all 0x7F800000#32 : Square Ideal) (ix3 h t s) = 0#1 := by
    refine cmp_oeq_ne ?_
    rw [hs, htop]
    exact hz
  have c2 : cmpf .oeq (softplus (scores q k)) (all 0x7F800000#32 : Square Ideal) (ix3 h t s) = 0#1 := by
    refine cmp_oeq_ne ?_
    rw [softplus_at, hs, htop]
    exact softplus_ne_top hz
  unfold sigmoid
  show Ideal.exp (select _ _ _ (ix3 h t s) - select _ _ _ (ix3 h t s)) = _
  rw [select_apply, select_apply, c1, c2, select_zero, select_zero, softplus_at, hs, sub_eq_add_neg]
  rfl

theorem scoreGrad_at (h : Fin 8) (t s : Fin 16384) : scoreGrad (scores q k) d v (ix3 h t s) = (A h).dz t.val s.val * eighth := by
  unfold scoreGrad
  rw [neg_neg_at, neg_neg_at]
  show (shares (scores q k) d v (ix3 h t s)
      + -(select before (upTo (shares (scores q k) d v)) (all 0x00000000#32 : Square Ideal) (ix3 h t s)) * sigmoid (scores q k) (ix3 h t s)) * eighth = _
  rw [select_before, H.shares_at, H.upTo_at]
  refine congrArg (· * eighth) ?_
  unfold Attn.dz
  split
  · rename_i hm
    by_cases hz : (A h).z t.val s.val = ⊤
    · rw [(A h).pre_of_top hm t.isLt hz, neg_zero, zero_mul, add_zero, mul_zero, sub_eq_add_neg, neg_zero, add_zero]
    · rw [H.sigmoid_at h t s hz, neg_mul, mul_comm, ← sub_eq_add_neg]
  · rename_i hm
    have h0 : (all 0x00000000#32 : Square Ideal) (ix3 h t s) = 0 := Ideal.ofBits_zero_f32
    rw [h0, (A h).g_zero (by omega), neg_zero, zero_mul, add_zero]

theorem queryGrad_at (h : Fin 8) (t : Fin 16384) (e : Fin 64) : queryGrad (scores q k) k d v (ix3 h t e) = (A h).dq t.val e := by
  have hd : queryGrad (scores q k) k d v (ix3 h t e) = ∑ s : Fin 16384, scoreGrad (scores q k) d v (ix3 h t s) * k (ix3 h s e) := by
    unfold queryGrad
    pointwise
    simp only [ix3_eq_valueIdx]
  unfold Attn.dq
  rw [hd, sum_mul_eighth]
  refine Eq.trans ?_ (Finset.sum_range fun s => (A h).dz t.val s * (A h).k s e * eighth).symm
  refine Finset.sum_congr rfl fun s _ => ?_
  rw [H.scoreGrad_at, H.k, mul_right_comm]

theorem keyGrad_at (h : Fin 8) (s : Fin 16384) (e : Fin 64) : keyGrad (scores q k) q d v (ix3 h s e) = (A h).dk s.val e := by
  have hd : keyGrad (scores q k) q d v (ix3 h s e) = ∑ t : Fin 16384, scoreGrad (scores q k) d v (ix3 h t s) * q (ix3 h t e) := by
    unfold keyGrad
    pointwise
    simp only [ix3_eq_valueIdx]
  unfold Attn.dk
  rw [hd]
  refine Eq.trans ?_ (Finset.sum_range fun t => (A h).dz t s.val * ((A h).q t e * eighth)).symm
  refine Finset.sum_congr rfl fun t _ => ?_
  rw [H.scoreGrad_at, H.q, mul_assoc, mul_comm eighth]

theorem valueGrad_at (h : Fin 8) (s : Fin 16384) (e : Fin 64) : valueGrad (scores q k) d (ix3 h s e) = (A h).dv s.val e := by
  have hd : valueGrad (scores q k) d (ix3 h s e) = ∑ t : Fin 16384, d (ix3 h t e) * weights (scores q k) (ix3 h t s) := by
    unfold valueGrad
    pointwise
    simp only [ix3_eq_valueIdx]
  unfold Attn.dv
  rw [hd]
  refine Eq.trans ?_ (Finset.sum_range fun t => (A h).w t s.val * (A h).d t e).symm
  refine Finset.sum_congr rfl fun t _ => ?_
  rw [H.weights_at, H.d, mul_comm]

end Is

end AttnBwd.Stages

end
-- ==== Proof.Value.Reference.lean ====
module

public import proofs.«01_k».proof.Proof.Value.StagesAt
public import Idealize.ShloMosaic.Lib.ValueLayout

@[expose] public section

set_option maxRecDepth 16384

noncomputable section

/-! The plain gradient's two results, head by head. -/

namespace AttnBwd

open Idealize.ShloMosaic hiding ix0 ix1 ix2 ix3 ix4 ix5
open Idealize.ShloMosaic.TcCoe
open Idealize.ShloMosaic.ValueIdx

/-- The number in row `t` and column `n`, nothing outside. -/
def at2 {C : ℕ} (x : (⟨2, ![16384, C]⟩ : Shape).Idx → EReal) (t n : ℕ) : EReal :=
  if h : t < 16384 ∧ n < C then x (ix2 (⟨t, h.1⟩ : Fin 16384) (⟨n, h.2⟩ : Fin C)) else 0

theorem at2_eq {C : ℕ} (x : (⟨2, ![16384, C]⟩ : Shape).Idx → EReal) (t : Fin 16384) (n : Fin C) : at2 x t.val n.val = x (ix2 t n) :=
  dif_pos ⟨t.isLt, n.isLt⟩

/-- Head `h`: its queries are in the first half of the columns of `qg`, its keys in the first half of those of `kv`, its
    values in the second half, its cotangent in the columns of `dout`. -/
def headOf (qg kv : (⟨2, ![16384, 1024]⟩ : Shape).Idx → EReal) (dout : (⟨2, ![16384, 512]⟩ : Shape).Idx → EReal) (h : ℕ) : Attn where
  q t e := at2 qg t (64 * h + e.val)
  k t e := at2 kv t (64 * h + e.val)
  v t e := at2 kv t (512 + (64 * h + e.val))
  d t e := at2 dout t (64 * h + e.val)

namespace Stages

open Cert.ReferenceIdeal Cert.ReferenceIdeal.Gen

variable (qg kv : FVec Ideal S16384x1024 .bf16) (dout : Wide Ideal)

theorem args_are : Is (queries qg) (keys kv) (vals kv) (apart dout) (fun h => headOf qg kv dout h.val) where
  q h t e := by
    unfold queries
    rw [apart_at]
    refine (slice2_axis1_apply 0 qg slices_S16384x1024_S16384x512_0_0 t (wide h e) (⟨64 * h.val + e.val, by omega⟩ : Fin 1024) (Nat.zero_add _).symm).trans ?_
    exact (at2_eq qg t ⟨64 * h.val + e.val, by omega⟩).symm
  k h t e := by
    unfold keys
    rw [apart_at]
    refine (slice2_axis1_apply 0 (extf .f32 kv bitsLt_bf16_f32) slices_S16384x1024_S16384x512_0_0 t (wide h e) (⟨64 * h.val + e.val, by omega⟩ : Fin 1024) (Nat.zero_add _).symm).trans ?_
    exact (at2_eq kv t ⟨64 * h.val + e.val, by omega⟩).symm
  v h t e := by
    unfold vals
    rw [apart_at]
    refine (slice2_axis1_apply 512 _ _ t _ (⟨512 + (64 * h.val + e.val), by omega⟩ : Fin 1024) rfl).trans ?_
    exact (at2_eq kv t ⟨512 + (64 * h.val + e.val), by omega⟩).symm
  d h t e := by
    rw [apart_at]
    exact (at2_eq dout t (wide h e)).symm

theorem beside_left (x y : Wide Ideal) (s : Fin 16384) (n : Fin 1024) (n' : Fin 512) (h : n.val = n'.val) :
    Cert.ReferenceIdeal.Value.fn_main_v54 (F := Ideal) x y (ix2 s n) = x (ix2 s n') := by
  unfold Cert.ReferenceIdeal.Value.fn_main_v54
  pointwise
  rw [dif_pos (show n.val < 512 by omega)]
  exact (congrArg x (ix2_eq_valueIdx _ _)).trans (congrArg (fun n => x (ix2 s n)) (Fin.ext h))

theorem beside_right (x y : Wide Ideal) (s : Fin 16384) (n : Fin 1024) (n' : Fin 512) (h : n.val = 512 + n'.val) :
    Cert.ReferenceIdeal.Value.fn_main_v54 (F := Ideal) x y (ix2 s n) = y (ix2 s n') := by
  unfold Cert.ReferenceIdeal.Value.fn_main_v54
  pointwise
  rw [dif_neg (show ¬ n.val < 512 by omega)]
  exact (congrArg y (ix2_eq_valueIdx _ _)).trans (congrArg (fun n => y (ix2 s n)) (Fin.ext (by show n.val - 512 = n'.val; omega)))

variable {qg kv}

theorem outQ_at (h : Fin 8) (t : Fin 16384) (e : Fin 64) : outQ qg kv dout (ix2 t (wide h e)) = (headOf qg kv dout h.val).dq t.val e := by
  unfold outQ
  show together (queryGrad (scores (queries qg) (keys kv)) (keys kv) (apart dout) (vals kv)) (ix2 t (wide h e)) = _
  rw [together_at]
  exact (args_are qg kv dout).queryGrad_at h t e

theorem outK_at (h : Fin 8) (s : Fin 16384) (e : Fin 64) :
    outKv qg kv dout (ix2 s (⟨64 * h.val + e.val, by omega⟩ : Fin 1024)) = (headOf qg kv dout h.val).dk s.val e := by
  unfold outKv
  rw [beside_left _ _ s (⟨64 * h.val + e.val, by omega⟩ : Fin 1024) (wide h e) rfl, together_at]
  exact (args_are qg kv dout).keyGrad_at h s e

theorem outV_at (h : Fin 8) (s : Fin 16384) (e : Fin 64) :
    outKv qg kv dout (ix2 s (⟨512 + (64 * h.val + e.val), by omega⟩ : Fin 1024)) = (headOf qg kv dout h.val).dv s.val e := by
  unfold outKv
  rw [beside_right _ _ s (⟨512 + (64 * h.val + e.val), by omega⟩ : Fin 1024) (wide h e) rfl, together_at]
  exact (args_are qg kv dout).valueGrad_at h s e

end Stages

end AttnBwd

end
-- ==== Proof.Value.Tile.lean ====
module

public import proofs.«01_k».proof.Proof.Gen.KernelIdeal.Loops

@[expose] public section

set_option maxRecDepth 16384

noncomputable section

/-! The arithmetic of one tile of one head: 256 rows of queries against one block of 256 keys. -/

namespace AttnBwd

open Cert.KernelIdeal Cert.KernelIdeal.Gen
open Idealize.ShloMosaic Idealize.ShloMosaic.TcCoe

variable {F : FTy → Type} [FloatOps F]

/-- A tile of scores. -/
abbrev Tile (F : FTy → Type) := FVec F S256x256 .f32
/-- A tile of the storage type. -/
abbrev TileB (F : FTy → Type) := FVec F S256x256 .bf16
/-- One head's 64 columns of a tile. -/
abbrev Cols (F : FTy → Type) := FVec F S256x64 .f32
abbrev ColsB (F : FTy → Type) := FVec F S256x64 .bf16
/-- One number per row. -/
abbrev Rows (F : FTy → Type) := FVec F S256x1 .f32

/-- The columns of head `a` of a group. -/
def part (a : Fin 4) (x : TileB F) : ColsB F :=
  match a with
  | 0 => extractStridedSlice S256x64 ![0, 0] x slices_S256x256_o0_0_S256x64
  | 1 => extractStridedSlice S256x64 ![0, 64] x slices_S256x256_o0_64_S256x64
  | 2 => extractStridedSlice S256x64 ![0, 128] x slices_S256x256_o0_128_S256x64
  | 3 => extractStridedSlice S256x64 ![0, 192] x slices_S256x256_o0_192_S256x64

/-- Four heads' columns side by side. -/
def beside (x y z w : Cols F) : Tile F :=
  concatenate S256x256 1 [⟨S256x64, x⟩, ⟨S256x64, y⟩, ⟨S256x64, z⟩, ⟨S256x64, w⟩] concatenates_S256x64_S256x64_S256x64_S256x64_S256x256_d1

def zeroTile : Tile F := broadcast S256x256 (Scalar.ofBits .f32 0x00000000#32)

/-- Every row of `a` against every row of `b`. -/
def score (a b : ColsB F) : Tile F :=
  matmul dot_S256x64_S256x64_S256x256_1_1_0_0_n_n none a b (constant S256x256 .f32 0x00000000#32)

/-- `log (1 - sigmoid z)`. -/
def logNot (z : Tile F) : Tile F :=
  subf zeroTile (addf (maximumf z zeroTile) (log (addf (broadcast S256x256 (Scalar.ofBits .f32 0x3F800000#32)) (exp (subf zeroTile (absf z))))))

/-- A tile times a matrix of ones and zeros: sums along its rows. -/
def rowSums (ones : TileB F) (x : Tile F) : Tile F :=
  matmul dot_S256x256_S256x256_S256x256_1_0_0_1_n_n none (truncf .bf16 x bitsLt_bf16_f32) ones (constant S256x256 .f32 0x00000000#32)

/-- Column `j` of a table of 64 columns, by a mask and a sum. -/
def pick (n : IVec S256x64 32) (j : BitVec 32) (x : FVec F S1x1x256x64 .f32) : Rows F :=
  shapeCast S256x1 (multiReduction .add [1] S256 (select (cmpi .eq n (broadcast S256x64 j)) (shapeCast S256x64 x shapeCasts_S1x1x256x64_S256x64)
    (broadcast S256x64 (Scalar.ofBits .f32 0x00000000#32))) 0x00000000#32 reduces_S256x64_S256 (.inl rfl) rfl) shapeCasts_S256_S256x1

/-- One number per row, along the row. -/
def along (x : Rows F) : Tile F := broadcastTo S256x256 x broadcasts_S256x1_S256x256

def rowGrad (t : TileB F) (h : ColsB F) : Cols F :=
  matmul dot_S256x256_S256x64_S256x64_1_0_0_1_n_n none t h (constant S256x64 .f32 0x00000000#32)

def colGrad (t : TileB F) (h : ColsB F) : Cols F :=
  matmul dot_S256x256_S256x64_S256x64_0_0_1_1_n_n none t h (constant S256x64 .f32 0x00000000#32)

/-- The last column of the running sums. -/
def lastCol (x : Tile F) : Rows F := extractStridedSlice S256x1 ![0, 255] x slices_S256x256_o0_255_S256x1

/-- What a tile of one head needs: the scaled queries, the cotangent, the keys and the values. -/
structure Head (F : FTy → Type) where
  q : FVec F S256x64 .bf16
  d : FVec F S256x64 .bf16
  k : FVec F S256x64 .bf16
  v : FVec F S256x64 .bf16

namespace Head

variable (h : Head F) (ones onesT : TileB F)

def z : Tile F := score h.q h.k

/-- The weights of a tile left of the diagonal; `c` is the row sums of the logarithms right of it. -/
def w (c : Rows F) : Tile F := exp (addf h.z (addf (along c) (rowSums ones (logNot h.z))))

/-- The weight's share of the gradient. -/
def g (c : Rows F) : Tile F := mulf (h.w ones c) (score h.d h.v)

def sums (c : Rows F) : Tile F := rowSums onesT (h.g ones c)

/-- The gradient of the scores; `s` is the sum of `g` over the tiles left of this one. -/
def dz (c s : Rows F) : TileB F :=
  truncf .bf16 (subf (h.g ones c) (mulf (exp (addf h.z (logNot h.z))) (addf (along s) (h.sums ones onesT c)))) bitsLt_bf16_f32

def mask : IVec S256x256 1 := cmpi .slt (iota .tc S256x256 32 [1] iota_S256x256_d1_w32) (iota .tc S256x256 32 [0] iota_S256x256_d0_w32)

/-- The logarithms of the tile on the diagonal. -/
def lD : Tile F := select mask (logNot h.z) zeroTile

def wD : Tile F := exp (select mask (addf h.z (rowSums ones h.lD)) (broadcast S256x256 (Scalar.ofBits .f32 0xFF800000#32)))

def gD : Tile F := mulf (h.wD ones) (score h.d h.v)

def dzD (s : Rows F) : TileB F :=
  truncf .bf16 (select mask (subf (h.gD ones) (mulf (exp (addf h.z h.lD)) (addf (along s) (rowSums onesT (h.gD ones))))) zeroTile) bitsLt_bf16_f32

end Head

/-- The state of the loop over the tiles: each head's sum of `g` and its gradient of the queries. -/
abbrev Acc (F : FTy → Type) : Type := Rows F × Cols F × Rows F × Cols F × Rows F × Cols F × Rows F × Cols F

/-- The four heads of a tile. -/
def heads (q d k v : TileB F) (a : Fin 4) : Head F := ⟨part a q, part a d, part a k, part a v⟩

section Step

variable (q d k v ones onesT : TileB F) (n : IVec S256x64 32) (j : BitVec 32) (cin : Fin 4 → FVec F S1x1x256x64 .f32)

/-- The gradient of head `a`'s scores in tile `j`. -/
def stepDz (s : Rows F) (a : Fin 4) : TileB F := (heads q d k v a).dz ones onesT (pick n j (cin a)) s

def stepW (a : Fin 4) : TileB F := truncf .bf16 ((heads q d k v a).w ones (pick n j (cin a))) bitsLt_bf16_f32

/-- One head's share of the state after tile `j`. -/
def stepSum (s : Rows F) (a : Fin 4) : Rows F := addf s (lastCol ((heads q d k v a).sums ones onesT (pick n j (cin a))))

def stepDq (s : Rows F) (x : Cols F) (a : Fin 4) : Cols F := addf x (rowGrad (stepDz q d k v ones onesT n j cin s a) (part a k))

/-- The state after tile `j`. -/
def step (s : Acc F) : Acc F :=
  (stepSum q d k v ones onesT n j cin s.1 0, stepDq q d k v ones onesT n j cin s.1 s.2.1 0,
    stepSum q d k v ones onesT n j cin s.2.2.1 1, stepDq q d k v ones onesT n j cin s.2.2.1 s.2.2.2.1 1,
    stepSum q d k v ones onesT n j cin s.2.2.2.2.1 2, stepDq q d k v ones onesT n j cin s.2.2.2.2.1 s.2.2.2.2.2.1 2,
    stepSum q d k v ones onesT n j cin s.2.2.2.2.2.2.1 3, stepDq q d k v ones onesT n j cin s.2.2.2.2.2.2.1 s.2.2.2.2.2.2.2 3)

/-- What tile `j` adds to the gradient of its keys, and to that of its values. -/
def stepDk (s : Acc F) : Tile F :=
  beside (colGrad (stepDz q d k v ones onesT n j cin s.1 0) (part 0 q)) (colGrad (stepDz q d k v ones onesT n j cin s.2.2.1 1) (part 1 q))
    (colGrad (stepDz q d k v ones onesT n j cin s.2.2.2.2.1 2) (part 2 q)) (colGrad (stepDz q d k v ones onesT n j cin s.2.2.2.2.2.2.1 3) (part 3 q))

def stepDv : Tile F :=
  beside (colGrad (stepW q d k v ones n j cin 0) (part 0 d)) (colGrad (stepW q d k v ones n j cin 1) (part 1 d))
    (colGrad (stepW q d k v ones n j cin 2) (part 2 d)) (colGrad (stepW q d k v ones n j cin 3) (part 3 d))

/-- The same for the tile on the diagonal. -/
def diagDz (s : Rows F) (a : Fin 4) : TileB F := (heads q d k v a).dzD ones onesT s

def diagW (a : Fin 4) : TileB F := truncf .bf16 ((heads q d k v a).wD ones) bitsLt_bf16_f32

def diagDq (s : Acc F) : TileB F :=
  truncf .bf16 (mulf (beside (addf s.2.1 (rowGrad (diagDz q d k v ones onesT s.1 0) (part 0 k))) (addf s.2.2.2.1 (rowGrad (diagDz q d k v ones onesT s.2.2.1 1) (part 1 k)))
      (addf s.2.2.2.2.2.1 (rowGrad (diagDz q d k v ones onesT s.2.2.2.2.1 2) (part 2 k))) (addf s.2.2.2.2.2.2.2 (rowGrad (diagDz q d k v ones onesT s.2.2.2.2.2.2.1 3) (part 3 k))))
    (broadcast S256x256 (Scalar.ofBits .f32 0x3E000000#32))) bitsLt_bf16_f32

def diagDk (s : Acc F) : Tile F :=
  beside (colGrad (diagDz q d k v ones onesT s.1 0) (part 0 q)) (colGrad (diagDz q d k v ones onesT s.2.2.1 1) (part 1 q))
    (colGrad (diagDz q d k v ones onesT s.2.2.2.2.1 2) (part 2 q)) (colGrad (diagDz q d k v ones onesT s.2.2.2.2.2.2.1 3) (part 3 q))

def diagDv : Tile F :=
  beside (colGrad (diagW q d k v ones 0) (part 0 d)) (colGrad (diagW q d k v ones 1) (part 1 d))
    (colGrad (diagW q d k v ones 2) (part 2 d)) (colGrad (diagW q d k v ones 3) (part 3 d))

end Step

end AttnBwd

end
-- ==== Proof.Value.Trip.lean ====
module

public import proofs.«01_k».proof.Proof.Value.Tile

@[expose] public section

set_option maxRecDepth 16384

noncomputable section

/-! What one trip of the loop over the key blocks computes, by the tile functions. -/

namespace AttnBwd

open Cert.KernelIdeal Cert.KernelIdeal.Gen
open Idealize.ShloMosaic Idealize.ShloMosaic.TcCoe

variable {F : FTy → Type} [FloatOps F]

variable (𝒱 : Variants) (c : Dev nD) (bd : Option 𝒱.V) (i : grid0.Coords) (arg2 : Memref sig .tc .smem S128 .i32) (harg2 : arg2.IsWhole) (arg3 :
  Memref sig .tc .vmem S256x256 .bf16) (harg3 : arg3.IsWhole) (arg4 : Memref sig .tc .hbm S16384x1024 .bf16) (harg4 : arg4.IsWhole) (arg5 :
  Memref sig .tc .vmem S1x4x256x64 .f32) (harg5 : arg5.IsWhole) (arg6 : Memref sig .tc .vmem S256x256 .f32) (harg6 : arg6.IsWhole) (arg7 :
  Memref sig .tc .vmem S256x256 .bf16) (harg7 : arg7.IsWhole) (arg8 : Memref sig .tc .vmem S256x256 .bf16) (harg8 : arg8.IsWhole) (arg9 :
  Memref sig .tc .vmem S256x256 .bf16) (harg9 : arg9.IsWhole) (arg10 : Memref sig .tc .hbm S16384x1024 .f32) (harg10 : arg10.IsWhole) (arg11
  : Memref sig .tc .vmem S16384x256 .bf16) (harg11 : arg11.IsWhole) (arg12 : Memref sig .tc .vmem S16384x256 .bf16) (harg12 : arg12.IsWhole)
  (arg13 : Memref sig .tc .vmem S16384x256 .f32) (harg13 : arg13.IsWhole) (arg14 : Memref sig .tc .vmem S16384x256 .f32) (harg14 :
  arg14.IsWhole) (arg15 : DmaSems sig S2) (arg1 : BitVec 32) (v3 : Elt F .i32) (k0_hw1 : k0_chk1 i v3) (v5 : BitVec 32) (v15 : FVec F
  S256x256 .bf16) (v17 : FVec F S256x256 .bf16) (v34 : IVec S256x64 32) (v35 : FVec F S256x1 .f32) (v36 : FVec F S256x64 .f32) (cst_12 : F
  .f32) (X_arg5 : BufTy.Contents (Elt F) arg5.view.ty) (X_arg11 : BufTy.Contents (Elt F) arg11.view.ty) (X_arg12 : BufTy.Contents (Elt F)
  arg12.view.ty) (k : Fin (k0_t1_loop i v3).trips) (acc : Acc F) (f_arg13 : BufTy.Contents (Elt F) arg13.view.ty) (f_arg14 : BufTy.Contents
  (Elt F) arg14.view.ty)
  (q d : TileB F)

/-- Head `a`'s carries in, as a block of the table. -/
def cinPart (a : Fin 4) : FVec F S1x1x256x64 .f32 :=
  match a with
  | 0 => arg5.view.readAt (Elt F) (Rect.unit (s := S1x4x256x64) ![0, 0, 0, 0] S1x1x256x64.size inb_S1x4x256x64_S1x1x256x64_0_0_0_0).toLoadRect X_arg5
  | 1 => arg5.view.readAt (Elt F) (Rect.unit (s := S1x4x256x64) ![0, 1, 0, 0] S1x1x256x64.size inb_S1x4x256x64_S1x1x256x64_0_1_0_0).toLoadRect X_arg5
  | 2 => arg5.view.readAt (Elt F) (Rect.unit (s := S1x4x256x64) ![0, 2, 0, 0] S1x1x256x64.size inb_S1x4x256x64_S1x1x256x64_0_2_0_0).toLoadRect X_arg5
  | 3 => arg5.view.readAt (Elt F) (Rect.unit (s := S1x4x256x64) ![0, 3, 0, 0] S1x1x256x64.size inb_S1x4x256x64_S1x1x256x64_0_3_0_0).toLoadRect X_arg5

/-- The 256 rows of a resident array that trip `k` reads. -/
abbrev tripRect : Rect S16384x256 := Rect.unit (s := S16384x256) (k0_off4 i v3 k) S256x256.size (k0_off4_inb i v3 k0_hw1 k)

set_option maxHeartbeats 4000000 in
theorem trip_state :
    tripR_k0_t1 (F := F)
    𝒱 c bd i arg2 harg2 arg3 harg3 arg4 harg4 arg5 harg5 arg6 harg6 arg7 harg7 arg8 harg8 arg9 harg9 arg10 harg10 arg11 harg11 arg12 harg12 arg13
    harg13 arg14 harg14 arg15 arg1 v3 k0_hw1 v5 v15 v17 (part 0 q) (part 1 q) (part 2 q) (part 3 q) (part 0 d) (part 1 d) (part 2 d) (part 3 d) v34
    v35 v36 cst_12 X_arg5 X_arg11 X_arg12 k acc f_arg13 f_arg14
    = step q d (arg11.view.readAt (Elt F) (tripRect i v3 k0_hw1 k).toLoadRect X_arg11) (arg12.view.readAt (Elt F) (tripRect i v3 k0_hw1 k).toLoadRect X_arg12)
        v15 v17 v34 (Scf.iv v5 1#32 k) (cinPart arg5 X_arg5) acc := by
  unfold tripR_k0_t1 trip_k0_t1
  sl_kernel_rfl

set_option maxHeartbeats 4000000 in
theorem trip_dk :
    (tripL_k0_t1 (F := F)
    𝒱 c bd i arg2 harg2 arg3 harg3 arg4 harg4 arg5 harg5 arg6 harg6 arg7 harg7 arg8 harg8 arg9 harg9 arg10 harg10 arg11 harg11 arg12 harg12 arg13
    harg13 arg14 harg14 arg15 arg1 v3 k0_hw1 v5 v15 v17 (part 0 q) (part 1 q) (part 2 q) (part 3 q) (part 0 d) (part 1 d) (part 2 d) (part 3 d) v34
    v35 v36 cst_12 X_arg5 X_arg11 X_arg12 k acc f_arg13 f_arg14).1
    = [⟨tripRect i v3 k0_hw1 k, shapeCast S256x256 (addf (arg13.view.readAt (Elt F) (tripRect i v3 k0_hw1 k).toLoadRect f_arg13)
        (stepDk q d (arg11.view.readAt (Elt F) (tripRect i v3 k0_hw1 k).toLoadRect X_arg11) (arg12.view.readAt (Elt F) (tripRect i v3 k0_hw1 k).toLoadRect X_arg12)
          v15 v17 v34 (Scf.iv v5 1#32 k) (cinPart arg5 X_arg5) acc)) shapeCasts_S256x256_S256x256⟩] := by
  unfold tripL_k0_t1 trip_k0_t1
  sl_kernel_rfl

set_option maxHeartbeats 4000000 in
theorem trip_dv :
    (tripL_k0_t1 (F := F)
    𝒱 c bd i arg2 harg2 arg3 harg3 arg4 harg4 arg5 harg5 arg6 harg6 arg7 harg7 arg8 harg8 arg9 harg9 arg10 harg10 arg11 harg11 arg12 harg12 arg13
    harg13 arg14 harg14 arg15 arg1 v3 k0_hw1 v5 v15 v17 (part 0 q) (part 1 q) (part 2 q) (part 3 q) (part 0 d) (part 1 d) (part 2 d) (part 3 d) v34
    v35 v36 cst_12 X_arg5 X_arg11 X_arg12 k acc f_arg13 f_arg14).2
    = [⟨tripRect i v3 k0_hw1 k, shapeCast S256x256 (addf (arg14.view.readAt (Elt F) (tripRect i v3 k0_hw1 k).toLoadRect f_arg14)
        (stepDv q d (arg11.view.readAt (Elt F) (tripRect i v3 k0_hw1 k).toLoadRect X_arg11) (arg12.view.readAt (Elt F) (tripRect i v3 k0_hw1 k).toLoadRect X_arg12)
          v15 v34 (Scf.iv v5 1#32 k) (cinPart arg5 X_arg5))) shapeCasts_S256x256_S256x256⟩] := by
  unfold tripL_k0_t1 trip_k0_t1
  sl_kernel_rfl

end AttnBwd

end
-- ==== Proof.Value.Slab.lean ====
module

public import proofs.«01_k».proof.Proof.Value.Tile
public import Idealize.ShloMosaic.Lib.WritesUnit
public import Idealize.ShloMosaic.Lib.WholeRead
public import Idealize.ShloMosaic.Lib.ValueIdxCore

@[expose] public section

set_option maxRecDepth 16384

noncomputable section

/-! The 64 slabs of 256 rows of a resident array, read and added to. -/

namespace AttnBwd

open Cert.KernelIdeal Cert.KernelIdeal.Gen
open Idealize.ShloMosaic Idealize.ShloMosaic.TcCoe
open Idealize.ShloMosaic.ValueIdx

variable {F : FTy → Type} [FloatOps F]

/-- The place of `y` of slab `j` in the array. -/
def rowAt (j : ℕ) (y : S256x256.Idx) : S16384x256.Idx :=
  ix2 (⟨(256 * j + (y 0).val) % 16384, Nat.mod_lt _ (by decide)⟩ : Fin 16384) (y 1 : Fin 256)

/-- Slab `j`. -/
def slab {e : EltTy} (j : ℕ) (x : Vec F S16384x256 e) : Vec F S256x256 e := fun y => x (rowAt j y)

/-- The place of `y` in its slab. -/
def inSlab (y : S16384x256.Idx) : S256x256.Idx :=
  ix2 (⟨(y 0).val % 256, Nat.mod_lt _ (by decide)⟩ : Fin 256) (y 1 : Fin 256)

/-- `t` added to slab `j`. -/
def addSlab (j : ℕ) (x : Vec F S16384x256 .f32) (t : Tile F) : Vec F S16384x256 .f32 := fun y =>
  if (y 0).val / 256 = j then addf (φ := .f32) (slab j x) t (inSlab y) else x y

theorem readAt_slab {sp : Space} {e : EltTy} (v : View sig .tc sp S16384x256 e) (f : v.ty.Contents (Elt F)) (off : Fin 2 → ℕ)
    (inb : ∀ a, off a + S256x256.size a ≤ S16384x256.size a) (j : ℕ) (hj : off = ![256 * j, 0]) (hj64 : j < 64) :
    v.readAt (Elt F) (Rect.unit (s := S16384x256) off S256x256.size inb).toLoadRect f = slab j (v.read (Elt F) f) := by
  subst hj
  funext y
  rw [View.readAt_apply]
  unfold slab rowAt
  congr 1
  funext a
  have h0 := idx2_lt0 y
  match a with
  | 0 => exact Fin.ext (by show 256 * j + 1 * (y 0).val = (256 * j + (y 0).val) % 16384; rw [Nat.mod_eq_of_lt (by omega)]; omega)
  | 1 => exact Fin.ext (by show 0 + 1 * (y 1).val = (y 1).val; omega)

/-- A slab read, added to and written back. -/
theorem writes_addSlab {sp : Space} (v : View sig .tc sp S16384x256 .f32) (f : v.ty.Contents (Elt F)) (L : List (View.Piece (Elt F) S16384x256 .f32))
    (off : Fin 2 → ℕ) (inb : ∀ a, off a + S256x256.size a ≤ S16384x256.size a) (j : ℕ) (hj : off = ![256 * j, 0]) (hj64 : j < 64) (t : Tile F) :
    v.read (Elt F) (v.writes (Elt F) f (⟨Rect.unit (s := S16384x256) off S256x256.size inb,
        shapeCast S256x256 (addf (φ := .f32) (v.readAt (Elt F) (Rect.unit (s := S16384x256) off S256x256.size inb).toLoadRect (v.writes (Elt F) f L)) t) shapeCasts_S256x256_S256x256⟩ :: L))
      = addSlab j (v.read (Elt F) (v.writes (Elt F) f L)) t := by
  rw [readAt_slab v _ off inb j hj hj64]
  subst hj
  funext y
  unfold addSlab
  have h0 := idx2_lt0 y
  split
  · rename_i h
    rw [View.read_writes_cons_hit_of_coords v f _ _ L (inSlab y) y]
    · exact congrFun (shapeCast_self _ _) _
    · intro a
      match a with
      | 0 => show (y 0).val = 256 * j + 1 * ((y 0).val % 256); omega
      | 1 => show (y 1).val = 0 + 1 * (y 1).val; omega
  · rename_i h
    exact View.read_writes_cons_miss_of_axis v f _ L y 0 (256 * j) 256 rfl rfl rfl (by omega)

end AttnBwd

end
-- ==== Proof.Value.Loop.lean ====
module

public import proofs.«01_k».proof.Proof.Value.Trip
public import proofs.«01_k».proof.Proof.Value.Slab
public import proofs.«01_k».proof.Proof.Run.Side

@[expose] public section

set_option maxRecDepth 16384

noncomputable section

/-! The loop over the key blocks: the sums it carries and the two accumulators, after any number of trips. -/

namespace AttnBwd

open Cert.KernelIdeal Cert.KernelIdeal.Gen
open Idealize.ShloMosaic Idealize.ShloMosaic.TcCoe

variable {F : FTy → Type} [FloatOps F]

/-- What the loop carries: the sums, and the gradients of the keys and of the values so far. -/
structure Loop (F : FTy → Type) [FloatOps F] where
  acc : Acc F
  dk : Vec F S16384x256 .f32
  dv : Vec F S16384x256 .f32

/-- What the loop reads. -/
structure LoopIn (F : FTy → Type) [FloatOps F] where
  q : TileB F
  d : TileB F
  k : Vec F S16384x256 .bf16
  v : Vec F S16384x256 .bf16
  ones : TileB F
  onesT : TileB F
  n : IVec S256x64 32
  cin : Fin 4 → FVec F S1x1x256x64 .f32

/-- One trip. -/
def Loop.next (x : LoopIn F) (j : ℕ) (s : Loop F) : Loop F :=
  ⟨step x.q x.d (slab (F := F) (e := .bf16) j x.k) (slab (F := F) (e := .bf16) j x.v) x.ones x.onesT x.n (BitVec.ofNat 32 j) x.cin s.acc,
    addSlab j s.dk (stepDk x.q x.d (slab (F := F) (e := .bf16) j x.k) (slab (F := F) (e := .bf16) j x.v) x.ones x.onesT x.n (BitVec.ofNat 32 j) x.cin s.acc),
    addSlab j s.dv (stepDv x.q x.d (slab (F := F) (e := .bf16) j x.k) (slab (F := F) (e := .bf16) j x.v) x.ones x.n (BitVec.ofNat 32 j) x.cin)⟩

/-- The first `n` trips. -/
def Loop.run (x : LoopIn F) (s : Loop F) : ℕ → Loop F
  | 0 => s
  | n + 1 => Loop.next x n (Loop.run x s n)

variable (𝒱 : Variants) (c : Dev nD) (bd : Option 𝒱.V) (i : grid0.Coords) (arg2 : Memref sig .tc .smem S128 .i32) (harg2 : arg2.IsWhole) (arg3 :
  Memref sig .tc .vmem S256x256 .bf16) (harg3 : arg3.IsWhole) (arg4 : Memref sig .tc .hbm S16384x1024 .bf16) (harg4 : arg4.IsWhole) (arg5 :
  Memref sig .tc .vmem S1x4x256x64 .f32) (harg5 : arg5.IsWhole) (arg6 : Memref sig .tc .vmem S256x256 .f32) (harg6 : arg6.IsWhole) (arg7 :
  Memref sig .tc .vmem S256x256 .bf16) (harg7 : arg7.IsWhole) (arg8 : Memref sig .tc .vmem S256x256 .bf16) (harg8 : arg8.IsWhole) (arg9 :
  Memref sig .tc .vmem S256x256 .bf16) (harg9 : arg9.IsWhole) (arg10 : Memref sig .tc .hbm S16384x1024 .f32) (harg10 : arg10.IsWhole) (arg11
  : Memref sig .tc .vmem S16384x256 .bf16) (harg11 : arg11.IsWhole) (arg12 : Memref sig .tc .vmem S16384x256 .bf16) (harg12 : arg12.IsWhole)
  (arg13 : Memref sig .tc .vmem S16384x256 .f32) (harg13 : arg13.IsWhole) (arg14 : Memref sig .tc .vmem S16384x256 .f32) (harg14 :
  arg14.IsWhole) (arg15 : DmaSems sig S2) (arg1 : BitVec 32) (v3 : Elt F .i32) (k0_hw1 : k0_chk1 i v3) (v5 : BitVec 32) (v15 : FVec F
  S256x256 .bf16) (v17 : FVec F S256x256 .bf16) (v34 : IVec S256x64 32) (v35 : FVec F S256x1 .f32) (v36 : FVec F S256x64 .f32) (cst_12 : F
  .f32) (X_arg5 : BufTy.Contents (Elt F) arg5.view.ty) (X_arg11 : BufTy.Contents (Elt F) arg11.view.ty) (X_arg12 : BufTy.Contents (Elt F)
  arg12.view.ty) (G_arg13 : BufTy.Contents (Elt F) arg13.view.ty) (G_arg14 : BufTy.Contents (Elt F) arg14.view.ty) (init : Acc F)
  (q d : TileB F)

/-- What the loop reads, out of the buffers. -/
abbrev inOf : LoopIn F :=
  ⟨q, d, arg11.view.read (Elt F) X_arg11, arg12.view.read (Elt F) X_arg12, v15, v17, v34, cinPart arg5 X_arg5⟩

abbrev startOf : Loop F := ⟨init, arg13.view.read (Elt F) G_arg13, arg14.view.read (Elt F) G_arg14⟩

theorem iv_zero (k : ℕ) : Scf.iv (0#32) 1#32 k = BitVec.ofNat 32 k := by
  show 0#32 + BitVec.ofNat 32 k * 1#32 = _
  rw [BitVec.mul_one, BitVec.zero_add]

theorem slab_off (h5 : startWord (BitVec.ofNat 32 (i 1).val) v3 = 0#32) (k : Fin (k0_t1_loop i v3).trips) : k0_off4 i v3 k = ![256 * k.val, 0] := by
  have e : k0_off4 i v3 k = ![(k0_mult3 i v3 k).toNat, 0] := rfl
  have hz : (0#32 : BitVec 32).toNat = 0 := rfl
  rw [e, slab1, h5, hz, Nat.zero_add]

set_option maxHeartbeats 1000000 in
theorem loop_run (h5 : startWord (BitVec.ofNat 32 (i 1).val) v3 = 0#32) (hv5 : v5 = 0#32) (n : ℕ) (hn : n ≤ (k0_t1_loop i v3).trips) :
    (st_k0_t1 (F := F)
    𝒱 c bd i arg2 harg2 arg3 harg3 arg4 harg4 arg5 harg5 arg6 harg6 arg7 harg7 arg8 harg8 arg9 harg9 arg10 harg10 arg11 harg11 arg12 harg12 arg13
    harg13 arg14 harg14 arg15 arg1 v3 k0_hw1 v5 v15 v17 (part 0 q) (part 1 q) (part 2 q) (part 3 q) (part 0 d) (part 1 d) (part 2 d) (part 3 d) v34
    v35 v36 cst_12 X_arg5 X_arg11 X_arg12 G_arg13 G_arg14 init n).1
      = (Loop.run (inOf arg5 arg11 arg12 v15 v17 v34 X_arg5 X_arg11 X_arg12 q d) (startOf arg13 arg14 G_arg13 G_arg14 init) n).acc
    ∧ arg13.view.read (Elt F) (arg13.view.writes (Elt F) G_arg13 (st_k0_t1 (F := F)
    𝒱 c bd i arg2 harg2 arg3 harg3 arg4 harg4 arg5 harg5 arg6 harg6 arg7 harg7 arg8 harg8 arg9 harg9 arg10 harg10 arg11 harg11 arg12 harg12 arg13
    harg13 arg14 harg14 arg15 arg1 v3 k0_hw1 v5 v15 v17 (part 0 q) (part 1 q) (part 2 q) (part 3 q) (part 0 d) (part 1 d) (part 2 d) (part 3 d) v34
    v35 v36 cst_12 X_arg5 X_arg11 X_arg12 G_arg13 G_arg14 init n).2.1)
      = (Loop.run (inOf arg5 arg11 arg12 v15 v17 v34 X_arg5 X_arg11 X_arg12 q d) (startOf arg13 arg14 G_arg13 G_arg14 init) n).dk
    ∧ arg14.view.read (Elt F) (arg14.view.writes (Elt F) G_arg14 (st_k0_t1 (F := F)
    𝒱 c bd i arg2 harg2 arg3 harg3 arg4 harg4 arg5 harg5 arg6 harg6 arg7 harg7 arg8 harg8 arg9 harg9 arg10 harg10 arg11 harg11 arg12 harg12 arg13
    harg13 arg14 harg14 arg15 arg1 v3 k0_hw1 v5 v15 v17 (part 0 q) (part 1 q) (part 2 q) (part 3 q) (part 0 d) (part 1 d) (part 2 d) (part 3 d) v34
    v35 v36 cst_12 X_arg5 X_arg11 X_arg12 G_arg13 G_arg14 init n).2.2)
      = (Loop.run (inOf arg5 arg11 arg12 v15 v17 v34 X_arg5 X_arg11 X_arg12 q d) (startOf arg13 arg14 G_arg13 G_arg14 init) n).dv := by
  induction n with
  | zero => rw [st_k0_t1_zero]; exact ⟨rfl, rfl, rfl⟩
  | succ n ih =>
    obtain ⟨h1, h2, h3⟩ := ih (by omega)
    have t64 : (k0_t1_loop i v3).trips < 64 := by rw [trips1]; exact lt_of_le_of_lt (Nat.sub_le _ _) (i 1).isLt
    have off := slab_off i v3 h5 ⟨n, by omega⟩
    have hi : Scf.iv v5 1#32 n = BitVec.ofNat 32 n := by rw [hv5, iv_zero]
    have rk := readAt_slab (F := F) arg11.view X_arg11 _ (k0_off4_inb i v3 k0_hw1 ⟨n, by omega⟩) n off (by omega)
    have rv := readAt_slab (F := F) arg12.view X_arg12 _ (k0_off4_inb i v3 k0_hw1 ⟨n, by omega⟩) n off (by omega)
    rw [show n + 1 = (⟨n, by omega⟩ : Fin (k0_t1_loop i v3).trips).val + 1 from rfl, st_k0_t1_succ, trip_state, trip_dk, trip_dv]
    simp only [tripRect, rk, rv, hi, h1]
    refine ⟨rfl, ?_, ?_⟩
    · rw [List.singleton_append, writes_addSlab arg13.view _ _ _ _ n off (by omega), h2]
      rfl
    · rw [List.singleton_append, writes_addSlab arg14.view _ _ _ _ n off (by omega), h3]
      rfl

end AttnBwd

end
-- ==== Proof.Value.Point.lean ====
module

public import proofs.«01_k».proof.Proof.Value.Loop
public import proofs.«01_k».proof.Proof.Run.Statement

@[expose] public section

set_option maxRecDepth 16384

noncomputable section

/-! What one grid point computes: the loop over the key blocks, then the block on the diagonal. -/

namespace AttnBwd

open Cert.KernelIdeal Cert.KernelIdeal.Gen
open Idealize.ShloMosaic Idealize.ShloMosaic.TcCoe

variable {F : FTy → Type} [FloatOps F]

/-- The word at which the second loop, over no blocks, starts. -/
def restWord (a v : BitVec 32) : BitVec 32 :=
  Scalar.addi (startWord a v) (Scalar.muli (Scalar.divsi (Scalar.subi a (startWord a v)) 1#32) 1#32)

/-- The number of its column at every place. -/
def colNumbers : IVec S256x64 32 := iota .tc S256x64 32 [1] iota_S256x64_d1_w32

/-- The loop's start: no sums yet. -/
def noSums : Acc F := (k0_pay125, k0_pay126, k0_pay127 (Scalar.ofBits .f32 0x00000000#32), k0_pay128, k0_pay129, k0_pay130, k0_pay131, k0_pay132)

/-- The state, component by component. -/
def spread (s : Acc F) : Acc F := (s.1, s.2.1, s.2.2.1, s.2.2.2.1, s.2.2.2.2.1, s.2.2.2.2.2.1, s.2.2.2.2.2.2.1, s.2.2.2.2.2.2.2)

theorem spread_eq (s : Acc F) : spread s = s := rfl

/-- A 256 by 256 block, all of it. -/
abbrev allOf : LoadRect S256x256 := (Rect.unit (s := S256x256) ![0, 0] S256x256.size inb_S256x256_S256x256_0_0).toLoadRect

/-- The rows of the diagonal block. -/
abbrev diagRect (i : grid0.Coords) : Rect S16384x256 := Rect.unit (s := S16384x256) (k0_off6 i) S256x256.size (k0_off6_inb i)

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

  (X3 : BufTy.Contents (Elt F) arg3.view.ty) (X5 : BufTy.Contents (Elt F) arg5.view.ty) (X6 : BufTy.Contents (Elt F) arg6.view.ty)
  (X7 : BufTy.Contents (Elt F) arg7.view.ty) (X8 : BufTy.Contents (Elt F) arg8.view.ty)
  (X11 : BufTy.Contents (Elt F) arg11.view.ty) (X12 : BufTy.Contents (Elt F) arg12.view.ty)
  (G13 : BufTy.Contents (Elt F) arg13.view.ty) (G14 : BufTy.Contents (Elt F) arg14.view.ty)
  (v3 : Elt F .i32) (hw : k0_chk1 i v3)

abbrev qOf : TileB F := k0_pay114 (F := F) (arg3.view.readAt (Elt F) allOf X3)
abbrev dOf : TileB F := k0_pay115 (F := F) (arg6.view.readAt (Elt F) allOf X6)
abbrev onesOf : TileB F := shapeCast S256x256 (arg7.view.readAt (Elt F) allOf X7) shapeCasts_S256x256_S256x256
abbrev onesTOf : TileB F := shapeCast S256x256 (arg8.view.readAt (Elt F) allOf X8) shapeCasts_S256x256_S256x256

/-- The state after the first loop. -/
def state1 : Acc F × List (View.Piece (Elt F) S16384x256 .f32) × List (View.Piece (Elt F) S16384x256 .f32) :=
  st_k0_t1 (F := F)
    Variants.none c none i tbM0_0 htbM0_0 arg3 harg3 (Memref.whole main_arg1) (Memref.isWhole_whole _) arg5 harg5 arg6 harg6 arg7 harg7 arg8 harg8
    arg9 harg9 (Memref.whole main_v32_1) (Memref.isWhole_whole _) arg11 harg11 arg12 harg12 arg13 harg13 arg14 harg14 cc0_scratch4 (BitVec.ofNat 32 (i
    1).val) v3 hw (startWord (BitVec.ofNat 32 (i 1).val) v3) (onesOf arg7 X7) (onesTOf arg8 X8) (part 0 (qOf arg3 X3)) (part 1 (qOf arg3 X3)) (part 2
    (qOf arg3 X3)) (part 3 (qOf arg3 X3)) (part 0 (dOf arg6 X6)) (part 1 (dOf arg6 X6)) (part 2 (dOf arg6 X6)) (part 3 (dOf arg6 X6)) colNumbers
    k0_pay125 k0_pay126 (Scalar.ofBits .f32 0x00000000#32) X5 X11 X12 G13 G14 noSums
    (k0_t1_loop i v3).trips

/-- The state after the second. -/
def state2 (init : Acc F) : Acc F × List (View.Piece (Elt F) S16384x256 .f32) × List (View.Piece (Elt F) S16384x256 .f32) :=
  st_k0_t2 (F := F)
    Variants.none c none i tbM0_0 htbM0_0 arg3 harg3 (Memref.whole main_arg1) (Memref.isWhole_whole _) arg5 harg5 arg6 harg6 arg7 harg7 arg8 harg8
    arg9 harg9 (Memref.whole main_v32_1) (Memref.isWhole_whole _) arg11 harg11 arg12 harg12 arg13 harg13 arg14 harg14 cc0_scratch4 (BitVec.ofNat 32 (i
    1).val) v3 hw (startWord (BitVec.ofNat 32 (i 1).val) v3) (onesOf arg7 X7) (onesTOf arg8 X8) (part 0 (qOf arg3 X3)) (part 1 (qOf arg3 X3)) (part 2
    (qOf arg3 X3)) (part 3 (qOf arg3 X3)) (part 0 (dOf arg6 X6)) (part 1 (dOf arg6 X6)) (part 2 (dOf arg6 X6)) (part 3 (dOf arg6 X6)) colNumbers
    k0_pay125 k0_pay126 (Scalar.ofBits .f32 0x00000000#32) (restWord (BitVec.ofNat 32 (i 1).val) v3) X5 X11 X12 G13 G14 init
    (k0_t2_loop i v3).trips

set_option maxHeartbeats 1000000 in
theorem state2_eq (init : Acc F) :
    state2 c i arg3 harg3 arg5 harg5 arg6 harg6 arg7 harg7 arg8 harg8 arg9 harg9 arg11 harg11 arg12 harg12 arg13 harg13 arg14 harg14 X3 X5 X6 X7 X8 X11 X12 G13 G14 v3 hw init
      = (init, [], []) := by
  unfold state2
  rw [trips2]
  rfl

/-- The block of dq. -/
def leftDq (s : Acc F) : TileB F :=
  diagDq (F := F) (qOf (F := F) arg3 X3) (dOf arg6 X6) (arg11.view.readAt (Elt F) (diagRect i).toLoadRect X11) (arg12.view.readAt (Elt F) (diagRect i).toLoadRect X12)
    (onesOf arg7 X7) (onesTOf arg8 X8) s

/-- The keys' accumulator, the writes before the last being `T`. -/
def leftDk (T : List (View.Piece (Elt F) S16384x256 .f32)) (s : Acc F) : Vec F S16384x256 .f32 :=
  arg13.view.read (Elt F) (arg13.view.writes (Elt F) G13 (⟨diagRect i,
    shapeCast S256x256 (addf (arg13.view.readAt (Elt F) (diagRect i).toLoadRect (arg13.view.writes (Elt F) G13 T))
      (diagDk (qOf arg3 X3) (dOf arg6 X6) (arg11.view.readAt (Elt F) (diagRect i).toLoadRect X11) (arg12.view.readAt (Elt F) (diagRect i).toLoadRect X12)
        (onesOf arg7 X7) (onesTOf arg8 X8) s)) shapeCasts_S256x256_S256x256⟩ :: T))

/-- The values' accumulator, the writes before the last being `T`. -/
def leftDv (T : List (View.Piece (Elt F) S16384x256 .f32)) : Vec F S16384x256 .f32 :=
  arg14.view.read (Elt F) (arg14.view.writes (Elt F) G14 (⟨diagRect i,
    shapeCast S256x256 (addf (arg14.view.readAt (Elt F) (diagRect i).toLoadRect (arg14.view.writes (Elt F) G14 T))
      (diagDv (qOf arg3 X3) (dOf arg6 X6) (arg11.view.readAt (Elt F) (diagRect i).toLoadRect X11) (arg12.view.readAt (Elt F) (diagRect i).toLoadRect X12)
        (onesOf arg7 X7))) shapeCasts_S256x256_S256x256⟩ :: T))

/-- What a grid point leaves: the block of dq and the two accumulators. -/
structure Left (F : FTy → Type) [FloatOps F] where
  dq : TileB F
  dk : Vec F S16384x256 .f32
  dv : Vec F S16384x256 .f32

/-- The loop over the `j` blocks on the left, then the block on the diagonal. -/
def pointOut (x : LoopIn F) (j : ℕ) (dk dv : Vec F S16384x256 .f32) : Left F :=
  let s := Loop.run x ⟨noSums, dk, dv⟩ j
  ⟨diagDq x.q x.d (slab (F := F) (e := .bf16) j x.k) (slab (F := F) (e := .bf16) j x.v) x.ones x.onesT s.acc,
    addSlab j s.dk (diagDk x.q x.d (slab (F := F) (e := .bf16) j x.k) (slab (F := F) (e := .bf16) j x.v) x.ones x.onesT s.acc),
    addSlab j s.dv (diagDv x.q x.d (slab (F := F) (e := .bf16) j x.k) (slab (F := F) (e := .bf16) j x.v) x.ones)⟩

/-- One head's block of the table of carries. -/
def cinBlock (x : Vec F S1x4x256x64 .f32) (a : Fin 4) : FVec F S1x1x256x64 .f32 := fun y =>
  x (ValueIdx.ix4 (0 : Fin 1) a (y 2 : Fin 256) (y 3 : Fin 64))

/-- What the loop of a grid point reads. -/
def loopIn {c : Dev nD} (x : Ins F c) (k v : Vec F S16384x256 .bf16) : LoopIn F :=
  ⟨k0_pay114 x.q, k0_pay115 x.dout, k, v, x.ones, x.onesT, colNumbers, cinBlock x.cin⟩

theorem diag_off : k0_off6 i = ![256 * (i 1).val, 0] := by
  have h64 : (i 1).val < 64 := (i 1).isLt
  have e : k0_off6 i = ![(Scalar.muli (BitVec.ofNat 32 (i 1).val) 256#32).toNat, 0] := rfl
  rw [e]
  congr 1
  show (BitVec.ofNat 32 (i 1).val * 256#32).toNat = _
  rw [BitVec.toNat_mul, BitVec.toNat_ofNat]
  simp only [BitVec.toNat_ofNat]
  omega

/-- A block read whole. -/
theorem readAt_all {e : EltTy} {m : Memref sig .tc .vmem S256x256 e} (h : m.IsWhole) (x : Vec F S256x256 e) :
    m.view.readAt (Elt F) allOf (h.unread x) = x := by
  funext y
  rw [h.readAt_unread]
  congr 1
  funext a
  match a with
  | 0 => exact Fin.ext (by show 0 + 1 * (y 0).val = _; omega)
  | 1 => exact Fin.ext (by show 0 + 1 * (y 1).val = _; omega)

theorem cinPart_eq {m : Memref sig .tc .vmem S1x4x256x64 .f32} (h : m.IsWhole) (x : Vec F S1x4x256x64 .f32) :
    cinPart m (h.unread x) = cinBlock x := by
  have key : ∀ (a : Fin 4) (inb), m.view.readAt (Elt F) (Rect.unit (s := S1x4x256x64) ![0, a.val, 0, 0] S1x1x256x64.size inb).toLoadRect (h.unread x) = cinBlock x a := by
    intro a inb
    funext y
    rw [h.readAt_unread]
    unfold cinBlock
    congr 1
    funext b
    have y0 : (y 0).val < 1 := (y 0).isLt
    have y1 : (y 1).val < 1 := (y 1).isLt
    match b with
    | 0 => exact Fin.ext (by show 0 + 1 * (y 0).val = 0; omega)
    | 1 => exact Fin.ext (by show a.val + 1 * (y 1).val = a.val; omega)
    | 2 => exact Fin.ext (by show 0 + 1 * (y 2).val = (y 2).val; omega)
    | 3 => exact Fin.ext (by show 0 + 1 * (y 3).val = (y 3).val; omega)
  funext a
  match a with
  | 0 => exact key 0 _
  | 1 => exact key 1 _
  | 2 => exact key 2 _
  | 3 => exact key 3 _

set_option maxHeartbeats 1000000 in
theorem state1_run (h3 : startWord (BitVec.ofNat 32 (i 1).val) v3 = 0#32) (n : ℕ) (ht : (k0_t1_loop i v3).trips = n) :
    (state1 c i arg3 harg3 arg5 harg5 arg6 harg6 arg7 harg7 arg8 harg8 arg9 harg9 arg11 harg11 arg12 harg12 arg13 harg13 arg14 harg14 X3 X5 X6 X7 X8 X11 X12 G13 G14 v3 hw).1
        = (Loop.run ⟨qOf arg3 X3, dOf arg6 X6, arg11.view.read (Elt F) X11, arg12.view.read (Elt F) X12, onesOf arg7 X7, onesTOf arg8 X8, colNumbers, cinPart arg5 X5⟩
            ⟨noSums, arg13.view.read (Elt F) G13, arg14.view.read (Elt F) G14⟩ n).acc
    ∧ arg13.view.read (Elt F) (arg13.view.writes (Elt F) G13 (state1 c i arg3 harg3 arg5 harg5 arg6 harg6 arg7 harg7 arg8 harg8 arg9 harg9 arg11 harg11 arg12 harg12 arg13 harg13 arg14 harg14 X3 X5 X6 X7 X8 X11 X12 G13 G14 v3 hw).2.1)
        = (Loop.run ⟨qOf arg3 X3, dOf arg6 X6, arg11.view.read (Elt F) X11, arg12.view.read (Elt F) X12, onesOf arg7 X7, onesTOf arg8 X8, colNumbers, cinPart arg5 X5⟩
            ⟨noSums, arg13.view.read (Elt F) G13, arg14.view.read (Elt F) G14⟩ n).dk
    ∧ arg14.view.read (Elt F) (arg14.view.writes (Elt F) G14 (state1 c i arg3 harg3 arg5 harg5 arg6 harg6 arg7 harg7 arg8 harg8 arg9 harg9 arg11 harg11 arg12 harg12 arg13 harg13 arg14 harg14 X3 X5 X6 X7 X8 X11 X12 G13 G14 v3 hw).2.2)
        = (Loop.run ⟨qOf arg3 X3, dOf arg6 X6, arg11.view.read (Elt F) X11, arg12.view.read (Elt F) X12, onesOf arg7 X7, onesTOf arg8 X8, colNumbers, cinPart arg5 X5⟩
            ⟨noSums, arg13.view.read (Elt F) G13, arg14.view.read (Elt F) G14⟩ n).dv := by
  subst ht
  unfold state1
  exact loop_run (F := F)
    Variants.none c none i tbM0_0 htbM0_0 arg3 harg3 (Memref.whole main_arg1) (Memref.isWhole_whole _) arg5 harg5 arg6 harg6 arg7 harg7 arg8 harg8
    arg9 harg9 (Memref.whole main_v32_1) (Memref.isWhole_whole _) arg11 harg11 arg12 harg12 arg13 harg13 arg14 harg14 cc0_scratch4 (BitVec.ofNat 32 (i
    1).val) v3 hw (startWord (BitVec.ofNat 32 (i 1).val) v3) (onesOf arg7 X7) (onesTOf arg8 X8) colNumbers k0_pay125 k0_pay126 (Scalar.ofBits .f32
    0x00000000#32) X5 X11 X12 G13 G14 noSums
    (qOf arg3 X3) (dOf arg6 X6) h3 h3 _ (le_refl _)

theorem trips_eq (h3 : startWord (BitVec.ofNat 32 (i 1).val) v3 = 0#32) : (k0_t1_loop i v3).trips = (i 1).val := by
  have hz : (0#32 : BitVec 32).toNat = 0 := rfl
  rw [trips1, h3, hz, Nat.sub_zero]

theorem leftDk_eq (T : List (View.Piece (Elt F) S16384x256 .f32)) (s : Acc F) :
    leftDk i arg3 arg6 arg7 arg8 arg11 arg12 arg13 X3 X6 X7 X8 X11 X12 G13 T s
      = addSlab (i 1).val (arg13.view.read (Elt F) (arg13.view.writes (Elt F) G13 T))
        (diagDk (qOf arg3 X3) (dOf arg6 X6) (slab (F := F) (e := .bf16) (i 1).val (arg11.view.read (Elt F) X11)) (slab (F := F) (e := .bf16) (i 1).val (arg12.view.read (Elt F) X12))
          (onesOf arg7 X7) (onesTOf arg8 X8) s) := by
  have h64 : (i 1).val < 64 := (i 1).isLt
  unfold leftDk
  rw [writes_addSlab arg13.view _ _ _ _ (i 1).val (diag_off i) h64, readAt_slab arg11.view _ _ _ (i 1).val (diag_off i) h64,
    readAt_slab arg12.view _ _ _ (i 1).val (diag_off i) h64]

theorem leftDv_eq (T : List (View.Piece (Elt F) S16384x256 .f32)) :
    leftDv i arg3 arg6 arg7 arg11 arg12 arg14 X3 X6 X7 X11 X12 G14 T
      = addSlab (i 1).val (arg14.view.read (Elt F) (arg14.view.writes (Elt F) G14 T))
        (diagDv (qOf arg3 X3) (dOf arg6 X6) (slab (F := F) (e := .bf16) (i 1).val (arg11.view.read (Elt F) X11)) (slab (F := F) (e := .bf16) (i 1).val (arg12.view.read (Elt F) X12))
          (onesOf arg7 X7)) := by
  have h64 : (i 1).val < 64 := (i 1).isLt
  unfold leftDv
  rw [writes_addSlab arg14.view _ _ _ _ (i 1).val (diag_off i) h64, readAt_slab arg11.view _ _ _ (i 1).val (diag_off i) h64,
    readAt_slab arg12.view _ _ _ (i 1).val (diag_off i) h64]

theorem leftDq_eq (s : Acc F) :
    leftDq i arg3 arg6 arg7 arg8 arg11 arg12 X3 X6 X7 X8 X11 X12 s
      = diagDq (qOf arg3 X3) (dOf arg6 X6) (slab (F := F) (e := .bf16) (i 1).val (arg11.view.read (Elt F) X11)) (slab (F := F) (e := .bf16) (i 1).val (arg12.view.read (Elt F) X12))
          (onesOf arg7 X7) (onesTOf arg8 X8) s := by
  have h64 : (i 1).val < 64 := (i 1).isLt
  unfold leftDq
  rw [readAt_slab arg11.view _ _ _ (i 1).val (diag_off i) h64, readAt_slab arg12.view _ _ _ (i 1).val (diag_off i) h64]

/-- A block stored whole and read back. -/
theorem read_stored {e : EltTy} (v : View sig .tc .vmem S256x256 e) (f : v.ty.Contents (Elt F)) (inb) (x : Vec F S256x256 e) :
    v.read (Elt F) (v.writes (Elt F) f [⟨Rect.unit (s := S256x256) ![0, 0] ![256, 256] inb, x⟩]) = x := by
  funext y
  refine View.read_writes_cons_hit_of_coords v f (Rect.unit (s := S256x256) ![0, 0] ![256, 256] inb) x [] y y fun a => ?_
  match a with
  | 0 => show (y 0).val = 0 + 1 * (y 0).val; omega
  | 1 => show (y 1).val = 0 + 1 * (y 1).val; omega

end AttnBwd

end
-- ==== Proof.Value.TileAt.lean ====
module

public import proofs.«01_k».proof.Proof.Value.Point
public import Idealize.ShloMosaic.Lib.ValueIdx
public import Idealize.ShloMosaic.Lib.MatmulPlain
public import Idealize.ShloMosaic.Lib.IdealHost
public import Idealize.ShloMosaic.Lib.ValueLayout
public import Idealize.ShloMosaic.Lib.ValueLayoutCasts
public import Idealize.ShloMosaic.Lib.Pointwise
public import Idealize.ShloMosaic.Lib.StableHlo.Predicate

@[expose] public section

set_option maxRecDepth 16384

noncomputable section

/-! The operations of a tile at one place, over the extended reals. -/

namespace AttnBwd

open Cert.KernelIdeal Cert.KernelIdeal.Gen
open Idealize.ShloMosaic hiding ix0 ix1 ix2 ix3 ix4 ix5
open Idealize.ShloMosaic.TcCoe
open Idealize.ShloMosaic.ValueIdx Idealize.ShloMosaic.StableHlo.Predicate

/-- Column `e` of head `a` of a group. -/
def col (a : Fin 4) (e : Fin 64) : Fin 256 := ⟨64 * a.val + e.val, by omega⟩

theorem eq_col (c : Fin 256) : c = col ⟨c.val / 64, by omega⟩ ⟨c.val % 64, by omega⟩ :=
  Fin.ext (by show c.val = 64 * (c.val / 64) + c.val % 64; omega)

theorem part_apply (a : Fin 4) (x : TileB Ideal) (r : Fin 256) (e : Fin 64) : part a x (ix2 r e) = x (ix2 r (col a e)) := by
  match a with
  | 0 => exact slice2_axis1_apply 0 x slices_S256x256_o0_0_S256x64 r e (col 0 e) (by show 64 * 0 + e.val = 0 + e.val; omega)
  | 1 => exact slice2_axis1_apply 64 x slices_S256x256_o0_64_S256x64 r e (col 1 e) (by show 64 * 1 + e.val = 64 + e.val; omega)
  | 2 => exact slice2_axis1_apply 128 x slices_S256x256_o0_128_S256x64 r e (col 2 e) (by show 64 * 2 + e.val = 128 + e.val; omega)
  | 3 => exact slice2_axis1_apply 192 x slices_S256x256_o0_192_S256x64 r e (col 3 e) (by show 64 * 3 + e.val = 192 + e.val; omega)

theorem beside_apply (f : Fin 4 → Cols Ideal) (a : Fin 4) (r : Fin 256) (e : Fin 64) :
    beside (f 0) (f 1) (f 2) (f 3) (ix2 r (col a e)) = f a (ix2 r e) := by
  unfold beside col
  have he := e.isLt
  match a with
  | 0 => pointwise; rw [ix2_eq_valueIdx]
  | 1 => pointwise; rw [ix2_eq_valueIdx]
  | 2 =>
    pointwise
    rw [dif_neg (by omega), dif_neg (by omega), dif_pos (by omega)]
    refine (congrArg (f 2) (ix2_eq_valueIdx _ _)).trans (congrArg (fun e => f 2 (ix2 r e)) (Fin.ext ?_))
    show 128 + e.val - 64 - 64 = e.val
    omega
  | 3 =>
    pointwise
    rw [dif_neg (by omega), dif_neg (by omega), dif_neg (by omega)]
    refine (congrArg (f 3) (ix2_eq_valueIdx _ _)).trans (congrArg (fun e => f 3 (ix2 r e)) (Fin.ext ?_))
    show 192 + e.val - 64 - 64 - 64 = e.val
    omega

theorem score_apply (a b : ColsB Ideal) (r c : Fin 256) : score a b (ix2 r c) = ∑ e : Fin 64, a (ix2 r e) * b (ix2 c e) := by
  refine (Ideal.matmul_transposedRhs_apply (M := 256) (K := 64) (N := 256) none a b _ r c).trans ?_
  show Ideal.ofBits .f32 0x00000000#32 + _ = _
  rw [Ideal.ofBits_zero_f32, zero_add]

theorem zeroTile_apply (i : S256x256.Idx) : (zeroTile : Tile Ideal) i = 0 := Ideal.ofBits_zero_f32

theorem logNot_apply (z : Tile Ideal) (i : S256x256.Idx) :
    logNot z i = -(max (z i) 0 + Ideal.log (1 + Ideal.exp (-(max (z i) (-(z i)))))) := by
  show (zeroTile : Tile Ideal) i - (max (z i) ((zeroTile : Tile Ideal) i) + Ideal.log (Ideal.ofBits .f32 0x3F800000#32 + Ideal.exp ((zeroTile : Tile Ideal) i - max (z i) (-(z i))))) = _
  rw [zeroTile_apply, Ideal.ofBits_one_f32, sub_eq_add_neg, sub_eq_add_neg, zero_add, zero_add]

theorem rowSums_apply (ones : TileB Ideal) (x : Tile Ideal) (r c : Fin 256) : rowSums ones x (ix2 r c) = ∑ y : Fin 256, x (ix2 r y) * ones (ix2 y c) := by
  refine (Ideal.matmul_plain_apply (M := 256) (K := 256) (N := 256) none (truncf .bf16 x bitsLt_bf16_f32) ones _ r c).trans ?_
  show Ideal.ofBits .f32 0x00000000#32 + _ = _
  rw [Ideal.ofBits_zero_f32, zero_add]
  rfl

theorem rowGrad_apply (t : TileB Ideal) (h : ColsB Ideal) (r : Fin 256) (e : Fin 64) : rowGrad t h (ix2 r e) = ∑ y : Fin 256, t (ix2 r y) * h (ix2 y e) := by
  refine (Ideal.matmul_plain_apply (M := 256) (K := 256) (N := 64) none t h _ r e).trans ?_
  show Ideal.ofBits .f32 0x00000000#32 + _ = _
  rw [Ideal.ofBits_zero_f32, zero_add]

theorem colGrad_apply (t : TileB Ideal) (h : ColsB Ideal) (c : Fin 256) (e : Fin 64) : colGrad t h (ix2 c e) = ∑ y : Fin 256, t (ix2 y c) * h (ix2 y e) := by
  unfold colGrad
  pointwise
  try rfl

theorem along_apply (x : Rows Ideal) (r c : Fin 256) : along x (ix2 r c) = x (ix2 r (0 : Fin 1)) := by
  unfold along
  pointwise
  rw [ix2_eq_valueIdx]

theorem lastCol_apply (x : Tile Ideal) (r : Fin 256) (u : Fin 1) : lastCol x (ix2 r u) = x (ix2 r (255 : Fin 256)) := by
  refine slice2_axis1_apply 255 x _ r u _ ?_
  show (255 : ℕ) = 255 + u.val
  omega

theorem mask_apply (r c : Fin 256) : Head.mask (ix2 r c) = 1#1 ↔ c.val < r.val := by
  unfold Head.mask
  show IntOp.cmpi .slt (iota .tc S256x256 32 [1] iota_S256x256_d1_w32 (ix2 r c)) (iota .tc S256x256 32 [0] iota_S256x256_d0_w32 (ix2 r c)) = 1#1 ↔ _
  rw [iota_single_apply, iota_single_apply]
  show IntOp.cmpi .slt (BitVec.ofNat 32 c.val) (BitVec.ofNat 32 r.val) = 1#1 ↔ _
  have h (n : Fin 256) : (BitVec.ofNat 32 n.val).toNat = n.val := by rw [BitVec.toNat_ofNat]; omega
  rw [slt_iff_toNat (by rw [h]; omega) (by rw [h]; omega), h, h]

theorem pick_apply (j : ℕ) (hj : j < 64) (x : FVec Ideal S1x1x256x64 .f32) (r : Fin 256) (u : Fin 1) :
    pick colNumbers (BitVec.ofNat 32 j) x (ix2 r u) = x (ix4 (0 : Fin 1) (0 : Fin 1) r (⟨j, hj⟩ : Fin 64)) := by
  unfold pick
  refine (shapeCast_a_a1_apply _ _ r u).trans ?_
  refine (Ideal.multiReduction_add_single _ _ _ _ _ _).trans ?_
  have hl (k : Fin 64) : reduces_S256x64_S256.lift (ix1 r) k = ix2 r k := by
    funext b
    match b with
    | 0 => exact Fin.ext (reduces_S256x64_S256.lift_val (ix1 r) k 0)
    | 1 => exact Fin.ext (reduces_S256x64_S256.lift_val (ix1 r) k 1)
  have hc (k : Fin 64) : cmpi .eq colNumbers (broadcast S256x64 (BitVec.ofNat 32 j)) (ix2 r k) = 1#1 ↔ k.val = j := by
    unfold colNumbers
    show IntOp.cmpi .eq (iota .tc S256x64 32 [1] iota_S256x64_d1_w32 (ix2 r k)) (BitVec.ofNat 32 j) = 1#1 ↔ _
    rw [iota_single_apply, cmpi_eq_iff]
    show BitVec.ofNat 32 k.val = BitVec.ofNat 32 j ↔ _
    constructor
    · intro h
      have := congrArg BitVec.toNat h
      rw [BitVec.toNat_ofNat, BitVec.toNat_ofNat] at this
      omega
    · intro h
      rw [h]
  have hx (k : Fin 64) : shapeCast S256x64 x shapeCasts_S1x1x256x64_S256x64 (ix2 r k) = x (ix4 (0 : Fin 1) (0 : Fin 1) r k) := by
    refine shapeCast_apply x _ _ _ ?_
    rw [Shape.rowMajor_val_two, Shape.rowMajor_val_four]
    show ((0 * 1 + 0) * 256 + r.val) * 64 + k.val = r.val * 64 + k.val
    omega
  refine (Finset.sum_eq_single (⟨j, hj⟩ : Fin 64) ?_ ?_).trans ?_
  · intro k _ hk
    rw [hl, select_apply, eq_zero_of_ne_one (fun h => hk (Fin.ext ((hc k).1 h))), select_zero]
    exact Ideal.ofBits_zero_f32
  · intro h
    exact absurd (Finset.mem_univ _) h
  · rw [hl, select_apply, (hc _).2 rfl, select_one, hx]

end AttnBwd

end
-- ==== Proof.Value.HeadAt.lean ====
module

public import proofs.«01_k».proof.Proof.Value.TileAt
public import proofs.«01_k».proof.Proof.Value.Sums

@[expose] public section

set_option maxRecDepth 16384

noncomputable section

/-! A tile of one head holds the terms of the head's sums: 256 queries from `256 i` on, 256 keys from `256 j` on. -/

namespace AttnBwd

open Cert.KernelIdeal Cert.KernelIdeal.Gen
open Idealize.ShloMosaic hiding ix0 ix1 ix2 ix3 ix4 ix5
open Idealize.ShloMosaic.TcCoe
open Idealize.ShloMosaic.ValueIdx

theorem bits_bot : Ideal.ofBits .f32 0xFF800000#32 = ⊥ := by simp [Ideal.ofBits, Ideal.ieee]

theorem bits_top : Ideal.ofBits .f32 0x7F800000#32 = ⊤ := by simp [Ideal.ofBits, Ideal.ieee]

/-- The triangle whose product sums a row from a column on. -/
def SumsFrom (ones : TileB Ideal) : Prop := ∀ y c : Fin 256, ones (ix2 y c) = if c.val ≤ y.val then 1 else 0

/-- The triangle whose product sums a row up to a column. -/
def SumsTo (ones : TileB Ideal) : Prop := ∀ y c : Fin 256, ones (ix2 y c) = if y.val ≤ c.val then 1 else 0

theorem rowSums_from {ones : TileB Ideal} (h : SumsFrom ones) (x : Tile Ideal) (r c : Fin 256) (f : ℕ → EReal)
    (hf : ∀ y : Fin 256, x (ix2 r y) = f y.val) : rowSums ones x (ix2 r c) = ∑ y ∈ Finset.range 256, if c.val ≤ y then f y else 0 := by
  rw [rowSums_apply, Finset.sum_range]
  refine Finset.sum_congr rfl fun y _ => ?_
  rw [h, hf, mul_ite, mul_one, mul_zero]

theorem rowSums_to {ones : TileB Ideal} (h : SumsTo ones) (x : Tile Ideal) (r c : Fin 256) (f : ℕ → EReal)
    (hf : ∀ y : Fin 256, x (ix2 r y) = f y.val) : rowSums ones x (ix2 r c) = ∑ y ∈ Finset.range 256, if y ≤ c.val then f y else 0 := by
  rw [rowSums_apply, Finset.sum_range]
  refine Finset.sum_congr rfl fun y _ => ?_
  rw [h, hf, mul_ite, mul_one, mul_zero]

/-- The tile's four blocks are those of the head `A`. -/
structure HeadIs (h : Head Ideal) (A : Attn) (i j : ℕ) : Prop where
  q : ∀ (r : Fin 256) (e : Fin 64), h.q (ix2 r e) = A.q (256 * i + r.val) e * eighth
  d : ∀ (r : Fin 256) (e : Fin 64), h.d (ix2 r e) = A.d (256 * i + r.val) e
  k : ∀ (c : Fin 256) (e : Fin 64), h.k (ix2 c e) = A.k (256 * j + c.val) e
  v : ∀ (c : Fin 256) (e : Fin 64), h.v (ix2 c e) = A.v (256 * j + c.val) e

namespace HeadIs

variable {h : Head Ideal} {A : Attn} {i j : ℕ} (H : HeadIs h A i j) {ones onesT : TileB Ideal} (ho : SumsFrom ones) (ht : SumsTo onesT)
  (hi : i < 64)

include H

theorem z_at (r c : Fin 256) : h.z (ix2 r c) = A.z (256 * i + r.val) (256 * j + c.val) := by
  unfold Head.z
  rw [score_apply, ← A.z_scaled]
  exact Finset.sum_congr rfl fun e _ => by rw [H.q, H.k]

theorem l_at (r c : Fin 256) : logNot h.z (ix2 r c) = A.l (256 * i + r.val) (256 * j + c.val) := by
  rw [logNot_apply, H.z_at]
  rfl

theorem dv_at (r c : Fin 256) : score h.d h.v (ix2 r c) = ∑ e, A.d (256 * i + r.val) e * A.v (256 * j + c.val) e := by
  rw [score_apply]
  exact Finset.sum_congr rfl fun e _ => by rw [H.d, H.v]

include ho hi

/-! ## Left of the diagonal -/

theorem w_at (hj : j < i) (cr : Rows Ideal) (hc : ∀ r : Fin 256, cr (ix2 r (0 : Fin 1)) = A.rev (256 * i + r.val) (256 * (j + 1)))
    (r c : Fin 256) : h.w ones cr (ix2 r c) = A.w (256 * i + r.val) (256 * j + c.val) := by
  unfold Head.w
  show Ideal.exp (h.z (ix2 r c) + (along cr (ix2 r c) + rowSums ones (logNot h.z) (ix2 r c))) = _
  rw [along_apply, hc, H.z_at, rowSums_from ho _ r c (fun y => A.l (256 * i + r.val) (256 * j + y)) (fun y => H.l_at r y),
    ← A.rev_left _ j c.val c.isLt (by omega) (by show _ < 16384; omega)]
  exact (if_pos (by omega)).symm

theorem g_at (hj : j < i) (cr : Rows Ideal) (hc : ∀ r : Fin 256, cr (ix2 r (0 : Fin 1)) = A.rev (256 * i + r.val) (256 * (j + 1)))
    (r c : Fin 256) : h.g ones cr (ix2 r c) = A.g (256 * i + r.val) (256 * j + c.val) := by
  unfold Head.g
  show h.w ones cr (ix2 r c) * score h.d h.v (ix2 r c) = _
  rw [H.w_at ho hi hj cr hc, H.dv_at, mul_comm]
  rfl

include ht

theorem sums_at (hj : j < i) (cr : Rows Ideal) (hc : ∀ r : Fin 256, cr (ix2 r (0 : Fin 1)) = A.rev (256 * i + r.val) (256 * (j + 1)))
    (r c : Fin 256) : h.sums ones onesT cr (ix2 r c) = ∑ y ∈ Finset.range 256, if y ≤ c.val then A.g (256 * i + r.val) (256 * j + y) else 0 :=
  rowSums_to ht _ r c (fun y => A.g (256 * i + r.val) (256 * j + y)) (fun y => H.g_at ho hi hj cr hc r y)

theorem dz_at (hj : j < i) (cr : Rows Ideal) (hc : ∀ r : Fin 256, cr (ix2 r (0 : Fin 1)) = A.rev (256 * i + r.val) (256 * (j + 1)))
    (s : Rows Ideal) (hs : ∀ r : Fin 256, s (ix2 r (0 : Fin 1)) = ∑ u ∈ Finset.range (256 * j), A.g (256 * i + r.val) u)
    (r c : Fin 256) : h.dz ones onesT cr s (ix2 r c) = A.dz (256 * i + r.val) (256 * j + c.val) := by
  unfold Head.dz
  show h.g ones cr (ix2 r c) - Ideal.exp (h.z (ix2 r c) + logNot h.z (ix2 r c)) * (along s (ix2 r c) + h.sums ones onesT cr (ix2 r c)) = _
  rw [H.g_at ho hi hj cr hc, H.z_at, H.l_at, along_apply, hs, H.sums_at ho ht hi hj cr hc, ← A.pre_block _ j c.val c.isLt]
  exact (if_pos (by omega)).symm

end HeadIs

/-! ## On the diagonal -/

namespace HeadIs

variable {h : Head Ideal} {A : Attn} {i : ℕ} (H : HeadIs h A i i) {ones onesT : TileB Ideal} (ho : SumsFrom ones) (ht : SumsTo onesT)
  (hi : i < 64)

include H

theorem lD_at (r c : Fin 256) : h.lD (ix2 r c) = A.lm (256 * i + r.val) (256 * i + c.val) := by
  unfold Head.lD
  rw [select_apply]
  by_cases hm : c.val < r.val
  · rw [(mask_apply r c).2 hm, select_one, H.l_at]
    exact (if_pos (by omega)).symm
  · rw [eq_zero_of_ne_one (fun x => hm ((mask_apply r c).1 x)), select_zero, zeroTile_apply]
    exact (if_neg (by omega)).symm

include ho hi

theorem wD_at (r c : Fin 256) : h.wD ones (ix2 r c) = A.w (256 * i + r.val) (256 * i + c.val) := by
  unfold Head.wD
  show Ideal.exp (select Head.mask (addf h.z (rowSums ones h.lD)) (broadcast S256x256 (Scalar.ofBits (F := Ideal) .f32 0xFF800000#32)) (ix2 r c)) = _
  rw [select_apply]
  by_cases hm : c.val < r.val
  · rw [(mask_apply r c).2 hm, select_one]
    show Ideal.exp (h.z (ix2 r c) + rowSums ones h.lD (ix2 r c)) = _
    rw [H.z_at, rowSums_from ho _ r c (fun y => A.lm (256 * i + r.val) (256 * i + y)) (fun y => H.lD_at r y),
      ← A.rev_diag _ i c.val c.isLt (by omega) hi]
    exact (if_pos (by omega)).symm
  · rw [eq_zero_of_ne_one (fun x => hm ((mask_apply r c).1 x)), select_zero, A.w_zero (by omega)]
    show Ideal.exp (Ideal.ofBits .f32 0xFF800000#32) = 0
    rw [bits_bot]
    exact Ideal.exp_bot

theorem gD_at (r c : Fin 256) : h.gD ones (ix2 r c) = A.g (256 * i + r.val) (256 * i + c.val) := by
  unfold Head.gD
  show h.wD ones (ix2 r c) * score h.d h.v (ix2 r c) = _
  rw [H.wD_at ho hi, H.dv_at, mul_comm]
  rfl

include ht

theorem dzD_at (s : Rows Ideal) (hs : ∀ r : Fin 256, s (ix2 r (0 : Fin 1)) = ∑ u ∈ Finset.range (256 * i), A.g (256 * i + r.val) u)
    (r c : Fin 256) : h.dzD ones onesT s (ix2 r c) = A.dz (256 * i + r.val) (256 * i + c.val) := by
  unfold Head.dzD
  show select Head.mask _ (zeroTile : Tile Ideal) (ix2 r c) = _
  rw [select_apply]
  by_cases hm : c.val < r.val
  · rw [(mask_apply r c).2 hm, select_one]
    show h.gD ones (ix2 r c) - Ideal.exp (h.z (ix2 r c) + h.lD (ix2 r c)) * (along s (ix2 r c) + rowSums onesT (h.gD ones) (ix2 r c)) = _
    rw [H.gD_at ho hi, H.z_at, H.lD_at, along_apply, hs,
      rowSums_to ht _ r c (fun y => A.g (256 * i + r.val) (256 * i + y)) (fun y => H.gD_at ho hi r y), ← A.pre_block _ i c.val c.isLt]
    unfold Attn.dz Attn.lm
    rw [if_pos (by omega), if_pos (by omega)]
  · rw [eq_zero_of_ne_one (fun x => hm ((mask_apply r c).1 x)), select_zero, zeroTile_apply]
    exact (A.dz_zero (by omega)).symm

end HeadIs

end AttnBwd

end
-- ==== Proof.Value.PointAt.lean ====
module

public import proofs.«01_k».proof.Proof.Value.HeadAt

@[expose] public section

set_option maxRecDepth 16384

noncomputable section

/-! A grid point of four heads: the loop over the blocks of keys left of the diagonal, then the diagonal. Its block of
    dq is the heads', and it adds the terms of its 256 queries to the gradients of the keys and of the values. -/

namespace AttnBwd

open Cert.KernelIdeal Cert.KernelIdeal.Gen
open Idealize.ShloMosaic hiding ix0 ix1 ix2 ix3 ix4 ix5
open Idealize.ShloMosaic.TcCoe
open Idealize.ShloMosaic.ValueIdx

section Acc

variable {F : FTy → Type} [FloatOps F]

/-- Head `a`'s sum of `g`. -/
def accSum (s : Acc F) (a : Fin 4) : Rows F :=
  match a with
  | 0 => s.1
  | 1 => s.2.2.1
  | 2 => s.2.2.2.2.1
  | 3 => s.2.2.2.2.2.2.1

/-- Head `a`'s gradient of the queries. -/
def accDq (s : Acc F) (a : Fin 4) : Cols F :=
  match a with
  | 0 => s.2.1
  | 1 => s.2.2.2.1
  | 2 => s.2.2.2.2.2.1
  | 3 => s.2.2.2.2.2.2.2

variable (q d k v ones onesT : TileB F) (n : IVec S256x64 32) (j : BitVec 32) (cin : Fin 4 → FVec F S1x1x256x64 .f32) (s : Acc F)

theorem step_sum (a : Fin 4) : accSum (step q d k v ones onesT n j cin s) a = stepSum q d k v ones onesT n j cin (accSum s a) a := by
  match a with | 0 => rfl | 1 => rfl | 2 => rfl | 3 => rfl

theorem step_dq (a : Fin 4) : accDq (step q d k v ones onesT n j cin s) a = stepDq q d k v ones onesT n j cin (accSum s a) (accDq s a) a := by
  match a with | 0 => rfl | 1 => rfl | 2 => rfl | 3 => rfl

end Acc

theorem noSums_sum (a : Fin 4) (y : S256x1.Idx) : accSum (noSums : Acc Ideal) a y = 0 := by
  match a with
  | 0 => exact Ideal.ofBits_zero_f32
  | 1 => exact Ideal.ofBits_zero_f32
  | 2 => exact Ideal.ofBits_zero_f32
  | 3 => exact Ideal.ofBits_zero_f32

theorem noSums_dq (a : Fin 4) (y : S256x64.Idx) : accDq (noSums : Acc Ideal) a y = 0 := by
  match a with
  | 0 => exact Ideal.ofBits_zero_f32
  | 1 => exact Ideal.ofBits_zero_f32
  | 2 => exact Ideal.ofBits_zero_f32
  | 3 => exact Ideal.ofBits_zero_f32

section Beside

variable (q d k v ones onesT : TileB Ideal) (n : IVec S256x64 32) (j : BitVec 32) (cin : Fin 4 → FVec Ideal S1x1x256x64 .f32) (s : Acc Ideal)
  (a : Fin 4) (r : Fin 256) (e : Fin 64)

theorem stepDk_at : stepDk q d k v ones onesT n j cin s (ix2 r (col a e))
    = colGrad (stepDz q d k v ones onesT n j cin (accSum s a) a) (part a q) (ix2 r e) :=
  beside_apply (fun a => colGrad (stepDz q d k v ones onesT n j cin (accSum s a) a) (part a q)) a r e

theorem stepDv_at : stepDv q d k v ones n j cin (ix2 r (col a e)) = colGrad (stepW q d k v ones n j cin a) (part a d) (ix2 r e) :=
  beside_apply (fun a => colGrad (stepW q d k v ones n j cin a) (part a d)) a r e

theorem diagDk_at : diagDk q d k v ones onesT s (ix2 r (col a e))
    = colGrad (diagDz q d k v ones onesT (accSum s a) a) (part a q) (ix2 r e) :=
  beside_apply (fun a => colGrad (diagDz q d k v ones onesT (accSum s a) a) (part a q)) a r e

theorem diagDv_at : diagDv q d k v ones (ix2 r (col a e)) = colGrad (diagW q d k v ones a) (part a d) (ix2 r e) :=
  beside_apply (fun a => colGrad (diagW q d k v ones a) (part a d)) a r e

theorem diagDq_at : diagDq q d k v ones onesT s (ix2 r (col a e))
    = (accDq s a (ix2 r e) + rowGrad (diagDz q d k v ones onesT (accSum s a) a) (part a k) (ix2 r e)) * eighth :=
  congrArg (· * eighth) (beside_apply (fun a => addf (accDq s a) (rowGrad (diagDz q d k v ones onesT (accSum s a) a) (part a k))) a r e)

end Beside

/-- What the loop reads is that of four heads, for the 256 queries from `256 i` on. -/
structure LoopIs (x : LoopIn Ideal) (A : Fin 4 → Attn) (i : ℕ) : Prop where
  q : ∀ (a : Fin 4) (r : Fin 256) (e : Fin 64), x.q (ix2 r (col a e)) = (A a).q (256 * i + r.val) e * eighth
  d : ∀ (a : Fin 4) (r : Fin 256) (e : Fin 64), x.d (ix2 r (col a e)) = (A a).d (256 * i + r.val) e
  k : ∀ (a : Fin 4) (s : Fin 16384) (e : Fin 64), x.k (ix2 s (col a e)) = (A a).k s.val e
  v : ∀ (a : Fin 4) (s : Fin 16384) (e : Fin 64), x.v (ix2 s (col a e)) = (A a).v s.val e
  ones : SumsFrom x.ones
  onesT : SumsTo x.onesT
  n : x.n = colNumbers
  cin : ∀ (a : Fin 4) (r : Fin 256) (j : Fin 64), j.val < i →
    x.cin a (ix4 (0 : Fin 1) (0 : Fin 1) r j) = (A a).rev (256 * i + r.val) (256 * (j.val + 1))

theorem slab_at (j : ℕ) (hj : j < 64) (x : Vec Ideal S16384x256 .bf16) (c m : Fin 256) :
    slab (F := Ideal) (e := .bf16) j x (ix2 c m) = x (ix2 (⟨256 * j + c.val, by omega⟩ : Fin 16384) m) := by
  unfold slab rowAt
  refine congrArg (fun s => x (ix2 s m)) (Fin.ext ?_)
  show (256 * j + c.val) % 16384 = 256 * j + c.val
  omega

/-- A block added to: elsewhere nothing is. -/
theorem addSlab_at (j : ℕ) (hj : j < 64) (x : Vec Ideal S16384x256 .f32) (t : Tile Ideal) (s : Fin 16384) (m : Fin 256) (y : EReal)
    (hy : s.val / 256 = j → t (ix2 (⟨s.val % 256, Nat.mod_lt _ (by decide)⟩ : Fin 256) m) = y) :
    addSlab j x t (ix2 s m) = x (ix2 s m) + if s.val / 256 = j then y else 0 := by
  unfold addSlab
  by_cases h : s.val / 256 = j
  · rw [if_pos (show (ix2 s m 0).val / 256 = j from h), if_pos h]
    show slab j x _ + t _ = _
    refine congrArg₂ (· + ·) ?_ (hy h)
    unfold slab rowAt inSlab
    refine congrArg (fun s => x (ix2 s m)) (Fin.ext ?_)
    show (256 * j + s.val % 256) % 16384 = s.val
    omega
  · rw [if_neg (show ¬ (ix2 s m 0).val / 256 = j from h), if_neg h]
    exact (add_zero (M := EReal) _).symm

namespace LoopIs

theorem add_tile (x y : EReal) (m n : ℕ) :
    x + (if m < n then y else 0) + (if m = n then y else 0) = x + if m < n + 1 then y else 0 := by
  rcases Nat.lt_trichotomy m n with h | h | h
  · rw [if_pos h, if_neg (by omega), if_pos (by omega), add_zero]
  · rw [if_neg (by omega), if_pos h, if_pos (by omega), add_zero]
  · rw [if_neg (by omega), if_neg (by omega), if_neg (by omega), add_zero]

variable {x : LoopIn Ideal} {A : Fin 4 → Attn} {i : ℕ} (H : LoopIs x A i)

include H

theorem heads_is (j : ℕ) (hj : j < 64) (a : Fin 4) :
    HeadIs (heads x.q x.d (slab (F := Ideal) (e := .bf16) j x.k) (slab (F := Ideal) (e := .bf16) j x.v) a) (A a) i j where
  q r e := (part_apply a _ r e).trans (H.q a r e)
  d r e := (part_apply a _ r e).trans (H.d a r e)
  k c e := (part_apply a _ c e).trans ((slab_at j hj _ c _).trans (H.k a _ e))
  v c e := (part_apply a _ c e).trans ((slab_at j hj _ c _).trans (H.v a _ e))

theorem pick_at (j : ℕ) (hj : j < i) (hi : i < 64) (a : Fin 4) (r : Fin 256) :
    pick x.n (BitVec.ofNat 32 j) (x.cin a) (ix2 r (0 : Fin 1)) = (A a).rev (256 * i + r.val) (256 * (j + 1)) := by
  rw [H.n, pick_apply j (by omega)]
  exact H.cin a r ⟨j, by omega⟩ hj

/-- The state after `n` blocks. -/
structure After (x : LoopIn Ideal) (A : Fin 4 → Attn) (i : ℕ) (dk dv : Vec Ideal S16384x256 .f32) (n : ℕ) (s : Loop Ideal) : Prop where
  sum : ∀ (a : Fin 4) (r : Fin 256), accSum s.acc a (ix2 r (0 : Fin 1)) = ∑ u ∈ Finset.range (256 * n), (A a).g (256 * i + r.val) u
  dq : ∀ (a : Fin 4) (r : Fin 256) (e : Fin 64),
    accDq s.acc a (ix2 r e) = ∑ u ∈ Finset.range (256 * n), (A a).dz (256 * i + r.val) u * (A a).k u e
  dk : ∀ (a : Fin 4) (y : Fin 16384) (e : Fin 64),
    s.dk (ix2 y (col a e)) = dk (ix2 y (col a e)) + if y.val / 256 < n then (A a).dkTile i y.val e else 0
  dv : ∀ (a : Fin 4) (y : Fin 16384) (e : Fin 64),
    s.dv (ix2 y (col a e)) = dv (ix2 y (col a e)) + if y.val / 256 < n then (A a).dvTile i y.val e else 0

theorem after (hi : i < 64) (dk dv : Vec Ideal S16384x256 .f32) (n : ℕ) (hn : n ≤ i) : After x A i dk dv n (Loop.run x ⟨noSums, dk, dv⟩ n) := by
  induction n with
  | zero =>
    refine ⟨fun a r => ?_, fun a r e => ?_, fun a y e => ?_, fun a y e => ?_⟩
    · exact (noSums_sum a _).trans (by simp)
    · exact (noSums_dq a _).trans (by simp)
    · rw [if_neg (by omega), add_zero]; rfl
    · rw [if_neg (by omega), add_zero]; rfl
  | succ n ih =>
    have S := ih (by omega)
    have h64 : n < 64 := by omega
    have hs (a : Fin 4) := H.heads_is n h64 a
    have hc (a : Fin 4) := H.pick_at n (by omega) hi a
    have hdz (a : Fin 4) (r c : Fin 256) :
        stepDz x.q x.d (slab (F := Ideal) (e := .bf16) n x.k) (slab (F := Ideal) (e := .bf16) n x.v) x.ones x.onesT x.n (BitVec.ofNat 32 n) x.cin
          (accSum (Loop.run x ⟨noSums, dk, dv⟩ n).acc a) a (ix2 r c) = (A a).dz (256 * i + r.val) (256 * n + c.val) :=
      (hs a).dz_at H.ones H.onesT hi (by omega) _ (hc a) _ (S.sum a) r c
    refine ⟨fun a r => ?_, fun a r e => ?_, fun a y e => ?_, fun a y e => ?_⟩
    · show accSum (step _ _ _ _ _ _ _ _ _ _) a _ = _
      rw [step_sum, sum_range_block, ← S.sum a r]
      refine congrArg₂ (· + ·) rfl ((lastCol_apply _ r 0).trans (((hs a).sums_at H.ones H.onesT hi (by omega) _ (hc a) r 255).trans ?_))
      exact Finset.sum_congr rfl fun y hy => if_pos (by rw [Finset.mem_range] at hy; show y ≤ 255; omega)
    · show accDq (step _ _ _ _ _ _ _ _ _ _) a _ = _
      rw [step_dq, sum_range_block, ← S.dq a r e]
      refine congrArg₂ (· + ·) rfl ((rowGrad_apply _ _ r e).trans ?_)
      rw [Finset.sum_range]
      refine Finset.sum_congr rfl fun c _ => ?_
      rw [hdz]
      exact congrArg _ ((hs a).k c e)
    · rw [← add_tile, ← S.dk a y e]
      refine addSlab_at n h64 _ _ y (col a e) _ fun hy => ?_
      rw [stepDk_at, colGrad_apply]
      unfold Attn.dkTile
      rw [Finset.sum_range]
      refine Finset.sum_congr rfl fun r _ => ?_
      rw [hdz]
      refine congrArg₂ (· * ·) (congrArg _ ?_) ((hs a).q r e)
      show 256 * n + y.val % 256 = y.val
      omega
    · rw [← add_tile, ← S.dv a y e]
      refine addSlab_at n h64 _ _ y (col a e) _ fun hy => ?_
      rw [stepDv_at, colGrad_apply]
      unfold Attn.dvTile
      rw [Finset.sum_range]
      refine Finset.sum_congr rfl fun r _ => ?_
      refine congrArg₂ (· * ·) (((hs a).w_at H.ones hi (by omega) _ (hc a) r _).trans (congrArg _ ?_)) ((hs a).d r e)
      show 256 * n + y.val % 256 = y.val
      omega

variable (hi : i < 64) (dk dv : Vec Ideal S16384x256 .f32)

include hi

theorem out_dq (a : Fin 4) (r : Fin 256) (e : Fin 64) : (pointOut x i dk dv).dq (ix2 r (col a e)) = (A a).dq (256 * i + r.val) e := by
  have S := H.after hi dk dv i le_rfl
  have hs := H.heads_is i hi a
  unfold pointOut
  refine (diagDq_at _ _ _ _ _ _ _ a r e).trans ?_
  rw [(A a).dq_eq _ i (by omega) hi, sum_range_block, S.dq a r e, rowGrad_apply]
  refine congrArg (fun y => (_ + y) * eighth) ?_
  rw [Finset.sum_range]
  refine Finset.sum_congr rfl fun c _ => ?_
  exact congrArg₂ (· * ·) (hs.dzD_at H.ones H.onesT hi _ (S.sum a) r c) (hs.k c e)

theorem out_dk (a : Fin 4) (y : Fin 16384) (e : Fin 64) :
    (pointOut x i dk dv).dk (ix2 y (col a e)) = dk (ix2 y (col a e)) + (A a).dkTile i y.val e := by
  have S := H.after hi dk dv i le_rfl
  have hs := H.heads_is i hi a
  have hz : (A a).dkTile i y.val e = if y.val / 256 < i + 1 then (A a).dkTile i y.val e else 0 := by
    split
    · rfl
    · exact (A a).dkTile_zero (by omega) e
  rw [hz, ← add_tile, ← S.dk a y e]
  refine addSlab_at i hi _ _ y (col a e) _ fun hy => ?_
  rw [diagDk_at, colGrad_apply]
  unfold Attn.dkTile
  rw [Finset.sum_range]
  refine Finset.sum_congr rfl fun r _ => ?_
  refine congrArg₂ (· * ·) ((hs.dzD_at H.ones H.onesT hi _ (S.sum a) r _).trans (congrArg _ ?_)) (hs.q r e)
  show 256 * i + y.val % 256 = y.val
  omega

theorem out_dv (a : Fin 4) (y : Fin 16384) (e : Fin 64) :
    (pointOut x i dk dv).dv (ix2 y (col a e)) = dv (ix2 y (col a e)) + (A a).dvTile i y.val e := by
  have S := H.after hi dk dv i le_rfl
  have hs := H.heads_is i hi a
  have hz : (A a).dvTile i y.val e = if y.val / 256 < i + 1 then (A a).dvTile i y.val e else 0 := by
    split
    · rfl
    · exact (A a).dvTile_zero (by omega) e
  rw [hz, ← add_tile, ← S.dv a y e]
  refine addSlab_at i hi _ _ y (col a e) _ fun hy => ?_
  rw [diagDv_at, colGrad_apply]
  unfold Attn.dvTile
  rw [Finset.sum_range]
  refine Finset.sum_congr rfl fun r _ => ?_
  refine congrArg₂ (· * ·) ((hs.wD_at H.ones hi r _).trans (congrArg _ ?_)) (hs.d r e)
  show 256 * i + y.val % 256 = y.val
  omega

end LoopIs

end AttnBwd

end
-- ==== Proof.Value.HostAt.lean ====
module

public import proofs.«01_k».proof.Proof.Value.HostArrays
public import proofs.«01_k».proof.Proof.Value.Reference
public import proofs.«01_k».proof.Proof.Value.PointAt
public import Idealize.ShloMosaic.Lib.StableHlo.Predicate

@[expose] public section

set_option maxRecDepth 16384

noncomputable section

/-! The host's arrays, number by number. -/

namespace AttnBwd

open Cert.KernelIdeal Cert.KernelIdeal.Gen
open Idealize.ShloMosaic hiding ix0 ix1 ix2 ix3 ix4 ix5
open Idealize.ShloMosaic.TcCoe
open Idealize.ShloMosaic.ValueIdx

theorem word_one : FloatOps.uitofp (F := Ideal) .bf16 (1#1) = (1 : EReal) := by
  show (((1#1).toNat : ℝ) : EReal) = 1
  simp

theorem word_zero : FloatOps.uitofp (F := Ideal) .bf16 (0#1) = (0 : EReal) := by
  show (((0#1).toNat : ℝ) : EReal) = 0
  simp

theorem ge_word (c r : Fin 256) : IntOp.cmpi .sge (BitVec.ofNat 32 r.val) (BitVec.ofNat 32 c.val) = 1#1 ↔ c.val ≤ r.val := by
  have e (n : Fin 256) : (BitVec.ofNat 32 n.val).toNat = n.val := by rw [BitVec.toNat_ofNat]; omega
  rw [StableHlo.Predicate.sge_iff_toNat (by rw [e]; omega) (by rw [e]; omega), e, e]

theorem lowerOnes_at (r c : Fin 256) : lowerOnes (F := Ideal) (ix2 r c) = if c.val ≤ r.val then (1 : EReal) else 0 := by
  show FloatOps.uitofp (F := Ideal) .bf16 (IntOp.cmpi .sge (BitVec.ofNat 32 r.val) (BitVec.ofNat 32 c.val)) = _
  by_cases h : c.val ≤ r.val
  · rw [if_pos h, (ge_word c r).mpr h, word_one]
  · rw [if_neg h, eq_zero_of_ne_one (fun hc => h ((ge_word c r).mp hc)), word_zero]

theorem upperOnes_at (r c : Fin 256) : upperOnes (F := Ideal) (ix2 r c) = if r.val ≤ c.val then (1 : EReal) else 0 := by
  unfold upperOnes
  refine Eq.trans ?_ (lowerOnes_at c r)
  pointwise
  rw [ix2_eq_valueIdx]

/-- A table of sums cut into the two groups of heads, each sum after a block of 256 keys. -/
theorem cut_at (X : Stages.Square Ideal) (p : Fin 2) (a : Fin 4) (t : Fin 16384) (j : Fin 64) (hj : j.val < 63) :
    shapeCast S2x4x16384x64 (concatenate S8x16384x64 2
    [⟨S8x16384x63, Host.slice S8x16384x63 ![0, 0, 256] ![1, 1, 256] X slicesBy_S8x16384x16384_S8x16384x63_0s1_0s1_256s256⟩,
      ⟨S8x16384x1, broadcastInDim S8x16384x1 ![] bcast_S_S8x16384x1 (constant (F := Ideal) S_ .f32 0x00000000#32)⟩] concatenates_S8x16384x63_S8x16384x1_S8x16384x64_d2)
    shapeCasts_S8x16384x64_S2x4x16384x64 (ix4 p a t j) = X (ix3 (⟨4 * p.val + a.val, by omega⟩ : Fin 8) t (⟨256 * (j.val + 1), by omega⟩ : Fin 16384)) := by
  rw [shapeCast_apply _ _ (ix4 p a t j) (ix3 (⟨4 * p.val + a.val, by omega⟩ : Fin 8) t j) (by
    rw [Shape.rowMajor_val_three, Shape.rowMajor_val_four]
    show ((4 * p.val + a.val) * 16384 + t.val) * 64 + j.val = ((p.val * 4 + a.val) * 16384 + t.val) * 64 + j.val
    omega)]
  pointwise
  rw [dif_pos (show j.val < 63 from hj)]
  rw [ix3_eq_valueIdx]
  refine congrArg (fun s => X (ix3 (⟨4 * p.val + a.val, by omega⟩ : Fin 8) t s)) (Fin.ext ?_)
  show 256 + 256 * j.val = 256 * (j.val + 1)
  omega

theorem carries_at {qg kv : FVec Ideal S16384x1024 .bf16} (dout : FVec Ideal S16384x512 .f32) (p : Fin 2) (a : Fin 4) (t : Fin 16384) (j : Fin 64) (hj : j.val < 63) :
    carries qg kv (ix4 p a t j) = (headOf qg kv dout (4 * p.val + a.val)).rev t.val (256 * (j.val + 1)) := by
  unfold carries
  rw [cut_at _ p a t j hj]
  exact (Stages.args_are qg kv dout).from_at (⟨4 * p.val + a.val, by omega⟩ : Fin 8) t _

end AttnBwd

end
-- ==== Proof.Value.Blocks.lean ====
module

public import proofs.«01_k».proof.Proof.Value.HostAt
public import proofs.«01_k».proof.Proof.Run.Whole
public import Idealize.ShloMosaic.Lib.Pipeline.ValueKit

@[expose] public section

set_option maxRecDepth 16384

noncomputable section

/-! What a grid point is handed: grid point `t` is block `t % 64` of head group `t / 64`. -/

namespace AttnBwd

open Cert.KernelIdeal Cert.KernelIdeal.Gen
open Idealize.ShloMosaic hiding ix0 ix1 ix2 ix3 ix4 ix5
open Idealize.ShloMosaic.TcCoe
open Idealize.ShloMosaic.ValueIdx

theorem coords_eq : ∀ t : Fin grid0.N, ((grid0.coords t) 0).val = t.val / 64 ∧ ((grid0.coords t) 1).val = t.val % 64 := by decide +kernel

theorem place_0 : ∀ t : Fin grid0.N, cc0_transform_0 (grid0.coords t) = ![t.val % 64, t.val / 64] := by decide +kernel
theorem place_1 : ∀ t : Fin grid0.N, cc0_transform_2 (grid0.coords t) = ![t.val / 64, 0, t.val % 64, 0] := by decide +kernel

variable {F : FTy → Type} [FloatOps F] (m : (ℓ : Loc nD τ sig) → Buf (Elt F) ℓ) (hO : Ok m) (c : Dev nD) (t : Fin (cfgM m hO).N)

theorem index_0 : ((cfgM m hO).win 0).index t = ![t.val % 64, t.val / 64] := place_0 t
theorem index_1 : ((cfgM m hO).win 1).index t = ![t.val / 64, 0, t.val % 64, 0] := place_1 t
theorem index_2 : ((cfgM m hO).win 2).index t = ![t.val % 64, t.val / 64] := place_0 t
theorem index_3 : ((cfgM m hO).win 3).index t = ![0, 0] := rfl
theorem index_4 : ((cfgM m hO).win 4).index t = ![0, 0] := rfl
theorem index_5 : ((cfgM m hO).win 5).index t = ![t.val % 64, t.val / 64] := place_0 t

theorem point_lt : t.val < 128 := t.isLt.trans_eq N_0

theorem read_q (f : Vec F S16384x1024 .bf16) (r k : Fin 256) : (((cfgM m hO).win 0).blk t).view.read (Elt F) f (ix2 r k)
    = f (ix2 (⟨256 * (t.val % 64) + r.val, by omega⟩ : Fin 16384) (⟨256 * (t.val / 64) + k.val, by have := point_lt m hO t; omega⟩ : Fin 1024)) := by
  have h := point_lt m hO t
  blk_ext [index_0 m hO t]
  · show t.val % 64 * 256 + r.val = _
    omega
  · show t.val / 64 * 256 + k.val = _
    omega

theorem read_cin (f : Vec F S2x4x16384x64 .f32) (a : Fin 4) (r : Fin 256) (j : Fin 64) : (((cfgM m hO).win 1).blk t).view.read (Elt F) f (ix4 (0 : Fin 1) a r j)
    = f (ix4 (⟨t.val / 64, by have := point_lt m hO t; omega⟩ : Fin 2) a (⟨256 * (t.val % 64) + r.val, by omega⟩ : Fin 16384) j) := by
  have h := point_lt m hO t
  blk_ext [index_1 m hO t]
  · show t.val % 64 * 256 + r.val = _
    omega

theorem read_dout (f : Vec F S16384x512 .f32) (r k : Fin 256) : (((cfgM m hO).win 2).blk t).view.read (Elt F) f (ix2 r k)
    = f (ix2 (⟨256 * (t.val % 64) + r.val, by omega⟩ : Fin 16384) (⟨256 * (t.val / 64) + k.val, by have := point_lt m hO t; omega⟩ : Fin 512)) := by
  have h := point_lt m hO t
  blk_ext [index_2 m hO t]
  · show t.val % 64 * 256 + r.val = _
    omega
  · show t.val / 64 * 256 + k.val = _
    omega

theorem read_ones (f : Vec F S256x256 .bf16) (r k : Fin 256) : (((cfgM m hO).win 3).blk t).view.read (Elt F) f (ix2 r k) = f (ix2 r k) := by
  blk_ext [index_3 m hO t]

theorem read_onesT (f : Vec F S256x256 .bf16) (r k : Fin 256) : (((cfgM m hO).win 4).blk t).view.read (Elt F) f (ix2 r k) = f (ix2 r k) := by
  blk_ext [index_4 m hO t]

theorem start_zero : ∀ n : Fin 64, startWord (BitVec.ofNat 32 n.val) 0#32 = 0#32 := by decide +kernel

/-- No block of keys is skipped. -/
theorem starts : startWord (BitVec.ofNat 32 ((grid0.coords t) 1).val) (firstWord c (grid0.coords t) (insAt m hO c t)) = 0#32 := by
  have h : firstWord c (grid0.coords t) (insAt m hO c t) = 0#32 := by
    have e : tbl m 0 = broadcastInDim S128 ![] bcast_S_S128 (constantI S_ 32 0#32) := host_first m 0
    unfold firstWord insAt
    dsimp only
    rw [e]
    rfl
  rw [h]
  exact start_zero ⟨_, ((grid0.coords t) 1).isLt⟩

end AttnBwd

namespace AttnBwd

open Cert.KernelIdeal Cert.KernelIdeal.Gen
open Idealize.ShloMosaic hiding ix0 ix1 ix2 ix3 ix4 ix5
open Idealize.ShloMosaic.TcCoe
open Idealize.ShloMosaic.ValueIdx

variable (m : (ℓ : Loc nD τ sig) → Buf (Elt Ideal) ℓ) (hO : Ok m) (c : Dev nD) (t : Fin (cfgM m hO).N)

/-- Head `h` of the call's arguments. -/
def head (h : ℕ) : Attn := headOf (m ((c.tc : Thread nD τ).loc main_arg0)) (m ((c.tc : Thread nD τ).loc main_arg1)) (m ((c.tc : Thread nD τ).loc main_arg2)) h

theorem eighth_bits : Ideal.ofBits .bf16 0x3E00#16 = eighth := by
  rw [eighth_eq]
  simp [Ideal.ofBits, Ideal.ieee]
  rw [← EReal.coe_mul]
  norm_num

theorem loop_cin (x : Ins Ideal c) (K W : FVec Ideal S16384x256 .bf16) (a : Fin 4) (r : Fin 256) (j : Fin 64) :
    (loopIn x K W).cin a (ix4 (0 : Fin 1) (0 : Fin 1) r j) = x.cin (ix4 (0 : Fin 1) a r j) := rfl

theorem block_cin (a : Fin 4) (r : Fin 256) (j : Fin 64) : (insAt m hO c t).cin (ix4 (0 : Fin 1) a r j)
    = V m c main_v25 (ix4 (⟨t.val / 64, by have := point_lt m hO t; omega⟩ : Fin 2) a (⟨256 * (t.val % 64) + r.val, by omega⟩ : Fin 16384) j) := by
  exact read_cin m hO t (V m c main_v25) a r j

theorem table_cin (p : Fin 2) (a : Fin 4) (s : Fin 16384) (j : Fin 64) (hj : j.val < 63) :
    V m c main_v25 (ix4 p a s j) = (head m c (4 * p.val + a.val)).rev s.val (256 * (j.val + 1)) := by
  rw [host_carries]
  exact carries_at _ p a s j hj

/-- The four heads of a point's group, at the point's block of queries. -/
theorem loop_is (K W : FVec Ideal S16384x256 .bf16)
    (hK : ∀ (a : Fin 4) (s : Fin 16384) (e : Fin 64), K (ix2 s (col a e)) = (head m c (4 * (t.val / 64) + a.val)).k s.val e)
    (hW : ∀ (a : Fin 4) (s : Fin 16384) (e : Fin 64), W (ix2 s (col a e)) = (head m c (4 * (t.val / 64) + a.val)).v s.val e) :
    LoopIs (loopIn (insAt m hO c t) K W) (fun a => head m c (4 * (t.val / 64) + a.val)) (t.val % 64) where
  q a r e := by
    refine congrArg₂ (fun x y : EReal => x * y) (?_ : (((cfgM m hO).win 0).blk t).view.read (Elt Ideal) (V m c main_arg0) (ix2 r (col a e)) = _) eighth_bits
    rw [read_q, V_main_arg0]
    refine (at2_eq _ _ _).symm.trans ?_
    unfold head headOf
    refine congrArg (at2 _ _) ?_
    show 256 * (t.val / 64) + (64 * a.val + e.val) = 64 * (4 * (t.val / 64) + a.val) + e.val
    omega
  d a r e := by
    show (((cfgM m hO).win 2).blk t).view.read (Elt Ideal) (V m c main_arg2) (ix2 r (col a e)) = _
    rw [read_dout, V_main_arg2]
    refine (at2_eq _ _ _).symm.trans ?_
    unfold head headOf
    refine congrArg (at2 _ _) ?_
    show 256 * (t.val / 64) + (64 * a.val + e.val) = 64 * (4 * (t.val / 64) + a.val) + e.val
    omega
  k := hK
  v := hW
  ones y k := by
    show (((cfgM m hO).win 3).blk t).view.read (Elt Ideal) (V m c main_v30) (ix2 y k) = _
    rw [read_ones, host_ones, lowerOnes_at]
  onesT y k := by
    show (((cfgM m hO).win 4).blk t).view.read (Elt Ideal) (V m c main_v31) (ix2 y k) = _
    rw [read_onesT, host_onesT, upperOnes_at]
  n := rfl
  cin a r j hj := by
    refine (loop_cin c _ _ _ a r j).trans ((block_cin m hO c t a r j).trans ?_)
    exact table_cin m c _ a _ j (by omega)

end AttnBwd

end
-- ==== Proof.Value.First.lean ====
module

public import proofs.«01_k».proof.Proof.Value.Point
public import proofs.«01_k».proof.Proof.Run.First

@[expose] public section

set_option maxRecDepth 16384

noncomputable section

/-! What the first grid point of a head group leaves, by the loop over the blocks on the left and the block on the diagonal. -/

namespace AttnBwd

open Cert.KernelIdeal Cert.KernelIdeal.Gen
open Idealize.ShloMosaic Idealize.ShloMosaic.TcCoe Idealize.ShloMosaic.Tactic

variable {F : FTy → Type} [FloatOps F]

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

section

variable (hc0 : cond0_0 i) (hc1 : ¬cond0_1 i) (x : Ins F c) (f : HbBuf0 (F := F) c hbM0_1) (hw : k0_chk1 i (firstWord c i x))

/-- The columns of kv that the head group's keys are, and its values. -/
abbrev keysOf : Vec F S16384x256 .bf16 :=
  View.read (Elt F) ((Memref.whole main_arg1).slice (Rect.unit (s := S16384x1024) (k0_off2 i) S16384x256.size (k0_off2_inb i hc0)) (fun _ => rfl)).view x.kv
abbrev valuesOf : Vec F S16384x256 .bf16 :=
  View.read (Elt F) ((Memref.whole main_arg1).slice (Rect.unit (s := S16384x1024) (k0_off3 i) S16384x256.size (k0_off3_inb i hc0)) (fun _ => rfl)).view x.kv

abbrev keysLoaded : BufTy.Contents (Elt F) arg11.view.ty :=
  arg11.view.writes (Elt F) arg11.view.junk [⟨Rect.whole S16384x256, ReadAs.same.apply (keysOf c i hc0 x)⟩]
abbrev valuesLoaded : BufTy.Contents (Elt F) arg12.view.ty :=
  arg12.view.writes (Elt F) arg12.view.junk [⟨Rect.whole S16384x256, ReadAs.same.apply (valuesOf c i hc0 x)⟩]

abbrev zeros13 : List (View.Piece (Elt F) S16384x256 .f32) := [⟨Rect.unit (s := S16384x256) ![0, 0] S16384x256.size inb_S16384x256_S16384x256_0_0, k0_pay110⟩]
abbrev zeros14 : List (View.Piece (Elt F) S16384x256 .f32) := [⟨Rect.unit (s := S16384x256) ![0, 0] S16384x256.size inb_S16384x256_S16384x256_0_0, k0_pay111⟩]

/-- A resident array written whole and read back. -/
theorem read_whole {sp : Space} {e : EltTy} (v : View sig .tc sp S16384x256 e) (f : v.ty.Contents (Elt F)) (y : Vec F S16384x256 e) :
    v.read (Elt F) (v.writes (Elt F) f [⟨Rect.whole S16384x256, y⟩]) = y := by
  funext z
  refine View.read_writes_cons_hit_of_coords v f (Rect.whole S16384x256) y [] z z fun a => ?_
  match a with
  | 0 => show (z 0).val = 0 + 1 * (z 0).val; omega
  | 1 => show (z 1).val = 0 + 1 * (z 1).val; omega

theorem read_whole' {sp : Space} {e : EltTy} (v : View sig .tc sp S16384x256 e) (f : v.ty.Contents (Elt F)) (inb) (y : Vec F S16384x256 e) :
    v.read (Elt F) (v.writes (Elt F) f [⟨Rect.unit (s := S16384x256) ![0, 0] S16384x256.size inb, y⟩]) = y := by
  funext z
  refine View.read_writes_cons_hit_of_coords v f (Rect.unit (s := S16384x256) ![0, 0] S16384x256.size inb) y [] z z fun a => ?_
  match a with
  | 0 => show (z 0).val = 0 + 1 * (z 0).val; omega
  | 1 => show (z 1).val = 0 + 1 * (z 1).val; omega

theorem keysLoaded_eq : arg11.view.read (Elt F) (keysLoaded c i arg11 hc0 x) = keysOf c i hc0 x := read_whole arg11.view _ _
theorem valuesLoaded_eq : arg12.view.read (Elt F) (valuesLoaded c i arg12 hc0 x) = valuesOf c i hc0 x := read_whole arg12.view _ _

theorem zeros13_eq : arg13.view.read (Elt F) (arg13.view.writes (Elt F) arg13.view.junk zeros13) = (broadcast S16384x256 (Scalar.ofBits .f32 0x00000000#32) : Vec F S16384x256 .f32) :=
  (read_whole' arg13.view _ _ _).trans (shapeCast_self _ _)
theorem zeros14_eq : arg14.view.read (Elt F) (arg14.view.writes (Elt F) arg14.view.junk zeros14) = (broadcast S16384x256 (Scalar.ofBits .f32 0x00000000#32) : Vec F S16384x256 .f32) :=
  (read_whole' arg14.view _ _ _).trans (shapeCast_self _ _)

abbrev first1 := state1 c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (keysLoaded c i arg11 hc0 x) (valuesLoaded c i arg12 hc0 x) (arg13.view.writes (Elt F) arg13.view.junk zeros13) (arg14.view.writes (Elt F) arg14.view.junk zeros14) (firstWord c i x) hw
abbrev first2 := state2 c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (keysLoaded c i arg11 hc0 x) (valuesLoaded c i arg12 hc0 x)
  (arg13.view.writes (Elt F) arg13.view.junk ((first1 c i arg3 harg3 arg5 harg5 arg6 harg6 arg7 harg7 arg8 harg8 arg9 harg9 arg11 harg11 arg12 harg12 arg13 harg13 arg14 harg14 hc0 x hw).2.1 ++ zeros13)) (arg14.view.writes (Elt F) arg14.view.junk ((first1 c i arg3 harg3 arg5 harg5 arg6 harg6 arg7 harg7 arg8 harg8 arg9 harg9 arg11 harg11 arg12 harg12 arg13 harg13 arg14 harg14 hc0 x hw).2.2 ++ zeros14)) (firstWord c i x) hw
  (spread (first1 c i arg3 harg3 arg5 harg5 arg6 harg6 arg7 harg7 arg8 harg8 arg9 harg9 arg11 harg11 arg12 harg12 arg13 harg13 arg14 harg14 hc0 x hw).1)

set_option maxHeartbeats 4000000 in
theorem first_dq : (firstRun c i arg3 harg3 arg5 harg5 arg6 harg6 arg7 harg7 arg8 harg8 arg9 harg9 arg11 harg11 arg12 harg12 arg13 harg13 arg14 harg14 hc0 hc1 x f hw).1.dq
    = arg9.view.read (Elt F) (arg9.view.writes (Elt F) arg9.view.junk [⟨Rect.unit ![0, 0] ![256, 256] inb_S256x256_S256x256_0_0,
      leftDq i arg3 arg6 arg7 arg8 arg11 arg12 (harg3.unread x.q) (harg6.unread x.dout) (harg7.unread x.ones) (harg8.unread x.onesT) (keysLoaded c i arg11 hc0 x) (valuesLoaded c i arg12 hc0 x)
        (first2 c i arg3 harg3 arg5 harg5 arg6 harg6 arg7 harg7 arg8 harg8 arg9 harg9 arg11 harg11 arg12 harg12 arg13 harg13 arg14 harg14 hc0 x hw).1⟩]) := by
  sl_kernel_rfl

set_option maxHeartbeats 4000000 in
theorem first_dk : (firstRun c i arg3 harg3 arg5 harg5 arg6 harg6 arg7 harg7 arg8 harg8 arg9 harg9 arg11 harg11 arg12 harg12 arg13 harg13 arg14 harg14 hc0 hc1 x f hw).1.dk
    = leftDk i arg3 arg6 arg7 arg8 arg11 arg12 arg13 (harg3.unread x.q) (harg6.unread x.dout) (harg7.unread x.ones) (harg8.unread x.onesT) (keysLoaded c i arg11 hc0 x) (valuesLoaded c i arg12 hc0 x)
        arg13.view.junk ((first2 c i arg3 harg3 arg5 harg5 arg6 harg6 arg7 harg7 arg8 harg8 arg9 harg9 arg11 harg11 arg12 harg12 arg13 harg13 arg14 harg14 hc0 x hw).2.1 ++ ((first1 c i arg3 harg3 arg5 harg5 arg6 harg6 arg7 harg7 arg8 harg8 arg9 harg9 arg11 harg11 arg12 harg12 arg13 harg13 arg14 harg14 hc0 x hw).2.1 ++ zeros13)) (first2 c i arg3 harg3 arg5 harg5 arg6 harg6 arg7 harg7 arg8 harg8 arg9 harg9 arg11 harg11 arg12 harg12 arg13 harg13 arg14 harg14 hc0 x hw).1 := by
  sl_kernel_rfl

set_option maxHeartbeats 4000000 in
theorem first_dv : (firstRun c i arg3 harg3 arg5 harg5 arg6 harg6 arg7 harg7 arg8 harg8 arg9 harg9 arg11 harg11 arg12 harg12 arg13 harg13 arg14 harg14 hc0 hc1 x f hw).1.dv
    = leftDv i arg3 arg6 arg7 arg11 arg12 arg14 (harg3.unread x.q) (harg6.unread x.dout) (harg7.unread x.ones) (keysLoaded c i arg11 hc0 x) (valuesLoaded c i arg12 hc0 x)
        arg14.view.junk ((first2 c i arg3 harg3 arg5 harg5 arg6 harg6 arg7 harg7 arg8 harg8 arg9 harg9 arg11 harg11 arg12 harg12 arg13 harg13 arg14 harg14 hc0 x hw).2.2 ++ ((first1 c i arg3 harg3 arg5 harg5 arg6 harg6 arg7 harg7 arg8 harg8 arg9 harg9 arg11 harg11 arg12 harg12 arg13 harg13 arg14 harg14 hc0 x hw).2.2 ++ zeros14)) := by
  sl_kernel_rfl

set_option maxHeartbeats 4000000 in
theorem first_rest : (firstRun c i arg3 harg3 arg5 harg5 arg6 harg6 arg7 harg7 arg8 harg8 arg9 harg9 arg11 harg11 arg12 harg12 arg13 harg13 arg14 harg14 hc0 hc1 x f hw).1.k = (arg11.view.read (Elt F) (keysLoaded c i arg11 hc0 x)) ∧ (firstRun c i arg3 harg3 arg5 harg5 arg6 harg6 arg7 harg7 arg8 harg8 arg9 harg9 arg11 harg11 arg12 harg12 arg13 harg13 arg14 harg14 hc0 hc1 x f hw).1.v = (arg12.view.read (Elt F) (valuesLoaded c i arg12 hc0 x))
    ∧ (firstRun c i arg3 harg3 arg5 harg5 arg6 harg6 arg7 harg7 arg8 harg8 arg9 harg9 arg11 harg11 arg12 harg12 arg13 harg13 arg14 harg14 hc0 hc1 x f hw).1.dkv = f :=
  ⟨by sl_kernel_rfl, by sl_kernel_rfl, by sl_kernel_rfl⟩

set_option maxHeartbeats 1000000 in
theorem first_left (h3 : startWord (BitVec.ofNat 32 (i 1).val) (firstWord c i x) = 0#32) :
    (firstRun c i arg3 harg3 arg5 harg5 arg6 harg6 arg7 harg7 arg8 harg8 arg9 harg9 arg11 harg11 arg12 harg12 arg13 harg13 arg14 harg14 hc0 hc1 x f hw).1.dq = (pointOut (loopIn x (keysOf c i hc0 x) (valuesOf c i hc0 x)) (i 1).val (broadcast S16384x256 (Scalar.ofBits .f32 0x00000000#32)) (broadcast S16384x256 (Scalar.ofBits .f32 0x00000000#32))).dq
    ∧ (firstRun c i arg3 harg3 arg5 harg5 arg6 harg6 arg7 harg7 arg8 harg8 arg9 harg9 arg11 harg11 arg12 harg12 arg13 harg13 arg14 harg14 hc0 hc1 x f hw).1.dk = (pointOut (loopIn x (keysOf c i hc0 x) (valuesOf c i hc0 x)) (i 1).val (broadcast S16384x256 (Scalar.ofBits .f32 0x00000000#32)) (broadcast S16384x256 (Scalar.ofBits .f32 0x00000000#32))).dk
    ∧ (firstRun c i arg3 harg3 arg5 harg5 arg6 harg6 arg7 harg7 arg8 harg8 arg9 harg9 arg11 harg11 arg12 harg12 arg13 harg13 arg14 harg14 hc0 hc1 x f hw).1.dv = (pointOut (loopIn x (keysOf c i hc0 x) (valuesOf c i hc0 x)) (i 1).val (broadcast S16384x256 (Scalar.ofBits .f32 0x00000000#32)) (broadcast S16384x256 (Scalar.ofBits .f32 0x00000000#32))).dv := by
  obtain ⟨e1, e2, e3⟩ := state1_run c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (keysLoaded c i arg11 hc0 x) (valuesLoaded c i arg12 hc0 x) (arg13.view.writes (Elt F) arg13.view.junk zeros13) (arg14.view.writes (Elt F) arg14.view.junk zeros14) (firstWord c i x) hw h3 _ (trips_eq i _ h3)
  have f1 : onesOf arg7 (harg7.unread x.ones) = x.ones := (shapeCast_self _ _).trans (readAt_all harg7 x.ones)
  have f2 : onesTOf arg8 (harg8.unread x.onesT) = x.onesT := (shapeCast_self _ _).trans (readAt_all harg8 x.onesT)
  have f3 : qOf arg3 (harg3.unread x.q) = k0_pay114 x.q := congrArg k0_pay114 (readAt_all harg3 x.q)
  have f4 : dOf arg6 (harg6.unread x.dout) = k0_pay115 x.dout := congrArg k0_pay115 (readAt_all harg6 x.dout)
  rw [first_dq, first_dk, first_dv, first2, state2_eq, read_stored, leftDk_eq, leftDv_eq, leftDq_eq]
  dsimp only
  rw [List.nil_append, List.nil_append, View.writes_append, View.writes_append, e1, e2, e3, f1, f2, f3, f4, cinPart_eq harg5, keysLoaded_eq, valuesLoaded_eq, zeros13_eq, zeros14_eq]
  exact ⟨rfl, rfl, rfl⟩

end

end AttnBwd

end
-- ==== Proof.Value.Middle.lean ====
module

public import proofs.«01_k».proof.Proof.Value.Point
public import proofs.«01_k».proof.Proof.Run.Middle

@[expose] public section

set_option maxRecDepth 16384

noncomputable section

/-! What the middle grid point leaves, by the loop over the blocks on the left and the block on the diagonal. -/

namespace AttnBwd

open Cert.KernelIdeal Cert.KernelIdeal.Gen
open Idealize.ShloMosaic Idealize.ShloMosaic.TcCoe Idealize.ShloMosaic.Tactic

variable {F : FTy → Type} [FloatOps F]

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

section

variable (hc0 : ¬cond0_0 i) (hc1 : ¬cond0_1 i) (x : Ins F c) (p : Out F c) (hw : k0_chk1 i (firstWord c i x))

abbrev middle1 := state1 c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (harg11.unread p.k) (harg12.unread p.v) (harg13.unread p.dk) (harg14.unread p.dv) (firstWord c i x) hw
abbrev middle2 := state2 c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (harg11.unread p.k) (harg12.unread p.v)
  (arg13.view.writes (Elt F) (harg13.unread p.dk) (middle1 c i arg3 harg3 arg5 harg5 arg6 harg6 arg7 harg7 arg8 harg8 arg9 harg9 arg11 harg11 arg12 harg12 arg13 harg13 arg14 harg14 x p hw).2.1) (arg14.view.writes (Elt F) (harg14.unread p.dv) (middle1 c i arg3 harg3 arg5 harg5 arg6 harg6 arg7 harg7 arg8 harg8 arg9 harg9 arg11 harg11 arg12 harg12 arg13 harg13 arg14 harg14 x p hw).2.2) (firstWord c i x) hw
  (spread (middle1 c i arg3 harg3 arg5 harg5 arg6 harg6 arg7 harg7 arg8 harg8 arg9 harg9 arg11 harg11 arg12 harg12 arg13 harg13 arg14 harg14 x p hw).1)

set_option maxHeartbeats 4000000 in
theorem middle_dq : (middleRun c i arg3 harg3 arg5 harg5 arg6 harg6 arg7 harg7 arg8 harg8 arg9 harg9 arg11 harg11 arg12 harg12 arg13 harg13 arg14 harg14 hc0 hc1 x p hw).1.dq
    = arg9.view.read (Elt F) (arg9.view.writes (Elt F) arg9.view.junk [⟨Rect.unit ![0, 0] ![256, 256] inb_S256x256_S256x256_0_0,
      leftDq i arg3 arg6 arg7 arg8 arg11 arg12 (harg3.unread x.q) (harg6.unread x.dout) (harg7.unread x.ones) (harg8.unread x.onesT) (harg11.unread p.k) (harg12.unread p.v)
        (middle2 c i arg3 harg3 arg5 harg5 arg6 harg6 arg7 harg7 arg8 harg8 arg9 harg9 arg11 harg11 arg12 harg12 arg13 harg13 arg14 harg14 x p hw).1⟩]) := by
  sl_kernel_rfl

set_option maxHeartbeats 4000000 in
theorem middle_dk : (middleRun c i arg3 harg3 arg5 harg5 arg6 harg6 arg7 harg7 arg8 harg8 arg9 harg9 arg11 harg11 arg12 harg12 arg13 harg13 arg14 harg14 hc0 hc1 x p hw).1.dk
    = leftDk i arg3 arg6 arg7 arg8 arg11 arg12 arg13 (harg3.unread x.q) (harg6.unread x.dout) (harg7.unread x.ones) (harg8.unread x.onesT) (harg11.unread p.k) (harg12.unread p.v)
        (harg13.unread p.dk) ((middle2 c i arg3 harg3 arg5 harg5 arg6 harg6 arg7 harg7 arg8 harg8 arg9 harg9 arg11 harg11 arg12 harg12 arg13 harg13 arg14 harg14 x p hw).2.1 ++ (middle1 c i arg3 harg3 arg5 harg5 arg6 harg6 arg7 harg7 arg8 harg8 arg9 harg9 arg11 harg11 arg12 harg12 arg13 harg13 arg14 harg14 x p hw).2.1) (middle2 c i arg3 harg3 arg5 harg5 arg6 harg6 arg7 harg7 arg8 harg8 arg9 harg9 arg11 harg11 arg12 harg12 arg13 harg13 arg14 harg14 x p hw).1 := by
  sl_kernel_rfl

set_option maxHeartbeats 4000000 in
theorem middle_dv : (middleRun c i arg3 harg3 arg5 harg5 arg6 harg6 arg7 harg7 arg8 harg8 arg9 harg9 arg11 harg11 arg12 harg12 arg13 harg13 arg14 harg14 hc0 hc1 x p hw).1.dv
    = leftDv i arg3 arg6 arg7 arg11 arg12 arg14 (harg3.unread x.q) (harg6.unread x.dout) (harg7.unread x.ones) (harg11.unread p.k) (harg12.unread p.v)
        (harg14.unread p.dv) ((middle2 c i arg3 harg3 arg5 harg5 arg6 harg6 arg7 harg7 arg8 harg8 arg9 harg9 arg11 harg11 arg12 harg12 arg13 harg13 arg14 harg14 x p hw).2.2 ++ (middle1 c i arg3 harg3 arg5 harg5 arg6 harg6 arg7 harg7 arg8 harg8 arg9 harg9 arg11 harg11 arg12 harg12 arg13 harg13 arg14 harg14 x p hw).2.2) := by
  sl_kernel_rfl

set_option maxHeartbeats 4000000 in
theorem middle_rest : (middleRun c i arg3 harg3 arg5 harg5 arg6 harg6 arg7 harg7 arg8 harg8 arg9 harg9 arg11 harg11 arg12 harg12 arg13 harg13 arg14 harg14 hc0 hc1 x p hw).1.k = p.k ∧ (middleRun c i arg3 harg3 arg5 harg5 arg6 harg6 arg7 harg7 arg8 harg8 arg9 harg9 arg11 harg11 arg12 harg12 arg13 harg13 arg14 harg14 hc0 hc1 x p hw).1.v = p.v
    ∧ (middleRun c i arg3 harg3 arg5 harg5 arg6 harg6 arg7 harg7 arg8 harg8 arg9 harg9 arg11 harg11 arg12 harg12 arg13 harg13 arg14 harg14 hc0 hc1 x p hw).1.dkv = p.dkv :=
  ⟨by sl_kernel_rfl, by sl_kernel_rfl, by sl_kernel_rfl⟩

set_option maxHeartbeats 1000000 in
theorem middle_left (h3 : startWord (BitVec.ofNat 32 (i 1).val) (firstWord c i x) = 0#32) :
    (middleRun c i arg3 harg3 arg5 harg5 arg6 harg6 arg7 harg7 arg8 harg8 arg9 harg9 arg11 harg11 arg12 harg12 arg13 harg13 arg14 harg14 hc0 hc1 x p hw).1.dq = (pointOut (loopIn x p.k p.v) (i 1).val p.dk p.dv).dq
    ∧ (middleRun c i arg3 harg3 arg5 harg5 arg6 harg6 arg7 harg7 arg8 harg8 arg9 harg9 arg11 harg11 arg12 harg12 arg13 harg13 arg14 harg14 hc0 hc1 x p hw).1.dk = (pointOut (loopIn x p.k p.v) (i 1).val p.dk p.dv).dk
    ∧ (middleRun c i arg3 harg3 arg5 harg5 arg6 harg6 arg7 harg7 arg8 harg8 arg9 harg9 arg11 harg11 arg12 harg12 arg13 harg13 arg14 harg14 hc0 hc1 x p hw).1.dv = (pointOut (loopIn x p.k p.v) (i 1).val p.dk p.dv).dv := by
  obtain ⟨e1, e2, e3⟩ := state1_run c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (harg11.unread p.k) (harg12.unread p.v) (harg13.unread p.dk) (harg14.unread p.dv) (firstWord c i x) hw h3 _ (trips_eq i _ h3)
  have f1 : onesOf arg7 (harg7.unread x.ones) = x.ones := (shapeCast_self _ _).trans (readAt_all harg7 x.ones)
  have f2 : onesTOf arg8 (harg8.unread x.onesT) = x.onesT := (shapeCast_self _ _).trans (readAt_all harg8 x.onesT)
  have f3 : qOf arg3 (harg3.unread x.q) = k0_pay114 x.q := congrArg k0_pay114 (readAt_all harg3 x.q)
  have f4 : dOf arg6 (harg6.unread x.dout) = k0_pay115 x.dout := congrArg k0_pay115 (readAt_all harg6 x.dout)
  rw [middle_dq, middle_dk, middle_dv, middle2, state2_eq, read_stored, leftDk_eq, leftDv_eq, leftDq_eq]
  dsimp only
  rw [List.nil_append, List.nil_append, e1, e2, e3, f1, f2, f3, f4, cinPart_eq harg5, harg11.read_unread, harg12.read_unread, harg13.read_unread, harg14.read_unread]
  exact ⟨rfl, rfl, rfl⟩

end

end AttnBwd

end
-- ==== Proof.Value.Last.lean ====
module

public import proofs.«01_k».proof.Proof.Value.Point
public import proofs.«01_k».proof.Proof.Run.Last

@[expose] public section

set_option maxRecDepth 16384

noncomputable section

/-! What the last grid point of a head group leaves, by the loop over the blocks on the left and the block on the diagonal. -/

namespace AttnBwd

open Cert.KernelIdeal Cert.KernelIdeal.Gen
open Idealize.ShloMosaic Idealize.ShloMosaic.TcCoe Idealize.ShloMosaic.Tactic

variable {F : FTy → Type} [FloatOps F]

variable (c : Dev nD) (i : grid0.Coords)
  (arg3 : Memref sig .tc .vmem S256x256 .bf16) (harg3 : arg3.IsWhole)
  (arg5 : Memref sig .tc .vmem S1x4x256x64 .f32) (harg5 : arg5.IsWhole)
  (arg6 : Memref sig .tc .vmem S256x256 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S256x256 .bf16) (harg9 : arg9.IsWhole)
  (arg11 : Memref sig .tc .vmem S16384x256 .bf16) (harg11 : arg11.IsWhole)
  (arg12 : Memref sig .tc .vmem S16384x256 .bf16) (harg12 : arg12.IsWhole)
  (arg13 : Memref sig .tc .vmem S16384x256 .f32) (harg13 : arg13.IsWhole)
  (arg14 : Memref sig .tc .vmem S16384x256 .f32) (harg14 : arg14.IsWhole)

section

variable (hc0 : ¬cond0_0 i) (hc1 : cond0_1 i) (hd : Disjoint
      (((Memref.whole main_v32_1).slice (Rect.unit (s := S16384x1024) (k0_off8 i) S16384x256.size (k0_off8_inb i hc1)) (fun _ => rfl))).view.set
      (((Memref.whole main_v32_1).slice (Rect.unit (s := S16384x1024) (k0_off7 i) S16384x256.size (k0_off7_inb i hc1)) (fun _ => rfl))).view.set)
    (x : Ins F c) (p : Out F c) (hw : k0_chk1 i (firstWord c i x))

abbrev last1 := state1 c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (harg11.unread p.k) (harg12.unread p.v) (harg13.unread p.dk) (harg14.unread p.dv) (firstWord c i x) hw
abbrev last2 := state2 c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (harg11.unread p.k) (harg12.unread p.v)
  (arg13.view.writes (Elt F) (harg13.unread p.dk) (last1 c i arg3 harg3 arg5 harg5 arg6 harg6 arg7 harg7 arg8 harg8 arg9 harg9 arg11 harg11 arg12 harg12 arg13 harg13 arg14 harg14 x p hw).2.1) (arg14.view.writes (Elt F) (harg14.unread p.dv) (last1 c i arg3 harg3 arg5 harg5 arg6 harg6 arg7 harg7 arg8 harg8 arg9 harg9 arg11 harg11 arg12 harg12 arg13 harg13 arg14 harg14 x p hw).2.2) (firstWord c i x) hw
  (spread (last1 c i arg3 harg3 arg5 harg5 arg6 harg6 arg7 harg7 arg8 harg8 arg9 harg9 arg11 harg11 arg12 harg12 arg13 harg13 arg14 harg14 x p hw).1)

set_option maxHeartbeats 4000000 in
theorem last_dq : (lastRun c i arg3 harg3 arg5 harg5 arg6 harg6 arg7 harg7 arg8 harg8 arg9 harg9 arg11 harg11 arg12 harg12 arg13 harg13 arg14 harg14 hc0 hc1 hd x p hw).1.dq
    = arg9.view.read (Elt F) (arg9.view.writes (Elt F) arg9.view.junk [⟨Rect.unit ![0, 0] ![256, 256] inb_S256x256_S256x256_0_0,
      leftDq i arg3 arg6 arg7 arg8 arg11 arg12 (harg3.unread x.q) (harg6.unread x.dout) (harg7.unread x.ones) (harg8.unread x.onesT) (harg11.unread p.k) (harg12.unread p.v)
        (last2 c i arg3 harg3 arg5 harg5 arg6 harg6 arg7 harg7 arg8 harg8 arg9 harg9 arg11 harg11 arg12 harg12 arg13 harg13 arg14 harg14 x p hw).1⟩]) := by
  sl_kernel_rfl

set_option maxHeartbeats 4000000 in
theorem last_dk : (lastRun c i arg3 harg3 arg5 harg5 arg6 harg6 arg7 harg7 arg8 harg8 arg9 harg9 arg11 harg11 arg12 harg12 arg13 harg13 arg14 harg14 hc0 hc1 hd x p hw).1.dk
    = leftDk i arg3 arg6 arg7 arg8 arg11 arg12 arg13 (harg3.unread x.q) (harg6.unread x.dout) (harg7.unread x.ones) (harg8.unread x.onesT) (harg11.unread p.k) (harg12.unread p.v)
        (harg13.unread p.dk) ((last2 c i arg3 harg3 arg5 harg5 arg6 harg6 arg7 harg7 arg8 harg8 arg9 harg9 arg11 harg11 arg12 harg12 arg13 harg13 arg14 harg14 x p hw).2.1 ++ (last1 c i arg3 harg3 arg5 harg5 arg6 harg6 arg7 harg7 arg8 harg8 arg9 harg9 arg11 harg11 arg12 harg12 arg13 harg13 arg14 harg14 x p hw).2.1) (last2 c i arg3 harg3 arg5 harg5 arg6 harg6 arg7 harg7 arg8 harg8 arg9 harg9 arg11 harg11 arg12 harg12 arg13 harg13 arg14 harg14 x p hw).1 := by
  sl_kernel_rfl

set_option maxHeartbeats 4000000 in
theorem last_dv : (lastRun c i arg3 harg3 arg5 harg5 arg6 harg6 arg7 harg7 arg8 harg8 arg9 harg9 arg11 harg11 arg12 harg12 arg13 harg13 arg14 harg14 hc0 hc1 hd x p hw).1.dv
    = leftDv i arg3 arg6 arg7 arg11 arg12 arg14 (harg3.unread x.q) (harg6.unread x.dout) (harg7.unread x.ones) (harg11.unread p.k) (harg12.unread p.v)
        (harg14.unread p.dv) ((last2 c i arg3 harg3 arg5 harg5 arg6 harg6 arg7 harg7 arg8 harg8 arg9 harg9 arg11 harg11 arg12 harg12 arg13 harg13 arg14 harg14 x p hw).2.2 ++ (last1 c i arg3 harg3 arg5 harg5 arg6 harg6 arg7 harg7 arg8 harg8 arg9 harg9 arg11 harg11 arg12 harg12 arg13 harg13 arg14 harg14 x p hw).2.2) := by
  sl_kernel_rfl

set_option maxHeartbeats 4000000 in
theorem last_rest : (lastRun c i arg3 harg3 arg5 harg5 arg6 harg6 arg7 harg7 arg8 harg8 arg9 harg9 arg11 harg11 arg12 harg12 arg13 harg13 arg14 harg14 hc0 hc1 hd x p hw).1.k = p.k ∧ (lastRun c i arg3 harg3 arg5 harg5 arg6 harg6 arg7 harg7 arg8 harg8 arg9 harg9 arg11 harg11 arg12 harg12 arg13 harg13 arg14 harg14 hc0 hc1 hd x p hw).1.v = p.v
    ∧ (lastRun c i arg3 harg3 arg5 harg5 arg6 harg6 arg7 harg7 arg8 harg8 arg9 harg9 arg11 harg11 arg12 harg12 arg13 harg13 arg14 harg14 hc0 hc1 hd x p hw).1.dkv = View.write (Elt F) ((Memref.whole main_v32_1).slice (Rect.unit (s := S16384x1024) (k0_off8 i) S16384x256.size (k0_off8_inb i hc1)) (fun _ => rfl)).view
      (View.write (Elt F) ((Memref.whole main_v32_1).slice (Rect.unit (s := S16384x1024) (k0_off7 i) S16384x256.size (k0_off7_inb i hc1)) (fun _ => rfl)).view p.dkv
        (lastRun c i arg3 harg3 arg5 harg5 arg6 harg6 arg7 harg7 arg8 harg8 arg9 harg9 arg11 harg11 arg12 harg12 arg13 harg13 arg14 harg14 hc0 hc1 hd x p hw).1.dk Finset.univ) (lastRun c i arg3 harg3 arg5 harg5 arg6 harg6 arg7 harg7 arg8 harg8 arg9 harg9 arg11 harg11 arg12 harg12 arg13 harg13 arg14 harg14 hc0 hc1 hd x p hw).1.dv Finset.univ :=
  ⟨by sl_kernel_rfl, by sl_kernel_rfl, by sl_kernel_rfl⟩

set_option maxHeartbeats 1000000 in
theorem last_left (h3 : startWord (BitVec.ofNat 32 (i 1).val) (firstWord c i x) = 0#32) :
    (lastRun c i arg3 harg3 arg5 harg5 arg6 harg6 arg7 harg7 arg8 harg8 arg9 harg9 arg11 harg11 arg12 harg12 arg13 harg13 arg14 harg14 hc0 hc1 hd x p hw).1.dq = (pointOut (loopIn x p.k p.v) (i 1).val p.dk p.dv).dq
    ∧ (lastRun c i arg3 harg3 arg5 harg5 arg6 harg6 arg7 harg7 arg8 harg8 arg9 harg9 arg11 harg11 arg12 harg12 arg13 harg13 arg14 harg14 hc0 hc1 hd x p hw).1.dk = (pointOut (loopIn x p.k p.v) (i 1).val p.dk p.dv).dk
    ∧ (lastRun c i arg3 harg3 arg5 harg5 arg6 harg6 arg7 harg7 arg8 harg8 arg9 harg9 arg11 harg11 arg12 harg12 arg13 harg13 arg14 harg14 hc0 hc1 hd x p hw).1.dv = (pointOut (loopIn x p.k p.v) (i 1).val p.dk p.dv).dv := by
  obtain ⟨e1, e2, e3⟩ := state1_run c i arg3 harg3 arg5 harg5 arg6 harg6 arg7 harg7 arg8 harg8 arg9 harg9 arg11 harg11 arg12 harg12 arg13 harg13 arg14 harg14 (harg3.unread x.q) (harg5.unread x.cin) (harg6.unread x.dout) (harg7.unread x.ones) (harg8.unread x.onesT)
    (harg11.unread p.k) (harg12.unread p.v) (harg13.unread p.dk) (harg14.unread p.dv) (firstWord c i x) hw h3 _ (trips_eq i _ h3)
  have f1 : onesOf arg7 (harg7.unread x.ones) = x.ones := (shapeCast_self _ _).trans (readAt_all harg7 x.ones)
  have f2 : onesTOf arg8 (harg8.unread x.onesT) = x.onesT := (shapeCast_self _ _).trans (readAt_all harg8 x.onesT)
  have f3 : qOf arg3 (harg3.unread x.q) = k0_pay114 x.q := congrArg k0_pay114 (readAt_all harg3 x.q)
  have f4 : dOf arg6 (harg6.unread x.dout) = k0_pay115 x.dout := congrArg k0_pay115 (readAt_all harg6 x.dout)
  rw [last_dq, last_dk, last_dv, last2, state2_eq, read_stored, leftDk_eq, leftDv_eq, leftDq_eq]
  dsimp only
  rw [List.nil_append, List.nil_append, e1, e2, e3, f1, f2, f3, f4, cinPart_eq harg5, harg11.read_unread, harg12.read_unread, harg13.read_unread, harg14.read_unread]
  exact ⟨rfl, rfl, rfl⟩

end

end AttnBwd

end
-- ==== Proof.Value.Next.lean ====
module

public import proofs.«01_k».proof.Proof.Value.Blocks
public import proofs.«01_k».proof.Proof.Value.First
public import proofs.«01_k».proof.Proof.Value.Middle
public import proofs.«01_k».proof.Proof.Value.Last

@[expose] public section

set_option maxRecDepth 16384

noncomputable section

/-! What a grid point leaves, from what the point before it left. -/

namespace AttnBwd

open Cert.KernelIdeal Cert.KernelIdeal.Gen
open Idealize.ShloMosaic hiding ix0 ix1 ix2 ix3 ix4 ix5
open Idealize.ShloMosaic.TcCoe
open Idealize.ShloMosaic.ValueIdx

variable {F : FTy → Type} [FloatOps F] (m : (ℓ : Loc nD τ sig) → Buf (Elt F) ℓ) (hO : Ok m) (hH : Hyps m hO) (c : Dev nD) (t : Fin (cfgM m hO).N)

/-- Nothing summed yet. -/
abbrev nothing : FVec F S16384x256 .f32 := broadcast S16384x256 (Scalar.ofBits .f32 0x00000000#32)

/-- The keys and the values of the group that starts at `t`. -/
abbrev keysAt (h0 : t.val % 64 = 0) : FVec F S16384x256 .bf16 := keysOf c (grid0.coords t) ((hcond0_0 t).mpr h0) (insAt m hO c t)
abbrev valuesAt (h0 : t.val % 64 = 0) : FVec F S16384x256 .bf16 := valuesOf c (grid0.coords t) ((hcond0_0 t).mpr h0) (insAt m hO c t)

/-- The point `t` over keys `K` and values `W`, added to `DK` and `DV`. -/
abbrev pointAt (K W : FVec F S16384x256 .bf16) (DK DV : FVec F S16384x256 .f32) := pointOut (loopIn (insAt m hO c t) K W) (t.val % 64) DK DV

theorem coord_1 : ((grid0.coords t) 1).val = t.val % 64 := (coords_eq t).2

theorem next_first (h0 : t.val % 64 = 0) (p : Out F c) :
    ((next m hO hH c t p).dq = (pointAt m hO c t (keysAt m hO c t h0) (valuesAt m hO c t h0) nothing nothing).dq
      ∧ (next m hO hH c t p).dk = (pointAt m hO c t (keysAt m hO c t h0) (valuesAt m hO c t h0) nothing nothing).dk
      ∧ (next m hO hH c t p).dv = (pointAt m hO c t (keysAt m hO c t h0) (valuesAt m hO c t h0) nothing nothing).dv)
    ∧ (next m hO hH c t p).k = keysAt m hO c t h0 ∧ (next m hO hH c t p).v = valuesAt m hO c t h0 ∧ (next m hO hH c t p).dkv = p.dkv := by
  have e : next m hO hH c t p = (runAtFirst m hO hH c t h0 p.dkv).1 := dif_pos h0
  rw [e]
  unfold pointAt
  rw [← coord_1 m hO t]
  refine ⟨first_left c (grid0.coords t) _ _ _ _ _ _ _ _ _ _ _ _ _ _ _ _ _ _ _ _ _ _ _ _ _ (starts m hO c t), ?_⟩
  obtain ⟨h1, h2, h3⟩ := first_rest c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
    scM0_0 (Memref.isWhole_whole _) scM0_1 (Memref.isWhole_whole _) scM0_2 (Memref.isWhole_whole _) scM0_3 (Memref.isWhole_whole _)
    ((hcond0_0 t).mpr h0) (fun h => by have := (hcond0_1 t).mp h; omega) (insAt m hO c t) p.dkv (Hyps.c0 hH c t)
  exact ⟨h1.trans (keysLoaded_eq ..), h2.trans (valuesLoaded_eq ..), h3⟩

theorem next_middle (h0 : ¬t.val % 64 = 0) (h1 : ¬t.val % 64 = 63) (p : Out F c) :
    ((next m hO hH c t p).dq = (pointAt m hO c t p.k p.v p.dk p.dv).dq
      ∧ (next m hO hH c t p).dk = (pointAt m hO c t p.k p.v p.dk p.dv).dk
      ∧ (next m hO hH c t p).dv = (pointAt m hO c t p.k p.v p.dk p.dv).dv)
    ∧ (next m hO hH c t p).k = p.k ∧ (next m hO hH c t p).v = p.v ∧ (next m hO hH c t p).dkv = p.dkv := by
  have e : next m hO hH c t p = (runAtMiddle m hO hH c t h0 h1 p).1 := (dif_neg h0).trans (dif_neg h1)
  rw [e]
  unfold pointAt
  rw [← coord_1 m hO t]
  exact ⟨middle_left c (grid0.coords t) _ _ _ _ _ _ _ _ _ _ _ _ _ _ _ _ _ _ _ _ _ _ _ _ _ (starts m hO c t), middle_rest ..⟩

/-- The columns of the result that the group of `t` writes: for the keys, -/
abbrev keyColumns (h1 : t.val % 64 = 63) := ((Memref.whole main_v32_1).slice (Rect.unit (s := S16384x1024) (k0_off7 (grid0.coords t)) S16384x256.size (k0_off7_inb (grid0.coords t) ((hcond0_1 t).mpr h1))) (fun _ => rfl)).view
/-- and for the values. -/
abbrev valueColumns (h1 : t.val % 64 = 63) := ((Memref.whole main_v32_1).slice (Rect.unit (s := S16384x1024) (k0_off8 (grid0.coords t)) S16384x256.size (k0_off8_inb (grid0.coords t) ((hcond0_1 t).mpr h1))) (fun _ => rfl)).view

theorem next_last (h1 : t.val % 64 = 63) (p : Out F c) :
    ((next m hO hH c t p).dq = (pointAt m hO c t p.k p.v p.dk p.dv).dq
      ∧ (next m hO hH c t p).dk = (pointAt m hO c t p.k p.v p.dk p.dv).dk
      ∧ (next m hO hH c t p).dv = (pointAt m hO c t p.k p.v p.dk p.dv).dv)
    ∧ (next m hO hH c t p).k = p.k ∧ (next m hO hH c t p).v = p.v
    ∧ (next m hO hH c t p).dkv = (valueColumns m hO t h1).write (Elt F)
        ((keyColumns m hO t h1).write (Elt F) p.dkv (next m hO hH c t p).dk Finset.univ) (next m hO hH c t p).dv Finset.univ := by
  have e : next m hO hH c t p = (runAtLast m hO hH c t h1 p).1 := (dif_neg (by omega)).trans (dif_pos h1)
  rw [e]
  refine ⟨?_, last_rest ..⟩
  unfold pointAt
  rw [← coord_1 m hO t]
  exact last_left c (grid0.coords t) _ _ _ _ _ _ _ _ _ _ _ _ _ _ _ _ _ _ _ _ _ _ _ _ _ _ (starts m hO c t)

end AttnBwd

end
-- ==== Proof.Value.Leaves.lean ====
module

public import proofs.«01_k».proof.Proof.Value.Next

@[expose] public section

set_option maxRecDepth 16384

noncomputable section

/-! The grid, point by point: the blocks of dq, and the gradients of a group's keys and values gathered over its points. -/

namespace AttnBwd

open Cert.KernelIdeal Cert.KernelIdeal.Gen
open Idealize.ShloMosaic hiding ix0 ix1 ix2 ix3 ix4 ix5
open Idealize.ShloMosaic.TcCoe
open Idealize.ShloMosaic.ValueIdx

variable (m : (ℓ : Loc nD τ sig) → Buf (Elt Ideal) ℓ) (hO : Ok m) (hH : Hyps m hO) (c : Dev nD) (t : Fin (cfgM m hO).N)

theorem off2_eq : ∀ t : Fin grid0.N, k0_off2 (grid0.coords t) = ![0, 256 * (t.val / 64)] := by decide +kernel
theorem off3_eq : ∀ t : Fin grid0.N, k0_off3 (grid0.coords t) = ![0, 512 + 256 * (t.val / 64)] := by decide +kernel
theorem off7_eq : ∀ t : Fin grid0.N, k0_off7 (grid0.coords t) = ![0, 256 * (t.val / 64)] := by decide +kernel
theorem off8_eq : ∀ t : Fin grid0.N, k0_off8 (grid0.coords t) = ![0, 512 + 256 * (t.val / 64)] := by decide +kernel

/-- The group of the point. -/
abbrev headAt (a : Fin 4) : Attn := head m c (4 * (t.val / 64) + a.val)

theorem keysAt_at (h0 : t.val % 64 = 0) (a : Fin 4) (s : Fin 16384) (e : Fin 64) : keysAt m hO c t h0 (ix2 s (col a e)) = (headAt m hO c t a).k s.val e := by
  have hp := point_lt m hO t
  have e1 : keysAt m hO c t h0 (ix2 s (col a e)) = V m c main_arg1 (ix2 s (⟨256 * (t.val / 64) + (64 * a.val + e.val), by omega⟩ : Fin 1024)) := by
    show V m c main_arg1 (((Memref.whole main_arg1).slice (Rect.unit (s := S16384x1024) (k0_off2 (grid0.coords t)) S16384x256.size (k0_off2_inb (grid0.coords t) ((hcond0_0 t).mpr h0))) (fun _ => rfl)).view.emb (ix2 s (col a e))) = _
    refine congrArg (V m c main_arg1) (funext fun x => Fin.ext ?_)
    match x with
    | 0 =>
      show k0_off2 (grid0.coords t) 0 + 1 * s.val = s.val
      rw [off2_eq t]; show 0 + 1 * s.val = s.val; omega
    | 1 =>
      show k0_off2 (grid0.coords t) 1 + 1 * (64 * a.val + e.val) = 256 * (t.val / 64) + (64 * a.val + e.val)
      rw [off2_eq t]; show 256 * (t.val / 64) + 1 * (64 * a.val + e.val) = _; omega
  rw [e1, V_main_arg1]
  refine (at2_eq _ _ _).symm.trans ?_
  unfold headAt head headOf
  refine congrArg (at2 _ _) ?_
  show 256 * (t.val / 64) + (64 * a.val + e.val) = 64 * (4 * (t.val / 64) + a.val) + e.val
  omega

theorem valuesAt_at (h0 : t.val % 64 = 0) (a : Fin 4) (s : Fin 16384) (e : Fin 64) : valuesAt m hO c t h0 (ix2 s (col a e)) = (headAt m hO c t a).v s.val e := by
  have hp := point_lt m hO t
  have e1 : valuesAt m hO c t h0 (ix2 s (col a e)) = V m c main_arg1 (ix2 s (⟨512 + 256 * (t.val / 64) + (64 * a.val + e.val), by omega⟩ : Fin 1024)) := by
    show V m c main_arg1 (((Memref.whole main_arg1).slice (Rect.unit (s := S16384x1024) (k0_off3 (grid0.coords t)) S16384x256.size (k0_off3_inb (grid0.coords t) ((hcond0_0 t).mpr h0))) (fun _ => rfl)).view.emb (ix2 s (col a e))) = _
    refine congrArg (V m c main_arg1) (funext fun x => Fin.ext ?_)
    match x with
    | 0 =>
      show k0_off3 (grid0.coords t) 0 + 1 * s.val = s.val
      rw [off3_eq t]; show 0 + 1 * s.val = s.val; omega
    | 1 =>
      show k0_off3 (grid0.coords t) 1 + 1 * (64 * a.val + e.val) = 512 + 256 * (t.val / 64) + (64 * a.val + e.val)
      rw [off3_eq t]; show 512 + 256 * (t.val / 64) + 1 * (64 * a.val + e.val) = _; omega
  rw [e1, V_main_arg1]
  refine (at2_eq _ _ _).symm.trans ?_
  unfold headAt head headOf
  refine congrArg (at2 _ _) ?_
  show 512 + 256 * (t.val / 64) + (64 * a.val + e.val) = 512 + (64 * (4 * (t.val / 64) + a.val) + e.val)
  omega

/-- What the points of a group have left by point `t`. -/
structure Gathered (o : Out Ideal c) : Prop where
  dq : ∀ (a : Fin 4) (r : Fin 256) (e : Fin 64), o.dq (ix2 r (col a e)) = (headAt m hO c t a).dq (256 * (t.val % 64) + r.val) e
  k : ∀ (a : Fin 4) (s : Fin 16384) (e : Fin 64), o.k (ix2 s (col a e)) = (headAt m hO c t a).k s.val e
  v : ∀ (a : Fin 4) (s : Fin 16384) (e : Fin 64), o.v (ix2 s (col a e)) = (headAt m hO c t a).v s.val e
  dk : ∀ (a : Fin 4) (s : Fin 16384) (e : Fin 64), o.dk (ix2 s (col a e)) = ∑ i ∈ Finset.range (t.val % 64 + 1), (headAt m hO c t a).dkTile i s.val e
  dv : ∀ (a : Fin 4) (s : Fin 16384) (e : Fin 64), o.dv (ix2 s (col a e)) = ∑ i ∈ Finset.range (t.val % 64 + 1), (headAt m hO c t a).dvTile i s.val e

theorem nothing_at (y : S16384x256.Idx) : (nothing : FVec Ideal S16384x256 .f32) y = 0 := Ideal.ofBits_zero_f32

/-- A point adds its terms to those of the points of its group before it. -/
theorem gathered_step (o : Out Ideal c) (K W : FVec Ideal S16384x256 .bf16) (DK DV : FVec Ideal S16384x256 .f32)
    (h : (o.dq = (pointAt m hO c t K W DK DV).dq ∧ o.dk = (pointAt m hO c t K W DK DV).dk ∧ o.dv = (pointAt m hO c t K W DK DV).dv) ∧ o.k = K ∧ o.v = W)
    (hK : ∀ (a : Fin 4) (s : Fin 16384) (e : Fin 64), K (ix2 s (col a e)) = (headAt m hO c t a).k s.val e)
    (hW : ∀ (a : Fin 4) (s : Fin 16384) (e : Fin 64), W (ix2 s (col a e)) = (headAt m hO c t a).v s.val e)
    (hDK : ∀ (a : Fin 4) (s : Fin 16384) (e : Fin 64), DK (ix2 s (col a e)) = ∑ i ∈ Finset.range (t.val % 64), (headAt m hO c t a).dkTile i s.val e)
    (hDV : ∀ (a : Fin 4) (s : Fin 16384) (e : Fin 64), DV (ix2 s (col a e)) = ∑ i ∈ Finset.range (t.val % 64), (headAt m hO c t a).dvTile i s.val e) :
    Gathered m hO c t o := by
  have L := loop_is m hO c t K W hK hW
  have hi : t.val % 64 < 64 := Nat.mod_lt _ (by omega)
  obtain ⟨⟨h1, h2, h3⟩, h4, h5⟩ := h
  refine ⟨fun a r e => ?_, fun a s e => by rw [h4]; exact hK a s e, fun a s e => by rw [h5]; exact hW a s e, fun a s e => ?_, fun a s e => ?_⟩
  · rw [h1]; exact L.out_dq hi DK DV a r e
  · rw [h2, Finset.sum_range_succ, ← hDK a s e]; exact L.out_dk hi DK DV a s e
  · rw [h3, Finset.sum_range_succ, ← hDV a s e]; exact L.out_dv hi DK DV a s e

theorem gathered_first (h0 : t.val % 64 = 0) : Gathered m hO c t (leaves m hO hH c (t.val + 1)) := by
  rw [leaves_succ]
  obtain ⟨h1, h2, h3, -⟩ := next_first m hO hH c t h0 (leaves m hO hH c t.val)
  refine gathered_step m hO c t _ _ _ _ _ ⟨h1, h2, h3⟩ (keysAt_at m hO c t h0) (valuesAt_at m hO c t h0) (fun a s e => ?_) (fun a s e => ?_)
  · rw [h0, Finset.range_zero, Finset.sum_empty]; exact nothing_at _
  · rw [h0, Finset.range_zero, Finset.sum_empty]; exact nothing_at _

theorem gathered_later (h0 : ¬t.val % 64 = 0) (u : Fin (cfgM m hO).N) (hu : u.val + 1 = t.val) (ih : Gathered m hO c u (leaves m hO hH c (u.val + 1))) :
    Gathered m hO c t (leaves m hO hH c (t.val + 1)) := by
  have e1 : u.val / 64 = t.val / 64 := by omega
  have e2 : u.val % 64 + 1 = t.val % 64 := by omega
  obtain ⟨-, hk, hv, hdk, hdv⟩ := ih
  unfold headAt at hk hv hdk hdv
  rw [hu] at hk hv hdk hdv
  simp only [e1, e2] at hk hv hdk hdv
  rw [leaves_succ]
  by_cases h1 : t.val % 64 = 63
  · obtain ⟨a, b, d, -⟩ := next_last m hO hH c t h1 (leaves m hO hH c t.val)
    exact gathered_step m hO c t _ _ _ _ _ ⟨a, b, d⟩ hk hv hdk hdv
  · obtain ⟨a, b, d, -⟩ := next_middle m hO hH c t h0 h1 (leaves m hO hH c t.val)
    exact gathered_step m hO c t _ _ _ _ _ ⟨a, b, d⟩ hk hv hdk hdv

theorem gathered : Gathered m hO c t (leaves m hO hH c (t.val + 1)) := by
  obtain ⟨n, hn⟩ := t
  induction n with
  | zero => exact gathered_first m hO hH c ⟨0, hn⟩ rfl
  | succ n ih =>
    by_cases h0 : (n + 1) % 64 = 0
    · exact gathered_first m hO hH c ⟨n + 1, hn⟩ h0
    · exact gathered_later m hO hH c ⟨n + 1, hn⟩ h0 ⟨n, by omega⟩ rfl (ih (by omega))

end AttnBwd

end
-- ==== Proof.Value.Final.lean ====
module

public import proofs.«01_k».proof.Proof.Value.Leaves
public import proofs.«01_k».proof.Proof.Frames

@[expose] public section

set_option maxRecDepth 16384

noncomputable section

/-! The call's two results: dq out of its blocks, and the gradients of the keys and of the values out of the columns
    that the last point of a group writes. -/

namespace AttnBwd

open Cert.KernelIdeal Cert.KernelIdeal.Gen
open Idealize.ShloMosaic hiding ix0 ix1 ix2 ix3 ix4 ix5
open Idealize.ShloMosaic.TcCoe
open Idealize.ShloMosaic.ValueIdx
open Idealize.ShloMosaic.Pipeline (Dat)

section Through

variable {sp : Space} {S : Shape} (v : View sig .tc sp S .f32) (f : v.ty.Contents (Elt Ideal)) (w : S.Idx → Elt Ideal .f32)

theorem write_hit (x : S.Idx) (i : v.ty.Idx) (h : v.emb x = i) :
    v.write (Elt Ideal) f w Finset.univ i = _root_.cast (congrArg (Elt Ideal) v.elt_eq.symm) (w x) := by
  rw [← h]
  exact View.write_emb_of_mem f w (Finset.mem_univ _)

theorem write_miss (i : v.ty.Idx) (h : ∀ x, v.emb x ≠ i) : v.write (Elt Ideal) f w Finset.univ i = f i :=
  View.write_of_not_mem f w Finset.univ fun hm => by
    obtain ⟨x, -, hx⟩ := Finset.mem_map.mp hm
    exact h x hx

end Through

/-- 256 columns of the array of the keys' and the values' gradients. -/
abbrev columns (off : Fin 2 → ℕ) (inb : ∀ a, off a + S16384x256.size a ≤ S16384x1024.size a) :=
  ((Memref.whole main_v32_1).slice (Rect.unit (s := S16384x1024) off S16384x256.size inb) (fun _ => rfl)).view

section Columns

variable (off : Fin 2 → ℕ) (inb : ∀ a, off a + S16384x256.size a ≤ S16384x1024.size a) (o : ℕ) (h0 : off 0 = 0) (h1 : off 1 = o)
  (f : Vec Ideal S16384x1024 .f32) (w : Vec Ideal S16384x256 .f32) (s : Fin 16384) (n : Fin 1024)

include h0 h1

theorem columns_place (y : Fin 256) (h : n.val = o + y.val) :
    (columns off inb).emb (ix2 s y) = ix2 s n := by
  funext x
  apply Fin.ext
  match x with
  | 0 =>
    show off 0 + 1 * s.val = s.val
    omega
  | 1 =>
    show off 1 + 1 * y.val = n.val
    omega

theorem columns_hit (y : Fin 256) (h : n.val = o + y.val) :
    (columns off inb).write (Elt Ideal) f w Finset.univ (ix2 s n) = w (ix2 s y) := by
  exact write_hit (columns off inb) f w (ix2 s y) (ix2 s n) (columns_place off inb o h0 h1 s n y h)

theorem columns_miss (h : n.val < o ∨ o + 256 ≤ n.val) :
    (columns off inb).write (Elt Ideal) f w Finset.univ (ix2 s n) = f (ix2 s n) := by
  refine write_miss (columns off inb) f w (ix2 s n) fun x hx => ?_
  have e : off 1 + 1 * (x 1).val = n.val := congrArg (fun z : S16384x1024.Idx => (z 1).val) hx
  have := idx2_lt1 x
  omega

end Columns

variable (m : (ℓ : Loc nD τ sig) → Buf (Elt Ideal) ℓ) (hO : Ok m) (hH : Hyps m hO) (c : Dev nD)

/-- The groups that have ended by point `n` have their columns. -/
def Written (n : ℕ) (f : Vec Ideal S16384x1024 .f32) : Prop :=
  ∀ (g : Fin 2) (a : Fin 4) (s : Fin 16384) (e : Fin 64), 64 * (g.val + 1) ≤ n →
    f (ix2 s (⟨256 * g.val + (64 * a.val + e.val), by omega⟩ : Fin 1024)) = (head m c (4 * g.val + a.val)).dk s.val e
    ∧ f (ix2 s (⟨512 + 256 * g.val + (64 * a.val + e.val), by omega⟩ : Fin 1024)) = (head m c (4 * g.val + a.val)).dv s.val e

theorem written_step (t : Fin (cfgM m hO).N) (ih : Written m c t.val (leaves m hO hH c t.val).dkv) : Written m c (t.val + 1) (leaves m hO hH c (t.val + 1)).dkv := by
  intro g a s e hg
  have ht := point_lt m hO t
  by_cases h1 : t.val % 64 = 63
  · have G := gathered m hO hH c t
    rw [leaves_succ] at G ⊢
    obtain ⟨-, -, -, hd⟩ := next_last m hO hH c t h1 (leaves m hO hH c t.val)
    rw [hd]
    have k0 : k0_off7 (grid0.coords t) 0 = 0 := by rw [off7_eq t]; rfl
    have k1 : k0_off7 (grid0.coords t) 1 = 256 * (t.val / 64) := by rw [off7_eq t]; rfl
    have v0 : k0_off8 (grid0.coords t) 0 = 0 := by rw [off8_eq t]; rfl
    have v1 : k0_off8 (grid0.coords t) 1 = 512 + 256 * (t.val / 64) := by rw [off8_eq t]; rfl
    unfold valueColumns keyColumns
    by_cases hgt : g.val = t.val / 64
    · constructor
      · rw [columns_miss _ _ _ v0 v1 _ _ _ _ (Or.inl (by show 256 * g.val + (64 * a.val + e.val) < _; omega)),
          columns_hit _ _ _ k0 k1 _ _ _ _ (col a e) (by show 256 * g.val + (64 * a.val + e.val) = 256 * (t.val / 64) + (64 * a.val + e.val); omega), G.dk a s e, Attn.dk_eq, h1, hgt]
      · rw [columns_hit _ _ _ v0 v1 _ _ _ _ (col a e) (by show 512 + 256 * g.val + (64 * a.val + e.val) = 512 + 256 * (t.val / 64) + (64 * a.val + e.val); omega), G.dv a s e, Attn.dv_eq, h1, hgt]
    · have := ih g a s e (by omega)
      constructor
      · rw [columns_miss _ _ _ v0 v1 _ _ _ _ (Or.inl (by show 256 * g.val + (64 * a.val + e.val) < _; omega)),
          columns_miss _ _ _ k0 k1 _ _ _ _ (by show 256 * g.val + (64 * a.val + e.val) < _ ∨ _ ≤ 256 * g.val + (64 * a.val + e.val); omega)]
        exact this.1
      · rw [columns_miss _ _ _ v0 v1 _ _ _ _ (by show 512 + 256 * g.val + (64 * a.val + e.val) < _ ∨ _ ≤ 512 + 256 * g.val + (64 * a.val + e.val); omega),
          columns_miss _ _ _ k0 k1 _ _ _ _ (by show 512 + 256 * g.val + (64 * a.val + e.val) < _ ∨ _ ≤ 512 + 256 * g.val + (64 * a.val + e.val); omega)]
        exact this.2
  · have hd : (leaves m hO hH c (t.val + 1)).dkv = (leaves m hO hH c t.val).dkv := by
      rw [leaves_succ]
      by_cases h0 : t.val % 64 = 0
      · exact (next_first m hO hH c t h0 _).2.2.2
      · exact (next_middle m hO hH c t h0 h1 _).2.2.2
    rw [hd]
    exact ih g a s e (by omega)

theorem written (n : ℕ) (hn : n ≤ (cfgM m hO).N) : Written m c n (leaves m hO hH c n).dkv := by
  induction n with
  | zero => intro g a s e h; omega
  | succ n ih => exact written_step m hO hH c ⟨n, hn⟩ (ih (by omega))

/-- The gradients of the keys and of the values. -/
theorem final_kv : Written m c 128 (finals m hO hH c main_v32_1) := by
  unfold finals
  rw [Function.update_self]
  exact written m hO hH c 128 (le_of_eq N_0.symm)

theorem place_dq (t : Fin (cfgM m hO).N) (r k : Fin 256) : (((cfgM m hO).win 5).blk t).view.emb (ix2 r k)
    = (ix2 (⟨256 * (t.val % 64) + r.val, by omega⟩ : Fin 16384) (⟨256 * (t.val / 64) + k.val, by have := point_lt m hO t; omega⟩ : Fin 512) : S16384x512.Idx) := by
  have h := point_lt m hO t
  blk_ext [index_5 m hO t]
  · show t.val % 64 * 256 + r.val = _
    omega
  · show t.val / 64 * 256 + k.val = _
    omega

theorem points : (cfgM m hO).N = 128 := N_0

section Queries

/-- The gradient of the queries, head by head. -/
def QueriesAre (G : Vec Ideal S16384x512 .bf16) : Prop :=
  ∀ (p : Fin 2) (a : Fin 4) (s : Fin 16384) (e : Fin 64),
    G (ix2 s (⟨256 * p.val + (64 * a.val + e.val), by omega⟩ : Fin 512)) = (head m c (4 * p.val + a.val)).dq s.val e

variable (G : Vec Ideal S16384x512 .bf16) (hG : QueriesAre m c G)

include hG in
theorem block_is (t : Fin (cfgM m hO).N) (y : S256x256.Idx) : (leaves m hO hH c (t.val + 1)).dq y = G ((((cfgM m hO).win 5).blk t).view.emb y) := by
  have ht := point_lt m hO t
  obtain ⟨r, k, rfl⟩ : ∃ r k, y = ix2 r k := ⟨_, _, ValueIdx.eq_ix2 y⟩
  rw [eq_col k]
  generalize (⟨k.val / 64, by omega⟩ : Fin 4) = a
  generalize (⟨k.val % 64, by omega⟩ : Fin 64) = e
  refine Eq.trans ?_ (congrArg G (place_dq m hO t r (col a e))).symm
  refine ((gathered m hO hH c t).dq a r e).trans ?_
  exact (hG (⟨t.val / 64, by omega⟩ : Fin 2) a (⟨256 * (t.val % 64) + r.val, by omega⟩ : Fin 16384) e).symm

theorem block_of (i : S16384x512.Idx) : ∃ t : Fin (cfgM m hO).N, ((cfgM m hO).win 5).flush t = true ∧ i ∈ (((cfgM m hO).win 5).blk t).view.set := by
  obtain ⟨s, n, rfl⟩ : ∃ s n, i = ix2 s n := ⟨_, _, ValueIdx.eq_ix2 i⟩
  have ht : 64 * (n.val / 256) + s.val / 256 < (cfgM m hO).N := by rw [points]; omega
  refine ⟨⟨64 * (n.val / 256) + s.val / 256, ht⟩, flush0_5 _ _, ?_⟩
  refine Finset.mem_map.mpr ⟨ix2 (⟨s.val % 256, by omega⟩ : Fin 256) (⟨n.val % 256, by omega⟩ : Fin 256), Finset.mem_univ _, ?_⟩
  refine (place_dq m hO ⟨64 * (n.val / 256) + s.val / 256, ht⟩ _ _).trans ?_
  refine congrArg₂ (fun (x : Fin 16384) (y : Fin 512) => (ix2 x y : S16384x512.Idx)) (Fin.ext ?_) (Fin.ext ?_)
  · show 256 * ((64 * (n.val / 256) + s.val / 256) % 64) + s.val % 256 = s.val
    omega
  · show 256 * ((64 * (n.val / 256) + s.val / 256) / 64) + n.val % 256 = n.val
    omega

include hG in
/-- The gradient of the queries. -/
theorem final_q : (dats m hO hH 0 c).arrAt 5 (cfgM m hO).N = G := by
  refine (dats m hO hH 0 c).arrAt_eq_of_cover 5 G (fun t hf => ?_) (fun i => block_of m hO i)
  funext y
  blk_simp
  rw [after_5]
  exact block_is m hO hH c G hG t y

end Queries

end AttnBwd

end
-- ==== Proof.Value.Claim.lean ====
module

public import proofs.«01_k».proof.Defs
public import proofs.«01_k».proof.Proof.Gen.ReferenceIdeal.Run
public import proofs.«01_k».proof.Proof.Value.Final
public import proofs.«01_k».proof.Proof.Value.Reference

@[expose] public section

set_option maxRecDepth 16384

noncomputable section

/-! The claim about values: the call's two results are the plain gradient's. -/

namespace AttnBwd

open Idealize.ShloMosaic hiding ix0 ix1 ix2 ix3 ix4 ix5
open Idealize.ShloMosaic.TcCoe
open Idealize.ShloMosaic.ValueIdx
open Idealize.SL.Sem

section Kernel

open Cert.KernelIdeal Cert.KernelIdeal.Gen

variable (m : (ℓ : Loc nD τ sig) → Buf (Elt Ideal) ℓ) (c : Dev nD)

/-- The plain gradient of the queries at the call's arguments. -/
abbrev plainQ : Vec Ideal S16384x512 .bf16 :=
  Stages.outQ (F := Ideal) (m ((c.tc : Thread nD τ).loc main_arg0)) (m ((c.tc : Thread nD τ).loc main_arg1)) (m ((c.tc : Thread nD τ).loc main_arg2))

/-- The plain gradients of the keys and of the values at the call's arguments. -/
abbrev plainKv : Vec Ideal S16384x1024 .f32 :=
  Stages.outKv (F := Ideal) (m ((c.tc : Thread nD τ).loc main_arg0)) (m ((c.tc : Thread nD τ).loc main_arg1)) (m ((c.tc : Thread nD τ).loc main_arg2))

theorem plain_q : QueriesAre m c (plainQ m c) := by
  intro p a s e
  have h := Stages.outQ_at (qg := m ((c.tc : Thread nD τ).loc main_arg0)) (kv := m ((c.tc : Thread nD τ).loc main_arg1)) (m ((c.tc : Thread nD τ).loc main_arg2)) (⟨4 * p.val + a.val, by omega⟩ : Fin 8) s e
  rw [← show (⟨256 * p.val + (64 * a.val + e.val), by omega⟩ : Fin 512) = Stages.wide (⟨4 * p.val + a.val, by omega⟩ : Fin 8) e from
    Fin.ext (by unfold Stages.wide; dsimp only; omega)] at h
  exact h

/-- An array with every group's columns is the plain gradient of the keys and of the values. -/
theorem plain_kv (f : Vec Ideal S16384x1024 .f32) (hf : Written m c 128 f) : f = plainKv m c := by
  funext y
  obtain ⟨s, n, rfl⟩ : ∃ (s : Fin 16384) (n : Fin 1024), y = ix2 s n := ⟨_, _, ValueIdx.eq_ix2 y⟩
  by_cases hn : n.val < 512
  · have h := (hf (⟨n.val / 256, by omega⟩ : Fin 2) (⟨n.val % 256 / 64, by omega⟩ : Fin 4) s (⟨n.val % 64, by omega⟩ : Fin 64) (by show 64 * (n.val / 256 + 1) ≤ 128; omega)).1
    have h' := Stages.outK_at (qg := m ((c.tc : Thread nD τ).loc main_arg0)) (kv := m ((c.tc : Thread nD τ).loc main_arg1)) (m ((c.tc : Thread nD τ).loc main_arg2)) (⟨4 * (n.val / 256) + n.val % 256 / 64, by omega⟩ : Fin 8) s (⟨n.val % 64, by omega⟩ : Fin 64)
    rw [show (⟨256 * (n.val / 256) + (64 * (n.val % 256 / 64) + n.val % 64), by omega⟩ : Fin 1024) = n from Fin.ext (by dsimp only; omega)] at h
    rw [show (⟨64 * (4 * (n.val / 256) + n.val % 256 / 64) + n.val % 64, by omega⟩ : Fin 1024) = n from Fin.ext (by dsimp only; omega)] at h'
    exact h.trans h'.symm
  · have h := (hf (⟨(n.val - 512) / 256, by omega⟩ : Fin 2) (⟨(n.val - 512) % 256 / 64, by omega⟩ : Fin 4) s (⟨n.val % 64, by omega⟩ : Fin 64)
      (by show 64 * ((n.val - 512) / 256 + 1) ≤ 128; omega)).2
    have h' := Stages.outV_at (qg := m ((c.tc : Thread nD τ).loc main_arg0)) (kv := m ((c.tc : Thread nD τ).loc main_arg1)) (m ((c.tc : Thread nD τ).loc main_arg2))
      (⟨4 * ((n.val - 512) / 256) + (n.val - 512) % 256 / 64, by omega⟩ : Fin 8) s (⟨n.val % 64, by omega⟩ : Fin 64)
    rw [show (⟨512 + 256 * ((n.val - 512) / 256) + (64 * ((n.val - 512) % 256 / 64) + n.val % 64), by omega⟩ : Fin 1024) = n from Fin.ext (by dsimp only; omega)] at h
    rw [show (⟨512 + (64 * (4 * ((n.val - 512) / 256) + (n.val - 512) % 256 / 64) + n.val % 64), by omega⟩ : Fin 1024) = n from Fin.ext (by dsimp only; omega)] at h'
    exact h.trans h'.symm

/-- The run, read at the two results and the arguments. -/
theorem values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32_0) = plainQ m c
      ∧ r.2.mem ((c.tc : Thread nD τ).loc main_v32_1) = plainKv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1.1 c).1 5).trans (final_q m (ok m) (hyps m (ok m)) c (plainQ m c) (plain_q m c)),
      (h.1.2 c main_v32_1 (Finset.mem_singleton_self _)).trans (plain_kv m c _ (final_kv m (ok m) (hyps m (ok m)) c)),
      args_kept m h.1 c⟩) (run m ρ)

end Kernel

end AttnBwd

open Idealize.ShloMosaic Idealize.SL.Sem AttnBwd

/-- The call and the plain gradient agree. -/
theorem values_agree : @Cert.algebraic_KernelIdeal_ReferenceIdeal Cert.KernelIdeal.Gen.facts Cert.ReferenceIdeal.Gen.facts :=
  fun m ρ m' ρ' _ ha => ⟨plainQ m, plainKv m, values m ρ,
    (θ_run Cert.ReferenceIdeal.defs _ _).mono (fun r h c => by
      obtain ⟨a0, a1, a2⟩ := ha c
      refine ⟨(h c).1.trans ((Stages.out_q m' c).trans ?_), (h c).2.1.trans ((Stages.out_kv m' c).trans ?_), (h c).2.2⟩
      · rw [a0, a1, a2]
      · rw [a0, a1, a2])
      (Cert.ReferenceIdeal.Value.run (F := Ideal) m' ρ')⟩

end
-- ==== Proof.Calls.Frames.lean ====
module

public import proofs.«01_k».proof.Defs
public import proofs.«01_k».proof.Proof.Gen.Kernel2.Launch
public import proofs.«01_k».proof.Proof.Gen.Kernel2Ideal.Value
public import proofs.«01_k».proof.Proof.Gen.Reference2Ideal.Run
public import proofs.«01_k».proof.Proof.Gen.Kernel3.Launch
public import proofs.«01_k».proof.Proof.Gen.Kernel3Ideal.Value
public import proofs.«01_k».proof.Proof.Gen.Reference3Ideal.Run
public import proofs.«01_k».proof.Proof.Gen.Kernel4.Launch
public import proofs.«01_k».proof.Proof.Gen.Kernel4Ideal.Value
public import proofs.«01_k».proof.Proof.Gen.Reference4Ideal.Run
public import proofs.«01_k».proof.Proof.Gen.Kernel5.Launch
public import proofs.«01_k».proof.Proof.Gen.Kernel5Ideal.Value
public import proofs.«01_k».proof.Proof.Gen.Reference5Ideal.Run
public import proofs.«01_k».proof.Proof.Gen.Kernel6.Launch
public import proofs.«01_k».proof.Proof.Gen.Kernel6Ideal.Value
public import proofs.«01_k».proof.Proof.Gen.Reference6Ideal.Run
public import proofs.«01_k».proof.Proof.Gen.Kernel7.Launch
public import proofs.«01_k».proof.Proof.Gen.Kernel7Ideal.Value
public import proofs.«01_k».proof.Proof.Gen.Reference7Ideal.Run
public import proofs.«01_k».proof.Proof.Gen.Kernel8.Launch
public import proofs.«01_k».proof.Proof.Gen.Kernel8Ideal.Value
public import proofs.«01_k».proof.Proof.Gen.Reference8Ideal.Run
public import proofs.«01_k».proof.Proof.Gen.Kernel9.Launch
public import proofs.«01_k».proof.Proof.Gen.Kernel9Ideal.Value
public import proofs.«01_k».proof.Proof.Gen.Reference9Ideal.Run
public import proofs.«01_k».proof.Proof.Gen.Kernel10.Launch
public import proofs.«01_k».proof.Proof.Gen.Kernel10Ideal.Value
public import proofs.«01_k».proof.Proof.Gen.Reference10Ideal.Run
public import proofs.«01_k».proof.Proof.Gen.Pre_finite_gate
public import proofs.«01_k».proof.Proof.Gen.Kernel11.Launch
public import proofs.«01_k».proof.Proof.Gen.Kernel11Ideal.Value
public import proofs.«01_k».proof.Proof.Gen.Reference11Ideal.Run
public import proofs.«01_k».proof.Proof.Gen.Pre_finite_products
public import proofs.«01_k».proof.Proof.Gen.Kernel12.Launch
public import proofs.«01_k».proof.Proof.Gen.Kernel12Ideal.Value
public import proofs.«01_k».proof.Proof.Gen.Reference12Ideal.Run
public import proofs.«01_k».proof.Proof.Gen.Kernel13.Launch
public import proofs.«01_k».proof.Proof.Gen.Kernel13Ideal.Value
public import proofs.«01_k».proof.Proof.Gen.Reference13Ideal.Run
public import proofs.«01_k».proof.Proof.Gen.Kernel14.Launch
public import proofs.«01_k».proof.Proof.Gen.Kernel14Ideal.Value
public import proofs.«01_k».proof.Proof.Gen.Reference14Ideal.Run
public import proofs.«01_k».proof.Proof.Gen.Pre_finite_mixer
public import Idealize.ShloMosaic.Lib.Quiescent
public import Idealize.ShloMosaic.Lib.Tactic

@[expose] public section

set_option maxRecDepth 16384

noncomputable section

/-! # The programs run, leave their arguments alone and leave every counter at zero

Both copies of a kernel are the same text, so one run over any floats serves both. -/

open Idealize.ShloMosaic Idealize.SL.Sem

namespace Calls

/-! ## Call 2 -/

theorem same_2 : @Cert.quiescent_Kernel2 Cert.Kernel2.Gen.facts
    = type_of% (fun m ρ (_ : True) => Cert.Kernel2Ideal.Gen.frame (F := Bits) m ρ) := by
  sl_kernel_rfl

theorem frame_kernel_2 : @Cert.quiescent_Kernel2 Cert.Kernel2.Gen.facts := by
  rw [same_2]
  exact fun m ρ _ => Cert.Kernel2Ideal.Gen.frame (F := Bits) m ρ

theorem frame_kernel_ideal_2 : @Cert.quiescent_Kernel2Ideal Cert.Kernel2Ideal.Gen.facts := fun m ρ _ => Cert.Kernel2Ideal.Gen.frame (F := Ideal) m ρ

theorem frame_reference_2 : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

/-! ## Call 3 -/

theorem same_3 : @Cert.quiescent_Kernel3 Cert.Kernel3.Gen.facts
    = type_of% (fun m ρ (_ : True) => Cert.Kernel3Ideal.Gen.frame (F := Bits) m ρ) := by
  sl_kernel_rfl

theorem frame_kernel_3 : @Cert.quiescent_Kernel3 Cert.Kernel3.Gen.facts := by
  rw [same_3]
  exact fun m ρ _ => Cert.Kernel3Ideal.Gen.frame (F := Bits) m ρ

theorem frame_kernel_ideal_3 : @Cert.quiescent_Kernel3Ideal Cert.Kernel3Ideal.Gen.facts := fun m ρ _ => Cert.Kernel3Ideal.Gen.frame (F := Ideal) m ρ

theorem frame_reference_3 : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run (F := Ideal) m ρ)

/-! ## Call 4 -/

theorem same_4 : @Cert.quiescent_Kernel4 Cert.Kernel4.Gen.facts
    = type_of% (fun m ρ (_ : True) => Cert.Kernel4Ideal.Gen.frame (F := Bits) m ρ) := by
  sl_kernel_rfl

theorem frame_kernel_4 : @Cert.quiescent_Kernel4 Cert.Kernel4.Gen.facts := by
  rw [same_4]
  exact fun m ρ _ => Cert.Kernel4Ideal.Gen.frame (F := Bits) m ρ

theorem frame_kernel_ideal_4 : @Cert.quiescent_Kernel4Ideal Cert.Kernel4Ideal.Gen.facts := fun m ρ _ => Cert.Kernel4Ideal.Gen.frame (F := Ideal) m ρ

theorem frame_reference_4 : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run (F := Ideal) m ρ)

/-! ## Call 5 -/

theorem same_5 : @Cert.quiescent_Kernel5 Cert.Kernel5.Gen.facts
    = type_of% (fun m ρ (_ : True) => Cert.Kernel5Ideal.Gen.frame (F := Bits) m ρ) := by
  sl_kernel_rfl

theorem frame_kernel_5 : @Cert.quiescent_Kernel5 Cert.Kernel5.Gen.facts := by
  rw [same_5]
  exact fun m ρ _ => Cert.Kernel5Ideal.Gen.frame (F := Bits) m ρ

theorem frame_kernel_ideal_5 : @Cert.quiescent_Kernel5Ideal Cert.Kernel5Ideal.Gen.facts := fun m ρ _ => Cert.Kernel5Ideal.Gen.frame (F := Ideal) m ρ

theorem frame_reference_5 : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run (F := Ideal) m ρ)

/-! ## Call 6 -/

theorem same_6 : @Cert.quiescent_Kernel6 Cert.Kernel6.Gen.facts
    = type_of% (fun m ρ (_ : True) => Cert.Kernel6Ideal.Gen.frame (F := Bits) m ρ) := by
  sl_kernel_rfl

theorem frame_kernel_6 : @Cert.quiescent_Kernel6 Cert.Kernel6.Gen.facts := by
  rw [same_6]
  exact fun m ρ _ => Cert.Kernel6Ideal.Gen.frame (F := Bits) m ρ

theorem frame_kernel_ideal_6 : @Cert.quiescent_Kernel6Ideal Cert.Kernel6Ideal.Gen.facts := fun m ρ _ => Cert.Kernel6Ideal.Gen.frame (F := Ideal) m ρ

theorem frame_reference_6 : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run (F := Ideal) m ρ)

/-! ## Call 7 -/

theorem same_7 : @Cert.quiescent_Kernel7 Cert.Kernel7.Gen.facts
    = type_of% (fun m ρ (_ : True) => Cert.Kernel7Ideal.Gen.frame (F := Bits) m ρ) := by
  sl_kernel_rfl

theorem frame_kernel_7 : @Cert.quiescent_Kernel7 Cert.Kernel7.Gen.facts := by
  rw [same_7]
  exact fun m ρ _ => Cert.Kernel7Ideal.Gen.frame (F := Bits) m ρ

theorem frame_kernel_ideal_7 : @Cert.quiescent_Kernel7Ideal Cert.Kernel7Ideal.Gen.facts := fun m ρ _ => Cert.Kernel7Ideal.Gen.frame (F := Ideal) m ρ

theorem frame_reference_7 : @Cert.quiescent_Reference7Ideal Cert.Reference7Ideal.Gen.facts := fun m ρ _ =>
  (θ_run Cert.Reference7Ideal.defs _ _).mono (fun r h => ⟨fun c => (h c).2, sem_eq_zero_of_no_sems (by decide) r.2⟩)
    (Cert.Reference7Ideal.Value.run (F := Ideal) m ρ)

/-! ## Call 8 -/

theorem same_8 : @Cert.quiescent_Kernel8 Cert.Kernel8.Gen.facts
    = type_of% (fun m ρ (_ : True) => Cert.Kernel8Ideal.Gen.frame (F := Bits) m ρ) := by
  sl_kernel_rfl

theorem frame_kernel_8 : @Cert.quiescent_Kernel8 Cert.Kernel8.Gen.facts := by
  rw [same_8]
  exact fun m ρ _ => Cert.Kernel8Ideal.Gen.frame (F := Bits) m ρ

theorem frame_kernel_ideal_8 : @Cert.quiescent_Kernel8Ideal Cert.Kernel8Ideal.Gen.facts := fun m ρ _ => Cert.Kernel8Ideal.Gen.frame (F := Ideal) m ρ

theorem frame_reference_8 : @Cert.quiescent_Reference8Ideal Cert.Reference8Ideal.Gen.facts := fun m ρ _ =>
  (θ_run Cert.Reference8Ideal.defs _ _).mono (fun r h => ⟨fun c => (h c).2.2, sem_eq_zero_of_no_sems (by decide) r.2⟩)
    (Cert.Reference8Ideal.Value.run (F := Ideal) m ρ)

/-! ## Call 9 -/

theorem same_9 : @Cert.quiescent_Kernel9 Cert.Kernel9.Gen.facts
    = type_of% (fun m ρ (_ : True) => Cert.Kernel9Ideal.Gen.frame (F := Bits) m ρ) := by
  sl_kernel_rfl

theorem frame_kernel_9 : @Cert.quiescent_Kernel9 Cert.Kernel9.Gen.facts := by
  rw [same_9]
  exact fun m ρ _ => Cert.Kernel9Ideal.Gen.frame (F := Bits) m ρ

theorem frame_kernel_ideal_9 : @Cert.quiescent_Kernel9Ideal Cert.Kernel9Ideal.Gen.facts := fun m ρ _ => Cert.Kernel9Ideal.Gen.frame (F := Ideal) m ρ

theorem frame_reference_9 : @Cert.quiescent_Reference9Ideal Cert.Reference9Ideal.Gen.facts := fun m ρ _ =>
  (θ_run Cert.Reference9Ideal.defs _ _).mono (fun r h => ⟨fun c => (h c).2, sem_eq_zero_of_no_sems (by decide) r.2⟩)
    (Cert.Reference9Ideal.Value.run (F := Ideal) m ρ)

/-! ## Call 10 -/

theorem same_10 : @Cert.quiescent_Kernel10 Cert.Kernel10.Gen.facts
    = type_of% (fun m ρ (_ : True) => Cert.Kernel10Ideal.Gen.frame (F := Bits) m ρ) := by
  sl_kernel_rfl

theorem frame_kernel_10 : @Cert.quiescent_Kernel10 Cert.Kernel10.Gen.facts := by
  rw [same_10]
  exact fun m ρ _ => Cert.Kernel10Ideal.Gen.frame (F := Bits) m ρ

theorem frame_kernel_ideal_10 : @Cert.quiescent_Kernel10Ideal Cert.Kernel10Ideal.Gen.facts := fun m ρ _ => Cert.Kernel10Ideal.Gen.frame (F := Ideal) m ρ

theorem frame_reference_10 : @Cert.quiescent_Reference10Ideal Cert.Reference10Ideal.Gen.facts := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem frame_kernel_ideal_pre_10 : @Cert.quiescent_Kernel10Ideal_pre_finite_gate Cert.Kernel10Ideal.Gen.facts Cert.Pre_finite_gate.Gen.facts := fun m ρ _ => Cert.Kernel10Ideal.Gen.frame (F := Ideal) m ρ

theorem frame_reference_pre_10 : @Cert.quiescent_Reference10Ideal_pre_finite_gate Cert.Reference10Ideal.Gen.facts Cert.Pre_finite_gate.Gen.facts := fun m ρ _ => frame_reference_10 m ρ trivial

/-! ## Call 11 -/

theorem same_11 : @Cert.quiescent_Kernel11 Cert.Kernel11.Gen.facts
    = type_of% (fun m ρ (_ : True) => Cert.Kernel11Ideal.Gen.frame (F := Bits) m ρ) := by
  sl_kernel_rfl

theorem frame_kernel_11 : @Cert.quiescent_Kernel11 Cert.Kernel11.Gen.facts := by
  rw [same_11]
  exact fun m ρ _ => Cert.Kernel11Ideal.Gen.frame (F := Bits) m ρ

theorem frame_kernel_ideal_11 : @Cert.quiescent_Kernel11Ideal Cert.Kernel11Ideal.Gen.facts := fun m ρ _ => Cert.Kernel11Ideal.Gen.frame (F := Ideal) m ρ

theorem frame_reference_11 : @Cert.quiescent_Reference11Ideal Cert.Reference11Ideal.Gen.facts := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem frame_kernel_ideal_pre_11 : @Cert.quiescent_Kernel11Ideal_pre_finite_products Cert.Kernel11Ideal.Gen.facts Cert.Pre_finite_products.Gen.facts := fun m ρ _ => Cert.Kernel11Ideal.Gen.frame (F := Ideal) m ρ

theorem frame_reference_pre_11 : @Cert.quiescent_Reference11Ideal_pre_finite_products Cert.Reference11Ideal.Gen.facts Cert.Pre_finite_products.Gen.facts := fun m ρ _ => frame_reference_11 m ρ trivial

/-! ## Call 12 -/

theorem same_12 : @Cert.quiescent_Kernel12 Cert.Kernel12.Gen.facts
    = type_of% (fun m ρ (_ : True) => Cert.Kernel12Ideal.Gen.frame (F := Bits) m ρ) := by
  sl_kernel_rfl

theorem frame_kernel_12 : @Cert.quiescent_Kernel12 Cert.Kernel12.Gen.facts := by
  rw [same_12]
  exact fun m ρ _ => Cert.Kernel12Ideal.Gen.frame (F := Bits) m ρ

theorem frame_kernel_ideal_12 : @Cert.quiescent_Kernel12Ideal Cert.Kernel12Ideal.Gen.facts := fun m ρ _ => Cert.Kernel12Ideal.Gen.frame (F := Ideal) m ρ

theorem frame_reference_12 : @Cert.quiescent_Reference12Ideal Cert.Reference12Ideal.Gen.facts := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-! ## Call 13 -/

theorem same_13 : @Cert.quiescent_Kernel13 Cert.Kernel13.Gen.facts
    = type_of% (fun m ρ (_ : True) => Cert.Kernel13Ideal.Gen.frame (F := Bits) m ρ) := by
  sl_kernel_rfl

theorem frame_kernel_13 : @Cert.quiescent_Kernel13 Cert.Kernel13.Gen.facts := by
  rw [same_13]
  exact fun m ρ _ => Cert.Kernel13Ideal.Gen.frame (F := Bits) m ρ

theorem frame_kernel_ideal_13 : @Cert.quiescent_Kernel13Ideal Cert.Kernel13Ideal.Gen.facts := fun m ρ _ => Cert.Kernel13Ideal.Gen.frame (F := Ideal) m ρ

theorem frame_reference_13 : @Cert.quiescent_Reference13Ideal Cert.Reference13Ideal.Gen.facts := fun m ρ _ =>
  (θ_run Cert.Reference13Ideal.defs _ _).mono (fun r h => ⟨fun c => (h c).2, sem_eq_zero_of_no_sems (by decide) r.2⟩)
    (Cert.Reference13Ideal.Value.run (F := Ideal) m ρ)

/-! ## Call 14 -/

theorem same_14 : @Cert.quiescent_Kernel14 Cert.Kernel14.Gen.facts
    = type_of% (fun m ρ (_ : True) => Cert.Kernel14Ideal.Gen.frame (F := Bits) m ρ) := by
  sl_kernel_rfl

theorem frame_kernel_14 : @Cert.quiescent_Kernel14 Cert.Kernel14.Gen.facts := by
  rw [same_14]
  exact fun m ρ _ => Cert.Kernel14Ideal.Gen.frame (F := Bits) m ρ

theorem frame_kernel_ideal_14 : @Cert.quiescent_Kernel14Ideal Cert.Kernel14Ideal.Gen.facts := fun m ρ _ => Cert.Kernel14Ideal.Gen.frame (F := Ideal) m ρ

theorem frame_reference_14 : @Cert.quiescent_Reference14Ideal Cert.Reference14Ideal.Gen.facts := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem frame_kernel_ideal_pre_14 : @Cert.quiescent_Kernel14Ideal_pre_finite_mixer Cert.Kernel14Ideal.Gen.facts Cert.Pre_finite_mixer.Gen.facts := fun m ρ _ => Cert.Kernel14Ideal.Gen.frame (F := Ideal) m ρ

theorem frame_reference_pre_14 : @Cert.quiescent_Reference14Ideal_pre_finite_mixer Cert.Reference14Ideal.Gen.facts Cert.Pre_finite_mixer.Gen.facts := fun m ρ _ => frame_reference_14 m ρ trivial

end Calls

end
-- ==== Proof.Calls.Rows.lean ====
module

public import Idealize.ShloMosaic.Lib.Pointwise
public import Idealize.ShloMosaic.Lib.IdealHost
public import Idealize.ShloMosaic.Lib.Pipeline.ValueKit.Acc

@[expose] public section

noncomputable section

/-! A row divided by the root of its mean square, and scaled by a gain: the normalisation that the projections and
    their gradients share. Written with the operations' own meanings on the extended reals. -/

namespace Calls

open Idealize.ShloMosaic hiding ix0 ix1 ix2 ix3 ix4 ix5

/-- One over the root of a row's mean square, the mean moved up by the small constant of the problem. -/
def scale (row : Fin 1024 → EReal) : EReal :=
  Ideal.rsqrt (Ideal.div (∑ k, row k * row k) (Ideal.ofBits .f32 0x44800000#32) + Ideal.ofBits .f32 0x358637BD#32)

/-- The normalised row, scaled by the gain. -/
def normed (row gain : Fin 1024 → EReal) (d : Fin 1024) : EReal := row d * scale row * gain d

/-- The gradient of a projection's weights at feature `d` and column `n`: over all the positions, the normalised row
    times the column's cotangent. -/
def gradNormed {N : ℕ} (x : (⟨2, ![16384, 1024]⟩ : Shape).Idx → EReal) (g : (⟨2, ![1, 1024]⟩ : Shape).Idx → EReal)
    (b : (⟨2, ![16384, N]⟩ : Shape).Idx → EReal) (d : Fin 1024) (n : Fin N) : EReal :=
  ∑ s : Fin 16384, normed (fun k => x (ValueIdx.ix2 s k)) (fun k => g (ValueIdx.ix2 (0 : Fin 1) k)) d * b (ValueIdx.ix2 s n)

/-- What one row adds to the gradient of weights, when the stream is not normalised first. -/
def rowProduct {S M N : ℕ} (a : (⟨2, ![S, M]⟩ : Shape).Idx → EReal) (b : (⟨2, ![S, N]⟩ : Shape).Idx → EReal) (d : Fin M) (n : Fin N) (s : Fin S) : EReal :=
  a (ValueIdx.ix2 s d) * b (ValueIdx.ix2 s n)

/-- The gradient of the weights of such a projection. -/
def gradPlain {S M N : ℕ} (a : (⟨2, ![S, M]⟩ : Shape).Idx → EReal) (b : (⟨2, ![S, N]⟩ : Shape).Idx → EReal) (d : Fin M) (n : Fin N) : EReal :=
  ∑ s : Fin S, rowProduct a b d n s

/-- A row of `x` against a row of `w`. -/
def againstRow {S K N : ℕ} (x : (⟨2, ![S, K]⟩ : Shape).Idx → EReal) (w : (⟨2, ![N, K]⟩ : Shape).Idx → EReal) (s : Fin S) (n : Fin N) : EReal :=
  ∑ k : Fin K, x (ValueIdx.ix2 s k) * w (ValueIdx.ix2 n k)

/-- An entry of `z` and a row of `x` against a column of `w`. -/
def onto {S K N : ℕ} (z : (⟨2, ![S, N]⟩ : Shape).Idx → EReal) (x : (⟨2, ![S, K]⟩ : Shape).Idx → EReal) (w : (⟨2, ![K, N]⟩ : Shape).Idx → EReal) (s : Fin S) (n : Fin N) : EReal :=
  z (ValueIdx.ix2 s n) + ∑ k : Fin K, x (ValueIdx.ix2 s k) * w (ValueIdx.ix2 k n)

/-- A normalised row of `x` against a column of `w`. -/
def projected {S : ℕ} (x : (⟨2, ![S, 1024]⟩ : Shape).Idx → EReal) (g : (⟨2, ![1, 1024]⟩ : Shape).Idx → EReal) (w : (⟨2, ![1024, 1024]⟩ : Shape).Idx → EReal) (s : Fin S) (n : Fin 1024) : EReal :=
  ∑ k : Fin 1024, normed (fun j => x (ValueIdx.ix2 s j)) (fun j => g (ValueIdx.ix2 0 j)) k * w (ValueIdx.ix2 k n)

/-- Column `n` of the `b`-th 1024 columns. -/
def column (b : Fin 4) (n : Fin 1024) : Fin 4096 := ⟨b.val * 1024 + n.val, by omega⟩

end Calls

end
-- ==== Proof.Calls.GradInA.lean ====
module

public import proofs.«01_k».proof.Defs
public import proofs.«01_k».proof.Proof.Calls.Rows
public import proofs.«01_k».proof.Proof.Gen.Kernel2Ideal.Value
public import proofs.«01_k».proof.Proof.Gen.Reference2Ideal.Run
public import Idealize.ShloMosaic.Lib.Pipeline.ReadBack
public import Idealize.ShloMosaic.Lib.Pipeline.ValueKit

@[expose] public section

set_option maxRecDepth 16384

noncomputable section

/-! The gradient of the weights that project the normalised stream to the mixer, 1024 columns at a time. -/

namespace Calls.GradInA

open Cert.Kernel2Ideal Cert.Kernel2Ideal.Gen
open Idealize.ShloMosaic hiding ix0 ix1 ix2 ix3 ix4 ix5
open Idealize.ShloMosaic.TcCoe
open Idealize.ShloMosaic.ValueIdx
open Idealize.ShloMosaic.Pipeline (Dat)

/-- The body's sum after one more block: what it held, and the products of the block's rows. -/
theorem step_at (x : Vec Ideal S512x1024 .f32) (g : Vec Ideal S1x1024 .f32) (acc : Vec Ideal S1024x2048 .f32) (b : Vec Ideal S512x2048 .bf16) (y : S1024x2048.Idx) :
    k0_pay2 x g acc b y = acc y + ∑ r : Fin 512, normed (fun k => x (ix2 r k)) (fun k => g (ix2 (0 : Fin 1) k)) (y 0) * b (ix2 r (y 1)) := by
  obtain ⟨d, n, rfl⟩ : ∃ (d : Fin 1024) (n : Fin 2048), y = ix2 d n := ⟨_, _, ValueIdx.eq_ix2 y⟩
  unfold k0_pay2
  pointwise
  simp only [ix2_eq_valueIdx]
  rfl

theorem zero_at (y : S1024x2048.Idx) : k0_pay1 (F := Ideal) y = 0 := by
  unfold k0_pay1
  pointwise

variable (m : (ℓ : Loc nD τ sig) → Buf (Elt Ideal) ℓ) (c : Dev nD)

/-- What point `t` adds: the products of its 512 rows. -/
def added (t : Fin cfg0.N) (y : S1024x2048.Idx) : EReal :=
  ∑ r : Fin 512, normed (fun k => iblk m c 0 t (ix2 r k)) (fun k => iblk m c 1 t (ix2 (0 : Fin 1) k)) (y 0) * iblk m c 2 t (ix2 r (y 1))

theorem start (t : Fin cfg0.N) (h0 : t.val % 32 = 0) (y : S1024x2048.Idx) : (outsAt0 m c t.val t.isLt).2 y = 0 + added m c t y := by
  rw [outsAt0_A m c t h0 (by omega)]
  frame_out
  rw [step_at, zero_at]
  rfl

theorem next (t : Fin cfg0.N) (h0 : ¬ t.val % 32 = 0) (y : S1024x2048.Idx) :
    (outsAt0 m c t.val t.isLt).2 y = (outsAt0 m c (t.val - 1) (Nat.lt_of_le_of_lt (Nat.sub_le _ _) t.isLt)).2 y + added m c t y := by
  by_cases h1 : t.val % 32 = 31
  · rw [outsAt0_C m c t h0 h1]
    frame_out
    simp only [read_unread_whole]
    exact step_at ..
  · rw [outsAt0_B m c t h0 h1]
    frame_out
    simp only [read_unread_whole]
    exact step_at ..

/-- After the last of its points, a block's sum is what all of them add. -/
theorem sum_at (t : Fin cfg0.N) (h1 : t.val % 32 = 31) (y : S1024x2048.Idx) :
    (outsAt0 m c t.val t.isLt).2 y = ∑ s : Fin 32, added m c ⟨32 * (t.val / 32) + s.val, Pipeline.run_point_lt_of_flush t h1 s⟩ y := by
  rw [Pipeline.eq_sum_fin_of_reset_step_apply_of_flush (fun n h => (outsAt0 m c n h).2) 32 (fun _ => 0) (added m c)
    (start m c) (next m c) t h1 y, zero_add]

theorem half3_at (z : Vec Ideal S1024x1024 .f32) (b : Fin 1) (d n : Fin 1024) : k0_pay3 z (ix3 b d n) = z (ix2 d n) := by
  unfold k0_pay3
  pointwise
  rfl

theorem half4_at (z : Vec Ideal S1024x1024 .f32) (b : Fin 1) (d n : Fin 1024) : k0_pay4 z (ix3 b d n) = z (ix2 d n) := by
  unfold k0_pay4
  pointwise
  rfl

/-- An array of two blocks of columns, as one row of them. -/
abbrev halves (z : Vec Ideal S1024x2048 .f32) : Vec Ideal S2x1024x1024 .bf16 := fun y =>
  z (ix2 (y 1) (⟨(y 0).val * 1024 + (y 2).val, by have h0 : (y 0).val < 2 := (y 0).isLt; have h2 : (y 2).val < 1024 := (y 2).isLt; omega⟩ : Fin 2048))

/-- The two loads of the sum read its two halves. -/
theorem load_left (z : Vec Ideal S1024x2048 .f32) : (View.whole cc0_scratch0).readCov [⟨Rect.unit ![0, 0] S1024x2048.size inb_S1024x2048_S1024x2048_0_0, z⟩]
    (Rect.unit ![0, 0] ![1024, 1024] inb_S1024x2048_S1024x1024_0_0).toLoadRect = fun y => halves z (ix3 (0 : Fin 2) (y 0) (y 1)) := by
  refine (View.readCov_fill (Val := Elt Ideal) _ inb_S1024x2048_S1024x2048_0_0 z [] _ (by decide)).trans (funext fun y => congrArg z (funext fun q => Fin.ext ?_))
  fin_cases q
  · show 0 + 1 * (y 0).val = (y 0).val
    omega
  · show 0 + 1 * (y 1).val = 0 * 1024 + (y 1).val
    omega

theorem load_right (z : Vec Ideal S1024x2048 .f32) : (View.whole cc0_scratch0).readCov [⟨Rect.unit ![0, 0] S1024x2048.size inb_S1024x2048_S1024x2048_0_0, z⟩]
    (Rect.unit ![0, 1024] ![1024, 1024] inb_S1024x2048_S1024x1024_0_1024).toLoadRect = fun y => halves z (ix3 (1 : Fin 2) (y 0) (y 1)) := by
  refine (View.readCov_fill (Val := Elt Ideal) _ inb_S1024x2048_S1024x2048_0_0 z [] _ (by decide)).trans (funext fun y => congrArg z (funext fun q => Fin.ext ?_))
  fin_cases q
  · show 0 + 1 * (y 0).val = (y 0).val
    omega
  · show 1024 + 1 * (y 1).val = 1 * 1024 + (y 1).val
    omega

/-- The two stores write the two halves. -/
theorem stored_left (z : Vec Ideal S1024x2048 .f32) (x : S1x1024x1024.Idx) : k0_pay3 (F := Ideal) (fun y => halves z (ix3 (0 : Fin 2) (y 0) (y 1))) x
    = halves z ((Rect.unit (s := S2x1024x1024) ![0, 0, 0] ![1, 1024, 1024] inb_S2x1024x1024_S1x1024x1024_0_0_0).emb x) := by
  obtain ⟨a, d, n, rfl⟩ : ∃ (a : Fin 1) (d n : Fin 1024), x = ix3 a d n := ⟨_, _, _, ValueIdx.eq_ix3 x⟩
  refine (half3_at _ a d n).trans (congrArg (halves z) (funext fun q => Fin.ext ?_))
  fin_cases q
  · show 0 = 0 + 1 * a.val
    omega
  · show d.val = 0 + 1 * d.val
    omega
  · show n.val = 0 + 1 * n.val
    omega

theorem stored_right (z : Vec Ideal S1024x2048 .f32) (x : S1x1024x1024.Idx) : k0_pay4 (F := Ideal) (fun y => halves z (ix3 (1 : Fin 2) (y 0) (y 1))) x
    = halves z ((Rect.unit (s := S2x1024x1024) ![1, 0, 0] ![1, 1024, 1024] inb_S2x1024x1024_S1x1024x1024_1_0_0).emb x) := by
  obtain ⟨a, d, n, rfl⟩ : ∃ (a : Fin 1) (d n : Fin 1024), x = ix3 a d n := ⟨_, _, _, ValueIdx.eq_ix3 x⟩
  refine (half4_at _ a d n).trans (congrArg (halves z) (funext fun q => Fin.ext ?_))
  fin_cases q
  · show 1 = 1 + 1 * a.val
    omega
  · show d.val = 0 + 1 * d.val
    omega
  · show n.val = 0 + 1 * n.val
    omega

/-- The last point writes the sum back, its columns in two halves. -/
theorem last (t : Fin cfg0.N) (h1 : t.val % 32 = 31) (y : S2x1024x1024.Idx) : (outsAt0 m c t.val t.isLt).1 y = halves (outsAt0 m c t.val t.isLt).2 y := by
  rw [outsAt0_C m c t (by omega) h1]
  frame_out
  generalize k0_pay2 (F := Ideal) _ _ _ _ = z
  rw [load_left z, load_right z]
  refine View.canon_apply_of_pieces (halves z) _ ?_ y ?_
  · exact View.PiecesOf.mem ⟨stored_right z, stored_left z, trivial⟩
  · exact View.cover_of_tiledL (s := S2x1024x1024) _ S1x1024x1024.size (by sl_kernel_rfl) _

theorem place : ∀ t : Fin grid0.N, win0_0.index t = ![t.val % 32, 0] ∧ win0_1.index t = ![0, 0] ∧ win0_2.index t = ![t.val % 32, t.val / 32] ∧ win0_3.index t = ![t.val / 32, 0, 0] := by decide +kernel

theorem col_lt (t : Fin cfg0.N) (n : Fin 2048) : t.val / 32 * 2048 + n.val < 4096 := by
  have hN : cfg0.N = 64 := N_0
  omega

theorem half_lt (t : Fin cfg0.N) (b : Fin 2) : t.val / 32 * 2 + b.val < 4 := by
  have hN : cfg0.N = 64 := N_0
  omega

theorem rows_at (t : Fin cfg0.N) (f : Vec Ideal S16384x1024 .f32) (r : Fin 512) (k : Fin 1024) : ((cfg0.win 0).blk t).view.read (Elt Ideal) f (ix2 r k)
    = f (ix2 (⟨t.val % 32 * 512 + r.val, by omega⟩ : Fin 16384) k) := by
  blk_ext [show (cfg0.win 0).index t = _ from (place t).1]

theorem gain_at (t : Fin cfg0.N) (f : Vec Ideal S1x1024 .f32) (r : Fin 1) (k : Fin 1024) : ((cfg0.win 1).blk t).view.read (Elt Ideal) f (ix2 r k) = f (ix2 r k) := by
  blk_ext [show (cfg0.win 1).index t = _ from (place t).2.1]

theorem cots_at (t : Fin cfg0.N) (f : Vec Ideal S16384x4096 .bf16) (r : Fin 512) (k : Fin 2048) : ((cfg0.win 2).blk t).view.read (Elt Ideal) f (ix2 r k)
    = f (ix2 (⟨t.val % 32 * 512 + r.val, by omega⟩ : Fin 16384) (⟨t.val / 32 * 2048 + k.val, col_lt t k⟩ : Fin 4096)) := by
  blk_ext [show (cfg0.win 2).index t = _ from (place t).2.2.1]

theorem result_place (t : Fin cfg0.N) (b : Fin 2) (r k : Fin 1024) : ((cfg0.win 3).blk t).view.emb (ix3 b r k)
    = (ix3 (⟨t.val / 32 * 2 + b.val, half_lt t b⟩ : Fin 4) r k : S4x1024x1024.Idx) := by
  blk_ext [show (cfg0.win 3).index t = _ from (place t).2.2.2]

/-- The gradient of the weights, 1024 columns at a time. -/
abbrev grad : Vec Ideal S4x1024x1024 .bf16 := fun y =>
  gradNormed (N := 4096) (m ((c.tc : Thread nD τ).loc main_arg0)) (m ((c.tc : Thread nD τ).loc main_arg1)) (m ((c.tc : Thread nD τ).loc main_arg2)) (y 1) (column (y 0) (y 2))

theorem added_at (t : Fin cfg0.N) (d : Fin 1024) (n : Fin 2048) : added m c t (ix2 d n) = ∑ r : Fin 512,
    normed (fun k => m ((c.tc : Thread nD τ).loc main_arg0) (ix2 (⟨t.val % 32 * 512 + r.val, by omega⟩ : Fin 16384) k)) (fun k => m ((c.tc : Thread nD τ).loc main_arg1) (ix2 (0 : Fin 1) k)) d
      * m ((c.tc : Thread nD τ).loc main_arg2) (ix2 (⟨t.val % 32 * 512 + r.val, by omega⟩ : Fin 16384) (⟨t.val / 32 * 2048 + n.val, col_lt t n⟩ : Fin 4096)) := by
  unfold added
  refine Finset.sum_congr rfl fun r _ => ?_
  refine congrArg₂ (· * ·) (congrArg₂ (fun x g => normed x g d) (funext fun k => ?_) (funext fun k => ?_)) ?_
  · exact rows_at t (V m c main_arg0) r k
  · exact gain_at t (V m c main_arg1) 0 k
  · exact cots_at t (V m c main_arg2) r n

/-- The array the call returns. -/
theorem final : (dats m 0 c).arrAt 3 cfg0.N = grad m c := by
  refine (dats m 0 c).arrAt_eq_of_covers 3 _ (by decide +kernel) fun t hf y => ?_
  have hN : t.val < 64 := lt_of_lt_of_eq t.isLt N_0
  have h1 : t.val % 32 = 31 := (flush0_3 t).mp hf
  obtain ⟨b, d, n, rfl⟩ : ∃ (b : Fin 2) (d n : Fin 1024), y = ix3 b d n := ⟨_, _, _, ValueIdx.eq_ix3 y⟩
  rw [result_place]
  blk_simp
  rw [after0_3, last m c t h1]
  refine (sum_at m c t h1 _).trans ?_
  refine (Finset.sum_congr rfl fun s _ => added_at m c _ d _).trans ?_
  refine Fin.sum_mul_add_congr fun s r hl => ?_
  have hs : (⟨(32 * (t.val / 32) + s.val) % 32 * 512 + r.val, by omega⟩ : Fin 16384) = ⟨s.val * 512 + r.val, hl⟩ := Fin.ext (by dsimp only; omega)
  have hn : (⟨(32 * (t.val / 32) + s.val) / 32 * 2048 + (b.val * 1024 + n.val), by omega⟩ : Fin 4096) = column ⟨t.val / 32 * 2 + b.val, half_lt t b⟩ n := Fin.ext (by unfold column; dsimp only; omega)
  dsimp only
  rw [hs, hn]

end Calls.GradInA

open Idealize.ShloMosaic Idealize.SL.Sem

/-- The call returns the gradient of the weights. -/
theorem Calls.GradInA.agree : @Cert.algebraic_Kernel2Ideal_Reference2Ideal Cert.Kernel2Ideal.Gen.facts Cert.Reference2Ideal.Gen.facts :=
  fun m ρ m' ρ' _ ha => ⟨Calls.GradInA.grad m,
    (θ_run Cert.Kernel2Ideal.defs _ _).mono (fun r h c => ⟨(h c).1.trans (Calls.GradInA.final m c), (h c).2⟩) (Cert.Kernel2Ideal.Value.run_blocks (F := Ideal) m ρ),
    (θ_run Cert.Reference2Ideal.defs _ _).mono (fun r h c => by
      obtain ⟨a0, a1, a2⟩ := ha c
      refine ⟨(h c).1.trans ?_, (h c).2⟩
      rw [a0, a1, a2]
      funext y
      obtain ⟨b, d, n, rfl⟩ : ∃ (b : Fin 4) (d n : Fin 1024), y = ValueIdx.ix3 b d n := ⟨_, _, _, ValueIdx.eq_ix3 y⟩
      pointwise
      exact Finset.sum_congr rfl fun s _ => mul_comm _ _)
      (Cert.Reference2Ideal.Value.run (F := Ideal) m' ρ')⟩

end
-- ==== Proof.Calls.DMix.lean ====
module

public import proofs.«01_k».proof.Defs
public import proofs.«01_k».proof.Proof.Calls.Rows
public import proofs.«01_k».proof.Proof.Gen.Kernel3Ideal.Value
public import proofs.«01_k».proof.Proof.Gen.Reference3Ideal.Run
public import Idealize.ShloMosaic.Lib.Pipeline.ReadBack
public import Idealize.ShloMosaic.Lib.Pipeline.ValueKit

@[expose] public section

set_option maxRecDepth 16384

noncomputable section

/-! The cotangent of the mixer's result: the cotangent of the stream through the transposed output weights. -/

namespace Calls.DMix

open Cert.Kernel3Ideal Cert.Kernel3Ideal.Gen
open Idealize.ShloMosaic hiding ix0 ix1 ix2 ix3 ix4 ix5
open Idealize.ShloMosaic.TcCoe
open Idealize.ShloMosaic.ValueIdx
open Idealize.ShloMosaic.Pipeline (Dat)

/-- The body's block: the rows of the cotangent against the rows of the weights. -/
theorem block_at (x : Vec Ideal S1024x1024 .f32) (w : Vec Ideal S1024x1024 .bf16) (r d : Fin 1024) :
    k0_pay1 x w (ix2 r d) = ∑ k : Fin 1024, (x (ix2 r k) : EReal) * w (ix2 d k) := by
  unfold k0_pay1
  pointwise
  simp only [ix2_eq_valueIdx]

variable (m : (ℓ : Loc nD τ sig) → Buf (Elt Ideal) ℓ) (c : Dev nD)

theorem place : ∀ t : Fin grid0.N, win0_0.index t = ![t.val, 0] ∧ win0_1.index t = ![0, 0] ∧ win0_2.index t = ![t.val, 0] := by decide +kernel

theorem row_lt (t : Fin cfg0.N) (r : Fin 1024) : t.val * 1024 + r.val < 16384 := by
  have hN : cfg0.N = 16 := N_0
  omega

theorem rows_at (t : Fin cfg0.N) (f : Vec Ideal S16384x1024 .f32) (r k : Fin 1024) : ((cfg0.win 0).blk t).view.read (Elt Ideal) f (ix2 r k)
    = f (ix2 (⟨t.val * 1024 + r.val, row_lt t r⟩ : Fin 16384) k) := by
  have hN : cfg0.N = 16 := N_0
  blk_ext [show (cfg0.win 0).index t = _ from (place t).1]

theorem weights_at (t : Fin cfg0.N) (f : Vec Ideal S1024x1024 .bf16) (r k : Fin 1024) : ((cfg0.win 1).blk t).view.read (Elt Ideal) f (ix2 r k) = f (ix2 r k) := by
  blk_ext [show (cfg0.win 1).index t = _ from (place t).2.1]

theorem result_place (t : Fin cfg0.N) (r k : Fin 1024) : ((cfg0.win 2).blk t).view.emb (ix2 r k)
    = (ix2 (⟨t.val * 1024 + r.val, row_lt t r⟩ : Fin 16384) k : S16384x1024.Idx) := by
  blk_ext [show (cfg0.win 2).index t = _ from (place t).2.2]

/-- The rows of the cotangent against the rows of the weights. -/
abbrev product : Vec Ideal S16384x1024 .f32 := fun y =>
  againstRow (S := 16384) (K := 1024) (N := 1024) (m ((c.tc : Thread nD τ).loc main_arg0)) (m ((c.tc : Thread nD τ).loc main_arg1)) (y 0) (y 1)

/-- The array the call returns. -/
theorem final : (dats m 0 c).arrAt 2 cfg0.N = product m c := by
  refine (dats m 0 c).arrAt_eq_of_covers 2 _ (by decide +kernel) fun t hf y => ?_
  obtain ⟨r, d, rfl⟩ : ∃ (r d : Fin 1024), y = ix2 r d := ⟨_, _, ValueIdx.eq_ix2 y⟩
  rw [result_place]
  blk_simp
  rw [after0_2]
  unfold outsAt0
  frame_out
  refine (block_at _ _ r d).trans (Finset.sum_congr rfl fun k _ => congrArg₂ (fun p q : EReal => p * q) ?_ ?_)
  · exact rows_at t (V m c main_arg0) r k
  · exact weights_at t (V m c main_arg1) d k

end Calls.DMix

open Idealize.ShloMosaic Idealize.SL.Sem

/-- The call returns the product. -/
theorem Calls.DMix.agree : @Cert.algebraic_Kernel3Ideal_Reference3Ideal Cert.Kernel3Ideal.Gen.facts Cert.Reference3Ideal.Gen.facts :=
  fun m ρ m' ρ' _ ha => ⟨Calls.DMix.product m,
    (θ_run Cert.Kernel3Ideal.defs _ _).mono (fun r h c => ⟨(h c).1.trans (Calls.DMix.final m c), (h c).2⟩) (Cert.Kernel3Ideal.Value.run_blocks (F := Ideal) m ρ),
    (θ_run Cert.Reference3Ideal.defs _ _).mono (fun r h c => by
      obtain ⟨a0, a1⟩ := ha c
      refine ⟨(h c).1.trans ?_, (h c).2⟩
      rw [a0, a1]
      funext y
      obtain ⟨s, d, rfl⟩ : ∃ (s : Fin 16384) (d : Fin 1024), y = ValueIdx.ix2 s d := ⟨_, _, ValueIdx.eq_ix2 y⟩
      pointwise
      simp only [ix2_eq_valueIdx]
      rfl)
      (Cert.Reference3Ideal.Value.run (F := Ideal) m' ρ')⟩

end
-- ==== Proof.Calls.GradInB.lean ====
module

public import proofs.«01_k».proof.Defs
public import proofs.«01_k».proof.Proof.Calls.Rows
public import proofs.«01_k».proof.Proof.Gen.Kernel4Ideal.Value
public import proofs.«01_k».proof.Proof.Gen.Reference4Ideal.Run
public import Idealize.ShloMosaic.Lib.Pipeline.ReadBack
public import Idealize.ShloMosaic.Lib.Pipeline.ValueKit

@[expose] public section

set_option maxRecDepth 16384

noncomputable section

/-! The gradient of the weights that project the normalised stream to the queries and the gates. -/

namespace Calls.GradInB

open Cert.Kernel4Ideal Cert.Kernel4Ideal.Gen
open Idealize.ShloMosaic hiding ix0 ix1 ix2 ix3 ix4 ix5
open Idealize.ShloMosaic.TcCoe
open Idealize.ShloMosaic.ValueIdx
open Idealize.ShloMosaic.Pipeline (Dat)

/-- The body's sum after one more block: what it held, and the products of the block's rows. -/
theorem step_at (x : Vec Ideal S1024x1024 .f32) (g : Vec Ideal S1x1024 .f32) (acc : Vec Ideal S1024x1024 .f32) (b : Vec Ideal S1024x1024 .bf16) (y : S1024x1024.Idx) :
    k0_pay2 x g acc b y = acc y + ∑ r : Fin 1024, normed (fun k => x (ix2 r k)) (fun k => g (ix2 (0 : Fin 1) k)) (y 0) * b (ix2 r (y 1)) := by
  obtain ⟨d, n, rfl⟩ : ∃ (d : Fin 1024) (n : Fin 1024), y = ix2 d n := ⟨_, _, ValueIdx.eq_ix2 y⟩
  unfold k0_pay2
  pointwise
  simp only [ix2_eq_valueIdx]
  rfl

theorem zero_at (y : S1024x1024.Idx) : k0_pay1 (F := Ideal) y = 0 := by
  unfold k0_pay1
  pointwise

variable (m : (ℓ : Loc nD τ sig) → Buf (Elt Ideal) ℓ) (c : Dev nD)

/-- What point `t` adds: the products of its 1024 rows. -/
def added (t : Fin cfg0.N) (y : S1024x1024.Idx) : EReal :=
  ∑ r : Fin 1024, normed (fun k => iblk m c 0 t (ix2 r k)) (fun k => iblk m c 1 t (ix2 (0 : Fin 1) k)) (y 0) * iblk m c 2 t (ix2 r (y 1))

theorem start (t : Fin cfg0.N) (h0 : t.val % 16 = 0) (y : S1024x1024.Idx) : (outsAt0 m c t.val t.isLt).2 y = 0 + added m c t y := by
  rw [outsAt0_A m c t h0 (by omega)]
  frame_out
  rw [step_at, zero_at]
  rfl

theorem next (t : Fin cfg0.N) (h0 : ¬ t.val % 16 = 0) (y : S1024x1024.Idx) :
    (outsAt0 m c t.val t.isLt).2 y = (outsAt0 m c (t.val - 1) (Nat.lt_of_le_of_lt (Nat.sub_le _ _) t.isLt)).2 y + added m c t y := by
  by_cases h1 : t.val % 16 = 15
  · rw [outsAt0_C m c t h0 h1]
    frame_out
    simp only [read_unread_whole]
    exact step_at ..
  · rw [outsAt0_B m c t h0 h1]
    frame_out
    simp only [read_unread_whole]
    exact step_at ..

/-- After the last of its points, a block's sum is what all of them add. -/
theorem sum_at (t : Fin cfg0.N) (h1 : t.val % 16 = 15) (y : S1024x1024.Idx) :
    (outsAt0 m c t.val t.isLt).2 y = ∑ s : Fin 16, added m c ⟨16 * (t.val / 16) + s.val, Pipeline.run_point_lt_of_flush t h1 s⟩ y := by
  rw [Pipeline.eq_sum_fin_of_reset_step_apply_of_flush (fun n h => (outsAt0 m c n h).2) 16 (fun _ => 0) (added m c)
    (start m c) (next m c) t h1 y, zero_add]

/-- The last point writes the sum back. -/
theorem last (t : Fin cfg0.N) (h1 : t.val % 16 = 15) (y : S1024x1024.Idx) : (outsAt0 m c t.val t.isLt).1 y = (outsAt0 m c t.val t.isLt).2 y := by
  rw [outsAt0_C m c t (by omega) h1]
  frame_out
  rfl

theorem place : ∀ t : Fin grid0.N, win0_0.index t = ![t.val % 16, 0] ∧ win0_1.index t = ![0, 0] ∧ win0_2.index t = ![t.val % 16, 0] ∧ win0_3.index t = ![0, 0] := by decide +kernel

theorem rows_at (t : Fin cfg0.N) (f : Vec Ideal S16384x1024 .f32) (r k : Fin 1024) : ((cfg0.win 0).blk t).view.read (Elt Ideal) f (ix2 r k)
    = f (ix2 (⟨t.val % 16 * 1024 + r.val, by omega⟩ : Fin 16384) k) := by
  blk_ext [show (cfg0.win 0).index t = _ from (place t).1]

theorem gain_at (t : Fin cfg0.N) (f : Vec Ideal S1x1024 .f32) (r : Fin 1) (k : Fin 1024) : ((cfg0.win 1).blk t).view.read (Elt Ideal) f (ix2 r k) = f (ix2 r k) := by
  blk_ext [show (cfg0.win 1).index t = _ from (place t).2.1]

theorem cots_at (t : Fin cfg0.N) (f : Vec Ideal S16384x1024 .bf16) (r k : Fin 1024) : ((cfg0.win 2).blk t).view.read (Elt Ideal) f (ix2 r k)
    = f (ix2 (⟨t.val % 16 * 1024 + r.val, by omega⟩ : Fin 16384) k) := by
  blk_ext [show (cfg0.win 2).index t = _ from (place t).2.2.1]

theorem result_place (t : Fin cfg0.N) (r k : Fin 1024) : ((cfg0.win 3).blk t).view.emb (ix2 r k) = (ix2 r k : S1024x1024.Idx) := by
  blk_ext [show (cfg0.win 3).index t = _ from (place t).2.2.2]

/-- The gradient of the weights. -/
abbrev grad : Vec Ideal S1024x1024 .bf16 := fun y =>
  gradNormed (N := 1024) (m ((c.tc : Thread nD τ).loc main_arg0)) (m ((c.tc : Thread nD τ).loc main_arg1)) (m ((c.tc : Thread nD τ).loc main_arg2)) (y 0) (y 1)

theorem added_at (t : Fin cfg0.N) (d n : Fin 1024) : added m c t (ix2 d n) = ∑ r : Fin 1024,
    normed (fun k => m ((c.tc : Thread nD τ).loc main_arg0) (ix2 (⟨t.val % 16 * 1024 + r.val, by omega⟩ : Fin 16384) k)) (fun k => m ((c.tc : Thread nD τ).loc main_arg1) (ix2 (0 : Fin 1) k)) d
      * m ((c.tc : Thread nD τ).loc main_arg2) (ix2 (⟨t.val % 16 * 1024 + r.val, by omega⟩ : Fin 16384) n) := by
  unfold added
  refine Finset.sum_congr rfl fun r _ => ?_
  refine congrArg₂ (· * ·) (congrArg₂ (fun x g => normed x g d) (funext fun k => ?_) (funext fun k => ?_)) ?_
  · exact rows_at t (V m c main_arg0) r k
  · exact gain_at t (V m c main_arg1) 0 k
  · exact cots_at t (V m c main_arg2) r n

/-- The array the call returns. -/
theorem final : (dats m 0 c).arrAt 3 cfg0.N = grad m c := by
  refine (dats m 0 c).arrAt_eq_of_covers 3 _ (by decide +kernel) fun t hf y => ?_
  have hN : cfg0.N = 16 := N_0
  have h1 : t.val % 16 = 15 := (flush0_3 t).mp hf
  obtain ⟨d, n, rfl⟩ : ∃ (d : Fin 1024) (n : Fin 1024), y = ix2 d n := ⟨_, _, ValueIdx.eq_ix2 y⟩
  rw [result_place]
  blk_simp
  rw [after0_3, last m c t h1, sum_at m c t h1, Finset.sum_congr rfl fun s _ => added_at m c _ d n]
  refine Fin.sum_mul_add_congr fun s r hl => ?_
  have hs : (⟨(16 * (t.val / 16) + s.val) % 16 * 1024 + r.val, by omega⟩ : Fin 16384) = ⟨s.val * 1024 + r.val, hl⟩ := Fin.ext (by dsimp only; omega)
  dsimp only
  rw [hs]

end Calls.GradInB

open Idealize.ShloMosaic Idealize.SL.Sem

/-- The call returns the gradient of the weights. -/
theorem Calls.GradInB.agree : @Cert.algebraic_Kernel4Ideal_Reference4Ideal Cert.Kernel4Ideal.Gen.facts Cert.Reference4Ideal.Gen.facts :=
  fun m ρ m' ρ' _ ha => ⟨Calls.GradInB.grad m,
    (θ_run Cert.Kernel4Ideal.defs _ _).mono (fun r h c => ⟨(h c).1.trans (Calls.GradInB.final m c), (h c).2⟩) (Cert.Kernel4Ideal.Value.run_blocks (F := Ideal) m ρ),
    (θ_run Cert.Reference4Ideal.defs _ _).mono (fun r h c => by
      obtain ⟨a0, a1, a2⟩ := ha c
      refine ⟨(h c).1.trans ?_, (h c).2⟩
      rw [a0, a1, a2]
      funext y
      obtain ⟨d, n, rfl⟩ : ∃ (d : Fin 1024) (n : Fin 1024), y = ValueIdx.ix2 d n := ⟨_, _, ValueIdx.eq_ix2 y⟩
      pointwise
      simp only [ix2_eq_valueIdx]
      exact Finset.sum_congr rfl fun s _ => mul_comm _ _)
      (Cert.Reference4Ideal.Value.run (F := Ideal) m' ρ')⟩

end
-- ==== Proof.Calls.GradKv.lean ====
module

public import proofs.«01_k».proof.Defs
public import proofs.«01_k».proof.Proof.Calls.Rows
public import proofs.«01_k».proof.Proof.Gen.Kernel5Ideal.Value
public import proofs.«01_k».proof.Proof.Gen.Reference5Ideal.Run
public import Idealize.ShloMosaic.Lib.Pipeline.ReadBack
public import Idealize.ShloMosaic.Lib.Pipeline.ValueKit

@[expose] public section

set_option maxRecDepth 16384

noncomputable section

/-! The gradient of the weights that project the normalised stream to the keys and the values. -/

namespace Calls.GradKv

open Cert.Kernel5Ideal Cert.Kernel5Ideal.Gen
open Idealize.ShloMosaic hiding ix0 ix1 ix2 ix3 ix4 ix5
open Idealize.ShloMosaic.TcCoe
open Idealize.ShloMosaic.ValueIdx
open Idealize.ShloMosaic.Pipeline (Dat)

/-- The body's sum after one more block: what it held, and the products of the block's rows. -/
theorem step_at (x : Vec Ideal S1024x1024 .f32) (g : Vec Ideal S1x1024 .f32) (acc : Vec Ideal S1024x1024 .f32) (b : Vec Ideal S1024x1024 .f32) (y : S1024x1024.Idx) :
    k0_pay2 x g acc b y = acc y + ∑ r : Fin 1024, normed (fun k => x (ix2 r k)) (fun k => g (ix2 (0 : Fin 1) k)) (y 0) * b (ix2 r (y 1)) := by
  obtain ⟨d, n, rfl⟩ : ∃ (d : Fin 1024) (n : Fin 1024), y = ix2 d n := ⟨_, _, ValueIdx.eq_ix2 y⟩
  unfold k0_pay2
  pointwise
  simp only [ix2_eq_valueIdx]
  rfl

theorem zero_at (y : S1024x1024.Idx) : k0_pay1 (F := Ideal) y = 0 := by
  unfold k0_pay1
  pointwise

variable (m : (ℓ : Loc nD τ sig) → Buf (Elt Ideal) ℓ) (c : Dev nD)

/-- What point `t` adds: the products of its 1024 rows. -/
def added (t : Fin cfg0.N) (y : S1024x1024.Idx) : EReal :=
  ∑ r : Fin 1024, normed (fun k => iblk m c 0 t (ix2 r k)) (fun k => iblk m c 1 t (ix2 (0 : Fin 1) k)) (y 0) * iblk m c 2 t (ix2 r (y 1))

theorem start (t : Fin cfg0.N) (h0 : t.val % 16 = 0) (y : S1024x1024.Idx) : (outsAt0 m c t.val t.isLt).2 y = 0 + added m c t y := by
  rw [outsAt0_A m c t h0 (by omega)]
  frame_out
  rw [step_at, zero_at]
  rfl

theorem next (t : Fin cfg0.N) (h0 : ¬ t.val % 16 = 0) (y : S1024x1024.Idx) :
    (outsAt0 m c t.val t.isLt).2 y = (outsAt0 m c (t.val - 1) (Nat.lt_of_le_of_lt (Nat.sub_le _ _) t.isLt)).2 y + added m c t y := by
  by_cases h1 : t.val % 16 = 15
  · rw [outsAt0_C m c t h0 h1]
    frame_out
    simp only [read_unread_whole]
    exact step_at ..
  · rw [outsAt0_B m c t h0 h1]
    frame_out
    simp only [read_unread_whole]
    exact step_at ..

/-- After the last of its points, a block's sum is what all of them add. -/
theorem sum_at (t : Fin cfg0.N) (h1 : t.val % 16 = 15) (y : S1024x1024.Idx) :
    (outsAt0 m c t.val t.isLt).2 y = ∑ s : Fin 16, added m c ⟨16 * (t.val / 16) + s.val, Pipeline.run_point_lt_of_flush t h1 s⟩ y := by
  rw [Pipeline.eq_sum_fin_of_reset_step_apply_of_flush (fun n h => (outsAt0 m c n h).2) 16 (fun _ => 0) (added m c)
    (start m c) (next m c) t h1 y, zero_add]

/-- The last point writes the sum back. -/
theorem last (t : Fin cfg0.N) (h1 : t.val % 16 = 15) (y : S1024x1024.Idx) : (outsAt0 m c t.val t.isLt).1 y = (outsAt0 m c t.val t.isLt).2 y := by
  rw [outsAt0_C m c t (by omega) h1]
  frame_out
  rfl

theorem place : ∀ t : Fin grid0.N, win0_0.index t = ![t.val % 16, 0] ∧ win0_1.index t = ![0, 0] ∧ win0_2.index t = ![t.val % 16, 0] ∧ win0_3.index t = ![0, 0] := by decide +kernel

theorem rows_at (t : Fin cfg0.N) (f : Vec Ideal S16384x1024 .f32) (r k : Fin 1024) : ((cfg0.win 0).blk t).view.read (Elt Ideal) f (ix2 r k)
    = f (ix2 (⟨t.val % 16 * 1024 + r.val, by omega⟩ : Fin 16384) k) := by
  blk_ext [show (cfg0.win 0).index t = _ from (place t).1]

theorem gain_at (t : Fin cfg0.N) (f : Vec Ideal S1x1024 .f32) (r : Fin 1) (k : Fin 1024) : ((cfg0.win 1).blk t).view.read (Elt Ideal) f (ix2 r k) = f (ix2 r k) := by
  blk_ext [show (cfg0.win 1).index t = _ from (place t).2.1]

theorem cots_at (t : Fin cfg0.N) (f : Vec Ideal S16384x1024 .f32) (r k : Fin 1024) : ((cfg0.win 2).blk t).view.read (Elt Ideal) f (ix2 r k)
    = f (ix2 (⟨t.val % 16 * 1024 + r.val, by omega⟩ : Fin 16384) k) := by
  blk_ext [show (cfg0.win 2).index t = _ from (place t).2.2.1]

theorem result_place (t : Fin cfg0.N) (r k : Fin 1024) : ((cfg0.win 3).blk t).view.emb (ix2 r k) = (ix2 r k : S1024x1024.Idx) := by
  blk_ext [show (cfg0.win 3).index t = _ from (place t).2.2.2]

/-- The gradient of the weights. -/
abbrev grad : Vec Ideal S1024x1024 .bf16 := fun y =>
  gradNormed (N := 1024) (m ((c.tc : Thread nD τ).loc main_arg0)) (m ((c.tc : Thread nD τ).loc main_arg1)) (m ((c.tc : Thread nD τ).loc main_arg2)) (y 0) (y 1)

theorem added_at (t : Fin cfg0.N) (d n : Fin 1024) : added m c t (ix2 d n) = ∑ r : Fin 1024,
    normed (fun k => m ((c.tc : Thread nD τ).loc main_arg0) (ix2 (⟨t.val % 16 * 1024 + r.val, by omega⟩ : Fin 16384) k)) (fun k => m ((c.tc : Thread nD τ).loc main_arg1) (ix2 (0 : Fin 1) k)) d
      * m ((c.tc : Thread nD τ).loc main_arg2) (ix2 (⟨t.val % 16 * 1024 + r.val, by omega⟩ : Fin 16384) n) := by
  unfold added
  refine Finset.sum_congr rfl fun r _ => ?_
  refine congrArg₂ (· * ·) (congrArg₂ (fun x g => normed x g d) (funext fun k => ?_) (funext fun k => ?_)) ?_
  · exact rows_at t (V m c main_arg0) r k
  · exact gain_at t (V m c main_arg1) 0 k
  · exact cots_at t (V m c main_arg2) r n

/-- The array the call returns. -/
theorem final : (dats m 0 c).arrAt 3 cfg0.N = grad m c := by
  refine (dats m 0 c).arrAt_eq_of_covers 3 _ (by decide +kernel) fun t hf y => ?_
  have hN : cfg0.N = 16 := N_0
  have h1 : t.val % 16 = 15 := (flush0_3 t).mp hf
  obtain ⟨d, n, rfl⟩ : ∃ (d : Fin 1024) (n : Fin 1024), y = ix2 d n := ⟨_, _, ValueIdx.eq_ix2 y⟩
  rw [result_place]
  blk_simp
  rw [after0_3, last m c t h1, sum_at m c t h1, Finset.sum_congr rfl fun s _ => added_at m c _ d n]
  refine Fin.sum_mul_add_congr fun s r hl => ?_
  have hs : (⟨(16 * (t.val / 16) + s.val) % 16 * 1024 + r.val, by omega⟩ : Fin 16384) = ⟨s.val * 1024 + r.val, hl⟩ := Fin.ext (by dsimp only; omega)
  dsimp only
  rw [hs]

end Calls.GradKv

open Idealize.ShloMosaic Idealize.SL.Sem

/-- The call returns the gradient of the weights. -/
theorem Calls.GradKv.agree : @Cert.algebraic_Kernel5Ideal_Reference5Ideal Cert.Kernel5Ideal.Gen.facts Cert.Reference5Ideal.Gen.facts :=
  fun m ρ m' ρ' _ ha => ⟨Calls.GradKv.grad m,
    (θ_run Cert.Kernel5Ideal.defs _ _).mono (fun r h c => ⟨(h c).1.trans (Calls.GradKv.final m c), (h c).2⟩) (Cert.Kernel5Ideal.Value.run_blocks (F := Ideal) m ρ),
    (θ_run Cert.Reference5Ideal.defs _ _).mono (fun r h c => by
      obtain ⟨a0, a1, a2⟩ := ha c
      refine ⟨(h c).1.trans ?_, (h c).2⟩
      rw [a0, a1, a2]
      funext y
      obtain ⟨d, n, rfl⟩ : ∃ (d : Fin 1024) (n : Fin 1024), y = ValueIdx.ix2 d n := ⟨_, _, ValueIdx.eq_ix2 y⟩
      pointwise
      simp only [ix2_eq_valueIdx]
      exact Finset.sum_congr rfl fun s _ => mul_comm _ _)
      (Cert.Reference5Ideal.Value.run (F := Ideal) m' ρ')⟩

end
-- ==== Proof.Calls.GradOutA.lean ====
module

public import proofs.«01_k».proof.Defs
public import proofs.«01_k».proof.Proof.Calls.Rows
public import proofs.«01_k».proof.Proof.Gen.Kernel6Ideal.Value
public import proofs.«01_k».proof.Proof.Gen.Reference6Ideal.Run
public import Idealize.ShloMosaic.Lib.Pipeline.ReadBack
public import Idealize.ShloMosaic.Lib.Pipeline.ValueKit

@[expose] public section

set_option maxRecDepth 16384

noncomputable section

/-! The gradient of the weights that project the mixer's result. -/

namespace Calls.GradOutA

open Cert.Kernel6Ideal Cert.Kernel6Ideal.Gen
open Idealize.ShloMosaic hiding ix0 ix1 ix2 ix3 ix4 ix5
open Idealize.ShloMosaic.TcCoe
open Idealize.ShloMosaic.ValueIdx
open Idealize.ShloMosaic.Pipeline (Dat)

/-- The body's sum after one more block: what it held, and the products of the block's rows. -/
theorem step_at (a : Vec Ideal S1024x1024 .bf16) (acc : Vec Ideal S1024x1024 .f32) (b : Vec Ideal S1024x1024 .f32) (y : S1024x1024.Idx) :
    k0_pay2 a acc b y = acc y + ∑ r : Fin 1024, a (ix2 r (y 0)) * b (ix2 r (y 1)) := by
  obtain ⟨d, n, rfl⟩ : ∃ (d : Fin 1024) (n : Fin 1024), y = ix2 d n := ⟨_, _, ValueIdx.eq_ix2 y⟩
  unfold k0_pay2
  pointwise
  simp only [ix2_eq_valueIdx]

theorem zero_at (y : S1024x1024.Idx) : k0_pay1 (F := Ideal) y = 0 := by
  unfold k0_pay1
  pointwise

variable (m : (ℓ : Loc nD τ sig) → Buf (Elt Ideal) ℓ) (c : Dev nD)

/-- What point `t` adds: the products of its 1024 rows. -/
def added (t : Fin cfg0.N) (y : S1024x1024.Idx) : EReal :=
  gradPlain (S := 1024) (M := 1024) (N := 1024) (iblk m c 0 t) (iblk m c 1 t) (y 0) (y 1)

theorem start (t : Fin cfg0.N) (h0 : t.val % 16 = 0) (y : S1024x1024.Idx) : (outsAt0 m c t.val t.isLt).2 y = 0 + added m c t y := by
  rw [outsAt0_A m c t h0 (by omega)]
  frame_out
  rw [step_at, zero_at]
  rfl

theorem next (t : Fin cfg0.N) (h0 : ¬ t.val % 16 = 0) (y : S1024x1024.Idx) :
    (outsAt0 m c t.val t.isLt).2 y = (outsAt0 m c (t.val - 1) (Nat.lt_of_le_of_lt (Nat.sub_le _ _) t.isLt)).2 y + added m c t y := by
  by_cases h1 : t.val % 16 = 15
  · rw [outsAt0_C m c t h0 h1]
    frame_out
    simp only [read_unread_whole]
    exact step_at ..
  · rw [outsAt0_B m c t h0 h1]
    frame_out
    simp only [read_unread_whole]
    exact step_at ..

/-- After the last of its points, a block's sum is what all of them add. -/
theorem sum_at (t : Fin cfg0.N) (h1 : t.val % 16 = 15) (y : S1024x1024.Idx) :
    (outsAt0 m c t.val t.isLt).2 y = ∑ s : Fin 16, added m c ⟨16 * (t.val / 16) + s.val, Pipeline.run_point_lt_of_flush t h1 s⟩ y := by
  rw [Pipeline.eq_sum_fin_of_reset_step_apply_of_flush (fun n h => (outsAt0 m c n h).2) 16 (fun _ => 0) (added m c)
    (start m c) (next m c) t h1 y, zero_add]

/-- The last point writes the sum back. -/
theorem last (t : Fin cfg0.N) (h1 : t.val % 16 = 15) (y : S1024x1024.Idx) : (outsAt0 m c t.val t.isLt).1 y = (outsAt0 m c t.val t.isLt).2 y := by
  rw [outsAt0_C m c t (by omega) h1]
  frame_out
  rfl

theorem place : ∀ t : Fin grid0.N, win0_0.index t = ![t.val % 16, 0] ∧ win0_1.index t = ![t.val % 16, 0] ∧ win0_2.index t = ![0, 0] := by decide +kernel

theorem rows_at (t : Fin cfg0.N) (f : Vec Ideal S16384x1024 .bf16) (r : Fin 1024) (k : Fin 1024) : ((cfg0.win 0).blk t).view.read (Elt Ideal) f (ix2 r k)
    = f (ix2 (⟨t.val % 16 * 1024 + r.val, by omega⟩ : Fin 16384) k) := by
  blk_ext [show (cfg0.win 0).index t = _ from (place t).1]

theorem cots_at (t : Fin cfg0.N) (f : Vec Ideal S16384x1024 .f32) (r k : Fin 1024) : ((cfg0.win 1).blk t).view.read (Elt Ideal) f (ix2 r k)
    = f (ix2 (⟨t.val % 16 * 1024 + r.val, by omega⟩ : Fin 16384) k) := by
  blk_ext [show (cfg0.win 1).index t = _ from (place t).2.1]

theorem result_place (t : Fin cfg0.N) (r : Fin 1024) (k : Fin 1024) : ((cfg0.win 2).blk t).view.emb (ix2 r k) = (ix2 r k : S1024x1024.Idx) := by
  blk_ext [show (cfg0.win 2).index t = _ from (place t).2.2]

/-- The gradient of the weights. -/
abbrev grad : Vec Ideal S1024x1024 .bf16 := fun y =>
  gradPlain (S := 16384) (M := 1024) (N := 1024) (m ((c.tc : Thread nD τ).loc main_arg0)) (m ((c.tc : Thread nD τ).loc main_arg1)) (y 0) (y 1)

theorem added_at (t : Fin cfg0.N) (d : Fin 1024) (n : Fin 1024) : added m c t (ix2 d n) = ∑ r : Fin 1024,
    rowProduct (S := 16384) (M := 1024) (N := 1024) (m ((c.tc : Thread nD τ).loc main_arg0)) (m ((c.tc : Thread nD τ).loc main_arg1)) d n ⟨t.val % 16 * 1024 + r.val, by omega⟩ := by
  unfold added gradPlain rowProduct
  refine Finset.sum_congr rfl fun r _ => congrArg₂ (fun p q : EReal => p * q) ?_ ?_
  · exact rows_at t (V m c main_arg0) r d
  · exact cots_at t (V m c main_arg1) r n

/-- The array the call returns. -/
theorem final : (dats m 0 c).arrAt 2 cfg0.N = grad m c := by
  refine (dats m 0 c).arrAt_eq_of_covers 2 _ (by decide +kernel) fun t hf y => ?_
  have hN : cfg0.N = 16 := N_0
  have h1 : t.val % 16 = 15 := (flush0_2 t).mp hf
  obtain ⟨d, n, rfl⟩ : ∃ (d : Fin 1024) (n : Fin 1024), y = ix2 d n := ⟨_, _, ValueIdx.eq_ix2 y⟩
  rw [result_place]
  blk_simp
  rw [after0_2, last m c t h1, sum_at m c t h1, Finset.sum_congr rfl fun s _ => added_at m c _ d n]
  refine Fin.sum_mul_add_congr fun s r hl => ?_
  have hs : (⟨(16 * (t.val / 16) + s.val) % 16 * 1024 + r.val, by omega⟩ : Fin 16384) = ⟨s.val * 1024 + r.val, hl⟩ := Fin.ext (by dsimp only; omega)
  dsimp only
  rw [hs]

end Calls.GradOutA

open Idealize.ShloMosaic Idealize.SL.Sem

/-- The call returns the gradient of the weights. -/
theorem Calls.GradOutA.agree : @Cert.algebraic_Kernel6Ideal_Reference6Ideal Cert.Kernel6Ideal.Gen.facts Cert.Reference6Ideal.Gen.facts :=
  fun m ρ m' ρ' _ ha => ⟨Calls.GradOutA.grad m,
    (θ_run Cert.Kernel6Ideal.defs _ _).mono (fun r h c => ⟨(h c).1.trans (Calls.GradOutA.final m c), (h c).2⟩) (Cert.Kernel6Ideal.Value.run_blocks (F := Ideal) m ρ),
    (θ_run Cert.Reference6Ideal.defs _ _).mono (fun r h c => by
      obtain ⟨a0, a1⟩ := ha c
      refine ⟨(h c).1.trans ?_, (h c).2⟩
      rw [a0, a1]
      funext y
      obtain ⟨d, n, rfl⟩ : ∃ (d : Fin 1024) (n : Fin 1024), y = ValueIdx.ix2 d n := ⟨_, _, ValueIdx.eq_ix2 y⟩
      pointwise
      simp only [ix2_eq_valueIdx]
      exact Finset.sum_congr rfl fun s _ => mul_comm _ _)
      (Cert.Reference6Ideal.Value.run (F := Ideal) m' ρ')⟩

end
-- ==== Proof.Calls.GradOutB.lean ====
module

public import proofs.«01_k».proof.Defs
public import proofs.«01_k».proof.Proof.Calls.Rows
public import proofs.«01_k».proof.Proof.Gen.Kernel7Ideal.Value
public import proofs.«01_k».proof.Proof.Gen.Reference7Ideal.Run
public import Idealize.ShloMosaic.Lib.Pipeline.ReadBack
public import Idealize.ShloMosaic.Lib.Pipeline.ValueKit

@[expose] public section

set_option maxRecDepth 16384

noncomputable section

/-! The gradient of the weights that project the gated attention's result. -/

namespace Calls.GradOutB

open Cert.Kernel7Ideal Cert.Kernel7Ideal.Gen
open Idealize.ShloMosaic hiding ix0 ix1 ix2 ix3 ix4 ix5
open Idealize.ShloMosaic.TcCoe
open Idealize.ShloMosaic.ValueIdx
open Idealize.ShloMosaic.Pipeline (Dat)

/-- The body's sum after one more block: what it held, and the products of the block's rows. -/
theorem step_at (a : Vec Ideal S1024x512 .bf16) (acc : Vec Ideal S512x1024 .f32) (b : Vec Ideal S1024x1024 .f32) (y : S512x1024.Idx) :
    k0_pay2 a acc b y = acc y + ∑ r : Fin 1024, a (ix2 r (y 0)) * b (ix2 r (y 1)) := by
  obtain ⟨d, n, rfl⟩ : ∃ (d : Fin 512) (n : Fin 1024), y = ix2 d n := ⟨_, _, ValueIdx.eq_ix2 y⟩
  unfold k0_pay2
  pointwise
  simp only [ix2_eq_valueIdx]

theorem zero_at (y : S512x1024.Idx) : k0_pay1 (F := Ideal) y = 0 := by
  unfold k0_pay1
  pointwise

variable (m : (ℓ : Loc nD τ sig) → Buf (Elt Ideal) ℓ) (c : Dev nD)

/-- What point `t` adds: the products of its 1024 rows. -/
def added (t : Fin cfg0.N) (y : S512x1024.Idx) : EReal :=
  gradPlain (S := 1024) (M := 512) (N := 1024) (iblk m c 0 t) (iblk m c 1 t) (y 0) (y 1)

theorem start (t : Fin cfg0.N) (h0 : t.val % 16 = 0) (y : S512x1024.Idx) : (outsAt0 m c t.val t.isLt).2 y = 0 + added m c t y := by
  rw [outsAt0_A m c t h0 (by omega)]
  frame_out
  rw [step_at, zero_at]
  rfl

theorem next (t : Fin cfg0.N) (h0 : ¬ t.val % 16 = 0) (y : S512x1024.Idx) :
    (outsAt0 m c t.val t.isLt).2 y = (outsAt0 m c (t.val - 1) (Nat.lt_of_le_of_lt (Nat.sub_le _ _) t.isLt)).2 y + added m c t y := by
  by_cases h1 : t.val % 16 = 15
  · rw [outsAt0_C m c t h0 h1]
    frame_out
    simp only [read_unread_whole]
    exact step_at ..
  · rw [outsAt0_B m c t h0 h1]
    frame_out
    simp only [read_unread_whole]
    exact step_at ..

/-- After the last of its points, a block's sum is what all of them add. -/
theorem sum_at (t : Fin cfg0.N) (h1 : t.val % 16 = 15) (y : S512x1024.Idx) :
    (outsAt0 m c t.val t.isLt).2 y = ∑ s : Fin 16, added m c ⟨16 * (t.val / 16) + s.val, Pipeline.run_point_lt_of_flush t h1 s⟩ y := by
  rw [Pipeline.eq_sum_fin_of_reset_step_apply_of_flush (fun n h => (outsAt0 m c n h).2) 16 (fun _ => 0) (added m c)
    (start m c) (next m c) t h1 y, zero_add]

/-- The last point writes the sum back. -/
theorem last (t : Fin cfg0.N) (h1 : t.val % 16 = 15) (y : S512x1024.Idx) : (outsAt0 m c t.val t.isLt).1 y = (outsAt0 m c t.val t.isLt).2 y := by
  rw [outsAt0_C m c t (by omega) h1]
  frame_out
  rfl

theorem place : ∀ t : Fin grid0.N, win0_0.index t = ![t.val % 16, 0] ∧ win0_1.index t = ![t.val % 16, 0] ∧ win0_2.index t = ![0, 0] := by decide +kernel

theorem rows_at (t : Fin cfg0.N) (f : Vec Ideal S16384x512 .bf16) (r : Fin 1024) (k : Fin 512) : ((cfg0.win 0).blk t).view.read (Elt Ideal) f (ix2 r k)
    = f (ix2 (⟨t.val % 16 * 1024 + r.val, by omega⟩ : Fin 16384) k) := by
  blk_ext [show (cfg0.win 0).index t = _ from (place t).1]

theorem cots_at (t : Fin cfg0.N) (f : Vec Ideal S16384x1024 .f32) (r k : Fin 1024) : ((cfg0.win 1).blk t).view.read (Elt Ideal) f (ix2 r k)
    = f (ix2 (⟨t.val % 16 * 1024 + r.val, by omega⟩ : Fin 16384) k) := by
  blk_ext [show (cfg0.win 1).index t = _ from (place t).2.1]

theorem result_place (t : Fin cfg0.N) (r : Fin 512) (k : Fin 1024) : ((cfg0.win 2).blk t).view.emb (ix2 r k) = (ix2 r k : S512x1024.Idx) := by
  blk_ext [show (cfg0.win 2).index t = _ from (place t).2.2]

/-- The gradient of the weights. -/
abbrev grad : Vec Ideal S512x1024 .bf16 := fun y =>
  gradPlain (S := 16384) (M := 512) (N := 1024) (m ((c.tc : Thread nD τ).loc main_arg0)) (m ((c.tc : Thread nD τ).loc main_arg1)) (y 0) (y 1)

theorem added_at (t : Fin cfg0.N) (d : Fin 512) (n : Fin 1024) : added m c t (ix2 d n) = ∑ r : Fin 1024,
    rowProduct (S := 16384) (M := 512) (N := 1024) (m ((c.tc : Thread nD τ).loc main_arg0)) (m ((c.tc : Thread nD τ).loc main_arg1)) d n ⟨t.val % 16 * 1024 + r.val, by omega⟩ := by
  unfold added gradPlain rowProduct
  refine Finset.sum_congr rfl fun r _ => congrArg₂ (fun p q : EReal => p * q) ?_ ?_
  · exact rows_at t (V m c main_arg0) r d
  · exact cots_at t (V m c main_arg1) r n

/-- The array the call returns. -/
theorem final : (dats m 0 c).arrAt 2 cfg0.N = grad m c := by
  refine (dats m 0 c).arrAt_eq_of_covers 2 _ (by decide +kernel) fun t hf y => ?_
  have hN : cfg0.N = 16 := N_0
  have h1 : t.val % 16 = 15 := (flush0_2 t).mp hf
  obtain ⟨d, n, rfl⟩ : ∃ (d : Fin 512) (n : Fin 1024), y = ix2 d n := ⟨_, _, ValueIdx.eq_ix2 y⟩
  rw [result_place]
  blk_simp
  rw [after0_2, last m c t h1, sum_at m c t h1, Finset.sum_congr rfl fun s _ => added_at m c _ d n]
  refine Fin.sum_mul_add_congr fun s r hl => ?_
  have hs : (⟨(16 * (t.val / 16) + s.val) % 16 * 1024 + r.val, by omega⟩ : Fin 16384) = ⟨s.val * 1024 + r.val, hl⟩ := Fin.ext (by dsimp only; omega)
  dsimp only
  rw [hs]

end Calls.GradOutB

open Idealize.ShloMosaic Idealize.SL.Sem

/-- The call returns the gradient of the weights. -/
theorem Calls.GradOutB.agree : @Cert.algebraic_Kernel7Ideal_Reference7Ideal Cert.Kernel7Ideal.Gen.facts Cert.Reference7Ideal.Gen.facts :=
  fun m ρ m' ρ' _ ha => ⟨Calls.GradOutB.grad m,
    (θ_run Cert.Kernel7Ideal.defs _ _).mono (fun r h c => ⟨(h c).1.trans (Calls.GradOutB.final m c), (h c).2⟩) (Cert.Kernel7Ideal.Value.run_blocks (F := Ideal) m ρ),
    (θ_run Cert.Reference7Ideal.defs _ _).mono (fun r h c => by
      obtain ⟨a0, a1⟩ := ha c
      refine ⟨(h c).1.trans ?_, (h c).2⟩
      rw [a0, a1]
      funext y
      obtain ⟨d, n, rfl⟩ : ∃ (d : Fin 512) (n : Fin 1024), y = ValueIdx.ix2 d n := ⟨_, _, ValueIdx.eq_ix2 y⟩
      pointwise
      simp only [ix2_eq_valueIdx]
      exact Finset.sum_congr rfl fun s _ => mul_comm _ _)
      (Cert.Reference7Ideal.Value.run (F := Ideal) m' ρ')⟩

end
-- ==== Proof.Calls.InProjB.lean ====
module

public import proofs.«01_k».proof.Defs
public import proofs.«01_k».proof.Proof.Calls.Rows
public import proofs.«01_k».proof.Proof.Gen.Kernel8Ideal.Value
public import proofs.«01_k».proof.Proof.Gen.Reference8Ideal.Run
public import Idealize.ShloMosaic.Lib.Pipeline.ReadBack
public import Idealize.ShloMosaic.Lib.Pipeline.ValueKit

@[expose] public section

set_option maxRecDepth 16384

noncomputable section

/-! The stream normalised with each of two gains and projected through two matrices of weights. -/

namespace Calls.InProjB

open Cert.Kernel8Ideal Cert.Kernel8Ideal.Gen
open Idealize.ShloMosaic hiding ix0 ix1 ix2 ix3 ix4 ix5
open Idealize.ShloMosaic.TcCoe
open Idealize.ShloMosaic.ValueIdx
open Idealize.ShloMosaic.Pipeline (Dat)

/-- The body's blocks: the normalised rows against the weights' columns. -/
theorem first_at (x : Vec Ideal S512x1024 .f32) (g : Vec Ideal S1x1024 .f32) (w : Vec Ideal S1024x1024 .bf16) (r : Fin 512) (n : Fin 1024) :
    k0_pay2 x g w (ix2 r n) = projected (S := 512) x g w r n := by
  unfold k0_pay2 k0_pay1
  pointwise
  simp only [ix2_eq_valueIdx]
  rfl

theorem second_at (x : Vec Ideal S512x1024 .f32) (g : Vec Ideal S1x1024 .f32) (w : Vec Ideal S1024x1024 .bf16) (r : Fin 512) (n : Fin 1024) :
    k0_pay3 x g w (ix2 r n) = projected (S := 512) x g w r n := by
  unfold k0_pay3 k0_pay1
  pointwise
  simp only [ix2_eq_valueIdx]
  rfl

variable (m : (ℓ : Loc nD τ sig) → Buf (Elt Ideal) ℓ) (c : Dev nD)

theorem place : ∀ t : Fin grid0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] := by decide +kernel

theorem row_lt (t : Fin cfg0.N) (r : Fin 512) : t.val * 512 + r.val < 16384 := by
  have hN : cfg0.N = 32 := N_0
  omega

theorem rows_at (t : Fin cfg0.N) (f : Vec Ideal S16384x1024 .f32) (r : Fin 512) (k : Fin 1024) : ((cfg0.win 0).blk t).view.read (Elt Ideal) f (ix2 r k)
    = f (ix2 (⟨t.val * 512 + r.val, row_lt t r⟩ : Fin 16384) k) := by
  blk_ext [show (cfg0.win 0).index t = _ from (place t).1]

theorem gain1_at (t : Fin cfg0.N) (f : Vec Ideal S1x1024 .f32) (r : Fin 1) (k : Fin 1024) : ((cfg0.win 1).blk t).view.read (Elt Ideal) f (ix2 r k) = f (ix2 r k) := by
  blk_ext [show (cfg0.win 1).index t = _ from (place t).2.1]

theorem gain2_at (t : Fin cfg0.N) (f : Vec Ideal S1x1024 .f32) (r : Fin 1) (k : Fin 1024) : ((cfg0.win 2).blk t).view.read (Elt Ideal) f (ix2 r k) = f (ix2 r k) := by
  blk_ext [show (cfg0.win 2).index t = _ from (place t).2.2.1]

theorem weights1_at (t : Fin cfg0.N) (f : Vec Ideal S1024x1024 .bf16) (r k : Fin 1024) : ((cfg0.win 3).blk t).view.read (Elt Ideal) f (ix2 r k) = f (ix2 r k) := by
  blk_ext [show (cfg0.win 3).index t = _ from (place t).2.2.2.1]

theorem weights2_at (t : Fin cfg0.N) (f : Vec Ideal S1024x1024 .bf16) (r k : Fin 1024) : ((cfg0.win 4).blk t).view.read (Elt Ideal) f (ix2 r k) = f (ix2 r k) := by
  blk_ext [show (cfg0.win 4).index t = _ from (place t).2.2.2.2.1]

theorem result1_place (t : Fin cfg0.N) (r : Fin 512) (k : Fin 1024) : ((cfg0.win 5).blk t).view.emb (ix2 r k)
    = (ix2 (⟨t.val * 512 + r.val, row_lt t r⟩ : Fin 16384) k : S16384x1024.Idx) := by
  blk_ext [show (cfg0.win 5).index t = _ from (place t).2.2.2.2.2.1]

theorem result2_place (t : Fin cfg0.N) (r : Fin 512) (k : Fin 1024) : ((cfg0.win 6).blk t).view.emb (ix2 r k)
    = (ix2 (⟨t.val * 512 + r.val, row_lt t r⟩ : Fin 16384) k : S16384x1024.Idx) := by
  blk_ext [show (cfg0.win 6).index t = _ from (place t).2.2.2.2.2.2]

/-- The projection with the first gain and the first weights. -/
abbrev first : Vec Ideal S16384x1024 .bf16 := fun y =>
  projected (S := 16384) (m ((c.tc : Thread nD τ).loc main_arg0)) (m ((c.tc : Thread nD τ).loc main_arg1)) (m ((c.tc : Thread nD τ).loc main_arg3)) (y 0) (y 1)

/-- The projection with the second gain and the second weights. -/
abbrev second : Vec Ideal S16384x1024 .bf16 := fun y =>
  projected (S := 16384) (m ((c.tc : Thread nD τ).loc main_arg0)) (m ((c.tc : Thread nD τ).loc main_arg2)) (m ((c.tc : Thread nD τ).loc main_arg4)) (y 0) (y 1)

/-- The two arrays the call returns. -/
theorem final1 : (dats m 0 c).arrAt 5 cfg0.N = first m c := by
  refine (dats m 0 c).arrAt_eq_of_covers 5 _ (by decide +kernel) fun t hf y => ?_
  obtain ⟨r, n, rfl⟩ : ∃ (r : Fin 512) (n : Fin 1024), y = ix2 r n := ⟨_, _, ValueIdx.eq_ix2 y⟩
  rw [result1_place]
  blk_simp
  rw [after0_5]
  frame_out
  refine (first_at _ _ _ r n).trans (Finset.sum_congr rfl fun k _ => congrArg₂ (fun p q : EReal => p * q)
    (congrArg₂ (fun x g => normed x g k) (funext fun j => ?_) (funext fun j => ?_)) ?_)
  · exact rows_at t (V m c main_arg0) r j
  · exact gain1_at t (V m c main_arg1) 0 j
  · exact weights1_at t (V m c main_arg3) k n

theorem final2 : (dats m 0 c).arrAt 6 cfg0.N = second m c := by
  refine (dats m 0 c).arrAt_eq_of_covers 6 _ (by decide +kernel) fun t hf y => ?_
  obtain ⟨r, n, rfl⟩ : ∃ (r : Fin 512) (n : Fin 1024), y = ix2 r n := ⟨_, _, ValueIdx.eq_ix2 y⟩
  rw [result2_place]
  blk_simp
  rw [after0_6]
  frame_out
  refine (second_at _ _ _ r n).trans (Finset.sum_congr rfl fun k _ => congrArg₂ (fun p q : EReal => p * q)
    (congrArg₂ (fun x g => normed x g k) (funext fun j => ?_) (funext fun j => ?_)) ?_)
  · exact rows_at t (V m c main_arg0) r j
  · exact gain2_at t (V m c main_arg2) 0 j
  · exact weights2_at t (V m c main_arg4) k n

end Calls.InProjB

open Idealize.ShloMosaic Idealize.SL.Sem

/-- The call returns the two projections. -/
theorem Calls.InProjB.agree : @Cert.algebraic_Kernel8Ideal_Reference8Ideal Cert.Kernel8Ideal.Gen.facts Cert.Reference8Ideal.Gen.facts :=
  fun m ρ m' ρ' _ ha => ⟨Calls.InProjB.first m, Calls.InProjB.second m,
    (θ_run Cert.Kernel8Ideal.defs _ _).mono (fun r h c => ⟨(h c).1.trans (Calls.InProjB.final1 m c), (h c).2.1.trans (Calls.InProjB.final2 m c), (h c).2.2⟩) (Cert.Kernel8Ideal.Value.run_blocks (F := Ideal) m ρ),
    (θ_run Cert.Reference8Ideal.defs _ _).mono (fun r h c => by
      obtain ⟨a0, a1, a2, a3, a4⟩ := ha c
      refine ⟨(h c).1.trans ?_, (h c).2.1.trans ?_, (h c).2.2⟩
      all_goals
        rw [a0]
        first | rw [a1, a3] | rw [a2, a4]
        funext y
        obtain ⟨s, d, rfl⟩ : ∃ (s : Fin 16384) (d : Fin 1024), y = ValueIdx.ix2 s d := ⟨_, _, ValueIdx.eq_ix2 y⟩
        pointwise
        simp only [ix2_eq_valueIdx]
        rfl)
      (Cert.Reference8Ideal.Value.run (F := Ideal) m' ρ')⟩

end
-- ==== Proof.Calls.OutProjA.lean ====
module

public import proofs.«01_k».proof.Defs
public import proofs.«01_k».proof.Proof.Calls.Rows
public import proofs.«01_k».proof.Proof.Gen.Kernel9Ideal.Value
public import proofs.«01_k».proof.Proof.Gen.Reference9Ideal.Run
public import Idealize.ShloMosaic.Lib.Pipeline.ReadBack
public import Idealize.ShloMosaic.Lib.Pipeline.ValueKit

@[expose] public section

set_option maxRecDepth 16384

noncomputable section

/-! The stream after the mixer: the stream, and the mixer's rows through the output weights. -/

namespace Calls.OutProjA

open Cert.Kernel9Ideal Cert.Kernel9Ideal.Gen
open Idealize.ShloMosaic hiding ix0 ix1 ix2 ix3 ix4 ix5
open Idealize.ShloMosaic.TcCoe
open Idealize.ShloMosaic.ValueIdx
open Idealize.ShloMosaic.Pipeline (Dat)

/-- The body's block: the stream and the projection of the mixer's rows. -/
theorem block_at (x w : Vec Ideal S1024x1024 .bf16) (z : Vec Ideal S1024x1024 .f32) (r d : Fin 1024) :
    k0_pay1 x w z (ix2 r d) = z (ix2 r d) + ∑ k : Fin 1024, (x (ix2 r k) : EReal) * w (ix2 k d) := by
  unfold k0_pay1
  pointwise
  simp only [ix2_eq_valueIdx]
  exact add_comm _ _

variable (m : (ℓ : Loc nD τ sig) → Buf (Elt Ideal) ℓ) (c : Dev nD)

theorem place : ∀ t : Fin grid0.N, win0_0.index t = ![t.val, 0] ∧ win0_1.index t = ![0, 0] ∧ win0_2.index t = ![t.val, 0] ∧ win0_3.index t = ![t.val, 0] := by decide +kernel

theorem row_lt (t : Fin cfg0.N) (r : Fin 1024) : t.val * 1024 + r.val < 16384 := by
  have hN : cfg0.N = 16 := N_0
  omega

theorem rows_at (t : Fin cfg0.N) (f : Vec Ideal S16384x1024 .bf16) (r k : Fin 1024) : ((cfg0.win 0).blk t).view.read (Elt Ideal) f (ix2 r k)
    = f (ix2 (⟨t.val * 1024 + r.val, row_lt t r⟩ : Fin 16384) k) := by
  blk_ext [show (cfg0.win 0).index t = _ from (place t).1]

theorem weights_at (t : Fin cfg0.N) (f : Vec Ideal S1024x1024 .bf16) (r k : Fin 1024) : ((cfg0.win 1).blk t).view.read (Elt Ideal) f (ix2 r k) = f (ix2 r k) := by
  blk_ext [show (cfg0.win 1).index t = _ from (place t).2.1]

theorem stream_at (t : Fin cfg0.N) (f : Vec Ideal S16384x1024 .f32) (r k : Fin 1024) : ((cfg0.win 2).blk t).view.read (Elt Ideal) f (ix2 r k)
    = f (ix2 (⟨t.val * 1024 + r.val, row_lt t r⟩ : Fin 16384) k) := by
  blk_ext [show (cfg0.win 2).index t = _ from (place t).2.2.1]

theorem result_place (t : Fin cfg0.N) (r k : Fin 1024) : ((cfg0.win 3).blk t).view.emb (ix2 r k)
    = (ix2 (⟨t.val * 1024 + r.val, row_lt t r⟩ : Fin 16384) k : S16384x1024.Idx) := by
  blk_ext [show (cfg0.win 3).index t = _ from (place t).2.2.2]

/-- The stream and the projected rows. -/
abbrev streamed : Vec Ideal S16384x1024 .f32 := fun y =>
  onto (S := 16384) (K := 1024) (N := 1024) (m ((c.tc : Thread nD τ).loc main_arg2)) (m ((c.tc : Thread nD τ).loc main_arg0)) (m ((c.tc : Thread nD τ).loc main_arg1)) (y 0) (y 1)

/-- The array the call returns. -/
theorem final : (dats m 0 c).arrAt 3 cfg0.N = streamed m c := by
  refine (dats m 0 c).arrAt_eq_of_covers 3 _ (by decide +kernel) fun t hf y => ?_
  obtain ⟨r, d, rfl⟩ : ∃ (r d : Fin 1024), y = ix2 r d := ⟨_, _, ValueIdx.eq_ix2 y⟩
  rw [result_place]
  blk_simp
  rw [after0_3]
  unfold outsAt0
  frame_out
  refine (block_at _ _ _ r d).trans (congrArg₂ (fun p q : EReal => p + q) ?_ (Finset.sum_congr rfl fun k _ => congrArg₂ (fun p q : EReal => p * q) ?_ ?_))
  · exact stream_at t (V m c main_arg2) r d
  · exact rows_at t (V m c main_arg0) r k
  · exact weights_at t (V m c main_arg1) k d

end Calls.OutProjA

open Idealize.ShloMosaic Idealize.SL.Sem

/-- The call returns the stream and the projection. -/
theorem Calls.OutProjA.agree : @Cert.algebraic_Kernel9Ideal_Reference9Ideal Cert.Kernel9Ideal.Gen.facts Cert.Reference9Ideal.Gen.facts :=
  fun m ρ m' ρ' _ ha => ⟨Calls.OutProjA.streamed m,
    (θ_run Cert.Kernel9Ideal.defs _ _).mono (fun r h c => ⟨(h c).1.trans (Calls.OutProjA.final m c), (h c).2⟩) (Cert.Kernel9Ideal.Value.run_blocks (F := Ideal) m ρ),
    (θ_run Cert.Reference9Ideal.defs _ _).mono (fun r h c => by
      obtain ⟨a0, a1, a2⟩ := ha c
      refine ⟨(h c).1.trans ?_, (h c).2⟩
      rw [a0, a1, a2]
      funext y
      obtain ⟨s, d, rfl⟩ : ∃ (s : Fin 16384) (d : Fin 1024), y = ValueIdx.ix2 s d := ⟨_, _, ValueIdx.eq_ix2 y⟩
      pointwise
      rfl)
      (Cert.Reference9Ideal.Value.run (F := Ideal) m' ρ')⟩

end
-- ==== Proof.Calls.Finite.lean ====
module

public import proofs.«01_k».proof.Proof.Calls.Rows

@[expose] public section

noncomputable section

/-! Extended reals that are real, and the two identities that need them: the gradient through the normalisation of a row,
    taken for two scaled copies of the normalised row at once or one after the other, and the derivative of `g ↦ g · σ(g)`
    spelt in two ways. -/

namespace Calls

open Idealize.ShloMosaic hiding ix0 ix1 ix2 ix3 ix4 ix5

/-- The extended real is a real number. -/
def IsReal (x : EReal) : Prop := ∃ r : ℝ, x = r

theorem IsReal.of_ne {x : EReal} (hb : x ≠ ⊥) (ht : x ≠ ⊤) : IsReal x := ⟨x.toReal, (EReal.coe_toReal ht hb).symm⟩

/-- What a predicate that compares a size with infinity says of one entry. -/
theorem IsReal.of_lt {x : EReal} (h : BitVec.ofBool (decide (max x (-x) < ⊤)) = 1#1) : IsReal x := by
  have hlt : max x (-x) < ⊤ := by
    by_contra hn
    rw [decide_eq_false hn] at h
    exact absurd h (by decide)
  refine IsReal.of_ne ?_ ?_
  · rintro rfl
    exact absurd hlt (by simp)
  · rintro rfl
    exact absurd hlt (by simp)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The number of columns, as the programs write it. -/
theorem width_bits : Ideal.ofBits .f32 0x44800000#32 = ((1024 : ℝ) : EReal) := by
  simp [Ideal.ofBits, Ideal.ieee, -EReal.coe_mul]; norm_num

theorem neg_half_bits : Ideal.ofBits .f32 0xBF000000#32 = ((-(1 / 2) : ℝ) : EReal) := by
  simp [Ideal.ofBits, Ideal.ieee, -EReal.coe_mul]; norm_num

theorem small_bits : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem inf_bits : Ideal.ofBits .f32 0x7F800000#32 = ⊤ := by simp [Ideal.ofBits, Ideal.ieee]

/-- The mean square of a row, moved up by the small constant. -/
def meanSquare (row : Fin 1024 → EReal) : EReal :=
  Ideal.div (∑ k, row k * row k) (Ideal.ofBits .f32 0x44800000#32) + Ideal.ofBits .f32 0x358637BD#32

theorem scale_eq (row : Fin 1024 → EReal) : scale row = Ideal.rsqrt (meanSquare row) := rfl

/-- What the cotangents `p` and `q` of the normalised row, and `z` of the row itself, give as the row's gradient: both
    at once. -/
def rowGradient (row p q : Fin 1024 → EReal) (z : EReal) (d : Fin 1024) : EReal :=
  z + scale row * ((p d + q d) - row d * scale row * Ideal.div (∑ k, (p k + q k) * (row k * scale row)) (Ideal.ofBits .f32 0x44800000#32))

/-- The part of a row's gradient that goes through the mean square, for one cotangent. -/
def throughMean (row q : Fin 1024 → EReal) : EReal :=
  Ideal.div ((∑ k, row k * q k) * (Ideal.ofBits .f32 0xBF000000#32 * Ideal.div (scale row) (meanSquare row))) (Ideal.ofBits .f32 0x44800000#32)

/-- The same gradient, one cotangent after the other. -/
def rowGradientPlain (row p q : Fin 1024 → EReal) (z : EReal) (d : Fin 1024) : EReal :=
  z + q d * scale row + row d * throughMean row q + throughMean row q * row d + p d * scale row + row d * throughMean row p + throughMean row p * row d

theorem meanSquare_real (row : Fin 1024 → ℝ) : ∃ μ : ℝ, 0 < μ ∧ meanSquare (fun k => (row k : EReal)) = (μ : EReal) := by
  obtain ⟨e, he, h⟩ := small_bits
  refine ⟨(∑ k, row k * row k) * (1 / 1024) + e, ?_, ?_⟩
  · have : 0 ≤ ∑ k, row k * row k := Finset.sum_nonneg fun k _ => mul_self_nonneg _
    positivity
  · unfold meanSquare
    rw [width_bits, h, Ideal.div_coe (by norm_num)]
    simp only [← EReal.coe_mul, ← coe_sum, ← EReal.coe_add]

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem meanSquare_top (row : Fin 1024 → EReal) (k : Fin 1024) (hk : row k * row k = ⊤) : meanSquare row = ⊤ := by
  obtain ⟨e, he, h⟩ := small_bits
  have hs : ∑ k, row k * row k = ⊤ :=
    top_le_iff.mp (hk ▸ Finset.single_le_sum (f := fun k => row k * row k) (fun i _ => mul_self_nonneg' (row i)) (Finset.mem_univ k))
  unfold meanSquare
  rw [hs, width_bits, h, Ideal.div_coe (by norm_num), EReal.top_mul_coe_of_pos (by norm_num), EReal.top_add_coe]

/-- The two spellings agree when the cotangents of the normalised row are real; the row and `z` may be anything. -/
theorem rowGradient_eq (row p q : Fin 1024 → EReal) (z : EReal) (d : Fin 1024) (hp : ∀ k, IsReal (p k)) (hq : ∀ k, IsReal (q k)) :
    rowGradient row p q z d = rowGradientPlain row p q z d := by
  unfold rowGradient rowGradientPlain throughMean
  by_cases hr : ∀ k, IsReal (row k)
  · choose X hX using hr
    choose P hP using hp
    choose Q hQ using hq
    obtain rfl : row = fun k => (X k : EReal) := funext hX
    obtain rfl : p = fun k => (P k : EReal) := funext hP
    obtain rfl : q = fun k => (Q k : EReal) := funext hQ
    obtain ⟨μ, hμ, h⟩ := meanSquare_real X
    rw [scale_eq, h, Ideal.rsqrt_coe, if_neg (by linarith), if_neg (ne_of_gt hμ), width_bits, neg_half_bits]
    simp only [Ideal.div_coe (show (1024 : ℝ) ≠ 0 by norm_num), Ideal.div_coe (ne_of_gt hμ)]
    have hs : (√μ)⁻¹ * (1 / μ) = (√μ)⁻¹ * ((√μ)⁻¹ * (√μ)⁻¹) := by
      rw [← mul_inv, Real.mul_self_sqrt hμ.le, one_div]
    generalize (√μ)⁻¹ = σ at hs ⊢
    simp only [add_assoc z]
    refine congrArg (z + ·) ?_
    simp only [← EReal.coe_mul, ← EReal.coe_add, ← EReal.coe_sub, ← coe_sum]
    refine congrArg _ ?_
    rw [hs]
    have e1 : ∑ k, (P k + Q k) * (X k * σ) = ((∑ k, X k * P k) + ∑ k, X k * Q k) * σ := by
      rw [← Finset.sum_add_distrib, Finset.sum_mul]
      exact Finset.sum_congr rfl fun k _ => by ring
    rw [e1]
    ring
  · obtain ⟨k, hk⟩ := not_forall.mp hr
    have ht : row k * row k = ⊤ := by
      induction h : row k with
      | bot => rfl
      | top => rfl
      | coe r => exact absurd ⟨r, h⟩ hk
    rw [scale_eq, meanSquare_top row k ht, Ideal.rsqrt_top, width_bits, Ideal.div_coe (by norm_num)]
    have h0 : Ideal.div 0 ⊤ = 0 := by simp [Ideal.div]
    rw [h0]
    simp only [mul_zero, zero_mul, add_zero, Ideal.div_coe (show (1024 : ℝ) ≠ 0 by norm_num)]

/-- The logistic function, as the programs write it. -/
def sigma (g : EReal) : EReal := Ideal.div 1 (1 + Ideal.exp (0 - g))

/-- The same with the sign in front. -/
theorem sigma_neg (g : EReal) : Ideal.div 1 (1 + Ideal.exp (-g)) = sigma g := by
  unfold sigma
  rw [zero_sub]

theorem sigma_bot : sigma ⊥ = 0 := by
  have h : (1 : EReal) + ⊤ = ⊤ := by rw [← EReal.coe_one, EReal.coe_add_top]
  have h0 : (0 : EReal) - ⊥ = ⊤ := by simp
  unfold sigma
  rw [h0, Ideal.exp_top, h]
  simp [Ideal.div]

theorem sigma_top : sigma ⊤ = 1 := by
  simp [sigma, Ideal.div]

theorem sigma_coe (g : ℝ) : ∃ s : ℝ, sigma g = s := by
  refine ⟨1 / (1 + Real.exp (-g)), ?_⟩
  have h : (1 + Real.exp (-g)) ≠ 0 := by positivity
  unfold sigma
  rw [zero_sub, ← EReal.coe_neg, Ideal.exp_coe, ← EReal.coe_one, ← EReal.coe_add, Ideal.div_coe h, ← EReal.coe_mul, one_mul]

/-- The derivative of `g · σ(g)`, times a real cotangent, in two spellings. -/
theorem gate_eq (a g : EReal) (ha : IsReal a) : a * (sigma g * (1 + g * (1 - sigma g))) = a * sigma g + g * a * (sigma g * (1 - sigma g)) := by
  obtain ⟨A, rfl⟩ := ha
  induction g with
  | bot => rw [sigma_bot]; simp
  | top =>
    have h : (1 : EReal) - 1 = 0 := by rw [← EReal.coe_one, ← EReal.coe_sub]; simp
    rw [sigma_top, h]; simp
  | coe g =>
    obtain ⟨s, hs⟩ := sigma_coe g
    rw [hs, ← EReal.coe_one]
    simp only [← EReal.coe_mul, ← EReal.coe_add, ← EReal.coe_sub]
    refine congrArg _ ?_
    ring

end Calls

end
-- ==== Proof.Calls.OutBBwd.lean ====
module

public import proofs.«01_k».proof.Defs
public import proofs.«01_k».proof.Proof.Calls.Rows
public import proofs.«01_k».proof.Proof.Calls.Finite
public import proofs.«01_k».proof.Proof.Gen.Kernel10Ideal.Value
public import proofs.«01_k».proof.Proof.Gen.Reference10Ideal.Run
public import proofs.«01_k».proof.Proof.Gen.Pre_finite_gate
public import Idealize.ShloMosaic.Lib.Pipeline.ReadBack
public import Idealize.ShloMosaic.Lib.Pipeline.ValueKit

@[expose] public section

set_option maxRecDepth 16384

noncomputable section

/-! The cotangent of the stream taken back through the output projection and through the gates: what it gives for the
    attention's output, and for the gates. -/

namespace Calls.OutBBwd

open Cert.Kernel10Ideal Cert.Kernel10Ideal.Gen
open Idealize.ShloMosaic hiding ix0 ix1 ix2 ix3 ix4 ix5
open Idealize.ShloMosaic.TcCoe
open Idealize.ShloMosaic.ValueIdx
open Idealize.ShloMosaic.Pipeline (Dat)

/-- The cotangent of the attention's output: that of the gated output, times the gate. -/
def gated {S : ℕ} (x : (⟨2, ![S, 1024]⟩ : Shape).Idx → EReal) (w : (⟨2, ![512, 1024]⟩ : Shape).Idx → EReal) (g : EReal) (s : Fin S) (n : Fin 512) : EReal :=
  againstRow x w s n * (g * sigma g)

/-- The cotangent of a gate: that of the gated output, times the attention's output and the gate's derivative. -/
def ofGate {S : ℕ} (x : (⟨2, ![S, 1024]⟩ : Shape).Idx → EReal) (w : (⟨2, ![512, 1024]⟩ : Shape).Idx → EReal) (o g : EReal) (s : Fin S) (n : Fin 512) : EReal :=
  againstRow x w s n * o * (sigma g * (1 + g * (1 - sigma g)))

theorem first_at (x : Vec Ideal S512x1024 .f32) (w : Vec Ideal S512x1024 .bf16) (g : Vec Ideal S512x512 .bf16) (r n : Fin 512) :
    k0_pay4 x w g (ix2 r n) = gated (S := 512) x w (g (ix2 r n)) r n := by
  unfold k0_pay4 k0_pay3 k0_pay2 k0_pay1
  pointwise
  simp only [ix2_eq_valueIdx]
  rfl

theorem second_at (x : Vec Ideal S512x1024 .f32) (w : Vec Ideal S512x1024 .bf16) (g : Vec Ideal S512x512 .bf16) (o : Vec Ideal S512x512 .f32) (r n : Fin 512) :
    k0_pay5 x w g o (ix2 r n) = ofGate (S := 512) x w (o (ix2 r n)) (g (ix2 r n)) r n := by
  unfold k0_pay5 k0_pay3 k0_pay2 k0_pay1
  pointwise
  simp only [ix2_eq_valueIdx]
  rfl

variable (m : (ℓ : Loc nD τ sig) → Buf (Elt Ideal) ℓ) (c : Dev nD)

theorem place : ∀ t : Fin grid0.N, win0_0.index t = ![t.val, 0] ∧ win0_1.index t = ![0, 0] ∧ win0_2.index t = ![t.val, 0] ∧ win0_3.index t = ![t.val, 1] ∧ win0_4.index t = ![t.val, 0]
    ∧ win0_5.index t = ![t.val, 0] := by decide +kernel

theorem row_lt (t : Fin cfg0.N) (r : Fin 512) : t.val * 512 + r.val < 16384 := by
  have hN : cfg0.N = 32 := N_0
  omega

/-- The gate's column among those of the queries and the gates. -/
def gateColumn (n : Fin 512) : Fin 1024 := ⟨512 + n.val, by omega⟩

theorem rows_at (t : Fin cfg0.N) (f : Vec Ideal S16384x1024 .f32) (r : Fin 512) (k : Fin 1024) : ((cfg0.win 0).blk t).view.read (Elt Ideal) f (ix2 r k)
    = f (ix2 (⟨t.val * 512 + r.val, row_lt t r⟩ : Fin 16384) k) := by
  blk_ext [show (cfg0.win 0).index t = _ from (place t).1]

theorem weights_at (t : Fin cfg0.N) (f : Vec Ideal S512x1024 .bf16) (r : Fin 512) (k : Fin 1024) : ((cfg0.win 1).blk t).view.read (Elt Ideal) f (ix2 r k) = f (ix2 r k) := by
  blk_ext [show (cfg0.win 1).index t = _ from (place t).2.1]

theorem outs_at (t : Fin cfg0.N) (f : Vec Ideal S16384x512 .f32) (r k : Fin 512) : ((cfg0.win 2).blk t).view.read (Elt Ideal) f (ix2 r k)
    = f (ix2 (⟨t.val * 512 + r.val, row_lt t r⟩ : Fin 16384) k) := by
  blk_ext [show (cfg0.win 2).index t = _ from (place t).2.2.1]

theorem gates_at (t : Fin cfg0.N) (f : Vec Ideal S16384x1024 .bf16) (r k : Fin 512) : ((cfg0.win 3).blk t).view.read (Elt Ideal) f (ix2 r k)
    = f (ix2 (⟨t.val * 512 + r.val, row_lt t r⟩ : Fin 16384) (gateColumn k)) := by
  blk_ext [show (cfg0.win 3).index t = _ from (place t).2.2.2.1]
  rfl

theorem result1_place (t : Fin cfg0.N) (r k : Fin 512) : ((cfg0.win 4).blk t).view.emb (ix2 r k)
    = (ix2 (⟨t.val * 512 + r.val, row_lt t r⟩ : Fin 16384) k : S16384x512.Idx) := by
  blk_ext [show (cfg0.win 4).index t = _ from (place t).2.2.2.2.1]

theorem result2_place (t : Fin cfg0.N) (r k : Fin 512) : ((cfg0.win 5).blk t).view.emb (ix2 r k)
    = (ix2 (⟨t.val * 512 + r.val, row_lt t r⟩ : Fin 16384) k : S16384x512.Idx) := by
  blk_ext [show (cfg0.win 5).index t = _ from (place t).2.2.2.2.2]

/-- What the call gives for the attention's output. -/
abbrev first : Vec Ideal S16384x512 .f32 := fun y =>
  gated (S := 16384) (m ((c.tc : Thread nD τ).loc main_arg0)) (m ((c.tc : Thread nD τ).loc main_arg1))
    (m ((c.tc : Thread nD τ).loc main_arg3) (ix2 (y 0) (gateColumn (y 1)))) (y 0) (y 1)

/-- What it gives for the gates. -/
abbrev second : Vec Ideal S16384x512 .bf16 := fun y =>
  ofGate (S := 16384) (m ((c.tc : Thread nD τ).loc main_arg0)) (m ((c.tc : Thread nD τ).loc main_arg1))
    (m ((c.tc : Thread nD τ).loc main_arg2) (ix2 (y 0) (y 1))) (m ((c.tc : Thread nD τ).loc main_arg3) (ix2 (y 0) (gateColumn (y 1)))) (y 0) (y 1)

theorem product_at (t : Fin cfg0.N) (r n : Fin 512) : againstRow (S := 512) (N := 512) (iblk m c 0 t) (iblk m c 1 t) r n
    = againstRow (S := 16384) (N := 512) (m ((c.tc : Thread nD τ).loc main_arg0)) (m ((c.tc : Thread nD τ).loc main_arg1)) ⟨t.val * 512 + r.val, row_lt t r⟩ n :=
  Finset.sum_congr rfl fun k _ => congrArg₂ (fun p q : EReal => p * q) (rows_at t (V m c main_arg0) r k) (weights_at t (V m c main_arg1) n k)

/-- The two arrays the call returns. -/
theorem final1 : (dats m 0 c).arrAt 4 cfg0.N = first m c := by
  refine (dats m 0 c).arrAt_eq_of_covers 4 _ (by decide +kernel) fun t hf y => ?_
  obtain ⟨r, n, rfl⟩ : ∃ (r : Fin 512) (n : Fin 512), y = ix2 r n := ⟨_, _, ValueIdx.eq_ix2 y⟩
  rw [result1_place]
  blk_simp
  rw [after0_4]
  frame_out
  refine (first_at _ _ _ r n).trans ?_
  exact congrArg₂ (fun p g : EReal => p * (g * sigma g)) (product_at m c t r n) (gates_at t (V m c main_arg3) r n)

theorem final2 : (dats m 0 c).arrAt 5 cfg0.N = second m c := by
  refine (dats m 0 c).arrAt_eq_of_covers 5 _ (by decide +kernel) fun t hf y => ?_
  obtain ⟨r, n, rfl⟩ : ∃ (r : Fin 512) (n : Fin 512), y = ix2 r n := ⟨_, _, ValueIdx.eq_ix2 y⟩
  rw [result2_place]
  blk_simp
  rw [after0_5]
  frame_out
  refine (second_at _ _ _ _ r n).trans ?_
  exact congrArg₂ (fun p g : EReal => p * (sigma g * (1 + g * (1 - sigma g))))
    (congrArg₂ (fun p q : EReal => p * q) (product_at m c t r n) (outs_at t (V m c main_arg2) r n)) (gates_at t (V m c main_arg3) r n)

/-! ## What the precondition says -/

variable (h : @Cert.Pre_Kernel10Ideal_finite_gate Cert.Pre_finite_gate.Gen.facts m)
include h

theorem real_rows (i : S16384x1024.Idx) : IsReal (m ((c.tc : Thread nD τ).loc main_arg0) i) := by
  refine IsReal.of_lt (Eq.trans ?_ (congrFun (h c).1 i))
  unfold Cert.Pre_finite_gate.fn
  pointwise
  rw [inf_bits]
  rfl

theorem real_weights (i : S512x1024.Idx) : IsReal (m ((c.tc : Thread nD τ).loc main_arg1) i) := by
  refine IsReal.of_lt (Eq.trans ?_ (congrFun (h c).2.1 i))
  unfold Cert.Pre_finite_gate.fn
  pointwise
  rw [inf_bits]
  rfl

theorem real_outs (i : S16384x512.Idx) : IsReal (m ((c.tc : Thread nD τ).loc main_arg2) i) := by
  refine IsReal.of_lt (Eq.trans ?_ (congrFun (h c).2.2 i))
  unfold Cert.Pre_finite_gate.fn
  pointwise
  rw [inf_bits]
  rfl

theorem real_product (s : Fin 16384) (n : Fin 512) (o : EReal) (ho : IsReal o) :
    IsReal (againstRow (S := 16384) (N := 512) (m ((c.tc : Thread nD τ).loc main_arg0)) (m ((c.tc : Thread nD τ).loc main_arg1)) s n * o) :=
  (IsReal.sum _ fun k => (real_rows m c h _).mul (real_weights m c h _)).mul ho

end Calls.OutBBwd

open Idealize.ShloMosaic Idealize.SL.Sem

/-- The call returns the two cotangents. -/
theorem Calls.OutBBwd.agree : @Cert.algebraic_Kernel10Ideal_Reference10Ideal_pre_finite_gate Cert.Kernel10Ideal.Gen.facts Cert.Reference10Ideal.Gen.facts Cert.Pre_finite_gate.Gen.facts :=
  fun m ρ m' ρ' hp ha => ⟨Calls.OutBBwd.first m, Calls.OutBBwd.second m,
    (θ_run Cert.Kernel10Ideal.defs _ _).mono (fun r h c => ⟨(h c).1.trans (Calls.OutBBwd.final1 m c), (h c).2.1.trans (Calls.OutBBwd.final2 m c), (h c).2.2⟩) (Cert.Kernel10Ideal.Value.run_blocks (F := Ideal) m ρ),
    (θ_run Cert.Reference10Ideal.defs _ _).mono (fun r h c => by
      obtain ⟨a0, a1, a2, a3⟩ := ha c
      refine ⟨(h c).1.trans ?_, (h c).2.1.trans ?_, (h c).2.2⟩
      · rw [a0, a1, a3]
        funext y
        obtain ⟨s, d, rfl⟩ : ∃ (s : Fin 16384) (d : Fin 512), y = ValueIdx.ix2 s d := ⟨_, _, ValueIdx.eq_ix2 y⟩
        pointwise
        simp only [ix2_eq_valueIdx, Calls.sigma_neg]
        rfl
      · rw [a0, a1, a2, a3]
        funext y
        obtain ⟨s, d, rfl⟩ : ∃ (s : Fin 16384) (d : Fin 512), y = ValueIdx.ix2 s d := ⟨_, _, ValueIdx.eq_ix2 y⟩
        refine Eq.trans ?_ (Calls.gate_eq _ _ (Calls.OutBBwd.real_product m c hp s d _ (Calls.OutBBwd.real_outs m c hp (ValueIdx.ix2 s d)))).symm
        pointwise
        simp only [ix2_eq_valueIdx, Calls.sigma_neg]
        rw [mul_comm (Calls.againstRow (S := 16384) (N := 512) _ _ s d)]
        rfl)
      (Cert.Reference10Ideal.Value.run (F := Ideal) m' ρ')⟩

end
-- ==== Proof.Calls.RmsBwd.lean ====
module

public import proofs.«01_k».proof.Defs
public import proofs.«01_k».proof.Proof.Calls.Rows
public import proofs.«01_k».proof.Proof.Calls.Finite
public import proofs.«01_k».proof.Proof.Gen.Kernel11Ideal.Value
public import proofs.«01_k».proof.Proof.Gen.Reference11Ideal.Run
public import proofs.«01_k».proof.Proof.Gen.Pre_finite_products
public import Idealize.ShloMosaic.Lib.Pipeline.ReadBack
public import Idealize.ShloMosaic.Lib.Pipeline.ValueKit

@[expose] public section

set_option maxRecDepth 16384

noncomputable section

/-! The cotangents of two projections taken back through their weights, their gains and the normalisation they share:
    what they give for the stream, and for each of the gains. -/

namespace Calls.RmsBwd

open Cert.Kernel11Ideal Cert.Kernel11Ideal.Gen
open Idealize.ShloMosaic hiding ix0 ix1 ix2 ix3 ix4 ix5
open Idealize.ShloMosaic.TcCoe
open Idealize.ShloMosaic.ValueIdx
open Idealize.ShloMosaic.Pipeline (Dat)

/-- The cotangent of the normalised row of position `s`, from one projection. -/
def back {S : ℕ} (a : (⟨2, ![S, 1024]⟩ : Shape).Idx → EReal) (w : (⟨2, ![1024, 1024]⟩ : Shape).Idx → EReal) (g : (⟨2, ![1, 1024]⟩ : Shape).Idx → EReal)
    (s : Fin S) (k : Fin 1024) : EReal := againstRow a w s k * g (ix2 0 k)

/-- The stream's gradient at position `s`. -/
def ofStream {S : ℕ} (x a b : (⟨2, ![S, 1024]⟩ : Shape).Idx → EReal) (w v : (⟨2, ![1024, 1024]⟩ : Shape).Idx → EReal) (g h : (⟨2, ![1, 1024]⟩ : Shape).Idx → EReal)
    (z : (⟨2, ![S, 1024]⟩ : Shape).Idx → EReal) (s : Fin S) (d : Fin 1024) : EReal :=
  rowGradient (fun k => x (ix2 s k)) (back a w g s) (back b v h s) (z (ix2 s d)) d

/-- What position `s` adds to the gradient of a gain. -/
def gainTerm {S : ℕ} (x a : (⟨2, ![S, 1024]⟩ : Shape).Idx → EReal) (w : (⟨2, ![1024, 1024]⟩ : Shape).Idx → EReal) (d : Fin 1024) (s : Fin S) : EReal :=
  againstRow a w s d * (x (ix2 s d) * scale (fun k => x (ix2 s k)))

theorem stream_at (x : Vec Ideal S512x1024 .f32) (a : Vec Ideal S512x1024 .bf16) (b : Vec Ideal S512x1024 .f32) (w v : Vec Ideal S1024x1024 .bf16)
    (g h : Vec Ideal S1x1024 .f32) (z : Vec Ideal S512x1024 .f32) (r : Fin 512) (d : Fin 1024) :
    k0_pay2 (k0_pay5 x) (k0_pay6 x) (k0_pay9 a w g) (k0_pay10 b v) h z (ix2 r d) = ofStream (S := 512) x a b w v g h z r d := by
  unfold k0_pay2 k0_pay9 k0_pay10 k0_pay7 k0_pay6 k0_pay5
  pointwise
  simp only [ix2_eq_valueIdx]
  rfl

theorem gain1_step (x : Vec Ideal S512x1024 .f32) (a : Vec Ideal S512x1024 .bf16) (w : Vec Ideal S1024x1024 .bf16) (acc : Vec Ideal S1x1024 .f32) (y : S1x1024.Idx) :
    k0_pay8 x a w acc y = acc y + ∑ r : Fin 512, gainTerm (S := 512) x a w (y 1) r := by
  obtain ⟨i, d, rfl⟩ : ∃ (i : Fin 1) (d : Fin 1024), y = ix2 i d := ⟨_, _, ValueIdx.eq_ix2 y⟩
  unfold k0_pay8 k0_pay7 k0_pay6 k0_pay5
  pointwise
  simp only [ix2_eq_valueIdx]
  rfl

theorem gain2_step (x b : Vec Ideal S512x1024 .f32) (v : Vec Ideal S1024x1024 .bf16) (acc : Vec Ideal S1x1024 .f32) (y : S1x1024.Idx) :
    k0_pay1 (k0_pay6 x) (k0_pay10 b v) acc y = acc y + ∑ r : Fin 512, gainTerm (S := 512) x b v (y 1) r := by
  obtain ⟨i, d, rfl⟩ : ∃ (i : Fin 1) (d : Fin 1024), y = ix2 i d := ⟨_, _, ValueIdx.eq_ix2 y⟩
  unfold k0_pay1 k0_pay10 k0_pay6 k0_pay5
  pointwise
  simp only [ix2_eq_valueIdx]
  rfl

theorem zero1_at (y : S1x1024.Idx) : k0_pay3 (F := Ideal) y = 0 := by
  unfold k0_pay3
  pointwise

theorem zero2_at (y : S1x1024.Idx) : k0_pay4 (F := Ideal) y = 0 := by
  unfold k0_pay4
  pointwise

variable (m : (ℓ : Loc nD τ sig) → Buf (Elt Ideal) ℓ) (c : Dev nD)

/-- What point `t` adds to the gradient of the first gain. -/
def added1 (t : Fin cfg0.N) (y : S1x1024.Idx) : EReal :=
  ∑ r : Fin 512, gainTerm (S := 512) (iblk m c 0 t) (iblk m c 1 t) (iblk m c 3 t) (y 1) r

/-- What it adds to the gradient of the second. -/
def added2 (t : Fin cfg0.N) (y : S1x1024.Idx) : EReal :=
  ∑ r : Fin 512, gainTerm (S := 512) (iblk m c 0 t) (iblk m c 2 t) (iblk m c 4 t) (y 1) r

theorem start1 (t : Fin cfg0.N) (h0 : t.val % 32 = 0) (y : S1x1024.Idx) : (outsAt0 m c t.val t.isLt).2.1 y = 0 + added1 m c t y := by
  rw [outsAt0_A m c t h0]
  frame_out
  rw [gain1_step, zero1_at]
  rfl

theorem next1 (t : Fin cfg0.N) (h0 : ¬ t.val % 32 = 0) (y : S1x1024.Idx) :
    (outsAt0 m c t.val t.isLt).2.1 y = (outsAt0 m c (t.val - 1) (Nat.lt_of_le_of_lt (Nat.sub_le _ _) t.isLt)).2.1 y + added1 m c t y := by
  rw [outsAt0_B m c t h0]
  frame_out
  exact gain1_step ..

theorem start2 (t : Fin cfg0.N) (h0 : t.val % 32 = 0) (y : S1x1024.Idx) : (outsAt0 m c t.val t.isLt).2.2 y = 0 + added2 m c t y := by
  rw [outsAt0_A m c t h0]
  frame_out
  rw [gain2_step, zero2_at]
  rfl

theorem next2 (t : Fin cfg0.N) (h0 : ¬ t.val % 32 = 0) (y : S1x1024.Idx) :
    (outsAt0 m c t.val t.isLt).2.2 y = (outsAt0 m c (t.val - 1) (Nat.lt_of_le_of_lt (Nat.sub_le _ _) t.isLt)).2.2 y + added2 m c t y := by
  rw [outsAt0_B m c t h0]
  frame_out
  exact gain2_step ..

/-- Every point writes its rows' gradient. -/
theorem rows_out (t : Fin cfg0.N) (r : Fin 512) (d : Fin 1024) : (outsAt0 m c t.val t.isLt).1 (ix2 r d)
    = ofStream (S := 512) (iblk m c 0 t) (iblk m c 1 t) (iblk m c 2 t) (iblk m c 3 t) (iblk m c 4 t) (iblk m c 5 t) (iblk m c 6 t) (iblk m c 7 t) r d := by
  by_cases h0 : t.val % 32 = 0
  · rw [outsAt0_A m c t h0]
    frame_out
    exact stream_at ..
  · rw [outsAt0_B m c t h0]
    frame_out
    exact stream_at ..

/-- After the last point, the sums are what all of them add. -/
theorem sum1_at (t : Fin cfg0.N) (h1 : t.val % 32 = 31) (y : S1x1024.Idx) :
    (outsAt0 m c t.val t.isLt).2.1 y = ∑ s : Fin 32, added1 m c ⟨32 * (t.val / 32) + s.val, Pipeline.run_point_lt_of_flush t h1 s⟩ y := by
  rw [Pipeline.eq_sum_fin_of_reset_step_apply_of_flush (fun n h => (outsAt0 m c n h).2.1) 32 (fun _ => 0) (added1 m c)
    (start1 m c) (next1 m c) t h1 y, zero_add]

theorem sum2_at (t : Fin cfg0.N) (h1 : t.val % 32 = 31) (y : S1x1024.Idx) :
    (outsAt0 m c t.val t.isLt).2.2 y = ∑ s : Fin 32, added2 m c ⟨32 * (t.val / 32) + s.val, Pipeline.run_point_lt_of_flush t h1 s⟩ y := by
  rw [Pipeline.eq_sum_fin_of_reset_step_apply_of_flush (fun n h => (outsAt0 m c n h).2.2) 32 (fun _ => 0) (added2 m c)
    (start2 m c) (next2 m c) t h1 y, zero_add]

theorem place : ∀ t : Fin grid0.N, win0_0.index t = ![t.val, 0] ∧ win0_1.index t = ![t.val, 0] ∧ win0_2.index t = ![t.val, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![0, 0] ∧ win0_10.index t = ![0, 0] := by decide +kernel

theorem row_lt (t : Fin cfg0.N) (r : Fin 512) : t.val * 512 + r.val < 16384 := by
  have hN : cfg0.N = 32 := N_0
  omega

theorem x_at (t : Fin cfg0.N) (f : Vec Ideal S16384x1024 .f32) (r : Fin 512) (k : Fin 1024) : ((cfg0.win 0).blk t).view.read (Elt Ideal) f (ix2 r k)
    = f (ix2 (⟨t.val * 512 + r.val, row_lt t r⟩ : Fin 16384) k) := by
  blk_ext [show (cfg0.win 0).index t = _ from (place t).1]

theorem a_at (t : Fin cfg0.N) (f : Vec Ideal S16384x1024 .bf16) (r : Fin 512) (k : Fin 1024) : ((cfg0.win 1).blk t).view.read (Elt Ideal) f (ix2 r k)
    = f (ix2 (⟨t.val * 512 + r.val, row_lt t r⟩ : Fin 16384) k) := by
  blk_ext [show (cfg0.win 1).index t = _ from (place t).2.1]

theorem b_at (t : Fin cfg0.N) (f : Vec Ideal S16384x1024 .f32) (r : Fin 512) (k : Fin 1024) : ((cfg0.win 2).blk t).view.read (Elt Ideal) f (ix2 r k)
    = f (ix2 (⟨t.val * 512 + r.val, row_lt t r⟩ : Fin 16384) k) := by
  blk_ext [show (cfg0.win 2).index t = _ from (place t).2.2.1]

theorem w_at (t : Fin cfg0.N) (f : Vec Ideal S1024x1024 .bf16) (r k : Fin 1024) : ((cfg0.win 3).blk t).view.read (Elt Ideal) f (ix2 r k) = f (ix2 r k) := by
  blk_ext [show (cfg0.win 3).index t = _ from (place t).2.2.2.1]

theorem v_at (t : Fin cfg0.N) (f : Vec Ideal S1024x1024 .bf16) (r k : Fin 1024) : ((cfg0.win 4).blk t).view.read (Elt Ideal) f (ix2 r k) = f (ix2 r k) := by
  blk_ext [show (cfg0.win 4).index t = _ from (place t).2.2.2.2.1]

theorem g_at (t : Fin cfg0.N) (f : Vec Ideal S1x1024 .f32) (r : Fin 1) (k : Fin 1024) : ((cfg0.win 5).blk t).view.read (Elt Ideal) f (ix2 r k) = f (ix2 r k) := by
  blk_ext [show (cfg0.win 5).index t = _ from (place t).2.2.2.2.2.1]

theorem h_at (t : Fin cfg0.N) (f : Vec Ideal S1x1024 .f32) (r : Fin 1) (k : Fin 1024) : ((cfg0.win 6).blk t).view.read (Elt Ideal) f (ix2 r k) = f (ix2 r k) := by
  blk_ext [show (cfg0.win 6).index t = _ from (place t).2.2.2.2.2.2.1]

theorem z_at (t : Fin cfg0.N) (f : Vec Ideal S16384x1024 .f32) (r : Fin 512) (k : Fin 1024) : ((cfg0.win 7).blk t).view.read (Elt Ideal) f (ix2 r k)
    = f (ix2 (⟨t.val * 512 + r.val, row_lt t r⟩ : Fin 16384) k) := by
  blk_ext [show (cfg0.win 7).index t = _ from (place t).2.2.2.2.2.2.2.1]

theorem rows_place (t : Fin cfg0.N) (r : Fin 512) (k : Fin 1024) : ((cfg0.win 8).blk t).view.emb (ix2 r k)
    = (ix2 (⟨t.val * 512 + r.val, row_lt t r⟩ : Fin 16384) k : S16384x1024.Idx) := by
  blk_ext [show (cfg0.win 8).index t = _ from (place t).2.2.2.2.2.2.2.2.1]

theorem gain1_place (t : Fin cfg0.N) (r : Fin 1) (k : Fin 1024) : ((cfg0.win 9).blk t).view.emb (ix2 r k) = (ix2 r k : S1x1024.Idx) := by
  blk_ext [show (cfg0.win 9).index t = _ from (place t).2.2.2.2.2.2.2.2.2.1]

theorem gain2_place (t : Fin cfg0.N) (r : Fin 1) (k : Fin 1024) : ((cfg0.win 10).blk t).view.emb (ix2 r k) = (ix2 r k : S1x1024.Idx) := by
  blk_ext [show (cfg0.win 10).index t = _ from (place t).2.2.2.2.2.2.2.2.2.2]

/-! ## The arrays the call reads -/

abbrev arrX : Vec Ideal S16384x1024 .f32 := m ((c.tc : Thread nD τ).loc main_arg0)
abbrev arrA : Vec Ideal S16384x1024 .bf16 := m ((c.tc : Thread nD τ).loc main_arg1)
abbrev arrB : Vec Ideal S16384x1024 .f32 := m ((c.tc : Thread nD τ).loc main_arg2)
abbrev arrW : Vec Ideal S1024x1024 .bf16 := m ((c.tc : Thread nD τ).loc main_arg3)
abbrev arrV : Vec Ideal S1024x1024 .bf16 := m ((c.tc : Thread nD τ).loc main_arg4)
abbrev arrG : Vec Ideal S1x1024 .f32 := m ((c.tc : Thread nD τ).loc main_arg5)
abbrev arrH : Vec Ideal S1x1024 .f32 := m ((c.tc : Thread nD τ).loc main_arg6)
abbrev arrZ : Vec Ideal S16384x1024 .f32 := m ((c.tc : Thread nD τ).loc main_arg7)

/-- The stream's gradient. -/
abbrev stream : Vec Ideal S16384x1024 .f32 := fun y =>
  ofStream (S := 16384) (arrX m c) (arrA m c) (arrB m c) (arrW m c) (arrV m c) (arrG m c) (arrH m c) (arrZ m c) (y 0) (y 1)

/-- The gradient of the first gain. -/
abbrev gain1 : Vec Ideal S1x1024 .f32 := fun y => ∑ s : Fin 16384, gainTerm (S := 16384) (arrX m c) (arrA m c) (arrW m c) (y 1) s

/-- The gradient of the second gain. -/
abbrev gain2 : Vec Ideal S1x1024 .f32 := fun y => ∑ s : Fin 16384, gainTerm (S := 16384) (arrX m c) (arrB m c) (arrV m c) (y 1) s

theorem product1_at (t : Fin cfg0.N) (r : Fin 512) (k : Fin 1024) : againstRow (S := 512) (N := 1024) (iblk m c 1 t) (iblk m c 3 t) r k
    = againstRow (S := 16384) (N := 1024) (arrA m c) (arrW m c) ⟨t.val * 512 + r.val, row_lt t r⟩ k :=
  Finset.sum_congr rfl fun j _ => congrArg₂ (fun p q : EReal => p * q) (a_at t (V m c main_arg1) r j) (w_at t (V m c main_arg3) k j)

theorem product2_at (t : Fin cfg0.N) (r : Fin 512) (k : Fin 1024) : againstRow (S := 512) (N := 1024) (iblk m c 2 t) (iblk m c 4 t) r k
    = againstRow (S := 16384) (N := 1024) (arrB m c) (arrV m c) ⟨t.val * 512 + r.val, row_lt t r⟩ k :=
  Finset.sum_congr rfl fun j _ => congrArg₂ (fun p q : EReal => p * q) (b_at t (V m c main_arg2) r j) (v_at t (V m c main_arg4) k j)

theorem row_at (t : Fin cfg0.N) (r : Fin 512) : (fun k => (iblk m c 0 t : S512x1024.Idx → EReal) (ix2 r k))
    = fun k => (arrX m c : S16384x1024.Idx → EReal) (ix2 (⟨t.val * 512 + r.val, row_lt t r⟩ : Fin 16384) k) :=
  funext fun k => x_at t (V m c main_arg0) r k

theorem term1_at (t : Fin cfg0.N) (r : Fin 512) (d : Fin 1024) : gainTerm (S := 512) (iblk m c 0 t) (iblk m c 1 t) (iblk m c 3 t) d r
    = gainTerm (S := 16384) (arrX m c) (arrA m c) (arrW m c) d ⟨t.val * 512 + r.val, row_lt t r⟩ :=
  congrArg₂ (fun p q : EReal => p * q) (product1_at m c t r d)
    (congrArg₂ (fun p q : EReal => p * q) (x_at t (V m c main_arg0) r d) (congrArg scale (row_at m c t r)))

theorem term2_at (t : Fin cfg0.N) (r : Fin 512) (d : Fin 1024) : gainTerm (S := 512) (iblk m c 0 t) (iblk m c 2 t) (iblk m c 4 t) d r
    = gainTerm (S := 16384) (arrX m c) (arrB m c) (arrV m c) d ⟨t.val * 512 + r.val, row_lt t r⟩ :=
  congrArg₂ (fun p q : EReal => p * q) (product2_at m c t r d)
    (congrArg₂ (fun p q : EReal => p * q) (x_at t (V m c main_arg0) r d) (congrArg scale (row_at m c t r)))

/-- The three arrays the call returns. -/
theorem final_stream : (dats m 0 c).arrAt 8 cfg0.N = stream m c := by
  refine (dats m 0 c).arrAt_eq_of_covers 8 _ (by decide +kernel) fun t hf y => ?_
  obtain ⟨r, d, rfl⟩ : ∃ (r : Fin 512) (d : Fin 1024), y = ix2 r d := ⟨_, _, ValueIdx.eq_ix2 y⟩
  rw [rows_place]
  blk_simp
  rw [after0_8, rows_out]
  unfold ofStream
  have hp : back (S := 512) (iblk m c 1 t) (iblk m c 3 t) (iblk m c 5 t) r
      = back (S := 16384) (arrA m c) (arrW m c) (arrG m c) ⟨t.val * 512 + r.val, row_lt t r⟩ :=
    funext fun k => congrArg₂ (fun p q : EReal => p * q) (product1_at m c t r k) (g_at t (V m c main_arg5) 0 k)
  have hq : back (S := 512) (iblk m c 2 t) (iblk m c 4 t) (iblk m c 6 t) r
      = back (S := 16384) (arrB m c) (arrV m c) (arrH m c) ⟨t.val * 512 + r.val, row_lt t r⟩ :=
    funext fun k => congrArg₂ (fun p q : EReal => p * q) (product2_at m c t r k) (h_at t (V m c main_arg6) 0 k)
  rw [hp, hq]
  exact congrArg₂ (fun row z => rowGradient row _ _ z d) (row_at m c t r) (z_at t (V m c main_arg7) r d)

theorem final_gain1 : (dats m 0 c).arrAt 9 cfg0.N = gain1 m c := by
  refine (dats m 0 c).arrAt_eq_of_covers 9 _ (by decide +kernel) fun t hf y => ?_
  have ht : t.val < 32 := lt_of_lt_of_eq t.isLt N_0
  have h1 : t.val % 32 = 31 := (flush0_9 t).mp hf
  obtain ⟨i, d, rfl⟩ : ∃ (i : Fin 1) (d : Fin 1024), y = ix2 i d := ⟨_, _, ValueIdx.eq_ix2 y⟩
  rw [gain1_place]
  blk_simp
  rw [after0_9, sum1_at m c t h1]
  unfold added1
  refine Fin.sum_mul_add_congr fun s r hl => ?_
  refine (term1_at m c _ r d).trans ?_
  refine congrArg (gainTerm (S := 16384) (arrX m c) (arrA m c) (arrW m c) d) (Fin.ext ?_)
  dsimp only
  omega

theorem final_gain2 : (dats m 0 c).arrAt 10 cfg0.N = gain2 m c := by
  refine (dats m 0 c).arrAt_eq_of_covers 10 _ (by decide +kernel) fun t hf y => ?_
  have ht : t.val < 32 := lt_of_lt_of_eq t.isLt N_0
  have h1 : t.val % 32 = 31 := (flush0_10 t).mp hf
  obtain ⟨i, d, rfl⟩ : ∃ (i : Fin 1) (d : Fin 1024), y = ix2 i d := ⟨_, _, ValueIdx.eq_ix2 y⟩
  rw [gain2_place]
  blk_simp
  rw [after0_10, sum2_at m c t h1]
  unfold added2
  refine Fin.sum_mul_add_congr fun s r hl => ?_
  refine (term2_at m c _ r d).trans ?_
  refine congrArg (gainTerm (S := 16384) (arrX m c) (arrB m c) (arrV m c) d) (Fin.ext ?_)
  dsimp only
  omega

/-! ## What the precondition says -/

variable (h : @Cert.Pre_Kernel11Ideal_finite_products Cert.Pre_finite_products.Gen.facts m)
include h

theorem real_a (i : S16384x1024.Idx) : IsReal (arrA m c i) := by
  refine IsReal.of_lt (Eq.trans ?_ (congrFun (h c).1 i))
  unfold Cert.Pre_finite_products.fn Cert.Pre_finite_products.fn_part1
  pointwise
  rw [inf_bits]
  rfl

theorem real_b (i : S16384x1024.Idx) : IsReal (arrB m c i) := by
  refine IsReal.of_lt (Eq.trans ?_ (congrFun (h c).2.1 i))
  unfold Cert.Pre_finite_products.fn Cert.Pre_finite_products.fn_part1
  pointwise
  rw [inf_bits]
  rfl

theorem real_w (i : S1024x1024.Idx) : IsReal (arrW m c i) := by
  refine IsReal.of_lt (Eq.trans ?_ (congrFun (h c).2.2.1 i))
  unfold Cert.Pre_finite_products.fn Cert.Pre_finite_products.fn_part1
  pointwise
  rw [inf_bits]
  rfl

theorem real_v (i : S1024x1024.Idx) : IsReal (arrV m c i) := by
  refine IsReal.of_lt (Eq.trans ?_ (congrFun (h c).2.2.2.1 i))
  unfold Cert.Pre_finite_products.fn Cert.Pre_finite_products.fn_part1
  pointwise
  rw [inf_bits]
  rfl

theorem real_g (i : S1x1024.Idx) : IsReal (arrG m c i) := by
  refine IsReal.of_lt (Eq.trans ?_ (congrFun (h c).2.2.2.2.1 i))
  unfold Cert.Pre_finite_products.fn Cert.Pre_finite_products.fn_part1
  pointwise
  rw [inf_bits]
  rfl

theorem real_h (i : S1x1024.Idx) : IsReal (arrH m c i) := by
  refine IsReal.of_lt (Eq.trans ?_ (congrFun (h c).2.2.2.2.2 i))
  unfold Cert.Pre_finite_products.fn Cert.Pre_finite_products.fn_part1
  pointwise
  rw [inf_bits]
  rfl

theorem real_p (s : Fin 16384) (k : Fin 1024) : IsReal (back (S := 16384) (arrA m c) (arrW m c) (arrG m c) s k) :=
  (IsReal.sum _ fun j => (real_a m c h _).mul (real_w m c h _)).mul (real_g m c h _)

theorem real_q (s : Fin 16384) (k : Fin 1024) : IsReal (back (S := 16384) (arrB m c) (arrV m c) (arrH m c) s k) :=
  (IsReal.sum _ fun j => (real_b m c h _).mul (real_v m c h _)).mul (real_h m c h _)

theorem stream_plain (s : Fin 16384) (d : Fin 1024) : stream m c (ix2 s d)
    = rowGradientPlain (fun k => arrX m c (ix2 s k)) (back (S := 16384) (arrA m c) (arrW m c) (arrG m c) s) (back (S := 16384) (arrB m c) (arrV m c) (arrH m c) s)
      (arrZ m c (ix2 s d)) d :=
  rowGradient_eq _ _ _ _ _ (real_p m c h s) (real_q m c h s)

end Calls.RmsBwd

open Idealize.ShloMosaic Idealize.SL.Sem

/-- The call returns the three gradients. -/
theorem Calls.RmsBwd.agree : @Cert.algebraic_Kernel11Ideal_Reference11Ideal_pre_finite_products Cert.Kernel11Ideal.Gen.facts Cert.Reference11Ideal.Gen.facts Cert.Pre_finite_products.Gen.facts :=
  fun m ρ m' ρ' hp ha => ⟨Calls.RmsBwd.stream m, Calls.RmsBwd.gain1 m, Calls.RmsBwd.gain2 m,
    (θ_run Cert.Kernel11Ideal.defs _ _).mono (fun r h c => ⟨(h c).1.trans (Calls.RmsBwd.final_stream m c), (h c).2.1.trans (Calls.RmsBwd.final_gain1 m c),
      (h c).2.2.1.trans (Calls.RmsBwd.final_gain2 m c), (h c).2.2.2⟩) (Cert.Kernel11Ideal.Value.run_blocks (F := Ideal) m ρ),
    (θ_run Cert.Reference11Ideal.defs _ _).mono (fun r h c => by
      obtain ⟨a0, a1, a2, a3, a4, a5, a6, a7⟩ := ha c
      refine ⟨(h c).1.trans ?_, (h c).2.1.trans ?_, (h c).2.2.1.trans ?_, (h c).2.2.2⟩
      · clear h
        unfold Cert.Reference11Ideal.Value.res_main_v76
        rw [a0, a1, a2, a3, a4, a5, a6, a7]
        funext y
        obtain ⟨s, d, rfl⟩ : ∃ (s : Fin 16384) (d : Fin 1024), y = ValueIdx.ix2 s d := ⟨_, _, ValueIdx.eq_ix2 y⟩
        rw [Calls.RmsBwd.stream_plain m c hp s d]
        pointwise
        simp only [ix2_eq_valueIdx, Fin.sum_univ_one]
        rfl
      · clear h
        rw [a0, a1, a3]
        funext y
        obtain ⟨i, d, rfl⟩ : ∃ (i : Fin 1) (d : Fin 1024), y = ValueIdx.ix2 i d := ⟨_, _, ValueIdx.eq_ix2 y⟩
        pointwise
        simp only [ix2_eq_valueIdx]
        exact Finset.sum_congr rfl fun s _ => mul_comm _ _
      · clear h
        rw [a0, a2, a4]
        funext y
        obtain ⟨i, d, rfl⟩ : ∃ (i : Fin 1) (d : Fin 1024), y = ValueIdx.ix2 i d := ⟨_, _, ValueIdx.eq_ix2 y⟩
        pointwise
        simp only [ix2_eq_valueIdx]
        exact Finset.sum_congr rfl fun s _ => mul_comm _ _)
      (Cert.Reference11Ideal.Value.run (F := Ideal) m' ρ')⟩

end
-- ==== Proof.Calls.RowBack.lean ====
module

public import proofs.«01_k».proof.Proof.Calls.Finite

@[expose] public section

noncomputable section

/-! The gradient through the normalisation of a row for one cotangent, in two spellings that agree whatever the cotangent
    is; and a mean of squares taken before or after a sum. -/

namespace Calls

open Idealize.ShloMosaic hiding ix0 ix1 ix2 ix3 ix4 ix5

/-- What the cotangent `q` of the normalised row gives as the row's gradient. -/
def rowBack (row q : Fin 1024 → EReal) (d : Fin 1024) : EReal :=
  scale row * (q d - row d * scale row * Ideal.div (∑ k, q k * (row k * scale row)) (Ideal.ofBits .f32 0x44800000#32))

/-- The same, with the part through the mean square met once for each factor of the square. -/
def rowBackPlain (row q : Fin 1024 → EReal) (d : Fin 1024) : EReal :=
  q d * scale row + row d * throughMean row q + throughMean row q * row d

/-- A nonnegative real factor goes into a sum, whatever the terms are. -/
theorem sum_mul_real {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- Twice half a negative multiple. -/
theorem double_half (y : EReal) {κ : ℝ} (hκ : 0 ≤ κ) : ((-(κ / 2) : ℝ) : EReal) * y + ((-(κ / 2) : ℝ) : EReal) * y = -((κ : EReal) * y) := by
  have h0 : (0 : EReal) ≤ ((κ / 2 : ℝ) : EReal) := EReal.coe_nonneg.mpr (by linarith)
  have h : ((κ / 2 : ℝ) : EReal) * -y + ((κ / 2 : ℝ) : EReal) * -y = (κ : EReal) * -y := by
    rw [← EReal.right_distrib_of_nonneg h0 h0, ← EReal.coe_add, add_halves]
  rw [EReal.coe_neg, neg_mul, ← mul_neg, h, mul_neg]

theorem rowBack_eq (row q : Fin 1024 → EReal) (d : Fin 1024) : rowBack row q d = rowBackPlain row q d := by
  unfold rowBack rowBackPlain throughMean
  by_cases hr : ∀ k, IsReal (row k)
  · choose X hX using hr
    obtain rfl : row = fun k => (X k : EReal) := funext hX
    obtain ⟨μ, hμ, h⟩ := meanSquare_real X
    rw [scale_eq, h, Ideal.rsqrt_coe, if_neg (by linarith), if_neg (ne_of_gt hμ), width_bits, neg_half_bits]
    simp only [Ideal.div_coe (show (1024 : ℝ) ≠ 0 by norm_num), Ideal.div_coe (ne_of_gt hμ)]
    have hs : (√μ)⁻¹ * (1 / μ) = (√μ)⁻¹ * ((√μ)⁻¹ * (√μ)⁻¹) := by
      rw [← mul_inv, Real.mul_self_sqrt hμ.le, one_div]
    have h0 : 0 ≤ (√μ)⁻¹ := inv_nonneg.mpr (Real.sqrt_nonneg μ)
    generalize (√μ)⁻¹ = σ at hs h0 ⊢
    have e1 : ∑ k, q k * ((X k : EReal) * (σ : EReal)) = (∑ k, (X k : EReal) * q k) * (σ : EReal) := by
      rw [sum_mul_real _ _ h0]
      exact Finset.sum_congr rfl fun k _ => by rw [← mul_assoc, mul_comm (q k)]
    rw [e1]
    generalize (∑ k, (X k : EReal) * q k) = S
    have e2 : S * (((-(1 / 2) : ℝ) : EReal) * ((σ : EReal) * ((1 / μ : ℝ) : EReal))) * ((1 / 1024 : ℝ) : EReal)
        = ((-(σ * (σ * σ) * (1 / 1024) / 2) : ℝ) : EReal) * S := by
      rw [← EReal.coe_mul, hs, ← EReal.coe_mul, mul_assoc, ← EReal.coe_mul, mul_comm]
      congr 2
      ring
    rw [e2, add_assoc, mul_comm (X d : EReal) (_ * S), mul_assoc _ S, double_half _ (by positivity), sub_eq_add_neg,
      EReal.left_distrib_of_nonneg_of_ne_top (EReal.coe_nonneg.mpr h0) (EReal.coe_ne_top σ), mul_comm (σ : EReal) (q d), mul_neg]
    refine congrArg (fun y => q d * (σ : EReal) + -y) ?_
    have e3 : (X d : EReal) * (σ : EReal) * (S * (σ : EReal) * ((1 / 1024 : ℝ) : EReal)) = ((σ : EReal) * ((σ : EReal) * ((1 / 1024 : ℝ) : EReal))) * (S * (X d : EReal)) := by
      ac_rfl
    rw [e3, ← mul_assoc, ← EReal.coe_mul, ← EReal.coe_mul, ← EReal.coe_mul]
    congr 2
    ring
  · obtain ⟨k, hk⟩ := not_forall.mp hr
    have ht : row k * row k = ⊤ := by
      induction h : row k with
      | bot => rfl
      | top => rfl
      | coe r => exact absurd ⟨r, h⟩ hk
    rw [scale_eq, meanSquare_top row k ht, Ideal.rsqrt_top, width_bits, Ideal.div_coe (by norm_num)]
    have h0 : Ideal.div 0 ⊤ = 0 := by simp [Ideal.div]
    rw [h0]
    simp only [mul_zero, zero_mul, add_zero, Ideal.div_coe (show (1024 : ℝ) ≠ 0 by norm_num)]

theorem half_bits : Ideal.ofBits .f32 0x3F000000#32 = ((1 / 2 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem per_width_bits : Ideal.ofBits .f32 0x3A800000#32 = ((1 / 1024 : ℝ) : EReal) := by
  simp [Ideal.ofBits, Ideal.ieee, -EReal.coe_mul]; norm_num

theorem half_per_width_bits : Ideal.ofBits .f32 0x3A000000#32 = ((1 / 2048 : ℝ) : EReal) := by
  simp [Ideal.ofBits, Ideal.ieee, -EReal.coe_mul]; norm_num

/-- Half of the sum of the mean squares. -/
theorem half_mean {ι : Type*} (s : Finset ι) (f : ι → EReal) :
    Ideal.ofBits .f32 0x3F000000#32 * ∑ i ∈ s, Ideal.div (f i) (Ideal.ofBits .f32 0x44800000#32) = ∑ i ∈ s, f i * Ideal.ofBits .f32 0x3A000000#32 := by
  rw [half_bits, width_bits, half_per_width_bits, mul_comm, sum_mul_real _ _ (by norm_num)]
  refine Finset.sum_congr rfl fun i _ => ?_
  rw [Ideal.div_coe (by norm_num), mul_assoc, ← EReal.coe_mul]
  congr 2
  norm_num

/-- The derivative of half a mean square. -/
theorem half_mean_back (z : EReal) :
    Ideal.div (Ideal.ofBits .f32 0x3F000000#32) (Ideal.ofBits .f32 0x44800000#32) * (Ideal.ofBits .f32 0x40000000#32 * z) = z * Ideal.ofBits .f32 0x3A800000#32 := by
  rw [half_bits, width_bits, two_bits, per_width_bits, Ideal.div_coe (by norm_num), ← mul_assoc, ← EReal.coe_mul, ← EReal.coe_mul, mul_comm]
  congr 2
  norm_num

end Calls

end
-- ==== Proof.Calls.Loss.lean ====
module

public import proofs.«01_k».proof.Defs
public import proofs.«01_k».proof.Proof.Calls.RowBack
public import proofs.«01_k».proof.Proof.Gen.Kernel12Ideal.Value
public import proofs.«01_k».proof.Proof.Gen.Reference12Ideal.Run
public import Idealize.ShloMosaic.Lib.Pipeline.ReadBack
public import Idealize.ShloMosaic.Lib.Pipeline.ValueKit

@[expose] public section

set_option maxRecDepth 16384

noncomputable section

/-! The last projection onto the stream, the loss of the stream it leaves, and the loss taken back to that stream and to
    the gain of its normalisation. -/

namespace Calls.Loss

open Cert.Kernel12Ideal Cert.Kernel12Ideal.Gen
open Idealize.ShloMosaic hiding ix0 ix1 ix2 ix3 ix4 ix5
open Idealize.ShloMosaic.TcCoe
open Idealize.ShloMosaic.ValueIdx
open Idealize.ShloMosaic.Pipeline (Dat)

/-- A gated entry. -/
def gate (o g : EReal) : EReal := o * (g * sigma g)

/-- The stream at one position: what came in there, and the gated row through the weights. -/
def last (x : Fin 1024 → EReal) (p : Fin 512 → EReal) (w : Vec Ideal S512x1024 .bf16) (k : Fin 1024) : EReal := x k + ∑ j : Fin 512, p j * w (ix2 j k)

/-- How far the stream's normalised row is from its target. -/
def off (row gain target : Fin 1024 → EReal) (d : Fin 1024) : EReal := normed row gain d - target d

/-- What one position adds to a column of the loss. -/
def lossTerm (row gain target : Fin 1024 → EReal) (d : Fin 1024) : EReal := off row gain target d * off row gain target d

/-- The loss taken back to the scaled row. -/
def fall (row gain target : Fin 1024 → EReal) (d : Fin 1024) : EReal := off row gain target d * Ideal.ofBits .f32 0x3A800000#32

/-- What one position adds to the gradient of the gain. -/
def gainTerm (row gain target : Fin 1024 → EReal) (d : Fin 1024) : EReal := row d * scale row * fall row gain target d

/-- The loss taken back to the row. -/
def rowFall (row gain target : Fin 1024 → EReal) : Fin 1024 → EReal := rowBack row fun k => fall row gain target k * gain k

theorem gate_at (g : Vec Ideal S512x512 .bf16) (o : Vec Ideal S512x512 .f32) (r n : Fin 512) : k0_pay8 g o (ix2 r n) = gate (o (ix2 r n)) (g (ix2 r n)) := by
  unfold k0_pay8
  pointwise
  rfl

theorem last_at (g : Vec Ideal S512x512 .bf16) (o : Vec Ideal S512x512 .f32) (x : Vec Ideal S512x1024 .f32) (w : Vec Ideal S512x1024 .bf16) (r : Fin 512) (k : Fin 1024) :
    k0_pay9 g o x w (ix2 r k) = last (fun k => x (ix2 r k)) (fun j => gate (o (ix2 r j)) (g (ix2 r j))) w k := by
  unfold k0_pay9 k0_pay8
  pointwise
  simp only [ix2_eq_valueIdx]
  rfl

theorem row_out (g : Vec Ideal S512x512 .bf16) (o : Vec Ideal S512x512 .f32) (x : Vec Ideal S512x1024 .f32) (w : Vec Ideal S512x1024 .bf16)
    (gain : Vec Ideal S1x1024 .f32) (y : Vec Ideal S512x1024 .f32) (r : Fin 512) (d : Fin 1024) :
    k0_pay5 (k0_pay10 g o x w) (k0_pay11 g o x w) gain (k0_pay12 g o x w gain) y (ix2 r d)
      = rowFall (fun k => k0_pay9 g o x w (ix2 r k)) (fun k => gain (ix2 0 k)) (fun k => y (ix2 r k)) d := by
  unfold k0_pay5 k0_pay3 k0_pay1 k0_pay12 k0_pay11 k0_pay10
  pointwise
  simp only [ix2_eq_valueIdx]
  rfl

theorem loss_step (g : Vec Ideal S512x512 .bf16) (o : Vec Ideal S512x512 .f32) (x : Vec Ideal S512x1024 .f32) (w : Vec Ideal S512x1024 .bf16)
    (gain : Vec Ideal S1x1024 .f32) (y : Vec Ideal S512x1024 .f32) (acc : Vec Ideal S1x1024 .f32) (i : Fin 1) (d : Fin 1024) :
    k0_pay2 (k0_pay12 g o x w gain) y acc (ix2 i d)
      = acc (ix2 i d) + (∑ r : Fin 512, lossTerm (fun k => k0_pay9 g o x w (ix2 r k)) (fun k => gain (ix2 0 k)) (fun k => y (ix2 r k)) d) * Ideal.ofBits .f32 0x3A000000#32 := by
  unfold k0_pay2 k0_pay1 k0_pay12 k0_pay11 k0_pay10
  pointwise
  simp only [ix2_eq_valueIdx]
  rfl

theorem gain_step (g : Vec Ideal S512x512 .bf16) (o : Vec Ideal S512x512 .f32) (x : Vec Ideal S512x1024 .f32) (w : Vec Ideal S512x1024 .bf16)
    (gain : Vec Ideal S1x1024 .f32) (y : Vec Ideal S512x1024 .f32) (acc : Vec Ideal S1x1024 .f32) (i : Fin 1) (d : Fin 1024) :
    k0_pay4 (k0_pay11 g o x w) (k0_pay12 g o x w gain) y acc (ix2 i d)
      = acc (ix2 i d) + ∑ r : Fin 512, gainTerm (fun k => k0_pay9 g o x w (ix2 r k)) (fun k => gain (ix2 0 k)) (fun k => y (ix2 r k)) d := by
  unfold k0_pay4 k0_pay3 k0_pay1 k0_pay12 k0_pay11 k0_pay10
  pointwise
  simp only [ix2_eq_valueIdx]
  exact congrArg (fun p : EReal => acc (ix2 i d) + p) (Finset.sum_congr rfl fun r _ => mul_comm _ _)

theorem zero1_at (y : S1x1024.Idx) : k0_pay6 (F := Ideal) y = 0 := by
  unfold k0_pay6
  pointwise

theorem zero2_at (y : S1x1024.Idx) : k0_pay7 (F := Ideal) y = 0 := by
  unfold k0_pay7
  pointwise

variable (m : (ℓ : Loc nD τ sig) → Buf (Elt Ideal) ℓ) (c : Dev nD)

/-! ## The arrays the call reads -/

abbrev arrO : Vec Ideal S16384x512 .f32 := m ((c.tc : Thread nD τ).loc main_arg0)
abbrev arrQ : Vec Ideal S16384x1024 .bf16 := m ((c.tc : Thread nD τ).loc main_arg1)
abbrev arrW : Vec Ideal S512x1024 .bf16 := m ((c.tc : Thread nD τ).loc main_arg2)
abbrev arrX : Vec Ideal S16384x1024 .f32 := m ((c.tc : Thread nD τ).loc main_arg3)
abbrev arrG : Vec Ideal S1x1024 .f32 := m ((c.tc : Thread nD τ).loc main_arg4)
abbrev arrY : Vec Ideal S16384x1024 .f32 := m ((c.tc : Thread nD τ).loc main_arg5)

/-- Column `n` of the gate's half of the columns. -/
def upper (n : Fin 512) : Fin 1024 := ⟨512 + n.val, by omega⟩

/-- The gated row of position `s`. -/
def gatedRow (s : Fin 16384) (n : Fin 512) : EReal := gate (arrO m c (ix2 s n)) (arrQ m c (ix2 s (upper n)))

/-- The stream's row at position `s`. -/
def streamRow (s : Fin 16384) : Fin 1024 → EReal := last (fun k => arrX m c (ix2 s k)) (gatedRow m c s) (arrW m c)

abbrev gainRow : Fin 1024 → EReal := fun k => arrG m c (ix2 0 k)
abbrev targetRow (s : Fin 16384) : Fin 1024 → EReal := fun k => arrY m c (ix2 s k)

/-- The four arrays the call returns: the gated rows, -/
abbrev gated : Vec Ideal S16384x512 .bf16 := fun y => gatedRow m c (y 0) (y 1)

/-- the gradient of the stream, -/
abbrev stream : Vec Ideal S16384x1024 .f32 := fun y => rowFall (streamRow m c (y 0)) (gainRow m c) (targetRow m c (y 0)) (y 1)

/-- the loss of every column, -/
abbrev loss : Vec Ideal S1x1024 .f32 := fun y => ∑ s : Fin 16384, lossTerm (streamRow m c s) (gainRow m c) (targetRow m c s) (y 1) * Ideal.ofBits .f32 0x3A000000#32

/-- and the gradient of the gain. -/
abbrev gain : Vec Ideal S1x1024 .f32 := fun y => ∑ s : Fin 16384, gainTerm (streamRow m c s) (gainRow m c) (targetRow m c s) (y 1)

/-! ## Where the blocks lie -/

theorem place : ∀ t : Fin grid0.N, win0_0.index t = ![t.val, 0] ∧ win0_1.index t = ![t.val, 1] ∧ win0_2.index t = ![0, 0] ∧ win0_3.index t = ![t.val, 0] ∧ win0_4.index t = ![0, 0]
    ∧ win0_5.index t = ![t.val, 0] ∧ win0_6.index t = ![t.val, 0] ∧ win0_7.index t = ![t.val, 0] ∧ win0_8.index t = ![0, 0] ∧ win0_9.index t = ![0, 0] := by decide +kernel

theorem row_lt (t : Fin cfg0.N) (r : Fin 512) : t.val * 512 + r.val < 16384 := by
  have hN : cfg0.N = 32 := N_0
  omega

theorem o_at (t : Fin cfg0.N) (f : Vec Ideal S16384x512 .f32) (r n : Fin 512) : ((cfg0.win 0).blk t).view.read (Elt Ideal) f (ix2 r n)
    = f (ix2 (⟨t.val * 512 + r.val, row_lt t r⟩ : Fin 16384) n) := by
  blk_ext [show (cfg0.win 0).index t = _ from (place t).1]

theorem q_at (t : Fin cfg0.N) (f : Vec Ideal S16384x1024 .bf16) (r n : Fin 512) : ((cfg0.win 1).blk t).view.read (Elt Ideal) f (ix2 r n)
    = f (ix2 (⟨t.val * 512 + r.val, row_lt t r⟩ : Fin 16384) (upper n)) := by
  blk_ext [show (cfg0.win 1).index t = _ from (place t).2.1]
  rfl

theorem w_at (t : Fin cfg0.N) (f : Vec Ideal S512x1024 .bf16) (r : Fin 512) (k : Fin 1024) : ((cfg0.win 2).blk t).view.read (Elt Ideal) f (ix2 r k) = f (ix2 r k) := by
  blk_ext [show (cfg0.win 2).index t = _ from (place t).2.2.1]

theorem x_at (t : Fin cfg0.N) (f : Vec Ideal S16384x1024 .f32) (r : Fin 512) (k : Fin 1024) : ((cfg0.win 3).blk t).view.read (Elt Ideal) f (ix2 r k)
    = f (ix2 (⟨t.val * 512 + r.val, row_lt t r⟩ : Fin 16384) k) := by
  blk_ext [show (cfg0.win 3).index t = _ from (place t).2.2.2.1]

theorem g_at (t : Fin cfg0.N) (f : Vec Ideal S1x1024 .f32) (r : Fin 1) (k : Fin 1024) : ((cfg0.win 4).blk t).view.read (Elt Ideal) f (ix2 r k) = f (ix2 r k) := by
  blk_ext [show (cfg0.win 4).index t = _ from (place t).2.2.2.2.1]

theorem y_at (t : Fin cfg0.N) (f : Vec Ideal S16384x1024 .f32) (r : Fin 512) (k : Fin 1024) : ((cfg0.win 5).blk t).view.read (Elt Ideal) f (ix2 r k)
    = f (ix2 (⟨t.val * 512 + r.val, row_lt t r⟩ : Fin 16384) k) := by
  blk_ext [show (cfg0.win 5).index t = _ from (place t).2.2.2.2.2.1]

theorem gated_place (t : Fin cfg0.N) (r n : Fin 512) : ((cfg0.win 6).blk t).view.emb (ix2 r n)
    = (ix2 (⟨t.val * 512 + r.val, row_lt t r⟩ : Fin 16384) n : S16384x512.Idx) := by
  blk_ext [show (cfg0.win 6).index t = _ from (place t).2.2.2.2.2.2.1]

theorem stream_place (t : Fin cfg0.N) (r : Fin 512) (k : Fin 1024) : ((cfg0.win 7).blk t).view.emb (ix2 r k)
    = (ix2 (⟨t.val * 512 + r.val, row_lt t r⟩ : Fin 16384) k : S16384x1024.Idx) := by
  blk_ext [show (cfg0.win 7).index t = _ from (place t).2.2.2.2.2.2.2.1]

theorem loss_place (t : Fin cfg0.N) (r : Fin 1) (k : Fin 1024) : ((cfg0.win 8).blk t).view.emb (ix2 r k) = (ix2 r k : S1x1024.Idx) := by
  blk_ext [show (cfg0.win 8).index t = _ from (place t).2.2.2.2.2.2.2.2.1]

theorem gain_place (t : Fin cfg0.N) (r : Fin 1) (k : Fin 1024) : ((cfg0.win 9).blk t).view.emb (ix2 r k) = (ix2 r k : S1x1024.Idx) := by
  blk_ext [show (cfg0.win 9).index t = _ from (place t).2.2.2.2.2.2.2.2.2]

/-! ## What a point reads, in the arrays' own rows -/

theorem gate_row (t : Fin cfg0.N) (r : Fin 512) (n : Fin 512) :
    gate ((iblk m c 0 t : S512x512.Idx → EReal) (ix2 r n)) ((iblk m c 1 t : S512x512.Idx → EReal) (ix2 r n)) = gatedRow m c ⟨t.val * 512 + r.val, row_lt t r⟩ n :=
  congrArg₂ gate (o_at t (V m c main_arg0) r n) (q_at t (V m c main_arg1) r n)

theorem stream_row (t : Fin cfg0.N) (r : Fin 512) :
    (fun k => k0_pay9 (F := Ideal) (iblk m c 1 t) (iblk m c 0 t) (iblk m c 3 t) (iblk m c 2 t) (ix2 r k)) = streamRow m c ⟨t.val * 512 + r.val, row_lt t r⟩ := by
  funext k
  rw [last_at]
  unfold streamRow last
  refine congrArg₂ (fun p q : EReal => p + q) (x_at t (V m c main_arg3) r k) ?_
  exact Finset.sum_congr rfl fun j _ => congrArg₂ (fun p q : EReal => p * q) (gate_row m c t r j) (w_at t (V m c main_arg2) j k)

theorem gain_row (t : Fin cfg0.N) : (fun k => (iblk m c 4 t : S1x1024.Idx → EReal) (ix2 0 k)) = gainRow m c :=
  funext fun k => g_at t (V m c main_arg4) 0 k

theorem target_row (t : Fin cfg0.N) (r : Fin 512) : (fun k => (iblk m c 5 t : S512x1024.Idx → EReal) (ix2 r k)) = targetRow m c ⟨t.val * 512 + r.val, row_lt t r⟩ :=
  funext fun k => y_at t (V m c main_arg5) r k

/-- What point `t` adds to the loss of column `d`. -/
def addedLoss (t : Fin cfg0.N) (d : Fin 1024) : EReal :=
  ∑ r : Fin 512, lossTerm (streamRow m c ⟨t.val * 512 + r.val, row_lt t r⟩) (gainRow m c) (targetRow m c ⟨t.val * 512 + r.val, row_lt t r⟩) d * Ideal.ofBits .f32 0x3A000000#32

/-- What it adds to the gradient of the gain. -/
def addedGain (t : Fin cfg0.N) (d : Fin 1024) : EReal :=
  ∑ r : Fin 512, gainTerm (streamRow m c ⟨t.val * 512 + r.val, row_lt t r⟩) (gainRow m c) (targetRow m c ⟨t.val * 512 + r.val, row_lt t r⟩) d

theorem loss_point (t : Fin cfg0.N) (acc : Vec Ideal S1x1024 .f32) (y : S1x1024.Idx) :
    k0_pay2 (F := Ideal) (k0_pay12 (iblk m c 1 t) (iblk m c 0 t) (iblk m c 3 t) (iblk m c 2 t) (iblk m c 4 t)) (iblk m c 5 t) acc y = acc y + addedLoss m c t (y 1) := by
  obtain ⟨i, d, rfl⟩ : ∃ (i : Fin 1) (d : Fin 1024), y = ix2 i d := ⟨_, _, ValueIdx.eq_ix2 y⟩
  rw [loss_step, half_per_width_bits, sum_mul_real _ _ (by norm_num), ← half_per_width_bits]
  refine congrArg _ (Finset.sum_congr rfl fun r _ => ?_)
  rw [stream_row, gain_row, target_row]

theorem gain_point (t : Fin cfg0.N) (acc : Vec Ideal S1x1024 .f32) (y : S1x1024.Idx) :
    k0_pay4 (F := Ideal) (k0_pay11 (iblk m c 1 t) (iblk m c 0 t) (iblk m c 3 t) (iblk m c 2 t))
      (k0_pay12 (iblk m c 1 t) (iblk m c 0 t) (iblk m c 3 t) (iblk m c 2 t) (iblk m c 4 t)) (iblk m c 5 t) acc y = acc y + addedGain m c t (y 1) := by
  obtain ⟨i, d, rfl⟩ : ∃ (i : Fin 1) (d : Fin 1024), y = ix2 i d := ⟨_, _, ValueIdx.eq_ix2 y⟩
  rw [gain_step]
  refine congrArg _ (Finset.sum_congr rfl fun r _ => ?_)
  rw [stream_row, gain_row, target_row]

theorem loss_start (t : Fin cfg0.N) (h0 : t.val % 32 = 0) (y : S1x1024.Idx) : (outsAt0 m c t.val t.isLt).2.2.1 y = 0 + addedLoss m c t (y 1) := by
  rw [outsAt0_A m c t h0]
  frame_out
  rw [loss_point, zero1_at]

theorem loss_next (t : Fin cfg0.N) (h0 : ¬ t.val % 32 = 0) (y : S1x1024.Idx) :
    (outsAt0 m c t.val t.isLt).2.2.1 y = (outsAt0 m c (t.val - 1) (Nat.lt_of_le_of_lt (Nat.sub_le _ _) t.isLt)).2.2.1 y + addedLoss m c t (y 1) := by
  rw [outsAt0_B m c t h0]
  frame_out
  exact loss_point ..

theorem gain_start (t : Fin cfg0.N) (h0 : t.val % 32 = 0) (y : S1x1024.Idx) : (outsAt0 m c t.val t.isLt).2.2.2 y = 0 + addedGain m c t (y 1) := by
  rw [outsAt0_A m c t h0]
  frame_out
  rw [gain_point, zero2_at]

theorem gain_next (t : Fin cfg0.N) (h0 : ¬ t.val % 32 = 0) (y : S1x1024.Idx) :
    (outsAt0 m c t.val t.isLt).2.2.2 y = (outsAt0 m c (t.val - 1) (Nat.lt_of_le_of_lt (Nat.sub_le _ _) t.isLt)).2.2.2 y + addedGain m c t (y 1) := by
  rw [outsAt0_B m c t h0]
  frame_out
  exact gain_point ..

theorem gated_out (t : Fin cfg0.N) (r n : Fin 512) : (outsAt0 m c t.val t.isLt).1 (ix2 r n) = gatedRow m c ⟨t.val * 512 + r.val, row_lt t r⟩ n := by
  by_cases h0 : t.val % 32 = 0
  · rw [outsAt0_A m c t h0]
    frame_out
    exact (gate_at _ _ r n).trans (gate_row m c t r n)
  · rw [outsAt0_B m c t h0]
    frame_out
    exact (gate_at _ _ r n).trans (gate_row m c t r n)

theorem stream_point (t : Fin cfg0.N) (r : Fin 512) (d : Fin 1024) :
    k0_pay5 (F := Ideal) (k0_pay10 (iblk m c 1 t) (iblk m c 0 t) (iblk m c 3 t) (iblk m c 2 t)) (k0_pay11 (iblk m c 1 t) (iblk m c 0 t) (iblk m c 3 t) (iblk m c 2 t)) (iblk m c 4 t)
      (k0_pay12 (iblk m c 1 t) (iblk m c 0 t) (iblk m c 3 t) (iblk m c 2 t) (iblk m c 4 t)) (iblk m c 5 t) (ix2 r d)
      = rowFall (streamRow m c ⟨t.val * 512 + r.val, row_lt t r⟩) (gainRow m c) (targetRow m c ⟨t.val * 512 + r.val, row_lt t r⟩) d := by
  rw [row_out, stream_row, gain_row, target_row]

theorem stream_out (t : Fin cfg0.N) (r : Fin 512) (d : Fin 1024) : (outsAt0 m c t.val t.isLt).2.1 (ix2 r d)
    = rowFall (streamRow m c ⟨t.val * 512 + r.val, row_lt t r⟩) (gainRow m c) (targetRow m c ⟨t.val * 512 + r.val, row_lt t r⟩) d := by
  by_cases h0 : t.val % 32 = 0
  · rw [outsAt0_A m c t h0]
    frame_out
    exact stream_point ..
  · rw [outsAt0_B m c t h0]
    frame_out
    exact stream_point ..

/-- After the last point, the sums are what all of them add. -/
theorem loss_sum (t : Fin cfg0.N) (h1 : t.val % 32 = 31) (y : S1x1024.Idx) :
    (outsAt0 m c t.val t.isLt).2.2.1 y = ∑ s : Fin 32, addedLoss m c ⟨32 * (t.val / 32) + s.val, Pipeline.run_point_lt_of_flush t h1 s⟩ (y 1) := by
  rw [Pipeline.eq_sum_fin_of_reset_step_apply_of_flush (fun n h => (outsAt0 m c n h).2.2.1) 32 (fun _ => 0) (fun t y => addedLoss m c t (y 1))
    (loss_start m c) (loss_next m c) t h1 y, zero_add]

theorem gain_sum (t : Fin cfg0.N) (h1 : t.val % 32 = 31) (y : S1x1024.Idx) :
    (outsAt0 m c t.val t.isLt).2.2.2 y = ∑ s : Fin 32, addedGain m c ⟨32 * (t.val / 32) + s.val, Pipeline.run_point_lt_of_flush t h1 s⟩ (y 1) := by
  rw [Pipeline.eq_sum_fin_of_reset_step_apply_of_flush (fun n h => (outsAt0 m c n h).2.2.2) 32 (fun _ => 0) (fun t y => addedGain m c t (y 1))
    (gain_start m c) (gain_next m c) t h1 y, zero_add]

/-! ## The arrays the call returns -/

theorem final_gated : (dats m 0 c).arrAt 6 cfg0.N = gated m c := by
  refine (dats m 0 c).arrAt_eq_of_covers 6 _ (by decide +kernel) fun t hf y => ?_
  obtain ⟨r, n, rfl⟩ : ∃ (r : Fin 512) (n : Fin 512), y = ix2 r n := ⟨_, _, ValueIdx.eq_ix2 y⟩
  rw [gated_place]
  blk_simp
  rw [after0_6, gated_out]

theorem final_stream : (dats m 0 c).arrAt 7 cfg0.N = stream m c := by
  refine (dats m 0 c).arrAt_eq_of_covers 7 _ (by decide +kernel) fun t hf y => ?_
  obtain ⟨r, d, rfl⟩ : ∃ (r : Fin 512) (d : Fin 1024), y = ix2 r d := ⟨_, _, ValueIdx.eq_ix2 y⟩
  rw [stream_place]
  blk_simp
  rw [after0_7, stream_out]

theorem final_loss : (dats m 0 c).arrAt 8 cfg0.N = loss m c := by
  refine (dats m 0 c).arrAt_eq_of_covers 8 _ (by decide +kernel) fun t hf y => ?_
  have ht : t.val < 32 := lt_of_lt_of_eq t.isLt N_0
  have h1 : t.val % 32 = 31 := (flush0_8 t).mp hf
  obtain ⟨i, d, rfl⟩ : ∃ (i : Fin 1) (d : Fin 1024), y = ix2 i d := ⟨_, _, ValueIdx.eq_ix2 y⟩
  rw [loss_place]
  blk_simp
  rw [after0_8, loss_sum m c t h1]
  unfold addedLoss
  refine Fin.sum_mul_add_congr fun s r hl => ?_
  refine congrArg (fun l => lossTerm (streamRow m c l) (gainRow m c) (targetRow m c l) d * Ideal.ofBits .f32 0x3A000000#32) (Fin.ext ?_)
  dsimp only
  omega

theorem final_gain : (dats m 0 c).arrAt 9 cfg0.N = gain m c := by
  refine (dats m 0 c).arrAt_eq_of_covers 9 _ (by decide +kernel) fun t hf y => ?_
  have ht : t.val < 32 := lt_of_lt_of_eq t.isLt N_0
  have h1 : t.val % 32 = 31 := (flush0_9 t).mp hf
  obtain ⟨i, d, rfl⟩ : ∃ (i : Fin 1) (d : Fin 1024), y = ix2 i d := ⟨_, _, ValueIdx.eq_ix2 y⟩
  rw [gain_place]
  blk_simp
  rw [after0_9, gain_sum m c t h1]
  unfold addedGain
  refine Fin.sum_mul_add_congr fun s r hl => ?_
  refine congrArg (fun l => gainTerm (streamRow m c l) (gainRow m c) (targetRow m c l) d) (Fin.ext ?_)
  dsimp only
  omega

end Calls.Loss

open Idealize.ShloMosaic Idealize.SL.Sem

/-- The call returns the gated rows, the gradient of the stream, the loss of every column and the gradient of the gain. -/
theorem Calls.Loss.agree : @Cert.algebraic_Kernel12Ideal_Reference12Ideal Cert.Kernel12Ideal.Gen.facts Cert.Reference12Ideal.Gen.facts :=
  fun m ρ m' ρ' _ ha => ⟨Calls.Loss.gated m, Calls.Loss.stream m, Calls.Loss.loss m, Calls.Loss.gain m,
    (θ_run Cert.Kernel12Ideal.defs _ _).mono (fun r h c => ⟨(h c).1.trans (Calls.Loss.final_gated m c), (h c).2.1.trans (Calls.Loss.final_stream m c),
      (h c).2.2.1.trans (Calls.Loss.final_loss m c), (h c).2.2.2.1.trans (Calls.Loss.final_gain m c), (h c).2.2.2.2⟩) (Cert.Kernel12Ideal.Value.run_blocks (F := Ideal) m ρ),
    (θ_run Cert.Reference12Ideal.defs _ _).mono (fun r h c => by
      obtain ⟨a0, a1, a2, a3, a4, a5⟩ := ha c
      refine ⟨(h c).1.trans ?_, (h c).2.1.trans ?_, (h c).2.2.1.trans ?_, (h c).2.2.2.1.trans ?_, (h c).2.2.2.2⟩
      · clear h
        rw [a0, a1]
        funext y
        obtain ⟨s, n, rfl⟩ : ∃ (s : Fin 16384) (n : Fin 512), y = ValueIdx.ix2 s n := ⟨_, _, ValueIdx.eq_ix2 y⟩
        pointwise
        simp only [ix2_eq_valueIdx, Calls.sigma_neg]
        rfl
      · clear h
        unfold Cert.Reference12Ideal.Value.res_main_v58
        rw [a0, a1, a2, a3, a4, a5]
        funext y
        obtain ⟨s, d, rfl⟩ : ∃ (s : Fin 16384) (d : Fin 1024), y = ValueIdx.ix2 s d := ⟨_, _, ValueIdx.eq_ix2 y⟩
        pointwise
        simp only [ix2_eq_valueIdx, Fin.sum_univ_one, Calls.sigma_neg, Calls.half_mean_back]
        exact (Calls.rowBack_eq (Calls.Loss.streamRow m c s)
          (fun k => Calls.Loss.fall (Calls.Loss.streamRow m c s) (Calls.Loss.gainRow m c) (Calls.Loss.targetRow m c s) k * Calls.Loss.gainRow m c k) d).symm
      · clear h
        unfold Cert.Reference12Ideal.Value.res_main_v31
        rw [a0, a1, a2, a3, a4, a5]
        funext y
        obtain ⟨i, d, rfl⟩ : ∃ (i : Fin 1) (d : Fin 1024), y = ValueIdx.ix2 i d := ⟨_, _, ValueIdx.eq_ix2 y⟩
        pointwise
        simp only [ix2_eq_valueIdx, Calls.sigma_neg, Calls.half_mean]
        rfl
      · clear h
        unfold Cert.Reference12Ideal.Value.res_main_v42
        rw [a0, a1, a2, a3, a4, a5]
        funext y
        obtain ⟨i, d, rfl⟩ : ∃ (i : Fin 1) (d : Fin 1024), y = ValueIdx.ix2 i d := ⟨_, _, ValueIdx.eq_ix2 y⟩
        pointwise
        simp only [ix2_eq_valueIdx, Fin.sum_univ_one, Calls.sigma_neg, Calls.half_mean_back]
        rfl)
      (Cert.Reference12Ideal.Value.run (F := Ideal) m' ρ')⟩

end
-- ==== Proof.Calls.Shift.lean ====
module

public import proofs.«01_k».proof.Proof.Calls.Finite

@[expose] public section

noncomputable section

/-! A sequence read one or two positions earlier or later, with zeros past its ends, and the same read off blocks of 512
    positions that have the 16 neighbouring ones at hand. -/

namespace Calls

open Idealize.ShloMosaic hiding ix0 ix1 ix2 ix3 ix4 ix5

/-- `k` positions earlier. -/
def above (y : Fin 16384 → EReal) (k : ℕ) (s : Fin 16384) : EReal := if h : s.val < k then 0 else y ⟨s.val - k, by omega⟩

/-- `k` positions later. -/
def below (y : Fin 16384 → EReal) (k : ℕ) (s : Fin 16384) : EReal := if h : s.val + k < 16384 then y ⟨s.val + k, h⟩ else 0

/-- The same, as a sum of padded and sliced sequences writes it. -/
theorem above_two (y : Fin 16384 → EReal) (s : Fin 16384) : (if h : s.val < 2 then 0 else y ⟨s.val - 2, by omega⟩) = above y 2 s := rfl

theorem above_one (y : Fin 16384 → EReal) (s : Fin 16384) : (if h : 1 + s.val < 2 then 0 else y ⟨1 + s.val - 2, by omega⟩) = above y 1 s := by
  unfold above
  by_cases h : s.val < 1
  · rw [dif_pos h, dif_pos (by omega)]
  · rw [dif_neg h, dif_neg (by omega)]
    exact congrArg y (Fin.ext (by dsimp only; omega))

/-- A column of the first of four blocks of 1024. -/
def first (n : Fin 1024) : Fin 4096 := ⟨n.val, by omega⟩

/-- A choice on the equality of two small words. -/
theorem select_eq {a k : ℕ} (ha : a < 2 ^ 32) (hk : k < 2 ^ 32) (x y : EReal) :
    Scalar.select (IntOp.cmpi .eq (BitVec.ofNat 32 a) (BitVec.ofNat 32 k)) x y = if a = k then x else y := by
  have h : (BitVec.ofNat 32 a = BitVec.ofNat 32 k) ↔ a = k := by
    constructor
    · intro h
      have := congrArg BitVec.toNat h
      rwa [BitVec.toNat_ofNat, BitVec.toNat_ofNat, Nat.mod_eq_of_lt ha, Nat.mod_eq_of_lt hk] at this
    · rintro rfl
      rfl
  change Scalar.select (BitVec.ofBool (BitVec.ofNat 32 a == BitVec.ofNat 32 k)) x y = _
  rw [Scalar.select_ofBool]
  simp only [beq_iff_eq, h]

/-- The block's own positions one earlier; `z` says the block is the first, `p` are the positions before it. -/
def blockUp1 (z : Prop) [Decidable z] (p : Fin 16 → EReal) (y : Fin 512 → EReal) (r : Fin 512) : EReal :=
  if r.val = 0 then (if z then 0 else p 15) else y ⟨(r.val + 512 - 1) % 512, Nat.mod_lt _ (by norm_num)⟩

/-- Two earlier. -/
def blockUp2 (z : Prop) [Decidable z] (p : Fin 16 → EReal) (y : Fin 512 → EReal) (r : Fin 512) : EReal :=
  if r.val = 1 then (if z then 0 else p 15) else if r.val = 0 then (if z then 0 else p 14) else y ⟨(r.val + 512 - 2) % 512, Nat.mod_lt _ (by norm_num)⟩

/-- One later; `z` says the block is the last, `p` are the positions after it. -/
def blockDown1 (z : Prop) [Decidable z] (p : Fin 16 → EReal) (y : Fin 512 → EReal) (r : Fin 512) : EReal :=
  if r.val = 511 then (if z then 0 else p 0) else y ⟨(r.val + 512 - 511) % 512, Nat.mod_lt _ (by norm_num)⟩

/-- Two later. -/
def blockDown2 (z : Prop) [Decidable z] (p : Fin 16 → EReal) (y : Fin 512 → EReal) (r : Fin 512) : EReal :=
  if r.val = 511 then (if z then 0 else p 1) else if r.val = 510 then (if z then 0 else p 0) else y ⟨(r.val + 512 - 510) % 512, Nat.mod_lt _ (by norm_num)⟩

theorem row_lt {t : ℕ} (ht : t < 32) (r : Fin 512) : t * 512 + r.val < 16384 := by omega

theorem before_lt {t : ℕ} (ht : t < 32) (j : Fin 16) : (t * 32 - 1) * 16 + j.val < 16384 := by omega

theorem after_lt {t : ℕ} (ht : t < 32) (h : t ≠ 31) (j : Fin 16) : (t + 1) * 512 + j.val < 16384 := by omega

section
variable (Y : Fin 16384 → EReal) (t : ℕ) (ht : t < 32) (p : Fin 16 → EReal) (y : Fin 512 → EReal)
  (hy : ∀ r : Fin 512, y r = Y ⟨t * 512 + r.val, row_lt ht r⟩)
include hy

theorem blockUp1_eq (hp : ∀ h : t ≠ 0, ∀ j : Fin 16, p j = Y ⟨(t * 32 - 1) * 16 + j.val, before_lt ht j⟩) (r : Fin 512) :
    blockUp1 (t = 0) p y r = above Y 1 ⟨t * 512 + r.val, row_lt ht r⟩ := by
  unfold blockUp1 above
  by_cases hr : r.val = 0
  · rw [if_pos hr]
    by_cases h0 : t = 0
    · rw [if_pos h0, dif_pos (by dsimp only; omega)]
    · rw [if_neg h0, dif_neg (by dsimp only; omega), hp h0]
      exact congrArg Y (Fin.ext (by dsimp only [Fin.val_ofNat]; omega))
  · rw [if_neg hr, dif_neg (by dsimp only; omega), hy]
    exact congrArg Y (Fin.ext (by dsimp only; omega))

theorem blockUp2_eq (hp : ∀ h : t ≠ 0, ∀ j : Fin 16, p j = Y ⟨(t * 32 - 1) * 16 + j.val, before_lt ht j⟩) (r : Fin 512) :
    blockUp2 (t = 0) p y r = above Y 2 ⟨t * 512 + r.val, row_lt ht r⟩ := by
  unfold blockUp2 above
  by_cases h1 : r.val = 1
  · rw [if_pos h1]
    by_cases h0 : t = 0
    · rw [if_pos h0, dif_pos (by dsimp only; omega)]
    · rw [if_neg h0, dif_neg (by dsimp only; omega), hp h0]
      exact congrArg Y (Fin.ext (by dsimp only [Fin.val_ofNat]; omega))
  · rw [if_neg h1]
    by_cases hr : r.val = 0
    · rw [if_pos hr]
      by_cases h0 : t = 0
      · rw [if_pos h0, dif_pos (by dsimp only; omega)]
      · rw [if_neg h0, dif_neg (by dsimp only; omega), hp h0]
        exact congrArg Y (Fin.ext (by dsimp only [Fin.val_ofNat]; omega))
    · rw [if_neg hr, dif_neg (by dsimp only; omega), hy]
      exact congrArg Y (Fin.ext (by dsimp only; omega))

theorem blockDown1_eq (hp : ∀ h : t ≠ 31, ∀ j : Fin 16, p j = Y ⟨(t + 1) * 512 + j.val, after_lt ht h j⟩) (r : Fin 512) :
    blockDown1 (t = 31) p y r = below Y 1 ⟨t * 512 + r.val, row_lt ht r⟩ := by
  unfold blockDown1 below
  by_cases hr : r.val = 511
  · rw [if_pos hr]
    by_cases h0 : t = 31
    · rw [if_pos h0, dif_neg (by dsimp only; omega)]
    · rw [if_neg h0, dif_pos (by dsimp only; omega), hp h0]
      exact congrArg Y (Fin.ext (by dsimp only [Fin.val_ofNat]; omega))
  · rw [if_neg hr, dif_pos (by dsimp only; omega), hy]
    exact congrArg Y (Fin.ext (by dsimp only; omega))

theorem blockDown2_eq (hp : ∀ h : t ≠ 31, ∀ j : Fin 16, p j = Y ⟨(t + 1) * 512 + j.val, after_lt ht h j⟩) (r : Fin 512) :
    blockDown2 (t = 31) p y r = below Y 2 ⟨t * 512 + r.val, row_lt ht r⟩ := by
  unfold blockDown2 below
  by_cases h1 : r.val = 511
  · rw [if_pos h1]
    by_cases h0 : t = 31
    · rw [if_pos h0, dif_neg (by dsimp only; omega)]
    · rw [if_neg h0, dif_pos (by dsimp only; omega), hp h0]
      exact congrArg Y (Fin.ext (by dsimp only [Fin.val_ofNat]; omega))
  · rw [if_neg h1]
    by_cases hr : r.val = 510
    · rw [if_pos hr]
      by_cases h0 : t = 31
      · rw [if_pos h0, dif_neg (by dsimp only; omega)]
      · rw [if_neg h0, dif_pos (by dsimp only; omega), hp h0]
        exact congrArg Y (Fin.ext (by dsimp only [Fin.val_ofNat]; omega))
    · rw [if_neg hr, dif_pos (by dsimp only; omega), hy]
      exact congrArg Y (Fin.ext (by dsimp only; omega))

end

/-- The convolution over three positions at one entry: the taps, from the earliest, and the sequence there and at the two
    positions before. -/
def tap (w : Fin 3 → EReal) (y y1 y2 : EReal) : EReal := w 2 * y + w 1 * y1 + w 0 * y2

end Calls

end
-- ==== Proof.Calls.MixerFwd.lean ====
module

public import proofs.«01_k».proof.Defs
public import proofs.«01_k».proof.Proof.Calls.Shift
public import proofs.«01_k».proof.Proof.Gen.Kernel13Ideal.Value
public import proofs.«01_k».proof.Proof.Gen.Reference13Ideal.Run
public import Idealize.ShloMosaic.Lib.Pipeline.ReadBack
public import Idealize.ShloMosaic.Lib.Pipeline.ValueKit

@[expose] public section

set_option maxRecDepth 16384

noncomputable section

/-! The mixer: the product of two columns convolved over three positions, between a factor and a gate. -/

namespace Calls.MixerFwd

open Cert.Kernel13Ideal Cert.Kernel13Ideal.Gen
open Idealize.ShloMosaic hiding ix0 ix1 ix2 ix3 ix4 ix5
open Idealize.ShloMosaic.TcCoe
open Idealize.ShloMosaic.ValueIdx
open Idealize.ShloMosaic.Pipeline (Dat)

/-- One entry, from its factor, its gate, the taps, and the sequence there and at the two positions before. -/
def mix (b g : EReal) (w : Fin 3 → EReal) (y y1 y2 : EReal) : EReal := b * tap w y y1 y2 * (g * sigma g)

/-- The same, from the sequence padded by two zeros. -/
theorem mix_padded (b g : EReal) (w : Fin 3 → EReal) (y : Fin 16384 → EReal) (s : Fin 16384) :
    b * ((w 0 * (if h : s.val < 2 then 0 else y ⟨s.val - 2, by omega⟩) + w 1 * (if h : 1 + s.val < 2 then 0 else y ⟨1 + s.val - 2, by omega⟩)) + w 2 * y s)
      * (g * sigma g) = mix b g w (y s) (above y 1 s) (above y 2 s) := by
  rw [above_two, above_one]
  unfold mix tap
  rw [add_comm (w 0 * _ + w 1 * _) (w 2 * y s), add_comm (w 0 * _) (w 1 * _), add_assoc]

theorem coord_lt (i : grid0.Coords) : (i 0).val < 2 ^ 32 := lt_trans (show (i 0).val < 32 from (i 0).isLt) (by norm_num)

theorem out_at (i : grid0.Coords) (b a h g : Vec Ideal S512x1024 .bf16) (pa ph : Vec Ideal S16x1024 .bf16) (w : Vec Ideal S3x1024 .f32) (r : Fin 512) (n : Fin 1024) :
    k0_pay1 (k0_pay4 i a h pa ph w) (k0_pay5 w) (k0_pay6 i a h pa ph) k0_pay7 (k0_pay8 i pa ph) g b (ix2 r n)
      = mix (b (ix2 r n)) (g (ix2 r n)) (fun k => w (ix2 k n)) (a (ix2 r n) * h (ix2 r n))
        (blockUp1 ((i 0).val = 0) (fun j => pa (ix2 j n) * ph (ix2 j n)) (fun j => a (ix2 j n) * h (ix2 j n)) r)
        (blockUp2 ((i 0).val = 0) (fun j => pa (ix2 j n) * ph (ix2 j n)) (fun j => a (ix2 j n) * h (ix2 j n)) r) := by
  have hr : r.val < 2 ^ 32 := lt_trans r.isLt (by norm_num)
  have hi : ∀ x y : EReal, Scalar.select (Scalar.cmpi .eq (BitVec.ofNat 32 (i 0).val) 0#32) x y = if (i 0).val = 0 then x else y :=
    fun x y => select_eq (coord_lt i) (by norm_num) x y
  have h0 : ∀ x y : EReal, Scalar.select (IntOp.cmpi .eq (BitVec.ofNat 32 (ix2 r n (0 : Fin 2)).val) 0#32) x y = if r.val = 0 then x else y :=
    fun x y => select_eq hr (by norm_num) x y
  have h1 : ∀ x y : EReal, Scalar.select (IntOp.cmpi .eq (BitVec.ofNat 32 (ix2 r n (0 : Fin 2)).val) 1#32) x y = if r.val = 1 then x else y :=
    fun x y => select_eq hr (by norm_num) x y
  unfold k0_pay1 k0_pay4 k0_pay6 k0_pay7 k0_pay8 k0_pay5 k0_pay3 k0_pay2
  pointwise
  simp only [ix2_eq_valueIdx]
  simp only [hi, h0, h1]
  rfl

variable (m : (ℓ : Loc nD τ sig) → Buf (Elt Ideal) ℓ) (c : Dev nD)

/-! ## The arrays the call reads -/

abbrev arrU : Vec Ideal S16384x4096 .bf16 := m ((c.tc : Thread nD τ).loc main_arg0)
abbrev arrC : Vec Ideal S3x1024 .f32 := m ((c.tc : Thread nD τ).loc main_arg1)

/-- Column `n` of the sequence that is convolved. -/
def sequence (n : Fin 1024) (s : Fin 16384) : EReal := arrU m c (ix2 s (column 1 n)) * arrU m c (ix2 s (column 2 n))

/-- The array the call returns. -/
abbrev mixed : Vec Ideal S16384x1024 .bf16 := fun y =>
  mix (arrU m c (ix2 (y 0) (first (y 1)))) (arrU m c (ix2 (y 0) (column 3 (y 1)))) (fun k => arrC m c (ix2 k (y 1)))
    (sequence m c (y 1) (y 0)) (above (sequence m c (y 1)) 1 (y 0)) (above (sequence m c (y 1)) 2 (y 0))

/-! ## Where the blocks lie -/

theorem place : ∀ t : Fin grid0.N, win0_0.index t = ![t.val, 0] ∧ win0_1.index t = ![t.val, 1] ∧ win0_2.index t = ![t.val, 2] ∧ win0_3.index t = ![t.val, 3]
    ∧ win0_4.index t = ![t.val * 32 - 1, 1] ∧ win0_5.index t = ![t.val * 32 - 1, 2] ∧ win0_6.index t = ![0, 0] ∧ win0_7.index t = ![t.val, 0] := by decide +kernel

theorem coord : ∀ t : Fin grid0.N, (grid0.coords t 0).val = t.val := by decide +kernel

theorem row_lt (t : Fin cfg0.N) (r : Fin 512) : t.val * 512 + r.val < 16384 := by
  have hN : cfg0.N = 32 := N_0
  omega

theorem halo_lt (t : Fin cfg0.N) (r : Fin 16) : (t.val * 32 - 1) * 16 + r.val < 16384 := by
  have hN : cfg0.N = 32 := N_0
  omega

theorem b_at (t : Fin cfg0.N) (f : Vec Ideal S16384x4096 .bf16) (r : Fin 512) (n : Fin 1024) : ((cfg0.win 0).blk t).view.read (Elt Ideal) f (ix2 r n)
    = f (ix2 (⟨t.val * 512 + r.val, row_lt t r⟩ : Fin 16384) (first n)) := by
  blk_ext [show (cfg0.win 0).index t = _ from (place t).1]
  rfl

theorem a_at (t : Fin cfg0.N) (f : Vec Ideal S16384x4096 .bf16) (r : Fin 512) (n : Fin 1024) : ((cfg0.win 1).blk t).view.read (Elt Ideal) f (ix2 r n)
    = f (ix2 (⟨t.val * 512 + r.val, row_lt t r⟩ : Fin 16384) (column 1 n)) := by
  blk_ext [show (cfg0.win 1).index t = _ from (place t).2.1]
  rfl

theorem h_at (t : Fin cfg0.N) (f : Vec Ideal S16384x4096 .bf16) (r : Fin 512) (n : Fin 1024) : ((cfg0.win 2).blk t).view.read (Elt Ideal) f (ix2 r n)
    = f (ix2 (⟨t.val * 512 + r.val, row_lt t r⟩ : Fin 16384) (column 2 n)) := by
  blk_ext [show (cfg0.win 2).index t = _ from (place t).2.2.1]
  rfl

theorem g_at (t : Fin cfg0.N) (f : Vec Ideal S16384x4096 .bf16) (r : Fin 512) (n : Fin 1024) : ((cfg0.win 3).blk t).view.read (Elt Ideal) f (ix2 r n)
    = f (ix2 (⟨t.val * 512 + r.val, row_lt t r⟩ : Fin 16384) (column 3 n)) := by
  blk_ext [show (cfg0.win 3).index t = _ from (place t).2.2.2.1]
  rfl

theorem pa_at (t : Fin cfg0.N) (f : Vec Ideal S16384x4096 .bf16) (r : Fin 16) (n : Fin 1024) : ((cfg0.win 4).blk t).view.read (Elt Ideal) f (ix2 r n)
    = f (ix2 (⟨(t.val * 32 - 1) * 16 + r.val, halo_lt t r⟩ : Fin 16384) (column 1 n)) := by
  blk_ext [show (cfg0.win 4).index t = _ from (place t).2.2.2.2.1]
  rfl

theorem ph_at (t : Fin cfg0.N) (f : Vec Ideal S16384x4096 .bf16) (r : Fin 16) (n : Fin 1024) : ((cfg0.win 5).blk t).view.read (Elt Ideal) f (ix2 r n)
    = f (ix2 (⟨(t.val * 32 - 1) * 16 + r.val, halo_lt t r⟩ : Fin 16384) (column 2 n)) := by
  blk_ext [show (cfg0.win 5).index t = _ from (place t).2.2.2.2.2.1]
  rfl

theorem w_at (t : Fin cfg0.N) (f : Vec Ideal S3x1024 .f32) (k : Fin 3) (n : Fin 1024) : ((cfg0.win 6).blk t).view.read (Elt Ideal) f (ix2 k n) = f (ix2 k n) := by
  blk_ext [show (cfg0.win 6).index t = _ from (place t).2.2.2.2.2.2.1]

theorem out_place (t : Fin cfg0.N) (r : Fin 512) (n : Fin 1024) : ((cfg0.win 7).blk t).view.emb (ix2 r n)
    = (ix2 (⟨t.val * 512 + r.val, row_lt t r⟩ : Fin 16384) n : S16384x1024.Idx) := by
  blk_ext [show (cfg0.win 7).index t = _ from (place t).2.2.2.2.2.2.2]

/-- The blocks of the two columns that are multiplied, and the 16 rows before each. -/
abbrev blkA (t : Fin cfg0.N) : Vec Ideal S512x1024 .bf16 := iblk m c 1 t
abbrev blkH (t : Fin cfg0.N) : Vec Ideal S512x1024 .bf16 := iblk m c 2 t
abbrev blkPA (t : Fin cfg0.N) : Vec Ideal S16x1024 .bf16 := iblk m c 4 t
abbrev blkPH (t : Fin cfg0.N) : Vec Ideal S16x1024 .bf16 := iblk m c 5 t

theorem own (t : Fin cfg0.N) (n : Fin 1024) (r : Fin 512) : blkA m c t (ix2 r n) * blkH m c t (ix2 r n)
    = sequence m c n ⟨t.val * 512 + r.val, row_lt t r⟩ :=
  congrArg₂ (fun p q : EReal => p * q) (a_at t (V m c main_arg0) r n) (h_at t (V m c main_arg0) r n)

theorem before (t : Fin cfg0.N) (n : Fin 1024) (r : Fin 16) : blkPA m c t (ix2 r n) * blkPH m c t (ix2 r n)
    = sequence m c n ⟨(t.val * 32 - 1) * 16 + r.val, halo_lt t r⟩ :=
  congrArg₂ (fun p q : EReal => p * q) (pa_at t (V m c main_arg0) r n) (ph_at t (V m c main_arg0) r n)

theorem final_mixed : (dats m 0 c).arrAt 7 cfg0.N = mixed m c := by
  refine (dats m 0 c).arrAt_eq_of_covers 7 _ (by decide +kernel) fun t hf y => ?_
  have ht : t.val < 32 := lt_of_lt_of_eq t.isLt N_0
  obtain ⟨r, n, rfl⟩ : ∃ (r : Fin 512) (n : Fin 1024), y = ix2 r n := ⟨_, _, ValueIdx.eq_ix2 y⟩
  rw [out_place]
  blk_simp
  rw [after0_7]
  frame_out
  rw [out_at, own]
  have e1 := blockUp1_eq (sequence m c n) t.val ht _ _ (own m c t n) (fun _ => before m c t n) r
  have e2 := blockUp2_eq (sequence m c n) t.val ht _ _ (own m c t n) (fun _ => before m c t n) r
  simp only [show (grid0.coords t 0).val = t.val from coord t]
  refine (congrArg₂ (fun p q : EReal => mix (iblk m c 0 t (ix2 r n)) (iblk m c 3 t (ix2 r n)) (fun k => iblk m c 6 t (ix2 k n)) _ p q) e1 e2).trans ?_
  have eb : iblk m c 0 t (ix2 r n) = _ := b_at t (V m c main_arg0) r n
  have eg : iblk m c 3 t (ix2 r n) = _ := g_at t (V m c main_arg0) r n
  have ew : (fun k : Fin 3 => iblk m c 6 t (ix2 k n)) = _ := funext fun k => w_at t (V m c main_arg1) k n
  rw [eb, eg, ew]

end Calls.MixerFwd

open Idealize.ShloMosaic Idealize.SL.Sem

/-- The call returns the mixed columns. -/
theorem Calls.MixerFwd.agree : @Cert.algebraic_Kernel13Ideal_Reference13Ideal Cert.Kernel13Ideal.Gen.facts Cert.Reference13Ideal.Gen.facts :=
  fun m ρ m' ρ' _ ha => ⟨Calls.MixerFwd.mixed m,
    (θ_run Cert.Kernel13Ideal.defs _ _).mono (fun r h c => ⟨(h c).1.trans (Calls.MixerFwd.final_mixed m c), (h c).2⟩) (Cert.Kernel13Ideal.Value.run_blocks (F := Ideal) m ρ),
    (θ_run Cert.Reference13Ideal.defs _ _).mono (fun r h c => by
      obtain ⟨a0, a1⟩ := ha c
      refine ⟨(h c).1.trans ?_, (h c).2⟩
      · clear h
        rw [a0, a1]
        funext y
        obtain ⟨s, n, rfl⟩ : ∃ (s : Fin 16384) (n : Fin 1024), y = ValueIdx.ix2 s n := ⟨_, _, ValueIdx.eq_ix2 y⟩
        pointwise
        simp only [ix2_eq_valueIdx, Calls.sigma_neg]
        exact Calls.MixerFwd.mix_padded _ _ (fun k => Calls.MixerFwd.arrC m c (ValueIdx.ix2 k n)) (Calls.MixerFwd.sequence m c n) s)
      (Cert.Reference13Ideal.Value.run (F := Ideal) m' ρ')⟩

end
-- ==== Proof.Calls.MixerBwd.lean ====
module

public import proofs.«01_k».proof.Defs
public import proofs.«01_k».proof.Proof.Calls.Shift
public import proofs.«01_k».proof.Proof.Gen.Kernel14Ideal.Value
public import proofs.«01_k».proof.Proof.Gen.Reference14Ideal.Run
public import proofs.«01_k».proof.Proof.Gen.Pre_finite_mixer
public import Idealize.ShloMosaic.Lib.Pipeline.ReadBack
public import Idealize.ShloMosaic.Lib.Pipeline.ValueKit
public import Idealize.ShloMosaic.Lib.WritesUnit

@[expose] public section

set_option maxRecDepth 16384

noncomputable section

/-! The mixer taken back: to its four columns, with the convolution run towards later positions, and to the three taps. -/

namespace Calls.MixerBwd

open Cert.Kernel14Ideal Cert.Kernel14Ideal.Gen
open Idealize.ShloMosaic hiding ix0 ix1 ix2 ix3 ix4 ix5
open Idealize.ShloMosaic.TcCoe
open Idealize.ShloMosaic.ValueIdx
open Idealize.ShloMosaic.Pipeline (Dat)

theorem coord_lt (i : grid0.Coords) : (i 0).val < 2 ^ 32 := lt_trans (show (i 0).val < 32 from (i 0).isLt) (by norm_num)

theorem first_select (i : grid0.Coords) (x y : EReal) : Scalar.select (Scalar.cmpi .eq (BitVec.ofNat 32 (i 0).val) 0#32) x y = if (i 0).val = 0 then x else y :=
  select_eq (coord_lt i) (by norm_num) x y

theorem last_select (i : grid0.Coords) (x y : EReal) : Scalar.select (Scalar.cmpi .eq (BitVec.ofNat 32 (i 0).val) 31#32) x y = if (i 0).val = 31 then x else y :=
  select_eq (coord_lt i) (by norm_num) x y

theorem row_select (r : Fin 512) (n : Fin 1024) (k : ℕ) (hk : k < 2 ^ 32) (x y : EReal) :
    Scalar.select (IntOp.cmpi .eq (BitVec.ofNat 32 (ix2 r n (0 : Fin 2)).val) (BitVec.ofNat 32 k)) x y = if r.val = k then x else y :=
  select_eq (lt_trans r.isLt (by norm_num)) hk x y

/-! ## What the payloads are, entry by entry -/

theorem own_pay (a h : Vec Ideal S512x1024 .bf16) (r : Fin 512) (n : Fin 1024) : k0_pay10 a h (ix2 r n) = a (ix2 r n) * h (ix2 r n) := by
  unfold k0_pay10 k0_pay7 k0_pay8
  pointwise

theorem cot_pay (b g : Vec Ideal S512x1024 .bf16) (dm : Vec Ideal S512x1024 .f32) (r : Fin 512) (n : Fin 1024) :
    k0_pay20 (k0_pay6 b) (k0_pay9 g) dm (ix2 r n) = (dm (ix2 r n) * b (ix2 r n)) * (g (ix2 r n) * sigma (g (ix2 r n))) := by
  unfold k0_pay20 k0_pay18 k0_pay17 k0_pay6 k0_pay9
  pointwise
  rfl

theorem after_pay (b g : Vec Ideal S16x1024 .bf16) (dm : Vec Ideal S16x1024 .f32) (r : Fin 16) (n : Fin 1024) :
    k0_pay21 dm b (ix2 r n) * k0_pay22 g (ix2 r n) = (dm (ix2 r n) * b (ix2 r n)) * (g (ix2 r n) * sigma (g (ix2 r n))) := by
  unfold k0_pay21 k0_pay22
  pointwise
  rfl

theorem up1_pay (i : grid0.Coords) (a h : Vec Ideal S512x1024 .bf16) (pa ph : Vec Ideal S16x1024 .bf16) (r : Fin 512) (n : Fin 1024) :
    k0_pay12 i a h pa ph (ix2 r n)
      = blockUp1 ((i 0).val = 0) (fun j => pa (ix2 j n) * ph (ix2 j n)) (fun j => a (ix2 j n) * h (ix2 j n)) r := by
  unfold k0_pay12 k0_pay11 k0_pay10 k0_pay7 k0_pay8
  pointwise
  simp only [ix2_eq_valueIdx]
  simp only [first_select, row_select r n 0 (by norm_num)]
  rfl

theorem up2_pay (i : grid0.Coords) (a h : Vec Ideal S512x1024 .bf16) (pa ph : Vec Ideal S16x1024 .bf16) (r : Fin 512) (n : Fin 1024) :
    k0_pay15 (k0_pay11 i pa ph) (iota Kind.tc S512x1024 32 [0] iota_S512x1024_d0_w32) (k0_pay13 i a h pa ph) k0_pay14 (ix2 r n)
      = blockUp2 ((i 0).val = 0) (fun j => pa (ix2 j n) * ph (ix2 j n)) (fun j => a (ix2 j n) * h (ix2 j n)) r := by
  unfold k0_pay15 k0_pay13 k0_pay14 k0_pay11 k0_pay10 k0_pay7 k0_pay8
  pointwise
  simp only [ix2_eq_valueIdx]
  simp only [first_select, row_select r n 0 (by norm_num), row_select r n 1 (by norm_num)]
  rfl

theorem conv_pay (w : Vec Ideal S3x1024 .f32) (y : FVec Ideal S512x1024 .f32) (p : FVec Ideal S16x1024 .f32) (y1 : FVec Ideal S512x1024 .f32) (v27 : IVec S512x1024 32)
    (v34 : FVec Ideal S512x1024 .f32) (v35 : IVec S512x1024 32) (r : Fin 512) (n : Fin 1024) :
    k0_pay16 w y p y1 v27 v34 v35 (ix2 r n) = tap (fun k => w (ix2 k n)) (y (ix2 r n)) (y1 (ix2 r n)) (k0_pay15 p v27 v34 v35 (ix2 r n)) := by
  unfold k0_pay16
  pointwise
  simp only [ix2_eq_valueIdx]
  rfl

theorem down_pay (i : grid0.Coords) (w : Vec Ideal S3x1024 .f32) (y : FVec Ideal S512x1024 .f32) (p q : FVec Ideal S16x1024 .f32) (r : Fin 512) (n : Fin 1024) :
    k0_pay23 (BitVec.ofNat 32 (i 0).val) w y p q (ix2 r n) = tap (fun k => w (ix2 k n)) (y (ix2 r n))
      (blockDown1 ((i 0).val = 31) (fun j => p (ix2 j n) * q (ix2 j n)) (fun j => y (ix2 j n)) r)
      (blockDown2 ((i 0).val = 31) (fun j => p (ix2 j n) * q (ix2 j n)) (fun j => y (ix2 j n)) r) := by
  unfold k0_pay23
  pointwise
  simp only [ix2_eq_valueIdx]
  simp only [last_select, row_select r n 511 (by norm_num), row_select r n 510 (by norm_num)]
  rfl

theorem part0_pay (dm : Vec Ideal S512x1024 .f32) (y : FVec Ideal S512x1024 .f32) (g : Vec Ideal S512x1024 .bf16) (r : Fin 512) (n : Fin 1024) :
    k0_pay24 dm y (k0_pay18 (k0_pay9 g)) (ix2 r n) = dm (ix2 r n) * y (ix2 r n) * (g (ix2 r n) * sigma (g (ix2 r n))) := by
  unfold k0_pay24 k0_pay18 k0_pay17 k0_pay9
  pointwise
  rfl

theorem part1_pay (k : BitVec 32) (w : Vec Ideal S3x1024 .f32) (h : Vec Ideal S512x1024 .bf16) (y : FVec Ideal S512x1024 .f32) (p q : FVec Ideal S16x1024 .f32) (r : Fin 512) (n : Fin 1024) :
    k0_pay25 k w (k0_pay8 h) y p q (ix2 r n) = k0_pay23 k w y p q (ix2 r n) * h (ix2 r n) := by
  unfold k0_pay25 k0_pay8
  pointwise

theorem part2_pay (k : BitVec 32) (w : Vec Ideal S3x1024 .f32) (a : Vec Ideal S512x1024 .bf16) (y : FVec Ideal S512x1024 .f32) (p q : FVec Ideal S16x1024 .f32) (r : Fin 512) (n : Fin 1024) :
    k0_pay26 k w (k0_pay7 a) y p q (ix2 r n) = k0_pay23 k w y p q (ix2 r n) * a (ix2 r n) := by
  unfold k0_pay26 k0_pay7
  pointwise

theorem part3_pay (b : Vec Ideal S512x1024 .bf16) (dm : Vec Ideal S512x1024 .f32) (y : FVec Ideal S512x1024 .f32) (g : Vec Ideal S512x1024 .bf16) (r : Fin 512) (n : Fin 1024) :
    k0_pay1 (k0_pay6 b) dm y (k0_pay19 (k0_pay9 g)) (ix2 r n)
      = dm (ix2 r n) * b (ix2 r n) * y (ix2 r n) * (sigma (g (ix2 r n)) * (1 + g (ix2 r n) * (1 - sigma (g (ix2 r n))))) := by
  unfold k0_pay1 k0_pay19 k0_pay17 k0_pay9 k0_pay6
  pointwise
  rfl

theorem tap0_pay (y v : FVec Ideal S512x1024 .f32) (acc : Vec Ideal S1x1024 .f32) (i : Fin 1) (n : Fin 1024) :
    k0_pay3 y v acc (ix2 i n) = acc (ix2 i n) + ∑ x : Fin 512, v (ix2 x n) * y (ix2 x n) := by
  unfold k0_pay3
  pointwise
  simp only [ix2_eq_valueIdx]

theorem tap1_pay (y v : FVec Ideal S512x1024 .f32) (acc : Vec Ideal S1x1024 .f32) (i : Fin 1) (n : Fin 1024) :
    k0_pay4 y v acc (ix2 i n) = acc (ix2 i n) + ∑ x : Fin 512, v (ix2 x n) * y (ix2 x n) := by
  unfold k0_pay4
  pointwise
  simp only [ix2_eq_valueIdx]

theorem tap2_pay (y v : FVec Ideal S512x1024 .f32) (acc : Vec Ideal S1x1024 .f32) (i : Fin 1) (n : Fin 1024) :
    k0_pay5 y v acc (ix2 i n) = acc (ix2 i n) + ∑ x : Fin 512, v (ix2 x n) * y (ix2 x n) := by
  unfold k0_pay5
  pointwise
  simp only [ix2_eq_valueIdx]

theorem zero_pay (y : S8x1024.Idx) : k0_pay2 (F := Ideal) y = 0 := by
  unfold k0_pay2
  pointwise

/-! ## Rows of the taps' gradient, stored one at a time -/

section
variable {sig' : RefSig} {κ : Kind} {sp : Space} (v : View sig' κ sp S8x1024 .f32)

theorem rows_read (f : v.ty.Contents (Elt Ideal)) (q0 q1 q2 : Vec Ideal S1x1024 .f32) (L : List (View.Piece (Elt Ideal) S8x1024 .f32)) (k : Fin 8) (n : Fin 1024) :
    v.read (Elt Ideal) (v.writes (Elt Ideal) f (⟨Rect.unit ![2, 0] ![1, 1024] inb_S8x1024_S1x1024_2_0, q2⟩ :: ⟨Rect.unit ![1, 0] ![1, 1024] inb_S8x1024_S1x1024_1_0, q1⟩
      :: ⟨Rect.unit ![0, 0] ![1, 1024] inb_S8x1024_S1x1024_0_0, q0⟩ :: L)) (ix2 k n)
      = if k.val = 0 then q0 (ix2 (0 : Fin 1) n) else if k.val = 1 then q1 (ix2 (0 : Fin 1) n) else if k.val = 2 then q2 (ix2 (0 : Fin 1) n)
        else v.read (Elt Ideal) (v.writes (Elt Ideal) f L) (ix2 k n) := by
  by_cases h2 : k.val = 2
  · rw [if_neg (by omega), if_neg (by omega), if_pos h2]
    exact View.read_writes_cons_rows_of_mem v f inb_S8x1024_S1x1024_2_0 q2 _ (ix2 k n) (ix2 (0 : Fin 1) n) rfl h2 rfl
  · refine (View.read_writes_cons_rows_of_not_mem v f inb_S8x1024_S1x1024_2_0 q2 _ (ix2 k n) (o := 2) (W := 1) rfl rfl (show k.val < 2 ∨ 3 ≤ k.val by omega)).trans ?_
    by_cases h1 : k.val = 1
    · rw [if_neg (by omega), if_pos h1]
      exact View.read_writes_cons_rows_of_mem v f inb_S8x1024_S1x1024_1_0 q1 _ (ix2 k n) (ix2 (0 : Fin 1) n) rfl h1 rfl
    · refine (View.read_writes_cons_rows_of_not_mem v f inb_S8x1024_S1x1024_1_0 q1 _ (ix2 k n) (o := 1) (W := 1) rfl rfl (show k.val < 1 ∨ 2 ≤ k.val by omega)).trans ?_
      by_cases h0 : k.val = 0
      · rw [if_pos h0]
        exact View.read_writes_cons_rows_of_mem v f inb_S8x1024_S1x1024_0_0 q0 _ (ix2 k n) (ix2 (0 : Fin 1) n) rfl h0 rfl
      · rw [if_neg h0, if_neg h1, if_neg h2]
        exact View.read_writes_cons_rows_of_not_mem v f inb_S8x1024_S1x1024_0_0 q0 _ (ix2 k n) (o := 0) (W := 1) rfl rfl (show k.val < 0 ∨ 1 ≤ k.val by omega)

end

variable (m : (ℓ : Loc nD τ sig) → Buf (Elt Ideal) ℓ) (c : Dev nD)

/-! ## The arrays the call reads -/

abbrev arrU : Vec Ideal S16384x4096 .bf16 := m ((c.tc : Thread nD τ).loc main_arg0)
abbrev arrD : Vec Ideal S16384x1024 .f32 := m ((c.tc : Thread nD τ).loc main_arg1)
abbrev arrC : Vec Ideal S3x1024 .f32 := m ((c.tc : Thread nD τ).loc main_arg2)

/-- Column `n` of the sequence that is convolved, and of its convolution. -/
def sequence (n : Fin 1024) (s : Fin 16384) : EReal := arrU m c (ix2 s (column 1 n)) * arrU m c (ix2 s (column 2 n))

abbrev taps (n : Fin 1024) (k : Fin 3) : EReal := arrC m c (ix2 k n)

def convolved (n : Fin 1024) (s : Fin 16384) : EReal := tap (taps m c n) (sequence m c n s) (above (sequence m c n) 1 s) (above (sequence m c n) 2 s)

/-- The cotangent of the convolution, and of the sequence. -/
def cot (n : Fin 1024) (s : Fin 16384) : EReal :=
  (arrD m c (ix2 s n) * arrU m c (ix2 s (first n))) * (arrU m c (ix2 s (column 3 n)) * sigma (arrU m c (ix2 s (column 3 n))))

def back (n : Fin 1024) (s : Fin 16384) : EReal := tap (taps m c n) (cot m c n s) (below (cot m c n) 1 s) (below (cot m c n) 2 s)

/-- The gradient of each of the four columns. -/
def part0 (s : Fin 16384) (n : Fin 1024) : EReal :=
  arrD m c (ix2 s n) * convolved m c n s * (arrU m c (ix2 s (column 3 n)) * sigma (arrU m c (ix2 s (column 3 n))))

def part1 (s : Fin 16384) (n : Fin 1024) : EReal := back m c n s * arrU m c (ix2 s (column 2 n))

def part2 (s : Fin 16384) (n : Fin 1024) : EReal := back m c n s * arrU m c (ix2 s (column 1 n))

def part3 (s : Fin 16384) (n : Fin 1024) : EReal :=
  arrD m c (ix2 s n) * arrU m c (ix2 s (first n)) * convolved m c n s
    * (sigma (arrU m c (ix2 s (column 3 n))) * (1 + arrU m c (ix2 s (column 3 n)) * (1 - sigma (arrU m c (ix2 s (column 3 n))))))

/-- Four blocks of 1024 columns side by side. -/
def beside (p0 p1 p2 p3 : Fin 1024 → EReal) (j : Fin 4096) : EReal :=
  if h : j.val < 1024 then p0 ⟨j.val, h⟩ else if h1 : j.val - 1024 < 1024 then p1 ⟨j.val - 1024, h1⟩
    else if h2 : j.val - 1024 - 1024 < 1024 then p2 ⟨j.val - 1024 - 1024, h2⟩ else p3 ⟨j.val - 1024 - 1024 - 1024, by omega⟩

/-- What a tap's gradient multiplies the cotangent by: the sequence at the tap's position. -/
def reach (k : ℕ) (n : Fin 1024) (s : Fin 16384) : EReal :=
  if k = 0 then above (sequence m c n) 2 s else if k = 1 then above (sequence m c n) 1 s else if k = 2 then sequence m c n s else 0

/-- The arrays the call returns: the columns' gradient, -/
abbrev columns : Vec Ideal S16384x4096 .bf16 := fun y => beside (part0 m c (y 0)) (part1 m c (y 0)) (part2 m c (y 0)) (part3 m c (y 0)) (y 1)

/-- and the taps', in the first three of eight rows. -/
abbrev tapGrad : Vec Ideal S8x1024 .f32 := fun y => ∑ s : Fin 16384, cot m c (y 1) s * reach m c (y 0).val (y 1) s

/-! ## Where the blocks lie -/

theorem place : ∀ t : Fin grid0.N, win0_0.index t = ![t.val, 0] ∧ win0_1.index t = ![t.val, 1] ∧ win0_2.index t = ![t.val, 2] ∧ win0_3.index t = ![t.val, 3]
    ∧ win0_4.index t = ![t.val, 0] ∧ win0_5.index t = ![t.val * 32 - 1, 1] ∧ win0_6.index t = ![t.val * 32 - 1, 2] := by decide +kernel

theorem place' : ∀ t : Fin grid0.N, win0_7.index t = ![min ((t.val + 1) * 32) 1023, 0] ∧ win0_8.index t = ![min ((t.val + 1) * 32) 1023, 3]
    ∧ win0_9.index t = ![min ((t.val + 1) * 32) 1023, 0] ∧ win0_10.index t = ![0, 0] ∧ win0_11.index t = ![t.val, 0] ∧ win0_12.index t = ![0, 0] := by decide +kernel

theorem coord : ∀ t : Fin grid0.N, (grid0.coords t 0).val = t.val := by decide +kernel

theorem point_lt (t : Fin cfg0.N) : t.val < 32 := lt_of_lt_of_eq t.isLt N_0

theorem next_lt (t : Fin cfg0.N) (r : Fin 16) : min ((t.val + 1) * 32) 1023 * 16 + r.val < 16384 := by
  have hN : cfg0.N = 32 := N_0
  omega

/-- Position `r` of point `t`'s block. -/
abbrev pos (t : Fin cfg0.N) (r : Fin 512) : Fin 16384 := ⟨t.val * 512 + r.val, row_lt (point_lt t) r⟩

theorem b_at (t : Fin cfg0.N) (f : Vec Ideal S16384x4096 .bf16) (r : Fin 512) (n : Fin 1024) :
    ((cfg0.win 0).blk t).view.read (Elt Ideal) f (ix2 r n) = f (ix2 (pos t r) (first n)) := by
  blk_ext [show (cfg0.win 0).index t = _ from (place t).1]
  rfl

theorem a_at (t : Fin cfg0.N) (f : Vec Ideal S16384x4096 .bf16) (r : Fin 512) (n : Fin 1024) :
    ((cfg0.win 1).blk t).view.read (Elt Ideal) f (ix2 r n) = f (ix2 (pos t r) (column 1 n)) := by
  blk_ext [show (cfg0.win 1).index t = _ from (place t).2.1]
  rfl

theorem h_at (t : Fin cfg0.N) (f : Vec Ideal S16384x4096 .bf16) (r : Fin 512) (n : Fin 1024) :
    ((cfg0.win 2).blk t).view.read (Elt Ideal) f (ix2 r n) = f (ix2 (pos t r) (column 2 n)) := by
  blk_ext [show (cfg0.win 2).index t = _ from (place t).2.2.1]
  rfl

theorem g_at (t : Fin cfg0.N) (f : Vec Ideal S16384x4096 .bf16) (r : Fin 512) (n : Fin 1024) :
    ((cfg0.win 3).blk t).view.read (Elt Ideal) f (ix2 r n) = f (ix2 (pos t r) (column 3 n)) := by
  blk_ext [show (cfg0.win 3).index t = _ from (place t).2.2.2.1]
  rfl

theorem d_at (t : Fin cfg0.N) (f : Vec Ideal S16384x1024 .f32) (r : Fin 512) (n : Fin 1024) :
    ((cfg0.win 4).blk t).view.read (Elt Ideal) f (ix2 r n) = f (ix2 (pos t r) n) := by
  blk_ext [show (cfg0.win 4).index t = _ from (place t).2.2.2.2.1]

theorem pa_at (t : Fin cfg0.N) (f : Vec Ideal S16384x4096 .bf16) (r : Fin 16) (n : Fin 1024) : ((cfg0.win 5).blk t).view.read (Elt Ideal) f (ix2 r n)
    = f (ix2 (⟨(t.val * 32 - 1) * 16 + r.val, before_lt (point_lt t) r⟩ : Fin 16384) (column 1 n)) := by
  blk_ext [show (cfg0.win 5).index t = _ from (place t).2.2.2.2.2.1]
  rfl

theorem ph_at (t : Fin cfg0.N) (f : Vec Ideal S16384x4096 .bf16) (r : Fin 16) (n : Fin 1024) : ((cfg0.win 6).blk t).view.read (Elt Ideal) f (ix2 r n)
    = f (ix2 (⟨(t.val * 32 - 1) * 16 + r.val, before_lt (point_lt t) r⟩ : Fin 16384) (column 2 n)) := by
  blk_ext [show (cfg0.win 6).index t = _ from (place t).2.2.2.2.2.2]
  rfl

theorem nb_at (t : Fin cfg0.N) (f : Vec Ideal S16384x4096 .bf16) (r : Fin 16) (n : Fin 1024) : ((cfg0.win 7).blk t).view.read (Elt Ideal) f (ix2 r n)
    = f (ix2 (⟨min ((t.val + 1) * 32) 1023 * 16 + r.val, next_lt t r⟩ : Fin 16384) (first n)) := by
  blk_ext [show (cfg0.win 7).index t = _ from (place' t).1]
  rfl

theorem ng_at (t : Fin cfg0.N) (f : Vec Ideal S16384x4096 .bf16) (r : Fin 16) (n : Fin 1024) : ((cfg0.win 8).blk t).view.read (Elt Ideal) f (ix2 r n)
    = f (ix2 (⟨min ((t.val + 1) * 32) 1023 * 16 + r.val, next_lt t r⟩ : Fin 16384) (column 3 n)) := by
  blk_ext [show (cfg0.win 8).index t = _ from (place' t).2.1]
  rfl

theorem nd_at (t : Fin cfg0.N) (f : Vec Ideal S16384x1024 .f32) (r : Fin 16) (n : Fin 1024) : ((cfg0.win 9).blk t).view.read (Elt Ideal) f (ix2 r n)
    = f (ix2 (⟨min ((t.val + 1) * 32) 1023 * 16 + r.val, next_lt t r⟩ : Fin 16384) n) := by
  blk_ext [show (cfg0.win 9).index t = _ from (place' t).2.2.1]

theorem w_at (t : Fin cfg0.N) (f : Vec Ideal S3x1024 .f32) (k : Fin 3) (n : Fin 1024) : ((cfg0.win 10).blk t).view.read (Elt Ideal) f (ix2 k n) = f (ix2 k n) := by
  blk_ext [show (cfg0.win 10).index t = _ from (place' t).2.2.2.1]

theorem columns_place (t : Fin cfg0.N) (r : Fin 512) (j : Fin 4096) : ((cfg0.win 11).blk t).view.emb (ix2 r j) = (ix2 (pos t r) j : S16384x4096.Idx) := by
  blk_ext [show (cfg0.win 11).index t = _ from (place' t).2.2.2.2.1]

theorem taps_place (t : Fin cfg0.N) (k : Fin 8) (n : Fin 1024) : ((cfg0.win 12).blk t).view.emb (ix2 k n) = (ix2 k n : S8x1024.Idx) := by
  blk_ext [show (cfg0.win 12).index t = _ from (place' t).2.2.2.2.2]

/-! ## What a point reads and writes, in the arrays' own rows -/

abbrev blkB (t : Fin cfg0.N) : Vec Ideal S512x1024 .bf16 := iblk m c 0 t
abbrev blkA (t : Fin cfg0.N) : Vec Ideal S512x1024 .bf16 := iblk m c 1 t
abbrev blkH (t : Fin cfg0.N) : Vec Ideal S512x1024 .bf16 := iblk m c 2 t
abbrev blkG (t : Fin cfg0.N) : Vec Ideal S512x1024 .bf16 := iblk m c 3 t
abbrev blkD (t : Fin cfg0.N) : Vec Ideal S512x1024 .f32 := iblk m c 4 t
abbrev blkPA (t : Fin cfg0.N) : Vec Ideal S16x1024 .bf16 := iblk m c 5 t
abbrev blkPH (t : Fin cfg0.N) : Vec Ideal S16x1024 .bf16 := iblk m c 6 t
abbrev blkNB (t : Fin cfg0.N) : Vec Ideal S16x1024 .bf16 := iblk m c 7 t
abbrev blkNG (t : Fin cfg0.N) : Vec Ideal S16x1024 .bf16 := iblk m c 8 t
abbrev blkND (t : Fin cfg0.N) : Vec Ideal S16x1024 .f32 := iblk m c 9 t
abbrev blkW (t : Fin cfg0.N) : Vec Ideal S3x1024 .f32 := iblk m c 10 t

theorem blkB_at (t : Fin cfg0.N) (r : Fin 512) (n : Fin 1024) : blkB m c t (ix2 r n) = arrU m c (ix2 (pos t r) (first n)) := b_at t (V m c main_arg0) r n
theorem blkA_at (t : Fin cfg0.N) (r : Fin 512) (n : Fin 1024) : blkA m c t (ix2 r n) = arrU m c (ix2 (pos t r) (column 1 n)) := a_at t (V m c main_arg0) r n
theorem blkH_at (t : Fin cfg0.N) (r : Fin 512) (n : Fin 1024) : blkH m c t (ix2 r n) = arrU m c (ix2 (pos t r) (column 2 n)) := h_at t (V m c main_arg0) r n
theorem blkG_at (t : Fin cfg0.N) (r : Fin 512) (n : Fin 1024) : blkG m c t (ix2 r n) = arrU m c (ix2 (pos t r) (column 3 n)) := g_at t (V m c main_arg0) r n
theorem blkD_at (t : Fin cfg0.N) (r : Fin 512) (n : Fin 1024) : blkD m c t (ix2 r n) = arrD m c (ix2 (pos t r) n) := d_at t (V m c main_arg1) r n
theorem blkW_at (t : Fin cfg0.N) (n : Fin 1024) : (fun k => blkW m c t (ix2 k n)) = taps m c n := funext fun k => w_at t (V m c main_arg2) k n

theorem own (t : Fin cfg0.N) (n : Fin 1024) (r : Fin 512) : blkA m c t (ix2 r n) * blkH m c t (ix2 r n) = sequence m c n (pos t r) := by
  rw [blkA_at, blkH_at, sequence]

theorem before (t : Fin cfg0.N) (n : Fin 1024) (r : Fin 16) : blkPA m c t (ix2 r n) * blkPH m c t (ix2 r n)
    = sequence m c n ⟨(t.val * 32 - 1) * 16 + r.val, before_lt (point_lt t) r⟩ :=
  congrArg₂ (fun p q : EReal => p * q) (pa_at t (V m c main_arg0) r n) (ph_at t (V m c main_arg0) r n)

theorem up1_at (t : Fin cfg0.N) (r : Fin 512) (n : Fin 1024) :
    k0_pay12 (grid0.coords t) (blkA m c t) (blkH m c t) (blkPA m c t) (blkPH m c t) (ix2 r n) = above (sequence m c n) 1 (pos t r) := by
  rw [up1_pay]
  simp only [show (grid0.coords t 0).val = t.val from coord t]
  exact blockUp1_eq (sequence m c n) t.val (point_lt t) _ _ (own m c t n) (fun _ => before m c t n) r

theorem up2_at (t : Fin cfg0.N) (r : Fin 512) (n : Fin 1024) :
    k0_pay15 (k0_pay11 (grid0.coords t) (blkPA m c t) (blkPH m c t)) (iota Kind.tc S512x1024 32 [0] iota_S512x1024_d0_w32)
      (k0_pay13 (grid0.coords t) (blkA m c t) (blkH m c t) (blkPA m c t) (blkPH m c t)) k0_pay14 (ix2 r n) = above (sequence m c n) 2 (pos t r) := by
  rw [up2_pay]
  simp only [show (grid0.coords t 0).val = t.val from coord t]
  exact blockUp2_eq (sequence m c n) t.val (point_lt t) _ _ (own m c t n) (fun _ => before m c t n) r

/-- The block's own part of the convolution. -/
abbrev blkConv (t : Fin cfg0.N) : FVec Ideal S512x1024 .f32 :=
  k0_pay16 (blkW m c t) (k0_pay10 (blkA m c t) (blkH m c t)) (k0_pay11 (grid0.coords t) (blkPA m c t) (blkPH m c t))
    (k0_pay12 (grid0.coords t) (blkA m c t) (blkH m c t) (blkPA m c t) (blkPH m c t)) (iota Kind.tc S512x1024 32 [0] iota_S512x1024_d0_w32)
    (k0_pay13 (grid0.coords t) (blkA m c t) (blkH m c t) (blkPA m c t) (blkPH m c t)) k0_pay14

theorem conv_at (t : Fin cfg0.N) (r : Fin 512) (n : Fin 1024) : blkConv m c t (ix2 r n) = convolved m c n (pos t r) := by
  rw [blkConv, conv_pay, blkW_at, own_pay, own, up1_at, up2_at, convolved]

/-- The block's own part of the convolution's cotangent, and the 16 positions after it. -/
abbrev blkCot (t : Fin cfg0.N) : FVec Ideal S512x1024 .f32 := k0_pay20 (k0_pay6 (blkB m c t)) (k0_pay9 (blkG m c t)) (blkD m c t)

theorem cot_at (t : Fin cfg0.N) (r : Fin 512) (n : Fin 1024) : blkCot m c t (ix2 r n) = cot m c n (pos t r) := by
  rw [blkCot, cot_pay, blkB_at, blkG_at, blkD_at, cot]

theorem after_at (t : Fin cfg0.N) (n : Fin 1024) (h : t.val ≠ 31) (r : Fin 16) : k0_pay21 (blkND m c t) (blkNB m c t) (ix2 r n) * k0_pay22 (blkNG m c t) (ix2 r n)
    = cot m c n ⟨(t.val + 1) * 512 + r.val, after_lt (point_lt t) h r⟩ := by
  have ht := point_lt t
  have e : (⟨min ((t.val + 1) * 32) 1023 * 16 + r.val, next_lt t r⟩ : Fin 16384) = ⟨(t.val + 1) * 512 + r.val, after_lt (point_lt t) h r⟩ := by
    apply Fin.ext
    dsimp only
    omega
  have eb : blkNB m c t (ix2 r n) = _ := nb_at t (V m c main_arg0) r n
  have eg : blkNG m c t (ix2 r n) = _ := ng_at t (V m c main_arg0) r n
  have ed : blkND m c t (ix2 r n) = _ := nd_at t (V m c main_arg1) r n
  rw [after_pay, eb, eg, ed, e]
  rfl

/-- The block's own part of the sequence's cotangent. -/
abbrev blkBack (t : Fin cfg0.N) : FVec Ideal S512x1024 .f32 :=
  k0_pay23 (BitVec.ofNat 32 (grid0.coords t 0).val) (blkW m c t) (blkCot m c t) (k0_pay21 (blkND m c t) (blkNB m c t)) (k0_pay22 (blkNG m c t))

theorem back_at (t : Fin cfg0.N) (r : Fin 512) (n : Fin 1024) : blkBack m c t (ix2 r n) = back m c n (pos t r) := by
  rw [blkBack, down_pay, blkW_at, cot_at]
  simp only [show (grid0.coords t 0).val = t.val from coord t]
  refine congrArg₂ (fun p q : EReal => tap (taps m c n) (cot m c n (pos t r)) p q) ?_ ?_
  · exact blockDown1_eq (cot m c n) t.val (point_lt t) _ _ (fun r => cot_at m c t r n) (after_at m c t n) r
  · exact blockDown2_eq (cot m c n) t.val (point_lt t) _ _ (fun r => cot_at m c t r n) (after_at m c t n) r

/-- What point `t` writes to the columns' gradient. -/
def block (t : Fin cfg0.N) : Vec Ideal S512x4096 .bf16 := fun y =>
  beside (part0 m c (pos t (y 0))) (part1 m c (pos t (y 0))) (part2 m c (pos t (y 0))) (part3 m c (pos t (y 0))) (y 1)

theorem beside0 (p0 p1 p2 p3 : Fin 1024 → EReal) (j : Fin 4096) (n : Fin 1024) (h : j.val = n.val) : beside p0 p1 p2 p3 j = p0 n := by
  unfold beside
  rw [dif_pos (by omega)]
  exact congrArg p0 (Fin.ext h)

theorem beside1 (p0 p1 p2 p3 : Fin 1024 → EReal) (j : Fin 4096) (n : Fin 1024) (h : j.val = 1024 + n.val) : beside p0 p1 p2 p3 j = p1 n := by
  unfold beside
  rw [dif_neg (by omega), dif_pos (by omega)]
  exact congrArg p1 (Fin.ext (by dsimp only; omega))

theorem beside2 (p0 p1 p2 p3 : Fin 1024 → EReal) (j : Fin 4096) (n : Fin 1024) (h : j.val = 2048 + n.val) : beside p0 p1 p2 p3 j = p2 n := by
  unfold beside
  rw [dif_neg (by omega), dif_neg (by omega), dif_pos (by omega)]
  exact congrArg p2 (Fin.ext (by dsimp only; omega))

theorem beside3 (p0 p1 p2 p3 : Fin 1024 → EReal) (j : Fin 4096) (n : Fin 1024) (h : j.val = 3072 + n.val) : beside p0 p1 p2 p3 j = p3 n := by
  unfold beside
  rw [dif_neg (by omega), dif_neg (by omega), dif_neg (by omega)]
  exact congrArg p3 (Fin.ext (by dsimp only; omega))

theorem emb0 (o : ℕ) (inb) (r : Fin 512) (n : Fin 1024) : ((Rect.unit (s := S512x4096) ![0, o] ![512, 1024] inb).emb (ix2 r n) (0 : Fin 2) : Fin 512) = r :=
  Fin.ext (show 0 + 1 * r.val = r.val by omega)

theorem emb1 (o : ℕ) (inb) (r : Fin 512) (n : Fin 1024) : ((Rect.unit (s := S512x4096) ![0, o] ![512, 1024] inb).emb (ix2 r n) (1 : Fin 2)).val = o + n.val :=
  show o + 1 * n.val = o + n.val by omega

theorem stored0 (t : Fin cfg0.N) (x : S512x1024.Idx) : k0_pay24 (blkD m c t) (blkConv m c t) (k0_pay18 (k0_pay9 (blkG m c t))) x
    = block m c t ((Rect.unit (s := S512x4096) ![0, 0] ![512, 1024] inb_S512x4096_S512x1024_0_0).emb x) := by
  obtain ⟨r, n, rfl⟩ : ∃ (r : Fin 512) (n : Fin 1024), x = ix2 r n := ⟨_, _, ValueIdx.eq_ix2 x⟩
  unfold block
  rw [emb0, beside0 _ _ _ _ _ n ((emb1 0 _ r n).trans (Nat.zero_add _)), part0_pay, conv_at, blkD_at, blkG_at, part0]

theorem stored1 (t : Fin cfg0.N) (x : S512x1024.Idx) :
    k0_pay25 (BitVec.ofNat 32 (grid0.coords t 0).val) (blkW m c t) (k0_pay8 (blkH m c t)) (blkCot m c t) (k0_pay21 (blkND m c t) (blkNB m c t)) (k0_pay22 (blkNG m c t)) x
    = block m c t ((Rect.unit (s := S512x4096) ![0, 1024] ![512, 1024] inb_S512x4096_S512x1024_0_1024).emb x) := by
  obtain ⟨r, n, rfl⟩ : ∃ (r : Fin 512) (n : Fin 1024), x = ix2 r n := ⟨_, _, ValueIdx.eq_ix2 x⟩
  unfold block
  rw [emb0, beside1 _ _ _ _ _ n (emb1 1024 _ r n), part1_pay]
  exact congrArg₂ (fun p q : EReal => p * q) (back_at m c t r n) (blkH_at m c t r n)

theorem stored2 (t : Fin cfg0.N) (x : S512x1024.Idx) :
    k0_pay26 (BitVec.ofNat 32 (grid0.coords t 0).val) (blkW m c t) (k0_pay7 (blkA m c t)) (blkCot m c t) (k0_pay21 (blkND m c t) (blkNB m c t)) (k0_pay22 (blkNG m c t)) x
    = block m c t ((Rect.unit (s := S512x4096) ![0, 2048] ![512, 1024] inb_S512x4096_S512x1024_0_2048).emb x) := by
  obtain ⟨r, n, rfl⟩ : ∃ (r : Fin 512) (n : Fin 1024), x = ix2 r n := ⟨_, _, ValueIdx.eq_ix2 x⟩
  unfold block
  rw [emb0, beside2 _ _ _ _ _ n (emb1 2048 _ r n), part2_pay]
  exact congrArg₂ (fun p q : EReal => p * q) (back_at m c t r n) (blkA_at m c t r n)

theorem stored3 (t : Fin cfg0.N) (x : S512x1024.Idx) : k0_pay1 (k0_pay6 (blkB m c t)) (blkD m c t) (blkConv m c t) (k0_pay19 (k0_pay9 (blkG m c t))) x
    = block m c t ((Rect.unit (s := S512x4096) ![0, 3072] ![512, 1024] inb_S512x4096_S512x1024_0_3072).emb x) := by
  obtain ⟨r, n, rfl⟩ : ∃ (r : Fin 512) (n : Fin 1024), x = ix2 r n := ⟨_, _, ValueIdx.eq_ix2 x⟩
  unfold block
  rw [emb0, beside3 _ _ _ _ _ n (emb1 3072 _ r n), part3_pay, conv_at, blkB_at, blkD_at, blkG_at, part3]

theorem columns_out (t : Fin cfg0.N) (y : S512x4096.Idx) : (outsAt0 m c t.val t.isLt).1 y = block m c t y := by
  by_cases h0 : t.val % 32 = 0
  · rw [outsAt0_A m c t h0]
    frame_out
    refine View.canon_apply_of_pieces (block m c t) _ ?_ y ?_
    · exact View.PiecesOf.mem ⟨stored3 m c t, stored2 m c t, stored1 m c t, stored0 m c t, trivial⟩
    · exact View.cover_of_tiledL (s := S512x4096) _ S512x1024.size (by sl_kernel_rfl) _
  · rw [outsAt0_B m c t h0]
    frame_out
    refine View.canon_apply_of_pieces (block m c t) _ ?_ y ?_
    · exact View.PiecesOf.mem ⟨stored3 m c t, stored2 m c t, stored1 m c t, stored0 m c t, trivial⟩
    · exact View.cover_of_tiledL (s := S512x4096) _ S512x1024.size (by sl_kernel_rfl) _

theorem final_columns : (dats m 0 c).arrAt 11 cfg0.N = columns m c := by
  refine (dats m 0 c).arrAt_eq_of_covers 11 _ (by decide +kernel) fun t hf y => ?_
  obtain ⟨r, j, rfl⟩ : ∃ (r : Fin 512) (j : Fin 4096), y = ix2 r j := ⟨_, _, ValueIdx.eq_ix2 y⟩
  rw [columns_place]
  blk_simp
  rw [after0_11, columns_out]
  rfl

/-! ## The taps' gradient, row by row -/

/-- What point `t` adds to row `k` of the taps' gradient. -/
def added (t : Fin cfg0.N) (k : ℕ) (n : Fin 1024) : EReal := ∑ r : Fin 512, cot m c n (pos t r) * reach m c k n (pos t r)

theorem added_past (t : Fin cfg0.N) (k : ℕ) (hk : 3 ≤ k) (n : Fin 1024) : added m c t k n = 0 := by
  unfold added reach
  refine Finset.sum_eq_zero fun r _ => ?_
  rw [if_neg (by omega), if_neg (by omega), if_neg (by omega), mul_zero]

theorem row0_add (t : Fin cfg0.N) (acc : Vec Ideal S1x1024 .f32) (n : Fin 1024) :
    k0_pay3 (k0_pay15 (k0_pay11 (grid0.coords t) (blkPA m c t) (blkPH m c t)) (iota Kind.tc S512x1024 32 [0] iota_S512x1024_d0_w32)
      (k0_pay13 (grid0.coords t) (blkA m c t) (blkH m c t) (blkPA m c t) (blkPH m c t)) k0_pay14) (blkCot m c t) acc (ix2 (0 : Fin 1) n)
      = acc (ix2 (0 : Fin 1) n) + added m c t 0 n := by
  rw [tap0_pay]
  refine congrArg (fun p : EReal => acc (ix2 (0 : Fin 1) n) + p) (Finset.sum_congr rfl fun r _ => ?_)
  rw [cot_at, up2_at]
  rfl

theorem row1_add (t : Fin cfg0.N) (acc : Vec Ideal S1x1024 .f32) (n : Fin 1024) :
    k0_pay4 (k0_pay12 (grid0.coords t) (blkA m c t) (blkH m c t) (blkPA m c t) (blkPH m c t)) (blkCot m c t) acc (ix2 (0 : Fin 1) n)
      = acc (ix2 (0 : Fin 1) n) + added m c t 1 n := by
  rw [tap1_pay]
  refine congrArg (fun p : EReal => acc (ix2 (0 : Fin 1) n) + p) (Finset.sum_congr rfl fun r _ => ?_)
  rw [cot_at, up1_at]
  rfl

theorem row2_add (t : Fin cfg0.N) (acc : Vec Ideal S1x1024 .f32) (n : Fin 1024) :
    k0_pay5 (k0_pay10 (blkA m c t) (blkH m c t)) (blkCot m c t) acc (ix2 (0 : Fin 1) n) = acc (ix2 (0 : Fin 1) n) + added m c t 2 n := by
  rw [tap2_pay]
  refine congrArg (fun p : EReal => acc (ix2 (0 : Fin 1) n) + p) (Finset.sum_congr rfl fun r _ => ?_)
  rw [cot_at, own_pay, own]
  rfl

theorem ld_row0 (z : Vec Ideal S8x1024 .f32) (n : Fin 1024) : View.ld z (Rect.unit ![0, 0] ![1, 1024] inb_S8x1024_S1x1024_0_0) (ix2 (0 : Fin 1) n) = z (ix2 (0 : Fin 8) n) := by
  refine congrArg z (funext fun q => Fin.ext ?_)
  fin_cases q
  · rfl
  · show 0 + 1 * n.val = n.val
    omega

theorem ld_row1 (z : Vec Ideal S8x1024 .f32) (n : Fin 1024) : View.ld z (Rect.unit ![1, 0] ![1, 1024] inb_S8x1024_S1x1024_1_0) (ix2 (0 : Fin 1) n) = z (ix2 (1 : Fin 8) n) := by
  refine congrArg z (funext fun q => Fin.ext ?_)
  fin_cases q
  · rfl
  · show 0 + 1 * n.val = n.val
    omega

theorem ld_row2 (z : Vec Ideal S8x1024 .f32) (n : Fin 1024) : View.ld z (Rect.unit ![2, 0] ![1, 1024] inb_S8x1024_S1x1024_2_0) (ix2 (0 : Fin 1) n) = z (ix2 (2 : Fin 8) n) := by
  refine congrArg z (funext fun q => Fin.ext ?_)
  fin_cases q
  · rfl
  · show 0 + 1 * n.val = n.val
    omega

/-- Three rows stored over `z`, each with something added, and the other rows as they were. -/
theorem rows_add {sig' : RefSig} {κ : Kind} {sp : Space} (v : View sig' κ sp S8x1024 .f32) (f : v.ty.Contents (Elt Ideal)) (q0 q1 q2 : Vec Ideal S1x1024 .f32)
    (L : List (View.Piece (Elt Ideal) S8x1024 .f32)) (z : Vec Ideal S8x1024 .f32) (a : ℕ → Fin 1024 → EReal)
    (hz : ∀ k n, v.read (Elt Ideal) (v.writes (Elt Ideal) f L) (ix2 k n) = z (ix2 k n))
    (h0 : ∀ n, q0 (ix2 (0 : Fin 1) n) = z (ix2 (0 : Fin 8) n) + a 0 n) (h1 : ∀ n, q1 (ix2 (0 : Fin 1) n) = z (ix2 (1 : Fin 8) n) + a 1 n)
    (h2 : ∀ n, q2 (ix2 (0 : Fin 1) n) = z (ix2 (2 : Fin 8) n) + a 2 n) (h3 : ∀ k, 3 ≤ k → ∀ n, a k n = 0) (k : Fin 8) (n : Fin 1024) :
    v.read (Elt Ideal) (v.writes (Elt Ideal) f (⟨Rect.unit ![2, 0] ![1, 1024] inb_S8x1024_S1x1024_2_0, q2⟩ :: ⟨Rect.unit ![1, 0] ![1, 1024] inb_S8x1024_S1x1024_1_0, q1⟩
      :: ⟨Rect.unit ![0, 0] ![1, 1024] inb_S8x1024_S1x1024_0_0, q0⟩ :: L)) (ix2 k n) = z (ix2 k n) + a k.val n := by
  rw [rows_read]
  by_cases k0 : k.val = 0
  · obtain rfl : k = 0 := Fin.ext k0
    rw [if_pos k0]
    exact h0 n
  by_cases k1 : k.val = 1
  · obtain rfl : k = 1 := Fin.ext k1
    rw [if_neg k0, if_pos k1]
    exact h1 n
  by_cases k2 : k.val = 2
  · obtain rfl : k = 2 := Fin.ext k2
    rw [if_neg k0, if_neg k1, if_pos k2]
    exact h2 n
  rw [if_neg k0, if_neg k1, if_neg k2, hz, h3 _ (by omega)]
  exact (add_zero _).symm

theorem gw_next (t : Fin cfg0.N) (h0 : ¬ t.val % 32 = 0) (y : S8x1024.Idx) :
    (outsAt0 m c t.val t.isLt).2 y = (outsAt0 m c (t.val - 1) (Nat.lt_of_le_of_lt (Nat.sub_le _ _) t.isLt)).2 y + added m c t (y 0).val (y 1) := by
  obtain ⟨k, n, rfl⟩ : ∃ (k : Fin 8) (n : Fin 1024), y = ix2 k n := ⟨_, _, ValueIdx.eq_ix2 y⟩
  rw [outsAt0_B m c t h0]
  frame_out
  refine rows_add _ _ _ _ _ [] _ (added m c t) (fun k n => ?_) (fun n => ?_) (fun n => ?_) (fun n => ?_) (added_past m c t) k n
  · rw [View.writes_nil, (hs0_12 t).read_unread]
  · exact (row0_add m c t _ n).trans (congrArg (fun p : EReal => p + added m c t 0 n) (ld_row0 _ n))
  · exact (row1_add m c t _ n).trans (congrArg (fun p : EReal => p + added m c t 1 n) (ld_row1 _ n))
  · exact (row2_add m c t _ n).trans (congrArg (fun p : EReal => p + added m c t 2 n) (ld_row2 _ n))

theorem gw_start (t : Fin cfg0.N) (h0 : t.val % 32 = 0) (y : S8x1024.Idx) : (outsAt0 m c t.val t.isLt).2 y = 0 + added m c t (y 0).val (y 1) := by
  obtain ⟨k, n, rfl⟩ : ∃ (k : Fin 8) (n : Fin 1024), y = ix2 k n := ⟨_, _, ValueIdx.eq_ix2 y⟩
  rw [outsAt0_A m c t h0]
  frame_out
  rw [← View.read_writes_junk_apply_eq_canon (ms0_12 t).view]
  refine rows_add _ _ _ _ _ _ (fun _ => (0 : EReal)) (added m c t) (fun k n => ?_) (fun n => ?_) (fun n => ?_) (fun n => ?_) (added_past m c t) k n
  · exact (View.read_writes_cons_rows_of_mem _ _ inb_S8x1024_S8x1024_0_0 _ _ (ix2 k n) (ix2 k n) rfl (Nat.zero_add _).symm rfl).trans (zero_pay _)
  · refine (row0_add m c t _ n).trans (congrArg (fun p : EReal => p + added m c t 0 n) ?_)
    rw [View.readCov_fill _ _ _ _ _ (by decide)]
    exact zero_pay _
  · refine (row1_add m c t _ n).trans (congrArg (fun p : EReal => p + added m c t 1 n) ?_)
    rw [View.readCov_skip _ _ _ _ _ (by decide), View.readCov_fill _ _ _ _ _ (by decide)]
    exact zero_pay _
  · refine (row2_add m c t _ n).trans (congrArg (fun p : EReal => p + added m c t 2 n) ?_)
    rw [View.readCov_skip _ _ _ _ _ (by decide), View.readCov_skip _ _ _ _ _ (by decide), View.readCov_fill _ _ _ _ _ (by decide)]
    exact zero_pay _

theorem gw_sum (t : Fin cfg0.N) (h1 : t.val % 32 = 31) (y : S8x1024.Idx) :
    (outsAt0 m c t.val t.isLt).2 y = ∑ s : Fin 32, added m c ⟨32 * (t.val / 32) + s.val, Pipeline.run_point_lt_of_flush t h1 s⟩ (y 0).val (y 1) := by
  rw [Pipeline.eq_sum_fin_of_reset_step_apply_of_flush (fun n h => (outsAt0 m c n h).2) 32 (fun _ => 0) (fun t y => added m c t (y 0).val (y 1))
    (gw_start m c) (gw_next m c) t h1 y, zero_add]

theorem final_taps : (dats m 0 c).arrAt 12 cfg0.N = tapGrad m c := by
  refine (dats m 0 c).arrAt_eq_of_covers 12 _ (by decide +kernel) fun t hf y => ?_
  have ht : t.val < 32 := lt_of_lt_of_eq t.isLt N_0
  have h1 : t.val % 32 = 31 := (flush0_12 t).mp hf
  obtain ⟨k, n, rfl⟩ : ∃ (k : Fin 8) (n : Fin 1024), y = ix2 k n := ⟨_, _, ValueIdx.eq_ix2 y⟩
  rw [taps_place]
  blk_simp
  rw [after0_12, gw_sum m c t h1]
  unfold added
  refine Fin.sum_mul_add_congr fun s r hl => ?_
  refine congrArg (fun l => cot m c n l * reach m c k.val n l) (Fin.ext ?_)
  dsimp only
  omega

/-! ## What the precondition says -/

section
variable (h : @Cert.Pre_Kernel14Ideal_finite_mixer Cert.Pre_finite_mixer.Gen.facts m)
include h

theorem real_u (s : Fin 16384) (j : Fin 3072) : IsReal (arrU m c (ix2 s (⟨j.val, by omega⟩ : Fin 4096))) := by
  refine IsReal.of_lt (Eq.trans ?_ (congrFun (h c).1 (ix2 s j)))
  unfold Cert.Pre_finite_mixer.fn
  pointwise
  simp only [ix2_eq_valueIdx]
  rw [inf_bits]
  rfl

theorem real_d (i : S16384x1024.Idx) : IsReal (arrD m c i) := by
  refine IsReal.of_lt (Eq.trans ?_ (congrFun (h c).2.1 i))
  unfold Cert.Pre_finite_mixer.fn
  pointwise
  rw [inf_bits]
  rfl

theorem real_c (i : S3x1024.Idx) : IsReal (arrC m c i) := by
  refine IsReal.of_lt (Eq.trans ?_ (congrFun (h c).2.2 i))
  unfold Cert.Pre_finite_mixer.fn
  pointwise
  rw [inf_bits]
  rfl

theorem real_sequence (n : Fin 1024) (s : Fin 16384) : IsReal (sequence m c n s) :=
  (real_u m c h s ⟨1 * 1024 + n.val, by omega⟩).mul (real_u m c h s ⟨2 * 1024 + n.val, by omega⟩)

theorem real_above (n : Fin 1024) (k : ℕ) (s : Fin 16384) : IsReal (above (sequence m c n) k s) := by
  unfold above
  split
  · exact ⟨0, EReal.coe_zero.symm⟩
  · exact real_sequence m c h n _

theorem real_convolved (n : Fin 1024) (s : Fin 16384) : IsReal (convolved m c n s) :=
  (((real_c m c h _).mul (real_sequence m c h n s)).add ((real_c m c h _).mul (real_above m c h n 1 s))).add ((real_c m c h _).mul (real_above m c h n 2 s))

end

/-! ## The same gradients, as derivatives of padded sums write them -/

/-- The cotangent of the convolution, in another order. -/
def turned (n : Fin 1024) (s : Fin 16384) : EReal :=
  arrU m c (ix2 s (first n)) * (arrD m c (ix2 s n) * (arrU m c (ix2 s (column 3 n)) * sigma (arrU m c (ix2 s (column 3 n)))))

theorem turned_eq (n : Fin 1024) (s : Fin 16384) : turned m c n s = cot m c n s := by
  unfold cot turned
  rw [← mul_assoc, mul_comm (arrU m c (ix2 s (first n))) (arrD m c (ix2 s n))]

theorem convolved_padded (n : Fin 1024) (s : Fin 16384) :
    (arrC m c (ix2 (0 : Fin 3) n) * (if h : s.val < 2 then 0 else sequence m c n ⟨s.val - 2, by omega⟩)
      + arrC m c (ix2 (1 : Fin 3) n) * (if h : 1 + s.val < 2 then 0 else sequence m c n ⟨1 + s.val - 2, by omega⟩))
      + arrC m c (ix2 (2 : Fin 3) n) * sequence m c n s = convolved m c n s := by
  rw [above_two, above_one]
  unfold convolved tap
  rw [add_comm (_ + _) (arrC m c (ix2 (2 : Fin 3) n) * sequence m c n s), add_comm (arrC m c (ix2 (0 : Fin 3) n) * _) _, add_assoc]

theorem part0_padded (n : Fin 1024) (s : Fin 16384) :
    arrD m c (ix2 s n) * (arrU m c (ix2 s (column 3 n)) * sigma (arrU m c (ix2 s (column 3 n))))
      * ((arrC m c (ix2 (0 : Fin 3) n) * (if h : s.val < 2 then 0 else sequence m c n ⟨s.val - 2, by omega⟩)
      + arrC m c (ix2 (1 : Fin 3) n) * (if h : 1 + s.val < 2 then 0 else sequence m c n ⟨1 + s.val - 2, by omega⟩))
      + arrC m c (ix2 (2 : Fin 3) n) * sequence m c n s) = part0 m c s n := by
  rw [convolved_padded, part0, mul_right_comm]

theorem part3_padded (h : @Cert.Pre_Kernel14Ideal_finite_mixer Cert.Pre_finite_mixer.Gen.facts m) (n : Fin 1024) (s : Fin 16384) (e : EReal)
    (he : e = convolved m c n s) :
    arrU m c (ix2 s (first n)) * e * arrD m c (ix2 s n) * sigma (arrU m c (ix2 s (column 3 n)))
      + arrU m c (ix2 s (column 3 n)) * (arrU m c (ix2 s (first n)) * e * arrD m c (ix2 s n)) * (sigma (arrU m c (ix2 s (column 3 n))) * (1 - sigma (arrU m c (ix2 s (column 3 n)))))
      = part3 m c s n := by
  rw [he]
  refine (gate_eq _ _ (((real_u m c h s ⟨n.val, by omega⟩).mul (real_convolved m c h n s)).mul (real_d m c h _))).symm.trans ?_
  rw [part3]
  exact congrArg (fun p : EReal => p * _) ((mul_comm _ _).trans (mul_assoc _ _ _).symm)

theorem back_padded (n : Fin 1024) (s : Fin 16384) (q : ℕ) (hq : q < 1024) :
    ((if h : q < 1024 then arrC m c (ix2 (2 : Fin 3) n) * turned m c n s else 0)
      + (if h : (1 ≤ 2 + s.val ∧ 2 + s.val - 1 < 16384) ∧ q < 1024 then arrC m c (ix2 (1 : Fin 3) n) * turned m c n ⟨2 + s.val - 1, h.1.2⟩ else 0))
      + (if h : 2 + s.val < 16384 ∧ q < 1024 then arrC m c (ix2 (0 : Fin 3) n) * turned m c n ⟨2 + s.val, h.1⟩ else 0) = back m c n s := by
  simp only [turned_eq]
  unfold back tap below
  rw [dif_pos hq]
  refine congrArg₂ (fun p q : EReal => arrC m c (ix2 (2 : Fin 3) n) * cot m c n s + p + q) ?_ ?_
  · by_cases h : s.val + 1 < 16384
    · rw [dif_pos h, dif_pos ⟨⟨by omega, by omega⟩, hq⟩]
      exact congrArg (fun l => arrC m c (ix2 (1 : Fin 3) n) * cot m c n l) (Fin.ext (by dsimp only; omega))
    · rw [dif_neg h, dif_neg (by omega), mul_zero]
  · by_cases h : s.val + 2 < 16384
    · rw [dif_pos h, dif_pos ⟨by omega, hq⟩]
      exact congrArg (fun l => arrC m c (ix2 (0 : Fin 3) n) * cot m c n l) (Fin.ext (by dsimp only; omega))
    · rw [dif_neg h, dif_neg (by omega), mul_zero]

theorem lift_lt (x : Fin 16382) : 2 + x.val < 16384 := by omega

theorem zero_word : FloatOps.sitofp (F := Ideal) FTy.f32 (0#32) = (0 : EReal) := by
  show (((0#32 : BitVec 32).toInt : ℝ) : EReal) = 0
  simp

theorem taps_padded (k : Fin 8) (n : Fin 1024) :
    (if h : k.val < 3 then
      ((if h : 2 ≤ k.val ∧ k.val - 2 < 1 then ∑ x : Fin 1, ∑ s : Fin 16384, turned m c n s * sequence m c n s else 0)
        + (if h : 1 ≤ k.val ∧ k.val - 1 < 1 then ∑ x : Fin 1, ∑ s : Fin 16384, turned m c n s * (if h : 1 + s.val < 2 then 0 else sequence m c n ⟨1 + s.val - 2, by omega⟩) else 0))
        + (if h : k.val < 1 then ∑ x : Fin 1, (∑ s : Fin 2, turned m c n ⟨s.val, by omega⟩ * 0 + ∑ s : Fin 16382, turned m c n ⟨2 + s.val, lift_lt s⟩ * sequence m c n ⟨s.val, by omega⟩) else 0)
      else FloatOps.sitofp (F := Ideal) FTy.f32 (0#32)) = ∑ s : Fin 16384, cot m c n s * reach m c k.val n s := by
  rw [zero_word]
  simp only [turned_eq, above_one]
  unfold reach
  by_cases k0 : k.val = 0
  · simp only [k0]
    rw [dif_pos (by norm_num), dif_neg (by norm_num), dif_neg (by norm_num), dif_pos (by norm_num), add_zero, zero_add, Fin.sum_univ_one]
    refine ((Fin.sum_univ_add (a := 2) (b := 16382) (fun s : Fin 16384 => cot m c n s * above (sequence m c n) 2 s)).trans ?_).symm
    refine congrArg₂ (fun p q : EReal => p + q) (Finset.sum_congr rfl fun s _ => ?_) (Finset.sum_congr rfl fun s _ => ?_)
    · unfold above
      rw [dif_pos (show (Fin.castAdd 16382 s).val < 2 from s.isLt)]
      rfl
    · unfold above
      rw [dif_neg (show ¬ (Fin.natAdd 2 s).val < 2 from by rw [Fin.val_natAdd]; omega)]
      refine congrArg₂ (fun p q : EReal => p * q) rfl (congrArg (sequence m c n) (Fin.ext ?_))
      show 2 + s.val - 2 = s.val
      omega
  by_cases k1 : k.val = 1
  · simp only [k1]
    rw [dif_pos (by norm_num), dif_neg (by norm_num), dif_pos (by norm_num), dif_neg (by norm_num), add_zero, zero_add, Fin.sum_univ_one]
    rfl
  by_cases k2 : k.val = 2
  · simp only [k2]
    rw [dif_pos (by norm_num), dif_pos (by norm_num), dif_neg (by norm_num), dif_neg (by norm_num), add_zero, add_zero, Fin.sum_univ_one]
    rfl
  rw [dif_neg (by omega)]
  refine (Finset.sum_eq_zero fun s _ => ?_).symm
  rw [if_neg k0, if_neg k1, if_neg k2, mul_zero]

end Calls.MixerBwd

open Idealize.ShloMosaic Idealize.SL.Sem

/-- The call returns the gradients of the columns and of the taps. -/
theorem Calls.MixerBwd.agree : @Cert.algebraic_Kernel14Ideal_Reference14Ideal_pre_finite_mixer Cert.Kernel14Ideal.Gen.facts Cert.Reference14Ideal.Gen.facts Cert.Pre_finite_mixer.Gen.facts :=
  fun m ρ m' ρ' hp ha => ⟨Calls.MixerBwd.columns m, Calls.MixerBwd.tapGrad m,
    (θ_run Cert.Kernel14Ideal.defs _ _).mono (fun r h c => ⟨(h c).1.trans (Calls.MixerBwd.final_columns m c), (h c).2.1.trans (Calls.MixerBwd.final_taps m c), (h c).2.2⟩) (Cert.Kernel14Ideal.Value.run_blocks (F := Ideal) m ρ),
    (θ_run Cert.Reference14Ideal.defs _ _).mono (fun r h c => by
      obtain ⟨a0, a1, a2⟩ := ha c
      refine ⟨(h c).1.trans ?_, (h c).2.1.trans ?_, (h c).2.2⟩
      · clear h
        unfold Cert.Reference14Ideal.Value.res_main_v75
        rw [a0, a1, a2]
        funext y
        obtain ⟨s, j, rfl⟩ : ∃ (s : Fin 16384) (j : Fin 4096), y = ValueIdx.ix2 s j := ⟨_, _, ValueIdx.eq_ix2 y⟩
        pointwise
        simp only [ix2_eq_valueIdx, Calls.sigma_neg]
        refine dite_congr rfl (fun h0 => ?_) (fun h0 => dite_congr rfl (fun h1 => ?_) (fun h1 => dite_congr rfl (fun h2 => ?_) (fun h2 => ?_)))
        · exact Calls.MixerBwd.part0_padded m c ⟨j.val, h0⟩ s
        · exact congrArg (fun p : EReal => p * Calls.MixerBwd.arrU m c (ValueIdx.ix2 s (Calls.column 2 ⟨j.val - 1024, h1⟩))) (Calls.MixerBwd.back_padded m c ⟨j.val - 1024, h1⟩ s (j.val - 1024) h1)
        · exact (mul_comm _ _).trans <| congrArg (fun p : EReal => p * Calls.MixerBwd.arrU m c (ValueIdx.ix2 s (Calls.column 1 ⟨j.val - 1024 - 1024, h2⟩))) (Calls.MixerBwd.back_padded m c ⟨j.val - 1024 - 1024, h2⟩ s (j.val - 1024 - 1024) h2)
        · exact Calls.MixerBwd.part3_padded m c hp ⟨j.val - 1024 - 1024 - 1024, by have := j.isLt; omega⟩ s _ (Calls.MixerBwd.convolved_padded m c ⟨j.val - 1024 - 1024 - 1024, by have := j.isLt; omega⟩ s)
      · clear h
        unfold Cert.Reference14Ideal.Value.res_main_v76
        rw [a0, a1]
        funext y
        obtain ⟨k, n, rfl⟩ : ∃ (k : Fin 8) (n : Fin 1024), y = ValueIdx.ix2 k n := ⟨_, _, ValueIdx.eq_ix2 y⟩
        pointwise
        simp only [ix2_eq_valueIdx, Calls.sigma_neg]
        exact Calls.MixerBwd.taps_padded m c k n)
      (Cert.Reference14Ideal.Value.run (F := Ideal) m' ρ')⟩

end
-- ==== Proof.Calls.Swap.lean ====
module

public import proofs.«01_k».proof.Defs
public import proofs.«01_k».proof.Proof.Gen.Kernel15.Launch
public import proofs.«01_k».proof.Proof.Gen.Kernel15Ideal.Skeleton
public import proofs.«01_k».proof.Proof.Gen.Kernel15Ideal.Launch
public import proofs.«01_k».proof.Proof.Gen.Reference15Ideal.Run
public import Idealize.ShloMosaic.Lib.Pipeline.Launch
public import Idealize.ShloMosaic.Lib.Pipeline.Kit
public import Idealize.ShloMosaic.Lib.Tactic

@[expose] public section

noncomputable section

/-! The swap between siblings: the protocol of the two transfers and the body of the call.

Each device has two semaphores of one round: its send semaphore, whose credit gives it its own partial sum back, and its
receive semaphore, whose credit gives it its result at the sibling's partial sum. There is no barrier, so the
right to write into the sibling's result is held from the start. -/

namespace Calls.Swap

open Cert.Kernel15Ideal Cert.Kernel15Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

/-- The ghost state: one copy of the rounds' algebra for the call's (absent) windows, one for the transfers. -/
abbrev UU : Type := URounds (GSem nD τ sig) Unit × URounds (GSem nD τ sig) Unit

local notation "𝕄" => MT nD τ sig Unit (Elt F) ℕ UU ℕ

abbrev winG : Emb (URounds (GSem nD τ sig) Unit) (MT nD τ sig Unit (Elt F) ℕ UU ℕ) := embL
abbrev xferG : Emb (URounds (GSem nD τ sig) Unit) (MT nD τ sig Unit (Elt F) ℕ UU ℕ) := embR

variable (m : (ℓ : Loc nD τ sig) → Buf (Elt F) ℓ) (ρ : Dev nD → PrngReg)

/-! ## Siblings -/

/-- The other device of the pair. -/
def sib (c : Dev nD) : Dev nD := ⟨1 - c.val, by have := c.isLt; show 1 - c.val < 2; omega⟩

theorem sib_sib (c : Dev nD) : sib (sib c) = c := by revert c; decide

/-- The pair exchanged. -/
def exchange : Dev nD ≃ Dev nD := ⟨sib, sib, sib_sib, sib_sib⟩

theorem target_eq (c : Dev nD) : (⟨k0_dev1 c, k0_dev1_lt c⟩ : Dev nD) = sib c := Fin.ext (k0_dev1_eq c)

/-! ## Buffers and semaphores -/

abbrev partM : Memref sig .tc .hbm S2048x1024 .f32 := Memref.whole main_arg0
abbrev outM : Memref sig .tc .hbm S2048x1024 .f32 := Memref.whole main_v1

abbrev xsem : Fin 2 → SemLoc sig := fun | 0 => .dma (cc0_scratch0).sem | 1 => .dma (cc0_scratch1).sem
abbrev sendAt (c : Dev nD) : GSem nD τ sig := ((c : Thread nD τ), xsem 0)
abbrev recvAt (c : Dev nD) : GSem nD τ sig := ((c : Thread nD τ), xsem 1)
abbrev cellAt (ck : Dev nD × Fin 2) : GSem nD τ sig := ((ck.1 : Thread nD τ), xsem ck.2)

theorem xsem_inj : Function.Injective xsem := by decide

/-- The credit of one transfer. -/
@[irreducible] def N : ℕ := (outM : Memref sig .tc .hbm S2048x1024 .f32).view.dmaCredit
theorem N_out : (outM : Memref sig .tc .hbm S2048x1024 .f32).view.dmaCredit = N := by unfold N; rfl
theorem N_part : (partM : Memref sig .tc .hbm S2048x1024 .f32).view.dmaCredit = N := by unfold N; rfl
theorem N_amount : (outM : Memref sig .tc .hbm S2048x1024 .f32).view.amount (xsem 1) = N := N_out
theorem N_pos : 0 < N := by rw [← N_out]; exact View.dmaCredit_pos _ (by decide)

/-- A device's partial sum. -/
def mine (c : Dev nD) : Buf (Elt F) ((partM : Memref sig .tc .hbm S2048x1024 .f32).view.loc (c : Thread nD τ)) := m ((c : Thread nD τ).loc main_arg0)
/-- What its result ends at: the sibling's partial sum. -/
def theirs (c : Dev nD) : Buf (Elt F) ((outM : Memref sig .tc .hbm S2048x1024 .f32).view.loc (c : Thread nD τ)) := m ((sib c : Thread nD τ).loc main_arg0)

omit [FloatOps F] in
theorem landed_eq (c : Dev nD) (fd : Buf (Elt F) ((outM : Memref sig .tc .hbm S2048x1024 .f32).view.loc (c : Thread nD τ))) (fs : (main_arg0 : Ref sig .tc).ty.Contents (Elt F)) :
    (outM : Memref sig .tc .hbm S2048x1024 .f32).view.write (Elt F) fd ((partM : Memref sig .tc .hbm S2048x1024 .f32).view.read (Elt F) fs) Finset.univ = fs := by
  show (View.whole main_v1).write (Elt F) fd ((View.whole main_arg0).read (Elt F) fs) Finset.univ = fs
  rw [View.read_whole]; exact View.write_whole_univ _ _ _

def partPts (c : Dev nD) : sProp 𝕄 :=
  (partM : Memref sig .tc .hbm S2048x1024 .f32).view.loc (c : Thread nD τ) ↦[(partM : Memref sig .tc .hbm S2048x1024 .f32).view.set]{fullShare} mine m c
def outPts (c : Dev nD) (f : Buf (Elt F) ((outM : Memref sig .tc .hbm S2048x1024 .f32).view.loc (c : Thread nD τ))) : sProp 𝕄 :=
  (outM : Memref sig .tc .hbm S2048x1024 .f32).view.loc (c : Thread nD τ) ↦[(outM : Memref sig .tc .hbm S2048x1024 .f32).view.set]{fullShare} f

omit [FloatOps F] in
instance partPts_storable (c : Dev nD) : BI.Storable (upEmb : UEmb _ 𝕄) (partPts (F := F) m c) := by unfold partPts; infer_instance
omit [FloatOps F] in
instance outPts_storable (c : Dev nD) (f) : BI.Storable (upEmb : UEmb _ 𝕄) (outPts (F := F) c f) := by unfold outPts; infer_instance

omit [FloatOps F] in
theorem partPts_eq (c : Dev nD) : partPts m c = (((c : Thread nD τ).loc main_arg0) ↦{fullShare} m ((c : Thread nD τ).loc main_arg0) : sProp 𝕄) := by
  unfold partPts mine; rw [View.set_whole]
omit [FloatOps F] in
theorem outPts_eq (c : Dev nD) (f : Buf (Elt F) ((c : Thread nD τ).loc main_v1)) :
    outPts c f = (((c : Thread nD τ).loc main_v1) ↦{fullShare} f : sProp 𝕄) := by unfold outPts; rw [View.set_whole]

/-! ## The schedule: one round, one contribution per semaphore -/

abbrev IsXfer (g : GSem nD τ sig) : Prop := g.1.2 = .tc ∧ (g.2 = xsem 0 ∨ g.2 = xsem 1)

def sched : Rounds.Schedule (GSem nD τ sig) Unit 𝕄 where
  duties g r := if r = 0 ∧ IsXfer g then {()} else ∅
  unitless _ := False
  amount _ _ _ := N
  payload g _ _ := if g.2 = xsem 0 then partPts m g.1.1 else outPts g.1.1 (theirs m g.1.1)
  amount_pos _ _ _ _ := N_pos

instance sched_storable (g : GSem nD τ sig) (r : ℕ) (d : Unit) : BI.Storable (upEmb : UEmb _ 𝕄) ((sched (F := F) m).payload g r d) := by
  show BI.Storable upEmb (if g.2 = xsem 0 then partPts m g.1.1 else outPts g.1.1 (theirs m g.1.1))
  split <;> infer_instance

theorem recv_ne_send : xsem 1 ≠ xsem 0 := by decide

section Sched
variable (c : Dev nD)

omit [FloatOps F] in
theorem duties_send : (sched (F := F) m).duties (sendAt c) 0 = {()} := by dsimp only [sched]; exact if_pos ⟨rfl, rfl, .inl rfl⟩
omit [FloatOps F] in
theorem duties_recv : (sched (F := F) m).duties (recvAt c) 0 = {()} := by dsimp only [sched]; exact if_pos ⟨rfl, rfl, .inr rfl⟩
omit [FloatOps F] in
theorem duties_later (g : GSem nD τ sig) : ∀ r, 1 ≤ r → (sched (F := F) m).duties g r = ∅ :=
  fun r hr => by dsimp only [sched]; exact if_neg fun h => by omega
omit [FloatOps F] in
theorem amount_eq (g : GSem nD τ sig) (u : Unit) : (sched (F := F) m).amount g 0 u = N := by dsimp only [sched]
omit [FloatOps F] in
theorem expect_send : (sched (F := F) m).expect (sendAt c) 0 = N := by
  unfold Schedule.expect Schedule.amountOf; rw [duties_send, Finset.sum_singleton, amount_eq]
omit [FloatOps F] in
theorem expect_recv : (sched (F := F) m).expect (recvAt c) 0 = N := by
  unfold Schedule.expect Schedule.amountOf; rw [duties_recv, Finset.sum_singleton, amount_eq]
omit [FloatOps F] in
theorem payload_send (u : Unit) : (sched (F := F) m).payload (sendAt c) 0 u = partPts m c := by dsimp only [sched]; exact if_pos rfl
omit [FloatOps F] in
theorem payload_recv (u : Unit) : (sched (F := F) m).payload (recvAt c) 0 u = outPts c (theirs m c) := by dsimp only [sched]; exact if_neg recv_ne_send
omit [FloatOps F] in
theorem rest_send : bigSep ((sched (F := F) m).duties (sendAt c) 0 \ ∅) (fun u => (sched (F := F) m).payload (sendAt c) 0 u) = partPts m c := by
  rw [Finset.sdiff_empty, duties_send, bigSep_singleton, payload_send]
omit [FloatOps F] in
theorem rest_recv : bigSep ((sched (F := F) m).duties (recvAt c) 0 \ ∅) (fun u => (sched (F := F) m).payload (recvAt c) 0 u) = outPts c (theirs m c) := by
  rw [Finset.sdiff_empty, duties_recv, bigSep_singleton, payload_recv]

end Sched

/-- A device owes its sibling's receive semaphore one transfer. -/
def owed (c : Dev nD) : CellTallies nD τ sig Unit := tallyAt (recvAt (sib c)) () N

/-! ## What a device holds before and after the body -/

def records (K : Dev nD × Fin 2 → ℕ) (c : Dev nD) : sProp 𝕄 :=
  iprop(cellInv xferG (sched m) (K (c, 0)) (sendAt c) ∗ cellInv xferG (sched m) (K (c, 1)) (recvAt c)
    ∗ cellInv xferG (sched m) (K (sib c, 1)) (recvAt (sib c)) ∗ reached xferG (sendAt c) 0 ∗ reached xferG (recvAt (sib c)) 0)

instance records_persistent (K : Dev nD × Fin 2 → ℕ) (c : Dev nD) : BI.Persistent (records m K c) := by unfold records; infer_instance

def tickets (c : Dev nD) : sProp 𝕄 :=
  iprop(atPos xferG (sendAt c) 0 ∅ 0 ∗ atPos xferG (recvAt c) 0 ∅ 0 ∗ dutyTok xferG (sendAt c) 0 () ∗ dutyTok xferG (recvAt (sib c)) 0 ())

/-- Before: its own partial sum and its SIBLING's result, the right to send, and the credit the sibling owes it. -/
def before (K : Dev nD × Fin 2 → ℕ) (c : Dev nD) : sProp 𝕄 :=
  iprop(records m K c ∗ tickets c ∗ cred (tallyAt (recvAt c) () N) ∗ partPts m c ∗ outPts (sib c) (m ((sib c : Thread nD τ).loc main_v1)))
/-- After: its own partial sum, its own result at the sibling's, and its semaphores at zero. -/
def after (c : Dev nD) : sProp 𝕄 :=
  iprop((partPts m c ∗ outPts c (theirs m c)) ∗ semVal (sendAt c) 0 ∗ semVal (recvAt c) 0)

def dats (_ : Fin 1) (c : Dev nD) : Dat τ (Elt F) Unit ℕ UU ℕ cfg0 c where
  A w := w.elim0
  after w _ := w.elim0
  Φ t := match t with
    | ⟨0, _⟩ => iprop(∃ K, before m K c)
    | ⟨_ + 1, _⟩ => after m c
  q w := w.elim0
  owed t := match t with
    | ⟨0, _⟩ => owed c
    | ⟨_ + 1, _⟩ => 0

abbrev 𝒱₀ : Variants := Variants.none

/-! ## The body -/

theorem wp_to_sibling (K : Dev nD × Fin 2 → ℕ) (c n : Dev nD) (hn : n = sib c) {hsc : (outM : Memref sig (Dev.tc n : Thread nD τ).2.kind .hbm S2048x1024 .f32).view.ref.isScScratch = false}
    {hsrc : (partM : Memref sig .tc .hbm S2048x1024 .f32).view.WordExact} {hdst : (outM : Memref sig .tc .hbm S2048x1024 .f32).view.WordExact}
    {hsem : DmaTarget.Typed .hbm (xsem 1) (.remote (Dev.tc n : Thread nD τ) (outM : Memref sig .tc .hbm S2048x1024 .f32) (xsem 0) hsc)}
    {α : Type} {Q : α → sProp 𝕄} {k : PUnit → Prog (TpuEff nD τ sig (Elt F) Λ₀ .tc) α}
    (fn : Buf (Elt F) ((outM : Memref sig .tc .hbm S2048x1024 .f32).view.loc (sib c : Thread nD τ))) (W : Waits sig Unit) :
    iprop(cellInv xferG (sched m) (K (c, 0)) (sendAt c) ∗ cellInv xferG (sched m) (K (sib c, 1)) (recvAt (sib c))
        ∗ partPts m c ∗ outPts (sib c) fn ∗ owes (c : Thread nD τ) (tallyAt (recvAt (sib c)) () N) W
        ∗ dutyTok xferG (sendAt c) 0 () ∗ reached xferG (sendAt c) 0 ∗ dutyTok xferG (recvAt (sib c)) 0 () ∗ reached xferG (recvAt (sib c)) 0)
      ⊢ iprop(((cred (tallyAt (sendAt c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) outM (xsem 0) hsc) (xsem 1) hsrc hdst hsem) k) Q) := by
  subst hn
  unfold partPts outPts
  exact Rounds.wp_send_pointsTo 𝒱₀ xferG (sched m) (c : Thread nD τ) none (κ₁ := K (c, 0)) (κ₂ := K (sib c, 1))
    (r₁ := 0) (r₂ := 0) (d₁ := ()) (d₂ := ()) (fd := fn)
    (by rw [duties_send]; exact Finset.mem_singleton_self _) (by rw [duties_recv]; exact Finset.mem_singleton_self _)
    () () N N_amount (amount_eq m _ ()) (amount_eq m _ ()) 0 (by rw [zero_add]) (W := W)
    (by rw [payload_send]; exact BI.Entails.refl _)
    (by rw [payload_recv]; unfold outPts; rw [landed_eq, theirs, sib_sib]; exact BI.Entails.refl _)

theorem point (t : Fin cfg0.N) : t = t0_0 := fin_N0 t

set_option maxHeartbeats 800000 in
theorem body_runs (K : Dev nD × Fin 2 → ℕ) (c : Dev nD) (Q : PUnit → sProp 𝕄) :
    iprop((before m K c ∗ (dats m 0 c).owesAt () t0_0.castSucc)
        ∗ ((after m c ∗ (dats m 0 c).owesAt () t0_0.succ) -∗ Q ⟨⟩))
      ⊢ wp frame (wpE (defs₀ (F := F)) 𝒱₀ c none) Set.univ
          (cc0_swap_sibling (Memref.whole main_arg0) (Memref.isWhole_whole _) (Memref.whole main_v1) (Memref.isWhole_whole _) cc0_scratch0 cc0_scratch1) Q := by
  simp only [cc0_swap_sibling_eq_skeleton]; unfold cc0_swap_sibling_skel
  simp only [Prog.lift, Prog.bind_op, Prog.bind_ret, Prog.pure_eq_ret, wp_deviceId]
  unfold before records tickets Dat.owesAt Pipeline.owesWithin
  iintro ⟨⟨⟨⟨#HIs, #HIr, #HIp, #HRs, #HRp⟩, ⟨HatS, HatR, HtS, HtP⟩, Hc, Hpart, Hout⟩, ⟨%W, %hW, HO⟩⟩, Hk⟩
  rw [show (dats m 0 c).owed t0_0.castSucc = tallyAt (recvAt (sib c)) () N from rfl]
  iapply (wp_to_sibling m K c _ (target_eq c) (m ((sib c : Thread nD τ).loc main_v1)) W) $$ [Hpart Hout HO HtS HtP]
  · isplitr; · iexact HIs
    isplitr; · iexact HIp
    isplitl [Hpart]; · iexact Hpart
    isplitl [Hout]; · iexact Hout
    isplitl [HO]; · iexact HO
    isplitl [HtS]; · iexact HtS
    isplitr; · iexact HRs
    isplitl [HtP]; · iexact HtP
    iexact HRp
  iintro ⟨HcS, HO⟩
  -- the send semaphore: the partial sum is the device's again
  iapply (Rounds.wp_wait_rest_token 𝒱₀ xferG (sched m) (c : Thread nD τ) none (κ := K (c, 0))
      (k' := N) (fun K => by rw [wpE_waitDma2_eq, N_part]) (Set.mem_univ _) () (O := 0) (W := W) (R := 0) (m := 0) (T := ∅)
      (by rw [Nat.zero_add]; rw [expect_send])) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hpart := (Entails.of_eq (rest_send m c)) $$ Hpay
  -- the receive semaphore: the result has landed
  iapply (Rounds.wp_wait_rest_token 𝒱₀ xferG (sched m) (c : Thread nD τ) none (κ := K (c, 1))
      (k' := N) (fun K => by rw [wpE_waitDma2_eq, N_out]) (Set.mem_univ _) () (O := 0) (W := insert (xsem 0, ()) W) (R := 0) (m := 0) (T := ∅)
      (by rw [Nat.zero_add]; rw [expect_recv])) $$ [Hc HO HatR]
  · isplitr; · iexact HIr
    isplitl [Hc]; · iexact Hc
    isplitl [HO]; · iexact HO
    isplitr; · rw [MayWait_zero]; iempintro
    iexact HatR
  iintro ⟨HO, HatR, -, Hpay⟩
  ihave Hout := (Entails.of_eq (rest_recv m c)) $$ Hpay
  imod (Rounds.cell_close xferG (sched m) (Set.mem_univ (K (c, 0))) (fun h => h) (R := 0 + 1) (duties_later m (sendAt c))) $$ [HatS] with HzS
  · isplitr; · iexact HIs
    iexact HatS
  imod (Rounds.cell_close xferG (sched m) (Set.mem_univ (K (c, 1))) (fun h => h) (R := 0 + 1) (duties_later m (recvAt c))) $$ [HatR] with HzR
  · isplitr; · iexact HIr
    iexact HatR
  rw [wp_ret]; imodintro
  iapply Hk
  unfold after
  rw [show (dats m 0 c).owed t0_0.succ = 0 from rfl]
  isplitr [HO]
  · isplitl [Hpart Hout]
    · isplitl [Hpart] <;> iassumption
    isplitl [HzS] <;> iassumption
  iexists (insert (xsem 1, ()) (insert (xsem 0, ()) W))
  isplitr; · ipureintro; exact fun _ _ => Or.inl trivial
  iexact HO

omit [FloatOps F] in
/-- A separating conjunction over no window. -/
theorem no_window (Ψ : Fin cfg0.W → sProp 𝕄) : bigSep Finset.univ Ψ = BI.emp := rfl

theorem body_obligation (c : Dev nD) : BodyObligationLoose (dats (F := F) m 0 c) (defs₀ (F := F)) 𝒱₀ () Set.univ := fun t => by
  rw [point t, no_window, no_window]
  show iprop(iprop(∃ K, before m K c) ∗ (dats m 0 c).owesAt () t0_0.castSucc ∗ emp) ⊢ wp frame (wpE (defs₀ (F := F)) 𝒱₀ c none) Set.univ
    (cc0_swap_sibling (Memref.whole main_arg0) (Memref.isWhole_whole _) (Memref.whole main_v1) (Memref.isWhole_whole _) cc0_scratch0 cc0_scratch1)
    (fun _ => iprop(after m c ∗ (dats m 0 c).owesAt () t0_0.succ ∗ emp))
  iintro ⟨⟨%K, Hb⟩, Ho, -⟩
  iapply (body_runs m K c)
  isplitl [Hb Ho]
  · isplitl [Hb] <;> iassumption
  iintro ⟨Ha, Ho⟩
  isplitl [Ha]; · iexact Ha
  isplitl [Ho]; · iexact Ho
  iempintro

end Calls.Swap

end
-- ==== Proof.Calls.SwapLaunch.lean ====
module

public import proofs.«01_k».proof.Proof.Calls.Swap
public import Idealize.ShloMosaic.Lib.Quiescent

@[expose] public section

noncomputable section

/-! The swap between siblings: the launch. The devices' holdings are regrouped once, before any device runs: each receive
token and each result buffer goes to the sibling, who sends. -/

namespace Calls.Swap

open Cert.Kernel15Ideal Cert.Kernel15Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their ghost state -/

theorem cellAt_inj : Function.Injective (cellAt : Dev nD × Fin 2 → GSem nD τ sig) := by
  rintro ⟨c, k⟩ ⟨c', k'⟩ h
  have h1 : c = c' := congrArg (fun g : GSem nD τ sig => g.1.1) h
  have h2 : k = k' := xsem_inj (congrArg Prod.snd h)
  rw [h1, h2]

def xferCells : Finset (GSem nD τ sig) := Finset.univ.map ⟨cellAt, cellAt_inj⟩
def xferToks : Finset (GSem nD τ sig × ℕ × Unit) :=
  Finset.univ.map ⟨fun ck : Dev nD × Fin 2 => (cellAt ck, 0, ()), fun _ _ h => cellAt_inj (congrArg Prod.fst h)⟩

def u₀ : UU := (initOf (Pipeline.cells cfgs cellOf_inj) (Pipeline.launchToks cfgs cellOf_inj), initOf xferCells xferToks)

/-- A device's two duty tokens as dealt. -/
def dealt (c : Dev nD) : sProp 𝕄 := iprop(dutyTok xferG (sendAt c) 0 () ∗ dutyTok xferG (recvAt c) 0 ())

def G (c : Dev nD) : sProp 𝕄 :=
  iprop((bigSep Finset.univ fun k : Fin 2 => roundState xferG (sched m) (cellAt (c, k)) 0)
    ∗ (bigSep Finset.univ fun k : Fin 2 => iprop(atPos xferG (cellAt (c, k)) 0 ∅ 0 ∗ reached xferG (cellAt (c, k)) 0)) ∗ dealt c)

omit [FloatOps F] in
theorem bigSep_two (Φ : Fin 2 → sProp 𝕄) : bigSep Finset.univ Φ = iprop(Φ 0 ∗ Φ 1) := bigSep_univ_eq_bigSepL [0, 1] (by decide) (by decide) Φ

omit [FloatOps F] in
theorem fund_cells : BI.own (xferG (initOf xferCells xferToks)) ⊢ (|==> bigSep Finset.univ (G m) : sProp 𝕄) := by
  have hX (Φ : GSem nD τ sig → sProp 𝕄) : bigSep xferCells Φ = bigSep Finset.univ fun c : Dev nD => bigSep Finset.univ fun k : Fin 2 => Φ (cellAt (c, k)) := by
    unfold xferCells; rw [bigSep_map, bigSep_univ_prod]; rfl
  have hT : bigSep xferToks (fun x => (dutyTok xferG x.1 x.2.1 x.2.2 : sProp 𝕄)) = bigSep Finset.univ fun c : Dev nD => dealt c := by
    unfold xferToks; rw [bigSep_map, bigSep_univ_prod]
    exact bigSep_congr fun c _ => by unfold dealt; rw [bigSep_two]; rfl
  iintro HX
  imod (Rounds.fund xferG (sched m) xferCells xferToks) $$ HX with ⟨Hst, Hr, Hat, Htok⟩
  imodintro
  ihave Hst' := (Entails.of_eq (hX fun g => roundState xferG (sched m) g 0)) $$ Hst
  ihave Hat' := (Entails.of_eq (hX fun g => atPos xferG g 0 ∅ 0)) $$ Hat
  ihave Hr' := (Entails.of_eq (hX fun g => reached xferG g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's scoped semaphores are the two of the transfers. -/
theorem scopedSems_eq (c : Dev nD) : (scopedSems0 (c : Thread nD τ) : sProp 𝕄) = bigSep Finset.univ fun k : Fin 2 => semVal (cellAt (c, k)) 0 := by
  rw [bigSep_two]
  exact (scopedSems0_tc c).trans (bigSep_eq_bigSepL_of_eq [xsem 0, xsem 1] (by decide) (by decide) _)

omit [FloatOps F] in
theorem scopedBufs_eq (c : Dev nD) : (scopedBufs (c : Thread nD τ) : sProp 𝕄) = BI.emp :=
  (scopedBufs_tc c).trans (bigSep_eq_bigSepL_of_eq [] (by decide) (by decide) _)

omit [FloatOps F] in
theorem unscopedBufs_eq (c : Dev nD) : (unscopedBufs c (fun b => m ((c : Thread nD τ).loc b)) : sProp 𝕄)
    = iprop(partPts m c ∗ outPts c (m ((c : Thread nD τ).loc main_v1))) := by
  rw [partPts_eq, outPts_eq]
  exact bigSep_eq_bigSepL_of_eq [main_arg0, main_v1] (by decide) (by decide) _

omit [FloatOps F] in
theorem core_alloc (c : Dev nD) :
    iprop(scopedSems0 (c : Thread nD τ) ∗ G m c)
      ⊢ |={Set.univ}=> iprop((bigSep Finset.univ fun k => iprop(∃ κ : ℕ, cellInv xferG (sched m) κ (cellAt (c, k))))
          ∗ (bigSep Finset.univ fun k => iprop(atPos xferG (cellAt (c, k)) 0 ∅ 0 ∗ reached xferG (cellAt (c, k)) 0)) ∗ dealt c) := by
  unfold G
  rw [scopedSems_eq]
  iintro ⟨Hv, Hst, Hat, Htok⟩
  imod (show iprop((bigSep Finset.univ fun k : Fin 2 => semVal (cellAt (c, k)) 0) ∗ bigSep Finset.univ fun k : Fin 2 => roundState xferG (sched m) (cellAt (c, k)) 0)
      ⊢ (|={Set.univ}=> bigSep Finset.univ fun k => iprop(∃ κ : ℕ, cellInv xferG (sched m) κ (cellAt (c, k))) : sProp 𝕄) from by
        rw [← bigSep_sep']
        exact (bigSep_mono fun k _ => (Rounds.body_intro xferG (sched m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and its first round. -/
def everyCell (K : Dev nD × Fin 2 → ℕ) : sProp 𝕄 :=
  iprop((bigSep Finset.univ fun ck : Dev nD × Fin 2 => cellInv xferG (sched m) (K ck) (cellAt ck))
    ∗ bigSep Finset.univ fun ck : Dev nD × Fin 2 => reached xferG (cellAt ck) 0)
instance everyCell_persistent (K : Dev nD × Fin 2 → ℕ) : BI.Persistent (everyCell m K) := by unfold everyCell; infer_instance

omit [FloatOps F] in
theorem inv_of_every (K : Dev nD × Fin 2 → ℕ) (ck : Dev nD × Fin 2) :
    (bigSep Finset.univ fun ck : Dev nD × Fin 2 => (cellInv xferG (sched m) (K ck) (cellAt ck) : sProp 𝕄)) ⊢ cellInv xferG (sched m) (K ck) (cellAt ck) :=
  bigSep_elim (Finset.mem_univ ck)
omit [FloatOps F] in
theorem reached_of_every (ck : Dev nD × Fin 2) :
    (bigSep Finset.univ fun ck : Dev nD × Fin 2 => (reached xferG (cellAt ck) 0 : sProp 𝕄)) ⊢ reached xferG (cellAt ck) 0 :=
  bigSep_elim (Finset.mem_univ ck)

omit [FloatOps F] in
theorem ghost_of_every (K : Dev nD × Fin 2 → ℕ) (c : Dev nD) : iprop(everyCell m K ∗ tickets c) ⊢ iprop(∃ K, records m K c ∗ tickets c) := by
  unfold everyCell records
  iintro ⟨⟨#HI, #HR⟩, Ht⟩
  iexists K
  isplitr
  · isplitr; · iapply (inv_of_every m K (c, 0)); iexact HI
    isplitr; · iapply (inv_of_every m K (c, 1)); iexact HI
    isplitr; · iapply (inv_of_every m K (sib c, 1)); iexact HI
    isplitr; · iapply (reached_of_every (F := F) (c, 0)); iexact HR
    iapply (reached_of_every (F := F) (sib c, 1)); iexact HR
  iexact Ht

omit [FloatOps F] in
/-- Positions and tokens, the receive tokens exchanged. -/
theorem tickets_around :
    iprop((bigSep Finset.univ fun c : Dev nD => bigSep Finset.univ fun k : Fin 2 => (atPos xferG (cellAt (c, k)) 0 ∅ 0 : sProp 𝕄))
        ∗ bigSep Finset.univ fun c : Dev nD => (dealt c : sProp 𝕄))
      ⊢ bigSep Finset.univ fun c : Dev nD => tickets c := by
  unfold dealt tickets
  rw [bigSep_congr (s := Finset.univ) (fun (c : Dev nD) _ => bigSep_two (fun k : Fin 2 => (atPos xferG (cellAt (c, k)) 0 ∅ 0 : sProp 𝕄)))]
  simp only [bigSep_sep']
  rw [bigSep_univ_equiv exchange (fun c : Dev nD => (dutyTok xferG (recvAt c) 0 () : sProp 𝕄))]
  iintro ⟨⟨H0, H1⟩, HS, HV⟩
  isplitl [H0]; · iexact H0
  isplitl [H1]; · iexact H1
  isplitl [HS]; · iexact HS
  iexact HV

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv xferG (sched m) κ (cellAt (c, k))))
          ∗ (bigSep Finset.univ fun k => iprop(atPos xferG (cellAt (c, k)) 0 ∅ 0 ∗ reached xferG (cellAt (c, k)) 0)) ∗ dealt c) : sProp 𝕄)
      ⊢ bigSep Finset.univ fun c : Dev nD => iprop(∃ K, records m K c ∗ tickets c) := by
  rw [bigSep_sep', bigSep_sep', ← bigSep_univ_prod (fun ck : Dev nD × Fin 2 => iprop(∃ κ : ℕ, cellInv xferG (sched m) κ (cellAt ck))),
    bigSep_congr (s := Finset.univ) (fun (c : Dev nD) _ => bigSep_sep' Finset.univ (fun k : Fin 2 => (atPos xferG (cellAt (c, k)) 0 ∅ 0 : sProp 𝕄)) (fun k => reached xferG (cellAt (c, k)) 0)),
    bigSep_sep', ← bigSep_univ_prod (fun ck : Dev nD × Fin 2 => (reached xferG (cellAt ck) 0 : sProp 𝕄))]
  iintro ⟨HI, ⟨Hat, #HR⟩, Htok⟩
  ihave HK := (BI.bigSep_exists_pi Finset.univ (fun (ck : Dev nD × Fin 2) (κ : ℕ) => (cellInv xferG (sched m) κ (cellAt ck) : sProp 𝕄))) $$ HI
  icases HK with ⟨%K, #HI⟩
  ihave Htk := (tickets_around (F := F)) $$ [Hat Htok]
  · isplitl [Hat] <;> iassumption
  iapply (with_persistent (R := everyCell m K) fun c _ => ghost_of_every m K c)
  isplitr
  · unfold everyCell; isplitl; · iexact HI
    iexact HR
  · iexact Htk

/-! ## The credit of the receive semaphores -/

theorem owed_recv (d c : Dev nD) : owed d (recvAt c) () = if d = sib c then N else 0 := by
  unfold owed
  rw [tallyAt_apply]
  by_cases h : d = sib c
  · subst h; rw [sib_sib, if_pos ⟨rfl, rfl⟩, if_pos rfl]
  · rw [if_neg h, if_neg]
    rintro ⟨h1, _⟩
    have h2 : c = sib d := congrArg (fun g : GSem nD τ sig => g.1.1) h1
    exact h (by rw [h2, sib_sib])

theorem launch_recv (c : Dev nD) :
    tallyOn (recvAt c) (launchCredit (Pipeline.owing owed) 0 (recvAt c)) = (tallyAt (recvAt c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (sib c) fun _ => N,
    if_pos (Finset.mem_univ _)]

omit [FloatOps F] in
theorem cred_recv (c : Dev nD) : (Pipeline.launchCred owed c : sProp 𝕄) ⊢ cred (tallyAt (recvAt c) () N) := by
  unfold Pipeline.launchCred
  rw [← launch_recv]
  exact bigSep_elim (Φ := fun sm : SemLoc sig => cred (tallyOn ((c : Thread nD τ), sm) (launchCredit (Pipeline.owing owed) 0 ((c : Thread nD τ), sm)))) (Finset.mem_univ (xsem 1))

/-! ## Before and after @main -/

def pre (c : Dev nD) : sProp 𝕄 := iprop((∃ K, before m K c) ∗ owes (c : Thread nD τ) (owed c) ∅ ∗ scopedBufs (c : Thread nD τ))
def fin (c : Dev nD) : sProp 𝕄 := iprop((partPts m c ∗ outPts c (theirs m c)) ∗ scopedSems0 (c : Thread nD τ))

omit [FloatOps F] in
/-- What one device is launched with, sorted. -/
theorem core_holds (c : Dev nD) :
    coreInit (Ix := Unit) (Name := ℕ) (U := UU) (Lvl := ℕ) (Pipeline.owing owed) 0 (⟨m, fun _ => 0, ρ⟩ : MemSt nD τ sig (Elt F)) (c : Thread nD τ)
      ⊢ iprop(scopedBufs (c : Thread nD τ) ∗ scopedSems0 (c : Thread nD τ) ∗ partPts m c ∗ outPts c (m ((c : Thread nD τ).loc main_v1))
          ∗ owes (c : Thread nD τ) (owed c) ∅ ∗ cred (tallyAt (recvAt c) () N)) :=
  (Pipeline.coreInit_boundary_owing owed m ρ c).trans (by
    unfold boundary
    iintro ⟨⟨Hsc, Hss, -⟩, Hub, -, HL, -, -, Hcr⟩
    ihave Hc := (cred_recv (F := F) c) $$ Hcr
    ihave Hub' := (Entails.of_eq (unscopedBufs_eq m c)) $$ Hub
    icases Hub' with ⟨Hp, Ho⟩
    isplitl [Hsc]; · iexact Hsc
    isplitl [Hss]; · iexact Hss
    isplitl [Hp]; · iexact Hp
    isplitl [Ho]; · iexact Ho
    isplitl [HL] <;> iassumption)

omit [FloatOps F] in
theorem cores_hold :
    (bigSep Finset.univ fun d : Dev nD =>
        coreInit (Ix := Unit) (Name := ℕ) (U := UU) (Lvl := ℕ) (Pipeline.owing owed) 0 (⟨m, fun _ => 0, ρ⟩ : MemSt nD τ sig (Elt F)) (d : Thread nD τ))
      ⊢ iprop((bigSep Finset.univ fun c : Dev nD => scopedBufs (c : Thread nD τ)) ∗ (bigSep Finset.univ fun c : Dev nD => scopedSems0 (c : Thread nD τ))
          ∗ (bigSep Finset.univ fun c : Dev nD => partPts m c) ∗ (bigSep Finset.univ fun c : Dev nD => outPts c (m ((c : Thread nD τ).loc main_v1)))
          ∗ (bigSep Finset.univ fun c : Dev nD => owes (c : Thread nD τ) (owed c) ∅)
          ∗ (bigSep Finset.univ fun c : Dev nD => cred (tallyAt (recvAt c) () N)) : sProp 𝕄) := by
  refine (bigSep_mono fun c _ => core_holds m ρ c).trans ?_
  simp only [bigSep_sep']
  exact BI.Entails.refl _

omit [FloatOps F] in
theorem launch_holds :
    iprop((bigSep Finset.univ fun d : Dev nD =>
        coreInit (Ix := Unit) (Name := ℕ) (U := UU) (Lvl := ℕ) (Pipeline.owing owed) 0 (⟨m, fun _ => 0, ρ⟩ : MemSt nD τ sig (Elt F)) (d : Thread nD τ)) ∗ ownU u₀)
      ⊢ (|={Set.univ}=> ∃ _x : Unit, iprop(bigSep Finset.univ (pre m) ∗ emp) : sProp 𝕄) := by
  unfold u₀
  iintro ⟨Hcores, Hu⟩
  ihave Hc := (cores_hold m ρ) $$ Hcores
  icases Hc with ⟨Hsc, Hss, Hp, Ho, HL, Hcr⟩
  ihave H := (ownU_pair _ _) $$ Hu
  icases H with ⟨-, HX⟩
  imod (fund_cells m) $$ HX with HG
  imod ((Entails.of_eq (bigSep_sep' Finset.univ (fun c : Dev nD => (scopedSems0 (c : Thread nD τ) : sProp 𝕄)) (G m)).symm).trans
    (((bigSep_mono fun c _ => core_alloc m c).trans (bigSep_fupd _ _)).trans (BI.fupd_mono (regroup m)))) $$ [Hss HG] with Hgh
  · isplitl [Hss] <;> iassumption
  ihave Ho' := (Entails.of_eq (bigSep_univ_equiv exchange (fun c : Dev nD => (outPts c (m ((c : Thread nD τ).loc main_v1)) : sProp 𝕄)))) $$ Ho
  imodintro
  iexists ()
  isplitl
  · have hone (c : Dev nD) : iprop((∃ K, records m K c ∗ tickets c) ∗ cred (tallyAt (recvAt c) () N) ∗ partPts m c
          ∗ outPts (sib c) (m ((sib c : Thread nD τ).loc main_v1)) ∗ owes (c : Thread nD τ) (owed c) ∅ ∗ scopedBufs (c : Thread nD τ)) ⊢ pre m c := by
      unfold pre before
      iintro ⟨⟨%K, Hr, Ht⟩, Hc, Hp, Ho, HL, Hsc⟩
      isplitl [Hr Ht Hc Hp Ho]
      · iexists K
        isplitl [Hr]; · iexact Hr
        isplitl [Ht]; · iexact Ht
        isplitl [Hc]; · iexact Hc
        isplitl [Hp] <;> iassumption
      isplitl [HL] <;> iassumption
    iapply (show (bigSep Finset.univ fun c : Dev nD => iprop((∃ K, records m K c ∗ tickets c) ∗ cred (tallyAt (recvAt c) () N) ∗ partPts m c
          ∗ outPts (sib c) (m ((sib c : Thread nD τ).loc main_v1)) ∗ owes (c : Thread nD τ) (owed c) ∅ ∗ scopedBufs (c : Thread nD τ)))
        ⊢ bigSep Finset.univ (pre m) from bigSep_mono fun c _ => hone c)
    simp only [bigSep_sep']
    isplitl [Hgh]; · iexact Hgh
    isplitl [Hcr]; · iexact Hcr
    isplitl [Hp]; · iexact Hp
    isplitl [Ho']; · iexact Ho'
    isplitl [HL] <;> iassumption
  · iempintro

/-! ## One device's run -/

theorem exit_holds (c : Dev nD) : (after m c : sProp 𝕄) ⊢ iprop((partPts m c ∗ outPts c (theirs m c)) ∗ scopedSems0 (c : Thread nD τ) ∗ scopedBufs (c : Thread nD τ)) := by
  rw [scopedSems_eq, scopedBufs_eq, bigSep_two]
  unfold after
  iintro ⟨H, Hs, Hr⟩
  isplitl [H]; · iexact H
  isplitl [Hs Hr]
  · isplitl [Hs] <;> iassumption
  iempintro

theorem bufs_in (c : Dev nD) : (scopedBufs (c : Thread nD τ) : sProp 𝕄) ⊢ iprop(Dat.staging cfg0 c ∗ BI.emp) := by
  rw [scopedBufs_eq]
  show (BI.emp : sProp 𝕄) ⊢ iprop(BI.emp ∗ BI.emp)
  exact (sep_emp (PROP := sProp 𝕄)).2

theorem entry_holds (c : Dev nD) :
    (owes (c : Thread nD τ) (owed c) ∅ : sProp 𝕄) ⊢ Pipeline.EntryPre cfgs (dats (F := F) m) () winG (fun _ => 0) 0 c := by
  show (owes (c : Thread nD τ) (owed c) ∅ : sProp 𝕄) ⊢ iprop(BI.emp ∗ (dats (F := F) m 0 c).owesAt () 0 ∗ BI.emp ∗ BI.emp ∗ BI.emp)
  unfold Dat.owesAt Pipeline.owesWithin
  iintro HL
  isplitr; · iempintro
  isplitl
  · iexists ∅; isplitr; · ipureintro; rw [Finset.coe_empty]; exact Set.empty_subset _
    iexact HL
  isplitr; · iempintro
  isplitr <;> iempintro

theorem exit_owes (c : Dev nD) :
    (Pipeline.EntryPost cfgs (dats (F := F) m) () 0 c : sProp 𝕄) ⊢ iprop(∃ W, owes (c : Thread nD τ) (0 : CellTallies nD τ sig Unit) W) := by
  show iprop(_ ∗ (dats (F := F) m 0 c).owesAt () (Fin.last cfg0.N)) ⊢ _
  unfold Dat.owesAt Pipeline.owesWithin
  iintro ⟨-, ⟨%W, -, HW⟩⟩
  iexists W; iexact HW

theorem start_holds (c : Dev nD) {P : sProp 𝕄} : iprop((∃ K, before m K c) ∗ P ∗ BI.emp) ⊢ (dats (F := F) m 0 c).Φ 0 := by
  show iprop((∃ K, before m K c) ∗ P ∗ BI.emp) ⊢ iprop(∃ K, before m K c)
  iintro ⟨H, -, -⟩; iexact H

theorem end_holds (c : Dev nD) {P R S : sProp 𝕄} : iprop((dats (F := F) m 0 c).Φ (Fin.last cfg0.N) ∗ P ∗ R ∗ S)
    ⊢ iprop((partPts m c ∗ outPts c (theirs m c)) ∗ scopedSems0 (c : Thread nD τ) ∗ scopedBufs (c : Thread nD τ)) := by
  show iprop(after m c ∗ P ∗ R ∗ S) ⊢ _
  iintro ⟨H, -, -, -⟩; iapply (exit_holds m c); iexact H

theorem main_eq (c : Dev nD) : main (F := F) c = .op (.customCall (Pipeline.entry 0) ()) fun _ => .ret ⟨⟩ := rfl

theorem region_runs (c : Dev nD) {Q : PUnit → sProp 𝕄} :
    iprop(Pipeline.EntryPre (Pipeline.pin (pcfgs (F := F)) fun p => (cfgs p).toPCfg_adm) (dats (F := F) m) () winG (fun _ => 0) 0 c
        ∗ Pipeline.prefHeld (pcfgs (F := F) 0).pre c (fun k => k.elim0) ((cfgs 0).toPCfg_adm (Val := Elt F)).1
        ∗ (∃ K, before m K c) ∗ BI.emp ∗ scopedBufs (c : Thread nD τ))
      ⊢ iprop(((Pipeline.EntryPost (Pipeline.pin (pcfgs (F := F)) fun p => (cfgs p).toPCfg_adm) (dats (F := F) m) () 0 c ∗ (partPts m c ∗ outPts c (theirs m c)) ∗ scopedSems0 (c : Thread nD τ) ∗ scopedBufs (c : Thread nD τ))
            -∗ wp frame (wpE (Pipeline.defs (pcfgs (F := F)) (defs₀ (F := F))) (Variants.lift 𝒱₀) (c : Thread nD τ) none) Set.univ (.ret ⟨⟩) Q)
          -∗ wp frame (wpE (Pipeline.defs (pcfgs (F := F)) (defs₀ (F := F))) (Variants.lift 𝒱₀) (c : Thread nD τ) none) Set.univ (.op (.customCall (Pipeline.entry 0) ()) fun _ => .ret ⟨⟩) Q) := by
  have h := Pipeline.wp_customCall_entry_frame (pcfgs (F := F)) (fun p => (cfgs p).toPCfg_adm) (dats (F := F) m) () winG (fun _ => 0) cellOf_inj 0
      (defs₀ (F := F)) 𝒱₀ (fun k => k.elim0) c Set.univ (fun _ _ => Set.mem_univ _) (body_obligation m c) (fun w => w.elim0) none (fun u h => nomatch h)
      (X := iprop(∃ K, before m K c)) (Y := iprop(partPts m c ∗ outPts c (theirs m c))) (R := BI.emp) (I := BI.emp)
      (bufs_in c) (start_holds m c) (end_holds m c) (k := fun _ => .ret ⟨⟩) (Q := Q)
  exact h

theorem main_runs (c : Dev nD) :
    pre m c ⊢ wp frame (wpE (defs (F := F)) (Variants.lift 𝒱₀) (c : Thread nD τ) none) Set.univ (main c) (fun _ => post (liftTc (fin m) BI.emp) (c : Thread nD τ)) := by
  rw [main_eq]
  unfold defs pre
  iintro ⟨HX, HL, Hsc⟩
  iapply (region_runs m c) $$ [HX HL Hsc]
  · isplitl [HL]; · iapply (entry_holds m c); iexact HL
    isplitr; · iempintro
    isplitl [HX]; · iexact HX
    isplitr; · iempintro
    iexact Hsc
  iintro ⟨Hpost, HY, Hss, -⟩
  rw [wp_ret]; imodintro
  unfold post; simp only [liftTc_tc, fin]
  isplitr [Hpost]
  · isplitl [HY] <;> iassumption
  · iapply (exit_owes m c); iexact Hpost

/-! ## The run -/

omit [FloatOps F] in
theorem fin_reads (c : Dev nD) (s' : Phys nD τ sig (Elt F)) : iprop(fin m c ∗ SI s') ⊢ |={Set.univ}=>
    iprop(⌜(s'.mem.mem ((c : Thread nD τ).loc main_v1) = theirs m c ∧ s'.mem.mem ((c : Thread nD τ).loc main_arg0) = m ((c : Thread nD τ).loc main_arg0))
      ∧ ∀ sm : SemLoc sig, sm.isScoped .tc = true → s'.mem.sem ((c : Thread nD τ), sm) = 0⌝ ∗ SI s') := by
  unfold fin
  rw [partPts_eq, outPts_eq]
  iintro ⟨⟨⟨Hp, Ho⟩, Hss⟩, HSI⟩
  ihave %hz := (tcScoped_read_pers c s') $$ [Hss HSI]
  · isplitl [Hss] <;> iassumption
  icombine HSI Hp gives %hp
  icombine HSI Ho gives %ho
  imodintro
  isplitr
  · ipureintro; exact ⟨⟨Buf.eq_of_forall_mem_univ ho, Buf.eq_of_forall_mem_univ hp⟩, hz⟩
  · iexact HSI

/-- From any memory with counters at zero, for any float values: every run ends, each device's result is its sibling's
    argument, the arguments are unchanged and every counter is zero. -/
theorem run_main : θ_run defs (onTc (τ := τ) (main (F := F))) ⟨m, fun _ => 0, ρ⟩
    (fun r => (∀ c : Dev nD, r.2.mem ((c : Thread nD τ).loc main_v1) = theirs m c ∧ r.2.mem ((c : Thread nD τ).loc main_arg0) = m ((c : Thread nD τ).loc main_arg0))
      ∧ r.2.sem = fun _ => 0) := by
  refine (θ_run defs _ _).mono (Q := fun r => (∀ c : Dev nD,
      (r.2.mem ((c : Thread nD τ).loc main_v1) = theirs m c ∧ r.2.mem ((c : Thread nD τ).loc main_arg0) = m ((c : Thread nD τ).loc main_arg0))
      ∧ ∀ sm : SemLoc sig, sm.isScoped .tc = true → r.2.sem ((c : Thread nD τ), sm) = 0)
      ∧ ∀ g : GSem nD τ sig, g.1.2 ≠ .tc → r.2.sem g = 0)
    (fun r h => ⟨fun c => (h.1 c).1, sem_eq_zero_of_scoped (by decide) (sems_of_reads (fun c => (h.1 c).2) h.2)⟩)
    (adequate_tpu defs _ _ _ (reflect_intro_fupd_tc_sems (X := Unit) (Variants.lift 𝒱₀) (Pipeline.owing owed) 0 (noBookings fun _ => le_rfl)
      (Pipeline.owing_of_ne owed) u₀ (fun _ => pre m) (fun _ => fin m) (fun _ => iprop(emp)) Set.univ (launch_holds m ρ) (fun _ c => main_runs m c) fun _ => ?_))
  iintro ⟨H, -, Hsc⟩ %s' HSI
  ihave %hsc := (scSems_read_zero m ρ s') $$ [Hsc HSI]
  · isplitl [Hsc] <;> iassumption
  imod (posts_fupd Finset.univ (fin_reads m) s') $$ [H HSI] with %h
  · isplitl [H] <;> iassumption
  imodintro
  ipureintro
  exact ⟨fun c => h c (Finset.mem_univ c), hsc⟩

end Calls.Swap

end
-- ==== Proof.Calls.SwapClaim.lean ====
module

public import proofs.«01_k».proof.Proof.Calls.SwapLaunch
public import Idealize.ShloMosaic.Lib.Pipeline.Value
public import Idealize.ShloMosaic.Lib.Layout

@[expose] public section

noncomputable section

/-! The swap between siblings: the claims. On the whole array the exchange of two blocks of rows is the array with its two
halves the other way round. -/

namespace Calls.Swap

open Cert.Reference15Ideal Cert.Reference15Ideal.Gen
open Idealize.ShloMosaic Idealize.SL.Sem

/-- The halves of the rows, exchanged. -/
def halves (v : FVec Ideal S4096x1024 .f32) : FVec Ideal S4096x1024 .f32 :=
  concatenate S4096x1024 0
    [⟨S2048x1024, (extractStridedSlice S2048x1024 ![2048, 0] v slices_S4096x1024_S2048x1024_2048_0)⟩,
     ⟨S2048x1024, (extractStridedSlice S2048x1024 ![0, 0] v slices_S4096x1024_S2048x1024_0_0)⟩]
    concatenates_S2048x1024_S2048x1024_S4096x1024_d0

theorem tiles : Layout.Tiles ⟨2, ![2048, 1024]⟩ ⟨2, ![4096, 1024]⟩ 0 2 := by decide

/-- The first block of the exchanged array is the second half. -/
theorem block_zero (v : FVec Ideal S4096x1024 .f32) (i : S2048x1024.Idx) : halves v (tiles.idx 0 i) = v (tiles.idx 1 i) := by
  unfold halves
  rw [concatenate_pair_apply_left (t := S4096x1024) (s₁ := S2048x1024) (s₂ := S2048x1024) 0 _ _ _ (tiles.idx 0 i) rfl i (fun b => by
    match b with
    | ⟨0, _⟩ => exact (by rw [(Layout.idx_rows_val tiles 0 i).1]; simp : (i 0).val = (tiles.idx 0 i 0).val)
    | ⟨1, _⟩ => exact (Layout.idx_rows_val tiles 0 i).2.symm)]
  exact extractStridedSlice_apply _ v _ i (tiles.idx 1 i) fun a => by
    match a with
    | ⟨0, _⟩ => exact ((Layout.idx_rows_val tiles 1 i).1.trans (by simp) : (tiles.idx 1 i 0).val = 2048 + (i 0).val)
    | ⟨1, _⟩ => exact ((Layout.idx_rows_val tiles 1 i).2.trans (by simp) : (tiles.idx 1 i 1).val = 0 + (i 1).val)

/-- The second block of the exchanged array is the first half. -/
theorem block_one (v : FVec Ideal S4096x1024 .f32) (i : S2048x1024.Idx) : halves v (tiles.idx 1 i) = v (tiles.idx 0 i) := by
  unfold halves
  rw [concatenate_pair_apply_right (t := S4096x1024) (s₁ := S2048x1024) (s₂ := S2048x1024) 0 _ _ _ (tiles.idx 1 i) rfl rfl i (fun b hb => by
    match b with
    | ⟨0, _⟩ => exact absurd rfl hb
    | ⟨1, _⟩ => exact (Layout.idx_rows_val tiles 1 i).2.symm)
    (((Layout.idx_rows_val tiles 1 i).1.trans (by simp [Nat.add_comm])).symm : (i 0).val + 2048 = (tiles.idx 1 i 0).val)]
  exact extractStridedSlice_apply _ v _ i (tiles.idx 0 i) fun a => by
    match a with
    | ⟨0, _⟩ => exact ((Layout.idx_rows_val tiles 0 i).1.trans (by simp) : (tiles.idx 0 i 0).val = 0 + (i 0).val)
    | ⟨1, _⟩ => exact ((Layout.idx_rows_val tiles 0 i).2.trans (by simp) : (tiles.idx 0 i 1).val = 0 + (i 1).val)

/-- A device's block of the exchanged array is its sibling's block of the array. -/
theorem block_sib (c : Dev Cert.Kernel15Ideal.nD) (v : FVec Ideal S4096x1024 .f32) :
    Layout.block ⟨2, ![2048, 1024]⟩ ⟨2, ![4096, 1024]⟩ 0 2 (sib c) v tiles = Layout.block ⟨2, ![2048, 1024]⟩ ⟨2, ![4096, 1024]⟩ 0 2 c (halves v) tiles := by
  funext i
  rw [Layout.block_apply, Layout.block_apply]
  match c with
  | ⟨0, _⟩ => exact (block_zero v i).symm
  | ⟨1, _⟩ => exact (block_one v i).symm

theorem agree : @Cert.algebraic_Kernel15Ideal_Reference15Ideal Cert.Kernel15Ideal.Gen.facts Cert.Reference15Ideal.Gen.facts :=
  fun m ρ m' ρ' _ ha => ⟨halves (m' (((0 : Dev nD).tc : Thread nD τ).loc main_arg0)),
    (θ_run Cert.Kernel15Ideal.defs _ _).mono (fun r h c => ⟨(h.1 c).1.trans ((ha (sib c)).trans (block_sib c _)), (h.1 c).2⟩) (run_main (F := Ideal) m ρ),
    (θ_run Cert.Reference15Ideal.defs _ _).mono (fun r h => ⟨(h 0).1, (h 0).2⟩) (Cert.Reference15Ideal.Value.run (F := Ideal) m' ρ')⟩

end Calls.Swap

namespace Calls

open Idealize.ShloMosaic Idealize.SL.Sem

/-- The run and the arguments, over any floats. -/
theorem swap_frame {F : FTy → Type} [FloatOps F] (m : (ℓ : Loc Cert.Kernel15Ideal.nD Cert.Kernel15Ideal.τ Cert.Kernel15Ideal.sig) → Buf (Elt F) ℓ) (g : Dev Cert.Kernel15Ideal.nD → PrngReg) :
    θ_run (Cert.Kernel15Ideal.defs (F := F)) (onTc (τ := Cert.Kernel15Ideal.τ) (Cert.Kernel15Ideal.main (F := F))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0) :=
  (θ_run Cert.Kernel15Ideal.defs _ _).mono (fun r h => ⟨fun c => (h.1 c).2, h.2⟩) (Swap.run_main (F := F) m g)

theorem same_15 : @Cert.quiescent_Kernel15 Cert.Kernel15.Gen.facts
    = type_of% (fun m ρ (_ : True) => swap_frame (F := Bits) m ρ) := by
  sl_kernel_rfl

theorem frame_kernel_15 : @Cert.quiescent_Kernel15 Cert.Kernel15.Gen.facts := by
  rw [same_15]
  exact fun m ρ _ => swap_frame (F := Bits) m ρ

theorem frame_kernel_ideal_15 : @Cert.quiescent_Kernel15Ideal Cert.Kernel15Ideal.Gen.facts := fun m ρ _ => swap_frame (F := Ideal) m ρ

theorem frame_reference_15 : @Cert.quiescent_Reference15Ideal Cert.Reference15Ideal.Gen.facts := fun m ρ _ =>
  (θ_run Cert.Reference15Ideal.defs _ _).mono (fun r h => ⟨fun c => (h c).2, sem_eq_zero_of_no_sems (by decide) r.2⟩)
    (Cert.Reference15Ideal.Value.run (F := Ideal) m ρ)

end Calls

end
-- ==== Proof.Calls.Adam.lean ====
module

public import proofs.«01_k».proof.Proof.Calls.Finite
public import Idealize.ShloMosaic.PureOps.Ideal

@[expose] public section

noncomputable section

/-! AdamW for one entry: the two moments and the step, on the extended reals. -/

namespace Calls.Adam

open Idealize.ShloMosaic

/-- The mean of the gradients after the gradient `g`. -/
def mean (m g : EReal) : EReal := Ideal.ofBits .f32 0x3F666666#32 * m + Ideal.ofBits .f32 0x3DCCCCCD#32 * g

/-- The mean of their squares. -/
def square (v g : EReal) : EReal := Ideal.ofBits .f32 0x3F7FBE77#32 * v + Ideal.ofBits .f32 0x3A83126F#32 * (g * g)

/-- The step of the weight `w`, from the two means after it. -/
def step (w m v : EReal) : EReal :=
  Ideal.ofBits .f32 0xBA83126F#32
    * (Ideal.div (Ideal.div m (Ideal.ofBits .f32 0x3F26BD02#32)) (Ideal.sqrt (Ideal.div v (Ideal.ofBits .f32 0x3C231ACC#32)) + Ideal.ofBits .f32 0x322BCC77#32)
      + Ideal.ofBits .f32 0x3C23D70A#32 * w)

theorem share_mean : Ideal.ofBits .f32 0x3F26BD02#32 = ((5463681 / 8388608 : ℝ) : EReal) := by
  simp [Ideal.ofBits, Ideal.ieee, -EReal.coe_mul]; norm_num

theorem share_square : Ideal.ofBits .f32 0x3C231ACC#32 = ((2672307 / 268435456 : ℝ) : EReal) := by
  simp [Ideal.ofBits, Ideal.ieee, -EReal.coe_mul]; norm_num

/-- The kernel multiplies by the reciprocal of what the gradients have contributed to their mean so far. -/
theorem div_mean (m : EReal) : m * ((8388608 / 5463681 : ℝ) : EReal) = Ideal.div m (Ideal.ofBits .f32 0x3F26BD02#32) := by
  rw [share_mean, Ideal.div_coe (by norm_num)]
  norm_num

theorem div_square (v : EReal) : v * ((268435456 / 2672307 : ℝ) : EReal) = Ideal.div v (Ideal.ofBits .f32 0x3C231ACC#32) := by
  rw [share_square, Ideal.div_coe (by norm_num)]
  norm_num

end Calls.Adam

end
-- ==== Proof.Calls.AdamInA.lean ====
module

public import proofs.«01_k».proof.Defs
public import proofs.«01_k».proof.Proof.Calls.Adam
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

/-! AdamW for `w_in_a`: 1024 rows of the summed gradients from row 0 on, 4 blocks of 256. -/

namespace Calls.AdamInA

open Cert.Kernel16Ideal Cert.Kernel16Ideal.Gen
open Idealize.ShloMosaic hiding ix0 ix1 ix2 ix3 ix4 ix5
open Idealize.ShloMosaic.TcCoe
open Idealize.ShloMosaic.ValueIdx
open Idealize.ShloMosaic.Pipeline (Dat)

theorem m_scale : Named.named (F := Ideal) κ "m_scale" (φ := .f32) 0x3FC48605#32 = ((8388608 / 5463681 : ℝ) : EReal) :=
  IdealRules.named_const.ideal_named_scalar _ _ _ _ rfl

theorem v_scale : Named.named (F := Ideal) κ "v_scale" (φ := .f32) 0x42C8E6D3#32 = ((268435456 / 2672307 : ℝ) : EReal) :=
  IdealRules.named_const.ideal_named_scalar _ _ _ _ rfl

/-! ## What a point stores, entry by entry -/

theorem mean_at (a b f : Vec Ideal S256x1024 .f32) (i : S256x1024.Idx) : k0_pay3 a b f i = Adam.mean (f i) (a i + b i) := by
  unfold k0_pay3 k0_pay2
  pointwise
  rfl

theorem square_at (a b f : Vec Ideal S256x1024 .f32) (i : S256x1024.Idx) : k0_pay4 a b f i = Adam.square (f i) (a i + b i) := by
  unfold k0_pay4 k0_pay2
  pointwise
  rfl

theorem step_at (a b w f v : Vec Ideal S256x1024 .f32) (i : S256x1024.Idx) :
    k0_pay1 (k0_pay5 a b f v w) (Scalar.ofBits .f32 0xBA83126F#32) i = Adam.step (w i) (Adam.mean (f i) (a i + b i)) (Adam.square (v i) (a i + b i)) := by
  unfold k0_pay1 k0_pay5
  pointwise
  rw [m_scale, v_scale, Adam.div_mean, Adam.div_square, mean_at, square_at]
  rfl

variable (m : (ℓ : Loc nD τ sig) → Buf (Elt Ideal) ℓ) (c : Dev nD)

/-! ## The arrays the call returns -/

theorem part_lt (r : Fin 1024) : 0 + r.val < 2048 := by omega

/-- The rows of the two siblings' sum that the call takes. -/
abbrev sum (a b : Vec Ideal S2048x1024 .f32) : Vec Ideal S1024x1024 .f32 := fun y =>
  (a (ix2 (⟨0 + (y 0).val, part_lt (y 0)⟩ : Fin 2048) (y 1)) : EReal) + b (ix2 (⟨0 + (y 0).val, part_lt (y 0)⟩ : Fin 2048) (y 1))

abbrev total : Vec Ideal S1024x1024 .f32 := sum (m ((c.tc : Thread nD τ).loc main_arg0)) (m ((c.tc : Thread nD τ).loc main_arg1))

abbrev means : Vec Ideal S1024x1024 .f32 := fun y => Adam.mean (m ((c.tc : Thread nD τ).loc main_arg3) y) (total m c y)

abbrev squares : Vec Ideal S1024x1024 .f32 := fun y => Adam.square (m ((c.tc : Thread nD τ).loc main_arg4) y) (total m c y)

abbrev steps : Vec Ideal S1024x1024 .f32 := fun y => Adam.step (m ((c.tc : Thread nD τ).loc main_arg2) y) (means m c y) (squares m c y)

/-! ## Where the blocks lie -/

theorem place : ∀ t : Fin grid0.N, win0_0.index t = ![0 + t.val, 0] ∧ win0_1.index t = ![0 + t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] := by
  decide +kernel

theorem row_lt (t : Fin cfg0.N) (r : Fin 256) : t.val * 256 + r.val < 1024 := by
  have hN : cfg0.N = 4 := N_0
  omega

/-- The array's row that point `t` has as its row `r`. -/
abbrev row (t : Fin cfg0.N) (r : Fin 256) : Fin 1024 := ⟨t.val * 256 + r.val, row_lt t r⟩

theorem mine_at (t : Fin cfg0.N) (f : Vec Ideal S2048x1024 .f32) (r : Fin 256) (n : Fin 1024) : ((cfg0.win 0).blk t).view.read (Elt Ideal) f (ix2 r n)
    = f (ix2 (⟨0 + (row t r).val, part_lt (row t r)⟩ : Fin 2048) n) := by
  have e : (0 + t.val) * 256 + r.val = 0 + (t.val * 256 + r.val) := by omega
  blk_ext [show (cfg0.win 0).index t = _ from (place t).1, e]

theorem theirs_at (t : Fin cfg0.N) (f : Vec Ideal S2048x1024 .f32) (r : Fin 256) (n : Fin 1024) : ((cfg0.win 1).blk t).view.read (Elt Ideal) f (ix2 r n)
    = f (ix2 (⟨0 + (row t r).val, part_lt (row t r)⟩ : Fin 2048) n) := by
  have e : (0 + t.val) * 256 + r.val = 0 + (t.val * 256 + r.val) := by omega
  blk_ext [show (cfg0.win 1).index t = _ from (place t).2.1, e]

theorem w_at (t : Fin cfg0.N) (f : Vec Ideal S1024x1024 .f32) (r : Fin 256) (n : Fin 1024) : ((cfg0.win 2).blk t).view.read (Elt Ideal) f (ix2 r n) = f (ix2 (row t r) n) := by
  blk_ext [show (cfg0.win 2).index t = _ from (place t).2.2.1]

theorem m_at (t : Fin cfg0.N) (f : Vec Ideal S1024x1024 .f32) (r : Fin 256) (n : Fin 1024) : ((cfg0.win 3).blk t).view.read (Elt Ideal) f (ix2 r n) = f (ix2 (row t r) n) := by
  blk_ext [show (cfg0.win 3).index t = _ from (place t).2.2.2.1]

theorem v_at (t : Fin cfg0.N) (f : Vec Ideal S1024x1024 .f32) (r : Fin 256) (n : Fin 1024) : ((cfg0.win 4).blk t).view.read (Elt Ideal) f (ix2 r n) = f (ix2 (row t r) n) := by
  blk_ext [show (cfg0.win 4).index t = _ from (place t).2.2.2.2.1]

theorem total_place (t : Fin cfg0.N) (r : Fin 256) (n : Fin 1024) : ((cfg0.win 5).blk t).view.emb (ix2 r n) = (ix2 (row t r) n : S1024x1024.Idx) := by
  blk_ext [show (cfg0.win 5).index t = _ from (place t).2.2.2.2.2.1]

theorem step_place (t : Fin cfg0.N) (r : Fin 256) (n : Fin 1024) : ((cfg0.win 6).blk t).view.emb (ix2 r n) = (ix2 (row t r) n : S1024x1024.Idx) := by
  blk_ext [show (cfg0.win 6).index t = _ from (place t).2.2.2.2.2.2.1]

theorem mean_place (t : Fin cfg0.N) (r : Fin 256) (n : Fin 1024) : ((cfg0.win 7).blk t).view.emb (ix2 r n) = (ix2 (row t r) n : S1024x1024.Idx) := by
  blk_ext [show (cfg0.win 7).index t = _ from (place t).2.2.2.2.2.2.2.1]

theorem square_place (t : Fin cfg0.N) (r : Fin 256) (n : Fin 1024) : ((cfg0.win 8).blk t).view.emb (ix2 r n) = (ix2 (row t r) n : S1024x1024.Idx) := by
  blk_ext [show (cfg0.win 8).index t = _ from (place t).2.2.2.2.2.2.2.2]

/-- The two parts' blocks. -/
abbrev blkMine (t : Fin cfg0.N) : Vec Ideal S256x1024 .f32 := iblk m c 0 t
abbrev blkTheirs (t : Fin cfg0.N) : Vec Ideal S256x1024 .f32 := iblk m c 1 t

theorem total_at (t : Fin cfg0.N) (r : Fin 256) (n : Fin 1024) : (blkMine m c t (ix2 r n) : EReal) + blkTheirs m c t (ix2 r n) = total m c (ix2 (row t r) n) :=
  congrArg₂ (fun p q : EReal => p + q) (mine_at t (V m c main_arg0) r n) (theirs_at t (V m c main_arg1) r n)

/-! ## The arrays after the last point -/

theorem final_total : (dats m 0 c).arrAt 5 cfg0.N = total m c := by
  refine (dats m 0 c).arrAt_eq_of_covers 5 _ (by decide +kernel) fun t hf y => ?_
  obtain ⟨r, n, rfl⟩ : ∃ (r : Fin 256) (n : Fin 1024), y = ix2 r n := ⟨_, _, ValueIdx.eq_ix2 y⟩
  rw [total_place]
  blk_simp
  rw [after0_5]
  frame_out
  exact total_at m c t r n

theorem final_step : (dats m 0 c).arrAt 6 cfg0.N = steps m c := by
  refine (dats m 0 c).arrAt_eq_of_covers 6 _ (by decide +kernel) fun t hf y => ?_
  obtain ⟨r, n, rfl⟩ : ∃ (r : Fin 256) (n : Fin 1024), y = ix2 r n := ⟨_, _, ValueIdx.eq_ix2 y⟩
  rw [step_place]
  blk_simp
  rw [after0_6]
  frame_out
  refine (step_at _ _ _ _ _ (ix2 r n)).trans ?_
  have e := total_at m c t r n
  exact congr (congrArg₂ Adam.step (w_at t (V m c main_arg2) r n) (congrArg₂ Adam.mean (m_at t (V m c main_arg3) r n) e)) (congrArg₂ Adam.square (v_at t (V m c main_arg4) r n) e)

theorem final_mean : (dats m 0 c).arrAt 7 cfg0.N = means m c := by
  refine (dats m 0 c).arrAt_eq_of_covers 7 _ (by decide +kernel) fun t hf y => ?_
  obtain ⟨r, n, rfl⟩ : ∃ (r : Fin 256) (n : Fin 1024), y = ix2 r n := ⟨_, _, ValueIdx.eq_ix2 y⟩
  rw [mean_place]
  blk_simp
  rw [after0_7]
  frame_out
  refine (mean_at _ _ _ (ix2 r n)).trans ?_
  exact congrArg₂ Adam.mean (m_at t (V m c main_arg3) r n) (total_at m c t r n)

theorem final_square : (dats m 0 c).arrAt 8 cfg0.N = squares m c := by
  refine (dats m 0 c).arrAt_eq_of_covers 8 _ (by decide +kernel) fun t hf y => ?_
  obtain ⟨r, n, rfl⟩ : ∃ (r : Fin 256) (n : Fin 1024), y = ix2 r n := ⟨_, _, ValueIdx.eq_ix2 y⟩
  rw [square_place]
  blk_simp
  rw [after0_8]
  frame_out
  refine (square_at _ _ _ (ix2 r n)).trans ?_
  exact congrArg₂ Adam.square (v_at t (V m c main_arg4) r n) (total_at m c t r n)

/-- The reference's rows of the sum. -/
theorem sum_at (a b : FVec Ideal Cert.Reference16Ideal.S2048x1024 .f32) (y : Cert.Reference16Ideal.S1024x1024.Idx) :
    extractStridedSlice Cert.Reference16Ideal.S1024x1024 ![0, 0] (addf a b) Cert.Reference16Ideal.Gen.slices_S2048x1024_S1024x1024_0_0 y = sum a b y := by
  obtain ⟨s, n, rfl⟩ : ∃ (s : Fin 1024) (n : Fin 1024), y = ix2 s n := ⟨_, _, ValueIdx.eq_ix2 y⟩
  pointwise
  simp only [ix2_eq_valueIdx]
  exact congrArg (fun i : Fin 2048 => a (ix2 i n) + b (ix2 i n)) (Fin.ext (Nat.zero_add _).symm)

open Idealize.SL.Sem

/-! ## The claims -/

theorem frame_kernel : @Cert.quiescent_Kernel16 Cert.Kernel16.Gen.facts := fun m ρ _ => Cert.Kernel16.Gen.frame (F := Bits) m ρ

theorem frame_kernel_ideal : @Cert.quiescent_Kernel16Ideal Cert.Kernel16Ideal.Gen.facts := fun m ρ _ => Cert.Kernel16Ideal.Gen.frame (F := Ideal) m ρ

theorem frame_reference : @Cert.quiescent_Reference16Ideal Cert.Reference16Ideal.Gen.facts := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem preserves : Cert.preserves_Kernel16_Kernel16Ideal :=
  ⟨IdealRules.named_const.statement κ "m_scale" .f32 0x3FC48605#32 ((8388608 / 5463681 : ℝ) : EReal) rfl,
    IdealRules.named_const.statement κ "v_scale" .f32 0x42C8E6D3#32 ((268435456 / 2672307 : ℝ) : EReal) rfl⟩

/-- The call returns the summed gradient, the step and the two means. -/
theorem agree : @Cert.algebraic_Kernel16Ideal_Reference16Ideal Cert.Kernel16Ideal.Gen.facts Cert.Reference16Ideal.Gen.facts :=
  fun m ρ m' ρ' _ ha => ⟨total m, steps m, means m, squares m,
    (θ_run Cert.Kernel16Ideal.defs _ _).mono (fun r h c => ⟨(h c).1.trans (final_total m c), (h c).2.1.trans (final_step m c),
      (h c).2.2.1.trans (final_mean m c), (h c).2.2.2.1.trans (final_square m c), (h c).2.2.2.2⟩) (Cert.Kernel16Ideal.Value.run_blocks (F := Ideal) m ρ),
    (θ_run Cert.Reference16Ideal.defs _ _).mono (fun r h c => by
      obtain ⟨a0, a1, a2, a3, a4⟩ := ha c
      have e := sum_at (m ((c.tc : Thread nD τ).loc main_arg0)) (m ((c.tc : Thread nD τ).loc main_arg1))
      refine ⟨(h c).1.trans ?_, (h c).2.1.trans ?_, (h c).2.2.1.trans ?_, (h c).2.2.2.1.trans ?_, (h c).2.2.2.2⟩
      · rw [a0, a1]
        exact funext e
      · rw [a0, a1, a2, a3, a4]
        funext y
        exact (congrArg (fun g : EReal => Adam.step (m ((c.tc : Thread nD τ).loc main_arg2) y) (Adam.mean (m ((c.tc : Thread nD τ).loc main_arg3) y) g) (Adam.square (m ((c.tc : Thread nD τ).loc main_arg4) y) g)) (e y))
      · rw [a0, a1, a3]
        funext y
        exact congrArg (Adam.mean (m ((c.tc : Thread nD τ).loc main_arg3) y)) (e y)
      · rw [a0, a1, a4]
        funext y
        exact congrArg (Adam.square (m ((c.tc : Thread nD τ).loc main_arg4) y)) (e y))
      (Cert.Reference16Ideal.Value.run (F := Ideal) m' ρ')⟩

end Calls.AdamInA

end
-- ==== Proof.Calls.AdamOutA.lean ====
module

public import proofs.«01_k».proof.Defs
public import proofs.«01_k».proof.Proof.Calls.Adam
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

/-! AdamW for `w_out_a`: 256 rows of the summed gradients from row 1024 on, 1 block of 256. -/

namespace Calls.AdamOutA

open Cert.Kernel17Ideal Cert.Kernel17Ideal.Gen
open Idealize.ShloMosaic hiding ix0 ix1 ix2 ix3 ix4 ix5
open Idealize.ShloMosaic.TcCoe
open Idealize.ShloMosaic.ValueIdx
open Idealize.ShloMosaic.Pipeline (Dat)

theorem m_scale : Named.named (F := Ideal) κ "m_scale" (φ := .f32) 0x3FC48605#32 = ((8388608 / 5463681 : ℝ) : EReal) :=
  IdealRules.named_const.ideal_named_scalar _ _ _ _ rfl

theorem v_scale : Named.named (F := Ideal) κ "v_scale" (φ := .f32) 0x42C8E6D3#32 = ((268435456 / 2672307 : ℝ) : EReal) :=
  IdealRules.named_const.ideal_named_scalar _ _ _ _ rfl

/-! ## What a point stores, entry by entry -/

theorem mean_at (a b f : Vec Ideal S256x1024 .f32) (i : S256x1024.Idx) : k0_pay3 a b f i = Adam.mean (f i) (a i + b i) := by
  unfold k0_pay3 k0_pay2
  pointwise
  rfl

theorem square_at (a b f : Vec Ideal S256x1024 .f32) (i : S256x1024.Idx) : k0_pay4 a b f i = Adam.square (f i) (a i + b i) := by
  unfold k0_pay4 k0_pay2
  pointwise
  rfl

theorem step_at (a b w f v : Vec Ideal S256x1024 .f32) (i : S256x1024.Idx) :
    k0_pay1 (k0_pay5 a b f v w) (Scalar.ofBits .f32 0xBA83126F#32) i = Adam.step (w i) (Adam.mean (f i) (a i + b i)) (Adam.square (v i) (a i + b i)) := by
  unfold k0_pay1 k0_pay5
  pointwise
  rw [m_scale, v_scale, Adam.div_mean, Adam.div_square, mean_at, square_at]
  rfl

variable (m : (ℓ : Loc nD τ sig) → Buf (Elt Ideal) ℓ) (c : Dev nD)

/-! ## The arrays the call returns -/

theorem part_lt (r : Fin 256) : 1024 + r.val < 2048 := by omega

/-- The rows of the two siblings' sum that the call takes. -/
abbrev sum (a b : Vec Ideal S2048x1024 .f32) : Vec Ideal S256x1024 .f32 := fun y =>
  (a (ix2 (⟨1024 + (y 0).val, part_lt (y 0)⟩ : Fin 2048) (y 1)) : EReal) + b (ix2 (⟨1024 + (y 0).val, part_lt (y 0)⟩ : Fin 2048) (y 1))

abbrev total : Vec Ideal S256x1024 .f32 := sum (m ((c.tc : Thread nD τ).loc main_arg0)) (m ((c.tc : Thread nD τ).loc main_arg1))

abbrev means : Vec Ideal S256x1024 .f32 := fun y => Adam.mean (m ((c.tc : Thread nD τ).loc main_arg3) y) (total m c y)

abbrev squares : Vec Ideal S256x1024 .f32 := fun y => Adam.square (m ((c.tc : Thread nD τ).loc main_arg4) y) (total m c y)

abbrev steps : Vec Ideal S256x1024 .f32 := fun y => Adam.step (m ((c.tc : Thread nD τ).loc main_arg2) y) (means m c y) (squares m c y)

/-! ## Where the blocks lie -/

theorem place : ∀ t : Fin grid0.N, win0_0.index t = ![4 + t.val, 0] ∧ win0_1.index t = ![4 + t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] := by
  decide +kernel

theorem row_lt (t : Fin cfg0.N) (r : Fin 256) : t.val * 256 + r.val < 256 := by
  have hN : cfg0.N = 1 := N_0
  omega

/-- The array's row that point `t` has as its row `r`. -/
abbrev row (t : Fin cfg0.N) (r : Fin 256) : Fin 256 := ⟨t.val * 256 + r.val, row_lt t r⟩

theorem mine_at (t : Fin cfg0.N) (f : Vec Ideal S2048x1024 .f32) (r : Fin 256) (n : Fin 1024) : ((cfg0.win 0).blk t).view.read (Elt Ideal) f (ix2 r n)
    = f (ix2 (⟨1024 + (row t r).val, part_lt (row t r)⟩ : Fin 2048) n) := by
  have e : (4 + t.val) * 256 + r.val = 1024 + (t.val * 256 + r.val) := by omega
  blk_ext [show (cfg0.win 0).index t = _ from (place t).1, e]

theorem theirs_at (t : Fin cfg0.N) (f : Vec Ideal S2048x1024 .f32) (r : Fin 256) (n : Fin 1024) : ((cfg0.win 1).blk t).view.read (Elt Ideal) f (ix2 r n)
    = f (ix2 (⟨1024 + (row t r).val, part_lt (row t r)⟩ : Fin 2048) n) := by
  have e : (4 + t.val) * 256 + r.val = 1024 + (t.val * 256 + r.val) := by omega
  blk_ext [show (cfg0.win 1).index t = _ from (place t).2.1, e]

theorem w_at (t : Fin cfg0.N) (f : Vec Ideal S256x1024 .f32) (r : Fin 256) (n : Fin 1024) : ((cfg0.win 2).blk t).view.read (Elt Ideal) f (ix2 r n) = f (ix2 (row t r) n) := by
  blk_ext [show (cfg0.win 2).index t = _ from (place t).2.2.1]

theorem m_at (t : Fin cfg0.N) (f : Vec Ideal S256x1024 .f32) (r : Fin 256) (n : Fin 1024) : ((cfg0.win 3).blk t).view.read (Elt Ideal) f (ix2 r n) = f (ix2 (row t r) n) := by
  blk_ext [show (cfg0.win 3).index t = _ from (place t).2.2.2.1]

theorem v_at (t : Fin cfg0.N) (f : Vec Ideal S256x1024 .f32) (r : Fin 256) (n : Fin 1024) : ((cfg0.win 4).blk t).view.read (Elt Ideal) f (ix2 r n) = f (ix2 (row t r) n) := by
  blk_ext [show (cfg0.win 4).index t = _ from (place t).2.2.2.2.1]

theorem total_place (t : Fin cfg0.N) (r : Fin 256) (n : Fin 1024) : ((cfg0.win 5).blk t).view.emb (ix2 r n) = (ix2 (row t r) n : S256x1024.Idx) := by
  blk_ext [show (cfg0.win 5).index t = _ from (place t).2.2.2.2.2.1]

theorem step_place (t : Fin cfg0.N) (r : Fin 256) (n : Fin 1024) : ((cfg0.win 6).blk t).view.emb (ix2 r n) = (ix2 (row t r) n : S256x1024.Idx) := by
  blk_ext [show (cfg0.win 6).index t = _ from (place t).2.2.2.2.2.2.1]

theorem mean_place (t : Fin cfg0.N) (r : Fin 256) (n : Fin 1024) : ((cfg0.win 7).blk t).view.emb (ix2 r n) = (ix2 (row t r) n : S256x1024.Idx) := by
  blk_ext [show (cfg0.win 7).index t = _ from (place t).2.2.2.2.2.2.2.1]

theorem square_place (t : Fin cfg0.N) (r : Fin 256) (n : Fin 1024) : ((cfg0.win 8).blk t).view.emb (ix2 r n) = (ix2 (row t r) n : S256x1024.Idx) := by
  blk_ext [show (cfg0.win 8).index t = _ from (place t).2.2.2.2.2.2.2.2]

/-- The two parts' blocks. -/
abbrev blkMine (t : Fin cfg0.N) : Vec Ideal S256x1024 .f32 := iblk m c 0 t
abbrev blkTheirs (t : Fin cfg0.N) : Vec Ideal S256x1024 .f32 := iblk m c 1 t

theorem total_at (t : Fin cfg0.N) (r : Fin 256) (n : Fin 1024) : (blkMine m c t (ix2 r n) : EReal) + blkTheirs m c t (ix2 r n) = total m c (ix2 (row t r) n) :=
  congrArg₂ (fun p q : EReal => p + q) (mine_at t (V m c main_arg0) r n) (theirs_at t (V m c main_arg1) r n)

/-! ## The arrays after the last point -/

theorem final_total : (dats m 0 c).arrAt 5 cfg0.N = total m c := by
  refine (dats m 0 c).arrAt_eq_of_covers 5 _ (by decide +kernel) fun t hf y => ?_
  obtain ⟨r, n, rfl⟩ : ∃ (r : Fin 256) (n : Fin 1024), y = ix2 r n := ⟨_, _, ValueIdx.eq_ix2 y⟩
  rw [total_place]
  blk_simp
  rw [after0_5]
  frame_out
  exact total_at m c t r n

theorem final_step : (dats m 0 c).arrAt 6 cfg0.N = steps m c := by
  refine (dats m 0 c).arrAt_eq_of_covers 6 _ (by decide +kernel) fun t hf y => ?_
  obtain ⟨r, n, rfl⟩ : ∃ (r : Fin 256) (n : Fin 1024), y = ix2 r n := ⟨_, _, ValueIdx.eq_ix2 y⟩
  rw [step_place]
  blk_simp
  rw [after0_6]
  frame_out
  refine (step_at _ _ _ _ _ (ix2 r n)).trans ?_
  have e := total_at m c t r n
  exact congr (congrArg₂ Adam.step (w_at t (V m c main_arg2) r n) (congrArg₂ Adam.mean (m_at t (V m c main_arg3) r n) e)) (congrArg₂ Adam.square (v_at t (V m c main_arg4) r n) e)

theorem final_mean : (dats m 0 c).arrAt 7 cfg0.N = means m c := by
  refine (dats m 0 c).arrAt_eq_of_covers 7 _ (by decide +kernel) fun t hf y => ?_
  obtain ⟨r, n, rfl⟩ : ∃ (r : Fin 256) (n : Fin 1024), y = ix2 r n := ⟨_, _, ValueIdx.eq_ix2 y⟩
  rw [mean_place]
  blk_simp
  rw [after0_7]
  frame_out
  refine (mean_at _ _ _ (ix2 r n)).trans ?_
  exact congrArg₂ Adam.mean (m_at t (V m c main_arg3) r n) (total_at m c t r n)

theorem final_square : (dats m 0 c).arrAt 8 cfg0.N = squares m c := by
  refine (dats m 0 c).arrAt_eq_of_covers 8 _ (by decide +kernel) fun t hf y => ?_
  obtain ⟨r, n, rfl⟩ : ∃ (r : Fin 256) (n : Fin 1024), y = ix2 r n := ⟨_, _, ValueIdx.eq_ix2 y⟩
  rw [square_place]
  blk_simp
  rw [after0_8]
  frame_out
  refine (square_at _ _ _ (ix2 r n)).trans ?_
  exact congrArg₂ Adam.square (v_at t (V m c main_arg4) r n) (total_at m c t r n)

/-- The reference's rows of the sum. -/
theorem sum_at (a b : FVec Ideal Cert.Reference17Ideal.S2048x1024 .f32) (y : Cert.Reference17Ideal.S256x1024.Idx) :
    extractStridedSlice Cert.Reference17Ideal.S256x1024 ![1024, 0] (addf a b) Cert.Reference17Ideal.Gen.slices_S2048x1024_S256x1024_1024_0 y = sum a b y := by
  obtain ⟨s, n, rfl⟩ : ∃ (s : Fin 256) (n : Fin 1024), y = ix2 s n := ⟨_, _, ValueIdx.eq_ix2 y⟩
  pointwise
  simp only [ix2_eq_valueIdx]

open Idealize.SL.Sem

/-! ## The claims -/

theorem frame_kernel : @Cert.quiescent_Kernel17 Cert.Kernel17.Gen.facts := fun m ρ _ => Cert.Kernel17.Gen.frame (F := Bits) m ρ

theorem frame_kernel_ideal : @Cert.quiescent_Kernel17Ideal Cert.Kernel17Ideal.Gen.facts := fun m ρ _ => Cert.Kernel17Ideal.Gen.frame (F := Ideal) m ρ

theorem frame_reference : @Cert.quiescent_Reference17Ideal Cert.Reference17Ideal.Gen.facts := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem preserves : Cert.preserves_Kernel17_Kernel17Ideal :=
  ⟨IdealRules.named_const.statement κ "m_scale" .f32 0x3FC48605#32 ((8388608 / 5463681 : ℝ) : EReal) rfl,
    IdealRules.named_const.statement κ "v_scale" .f32 0x42C8E6D3#32 ((268435456 / 2672307 : ℝ) : EReal) rfl⟩

/-- The call returns the summed gradient, the step and the two means. -/
theorem agree : @Cert.algebraic_Kernel17Ideal_Reference17Ideal Cert.Kernel17Ideal.Gen.facts Cert.Reference17Ideal.Gen.facts :=
  fun m ρ m' ρ' _ ha => ⟨total m, steps m, means m, squares m,
    (θ_run Cert.Kernel17Ideal.defs _ _).mono (fun r h c => ⟨(h c).1.trans (final_total m c), (h c).2.1.trans (final_step m c),
      (h c).2.2.1.trans (final_mean m c), (h c).2.2.2.1.trans (final_square m c), (h c).2.2.2.2⟩) (Cert.Kernel17Ideal.Value.run_blocks (F := Ideal) m ρ),
    (θ_run Cert.Reference17Ideal.defs _ _).mono (fun r h c => by
      obtain ⟨a0, a1, a2, a3, a4⟩ := ha c
      have e := sum_at (m ((c.tc : Thread nD τ).loc main_arg0)) (m ((c.tc : Thread nD τ).loc main_arg1))
      refine ⟨(h c).1.trans ?_, (h c).2.1.trans ?_, (h c).2.2.1.trans ?_, (h c).2.2.2.1.trans ?_, (h c).2.2.2.2⟩
      · rw [a0, a1]
        exact funext e
      · rw [a0, a1, a2, a3, a4]
        funext y
        exact (congrArg (fun g : EReal => Adam.step (m ((c.tc : Thread nD τ).loc main_arg2) y) (Adam.mean (m ((c.tc : Thread nD τ).loc main_arg3) y) g) (Adam.square (m ((c.tc : Thread nD τ).loc main_arg4) y) g)) (e y))
      · rw [a0, a1, a3]
        funext y
        exact congrArg (Adam.mean (m ((c.tc : Thread nD τ).loc main_arg3) y)) (e y)
      · rw [a0, a1, a4]
        funext y
        exact congrArg (Adam.square (m ((c.tc : Thread nD τ).loc main_arg4) y)) (e y))
      (Cert.Reference17Ideal.Value.run (F := Ideal) m' ρ')⟩

end Calls.AdamOutA

end
-- ==== Proof.Calls.AdamKv.lean ====
module

public import proofs.«01_k».proof.Defs
public import proofs.«01_k».proof.Proof.Calls.Adam
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

/-! AdamW for `w_kv`: 256 rows of the summed gradients from row 1280 on, 1 block of 256. -/

namespace Calls.AdamKv

open Cert.Kernel18Ideal Cert.Kernel18Ideal.Gen
open Idealize.ShloMosaic hiding ix0 ix1 ix2 ix3 ix4 ix5
open Idealize.ShloMosaic.TcCoe
open Idealize.ShloMosaic.ValueIdx
open Idealize.ShloMosaic.Pipeline (Dat)

theorem m_scale : Named.named (F := Ideal) κ "m_scale" (φ := .f32) 0x3FC48605#32 = ((8388608 / 5463681 : ℝ) : EReal) :=
  IdealRules.named_const.ideal_named_scalar _ _ _ _ rfl

theorem v_scale : Named.named (F := Ideal) κ "v_scale" (φ := .f32) 0x42C8E6D3#32 = ((268435456 / 2672307 : ℝ) : EReal) :=
  IdealRules.named_const.ideal_named_scalar _ _ _ _ rfl

/-! ## What a point stores, entry by entry -/

theorem mean_at (a b f : Vec Ideal S256x1024 .f32) (i : S256x1024.Idx) : k0_pay3 a b f i = Adam.mean (f i) (a i + b i) := by
  unfold k0_pay3 k0_pay2
  pointwise
  rfl

theorem square_at (a b f : Vec Ideal S256x1024 .f32) (i : S256x1024.Idx) : k0_pay4 a b f i = Adam.square (f i) (a i + b i) := by
  unfold k0_pay4 k0_pay2
  pointwise
  rfl

theorem step_at (a b w f v : Vec Ideal S256x1024 .f32) (i : S256x1024.Idx) :
    k0_pay1 (k0_pay5 a b f v w) (Scalar.ofBits .f32 0xBA83126F#32) i = Adam.step (w i) (Adam.mean (f i) (a i + b i)) (Adam.square (v i) (a i + b i)) := by
  unfold k0_pay1 k0_pay5
  pointwise
  rw [m_scale, v_scale, Adam.div_mean, Adam.div_square, mean_at, square_at]
  rfl

variable (m : (ℓ : Loc nD τ sig) → Buf (Elt Ideal) ℓ) (c : Dev nD)

/-! ## The arrays the call returns -/

theorem part_lt (r : Fin 256) : 1280 + r.val < 2048 := by omega

/-- The rows of the two siblings' sum that the call takes. -/
abbrev sum (a b : Vec Ideal S2048x1024 .f32) : Vec Ideal S256x1024 .f32 := fun y =>
  (a (ix2 (⟨1280 + (y 0).val, part_lt (y 0)⟩ : Fin 2048) (y 1)) : EReal) + b (ix2 (⟨1280 + (y 0).val, part_lt (y 0)⟩ : Fin 2048) (y 1))

abbrev total : Vec Ideal S256x1024 .f32 := sum (m ((c.tc : Thread nD τ).loc main_arg0)) (m ((c.tc : Thread nD τ).loc main_arg1))

abbrev means : Vec Ideal S256x1024 .f32 := fun y => Adam.mean (m ((c.tc : Thread nD τ).loc main_arg3) y) (total m c y)

abbrev squares : Vec Ideal S256x1024 .f32 := fun y => Adam.square (m ((c.tc : Thread nD τ).loc main_arg4) y) (total m c y)

abbrev steps : Vec Ideal S256x1024 .f32 := fun y => Adam.step (m ((c.tc : Thread nD τ).loc main_arg2) y) (means m c y) (squares m c y)

/-! ## Where the blocks lie -/

theorem place : ∀ t : Fin grid0.N, win0_0.index t = ![5 + t.val, 0] ∧ win0_1.index t = ![5 + t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] := by
  decide +kernel

theorem row_lt (t : Fin cfg0.N) (r : Fin 256) : t.val * 256 + r.val < 256 := by
  have hN : cfg0.N = 1 := N_0
  omega

/-- The array's row that point `t` has as its row `r`. -/
abbrev row (t : Fin cfg0.N) (r : Fin 256) : Fin 256 := ⟨t.val * 256 + r.val, row_lt t r⟩

theorem mine_at (t : Fin cfg0.N) (f : Vec Ideal S2048x1024 .f32) (r : Fin 256) (n : Fin 1024) : ((cfg0.win 0).blk t).view.read (Elt Ideal) f (ix2 r n)
    = f (ix2 (⟨1280 + (row t r).val, part_lt (row t r)⟩ : Fin 2048) n) := by
  have e : (5 + t.val) * 256 + r.val = 1280 + (t.val * 256 + r.val) := by omega
  blk_ext [show (cfg0.win 0).index t = _ from (place t).1, e]

theorem theirs_at (t : Fin cfg0.N) (f : Vec Ideal S2048x1024 .f32) (r : Fin 256) (n : Fin 1024) : ((cfg0.win 1).blk t).view.read (Elt Ideal) f (ix2 r n)
    = f (ix2 (⟨1280 + (row t r).val, part_lt (row t r)⟩ : Fin 2048) n) := by
  have e : (5 + t.val) * 256 + r.val = 1280 + (t.val * 256 + r.val) := by omega
  blk_ext [show (cfg0.win 1).index t = _ from (place t).2.1, e]

theorem w_at (t : Fin cfg0.N) (f : Vec Ideal S256x1024 .f32) (r : Fin 256) (n : Fin 1024) : ((cfg0.win 2).blk t).view.read (Elt Ideal) f (ix2 r n) = f (ix2 (row t r) n) := by
  blk_ext [show (cfg0.win 2).index t = _ from (place t).2.2.1]

theorem m_at (t : Fin cfg0.N) (f : Vec Ideal S256x1024 .f32) (r : Fin 256) (n : Fin 1024) : ((cfg0.win 3).blk t).view.read (Elt Ideal) f (ix2 r n) = f (ix2 (row t r) n) := by
  blk_ext [show (cfg0.win 3).index t = _ from (place t).2.2.2.1]

theorem v_at (t : Fin cfg0.N) (f : Vec Ideal S256x1024 .f32) (r : Fin 256) (n : Fin 1024) : ((cfg0.win 4).blk t).view.read (Elt Ideal) f (ix2 r n) = f (ix2 (row t r) n) := by
  blk_ext [show (cfg0.win 4).index t = _ from (place t).2.2.2.2.1]

theorem total_place (t : Fin cfg0.N) (r : Fin 256) (n : Fin 1024) : ((cfg0.win 5).blk t).view.emb (ix2 r n) = (ix2 (row t r) n : S256x1024.Idx) := by
  blk_ext [show (cfg0.win 5).index t = _ from (place t).2.2.2.2.2.1]

theorem step_place (t : Fin cfg0.N) (r : Fin 256) (n : Fin 1024) : ((cfg0.win 6).blk t).view.emb (ix2 r n) = (ix2 (row t r) n : S256x1024.Idx) := by
  blk_ext [show (cfg0.win 6).index t = _ from (place t).2.2.2.2.2.2.1]

theorem mean_place (t : Fin cfg0.N) (r : Fin 256) (n : Fin 1024) : ((cfg0.win 7).blk t).view.emb (ix2 r n) = (ix2 (row t r) n : S256x1024.Idx) := by
  blk_ext [show (cfg0.win 7).index t = _ from (place t).2.2.2.2.2.2.2.1]

theorem square_place (t : Fin cfg0.N) (r : Fin 256) (n : Fin 1024) : ((cfg0.win 8).blk t).view.emb (ix2 r n) = (ix2 (row t r) n : S256x1024.Idx) := by
  blk_ext [show (cfg0.win 8).index t = _ from (place t).2.2.2.2.2.2.2.2]

/-- The two parts' blocks. -/
abbrev blkMine (t : Fin cfg0.N) : Vec Ideal S256x1024 .f32 := iblk m c 0 t
abbrev blkTheirs (t : Fin cfg0.N) : Vec Ideal S256x1024 .f32 := iblk m c 1 t

theorem total_at (t : Fin cfg0.N) (r : Fin 256) (n : Fin 1024) : (blkMine m c t (ix2 r n) : EReal) + blkTheirs m c t (ix2 r n) = total m c (ix2 (row t r) n) :=
  congrArg₂ (fun p q : EReal => p + q) (mine_at t (V m c main_arg0) r n) (theirs_at t (V m c main_arg1) r n)

/-! ## The arrays after the last point -/

theorem final_total : (dats m 0 c).arrAt 5 cfg0.N = total m c := by
  refine (dats m 0 c).arrAt_eq_of_covers 5 _ (by decide +kernel) fun t hf y => ?_
  obtain ⟨r, n, rfl⟩ : ∃ (r : Fin 256) (n : Fin 1024), y = ix2 r n := ⟨_, _, ValueIdx.eq_ix2 y⟩
  rw [total_place]
  blk_simp
  rw [after0_5]
  frame_out
  exact total_at m c t r n

theorem final_step : (dats m 0 c).arrAt 6 cfg0.N = steps m c := by
  refine (dats m 0 c).arrAt_eq_of_covers 6 _ (by decide +kernel) fun t hf y => ?_
  obtain ⟨r, n, rfl⟩ : ∃ (r : Fin 256) (n : Fin 1024), y = ix2 r n := ⟨_, _, ValueIdx.eq_ix2 y⟩
  rw [step_place]
  blk_simp
  rw [after0_6]
  frame_out
  refine (step_at _ _ _ _ _ (ix2 r n)).trans ?_
  have e := total_at m c t r n
  exact congr (congrArg₂ Adam.step (w_at t (V m c main_arg2) r n) (congrArg₂ Adam.mean (m_at t (V m c main_arg3) r n) e)) (congrArg₂ Adam.square (v_at t (V m c main_arg4) r n) e)

theorem final_mean : (dats m 0 c).arrAt 7 cfg0.N = means m c := by
  refine (dats m 0 c).arrAt_eq_of_covers 7 _ (by decide +kernel) fun t hf y => ?_
  obtain ⟨r, n, rfl⟩ : ∃ (r : Fin 256) (n : Fin 1024), y = ix2 r n := ⟨_, _, ValueIdx.eq_ix2 y⟩
  rw [mean_place]
  blk_simp
  rw [after0_7]
  frame_out
  refine (mean_at _ _ _ (ix2 r n)).trans ?_
  exact congrArg₂ Adam.mean (m_at t (V m c main_arg3) r n) (total_at m c t r n)

theorem final_square : (dats m 0 c).arrAt 8 cfg0.N = squares m c := by
  refine (dats m 0 c).arrAt_eq_of_covers 8 _ (by decide +kernel) fun t hf y => ?_
  obtain ⟨r, n, rfl⟩ : ∃ (r : Fin 256) (n : Fin 1024), y = ix2 r n := ⟨_, _, ValueIdx.eq_ix2 y⟩
  rw [square_place]
  blk_simp
  rw [after0_8]
  frame_out
  refine (square_at _ _ _ (ix2 r n)).trans ?_
  exact congrArg₂ Adam.square (v_at t (V m c main_arg4) r n) (total_at m c t r n)

/-- The reference's rows of the sum. -/
theorem sum_at (a b : FVec Ideal Cert.Reference18Ideal.S2048x1024 .f32) (y : Cert.Reference18Ideal.S256x1024.Idx) :
    extractStridedSlice Cert.Reference18Ideal.S256x1024 ![1280, 0] (addf a b) Cert.Reference18Ideal.Gen.slices_S2048x1024_S256x1024_1280_0 y = sum a b y := by
  obtain ⟨s, n, rfl⟩ : ∃ (s : Fin 256) (n : Fin 1024), y = ix2 s n := ⟨_, _, ValueIdx.eq_ix2 y⟩
  pointwise
  simp only [ix2_eq_valueIdx]

open Idealize.SL.Sem

/-! ## The claims -/

theorem frame_kernel : @Cert.quiescent_Kernel18 Cert.Kernel18.Gen.facts := fun m ρ _ => Cert.Kernel18.Gen.frame (F := Bits) m ρ

theorem frame_kernel_ideal : @Cert.quiescent_Kernel18Ideal Cert.Kernel18Ideal.Gen.facts := fun m ρ _ => Cert.Kernel18Ideal.Gen.frame (F := Ideal) m ρ

theorem frame_reference : @Cert.quiescent_Reference18Ideal Cert.Reference18Ideal.Gen.facts := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem preserves : Cert.preserves_Kernel18_Kernel18Ideal :=
  ⟨IdealRules.named_const.statement κ "m_scale" .f32 0x3FC48605#32 ((8388608 / 5463681 : ℝ) : EReal) rfl,
    IdealRules.named_const.statement κ "v_scale" .f32 0x42C8E6D3#32 ((268435456 / 2672307 : ℝ) : EReal) rfl⟩

/-- The call returns the summed gradient, the step and the two means. -/
theorem agree : @Cert.algebraic_Kernel18Ideal_Reference18Ideal Cert.Kernel18Ideal.Gen.facts Cert.Reference18Ideal.Gen.facts :=
  fun m ρ m' ρ' _ ha => ⟨total m, steps m, means m, squares m,
    (θ_run Cert.Kernel18Ideal.defs _ _).mono (fun r h c => ⟨(h c).1.trans (final_total m c), (h c).2.1.trans (final_step m c),
      (h c).2.2.1.trans (final_mean m c), (h c).2.2.2.1.trans (final_square m c), (h c).2.2.2.2⟩) (Cert.Kernel18Ideal.Value.run_blocks (F := Ideal) m ρ),
    (θ_run Cert.Reference18Ideal.defs _ _).mono (fun r h c => by
      obtain ⟨a0, a1, a2, a3, a4⟩ := ha c
      have e := sum_at (m ((c.tc : Thread nD τ).loc main_arg0)) (m ((c.tc : Thread nD τ).loc main_arg1))
      refine ⟨(h c).1.trans ?_, (h c).2.1.trans ?_, (h c).2.2.1.trans ?_, (h c).2.2.2.1.trans ?_, (h c).2.2.2.2⟩
      · rw [a0, a1]
        exact funext e
      · rw [a0, a1, a2, a3, a4]
        funext y
        exact (congrArg (fun g : EReal => Adam.step (m ((c.tc : Thread nD τ).loc main_arg2) y) (Adam.mean (m ((c.tc : Thread nD τ).loc main_arg3) y) g) (Adam.square (m ((c.tc : Thread nD τ).loc main_arg4) y) g)) (e y))
      · rw [a0, a1, a3]
        funext y
        exact congrArg (Adam.mean (m ((c.tc : Thread nD τ).loc main_arg3) y)) (e y)
      · rw [a0, a1, a4]
        funext y
        exact congrArg (Adam.square (m ((c.tc : Thread nD τ).loc main_arg4) y)) (e y))
      (Cert.Reference18Ideal.Value.run (F := Ideal) m' ρ')⟩

end Calls.AdamKv

end
-- ==== Proof.Calls.AdamInB.lean ====
module

public import proofs.«01_k».proof.Defs
public import proofs.«01_k».proof.Proof.Calls.Adam
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

/-! AdamW for `w_in_b`: 256 rows of the summed gradients from row 1536 on, 1 block of 256. -/

namespace Calls.AdamInB

open Cert.Kernel19Ideal Cert.Kernel19Ideal.Gen
open Idealize.ShloMosaic hiding ix0 ix1 ix2 ix3 ix4 ix5
open Idealize.ShloMosaic.TcCoe
open Idealize.ShloMosaic.ValueIdx
open Idealize.ShloMosaic.Pipeline (Dat)

theorem m_scale : Named.named (F := Ideal) κ "m_scale" (φ := .f32) 0x3FC48605#32 = ((8388608 / 5463681 : ℝ) : EReal) :=
  IdealRules.named_const.ideal_named_scalar _ _ _ _ rfl

theorem v_scale : Named.named (F := Ideal) κ "v_scale" (φ := .f32) 0x42C8E6D3#32 = ((268435456 / 2672307 : ℝ) : EReal) :=
  IdealRules.named_const.ideal_named_scalar _ _ _ _ rfl

/-! ## What a point stores, entry by entry -/

theorem mean_at (a b f : Vec Ideal S256x1024 .f32) (i : S256x1024.Idx) : k0_pay3 a b f i = Adam.mean (f i) (a i + b i) := by
  unfold k0_pay3 k0_pay2
  pointwise
  rfl

theorem square_at (a b f : Vec Ideal S256x1024 .f32) (i : S256x1024.Idx) : k0_pay4 a b f i = Adam.square (f i) (a i + b i) := by
  unfold k0_pay4 k0_pay2
  pointwise
  rfl

theorem step_at (a b w f v : Vec Ideal S256x1024 .f32) (i : S256x1024.Idx) :
    k0_pay1 (k0_pay5 a b f v w) (Scalar.ofBits .f32 0xBA83126F#32) i = Adam.step (w i) (Adam.mean (f i) (a i + b i)) (Adam.square (v i) (a i + b i)) := by
  unfold k0_pay1 k0_pay5
  pointwise
  rw [m_scale, v_scale, Adam.div_mean, Adam.div_square, mean_at, square_at]
  rfl

variable (m : (ℓ : Loc nD τ sig) → Buf (Elt Ideal) ℓ) (c : Dev nD)

/-! ## The arrays the call returns -/

theorem part_lt (r : Fin 256) : 1536 + r.val < 2048 := by omega

/-- The rows of the two siblings' sum that the call takes. -/
abbrev sum (a b : Vec Ideal S2048x1024 .f32) : Vec Ideal S256x1024 .f32 := fun y =>
  (a (ix2 (⟨1536 + (y 0).val, part_lt (y 0)⟩ : Fin 2048) (y 1)) : EReal) + b (ix2 (⟨1536 + (y 0).val, part_lt (y 0)⟩ : Fin 2048) (y 1))

abbrev total : Vec Ideal S256x1024 .f32 := sum (m ((c.tc : Thread nD τ).loc main_arg0)) (m ((c.tc : Thread nD τ).loc main_arg1))

abbrev means : Vec Ideal S256x1024 .f32 := fun y => Adam.mean (m ((c.tc : Thread nD τ).loc main_arg3) y) (total m c y)

abbrev squares : Vec Ideal S256x1024 .f32 := fun y => Adam.square (m ((c.tc : Thread nD τ).loc main_arg4) y) (total m c y)

abbrev steps : Vec Ideal S256x1024 .f32 := fun y => Adam.step (m ((c.tc : Thread nD τ).loc main_arg2) y) (means m c y) (squares m c y)

/-! ## Where the blocks lie -/

theorem place : ∀ t : Fin grid0.N, win0_0.index t = ![6 + t.val, 0] ∧ win0_1.index t = ![6 + t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] := by
  decide +kernel

theorem row_lt (t : Fin cfg0.N) (r : Fin 256) : t.val * 256 + r.val < 256 := by
  have hN : cfg0.N = 1 := N_0
  omega

/-- The array's row that point `t` has as its row `r`. -/
abbrev row (t : Fin cfg0.N) (r : Fin 256) : Fin 256 := ⟨t.val * 256 + r.val, row_lt t r⟩

theorem mine_at (t : Fin cfg0.N) (f : Vec Ideal S2048x1024 .f32) (r : Fin 256) (n : Fin 1024) : ((cfg0.win 0).blk t).view.read (Elt Ideal) f (ix2 r n)
    = f (ix2 (⟨1536 + (row t r).val, part_lt (row t r)⟩ : Fin 2048) n) := by
  have e : (6 + t.val) * 256 + r.val = 1536 + (t.val * 256 + r.val) := by omega
  blk_ext [show (cfg0.win 0).index t = _ from (place t).1, e]

theorem theirs_at (t : Fin cfg0.N) (f : Vec Ideal S2048x1024 .f32) (r : Fin 256) (n : Fin 1024) : ((cfg0.win 1).blk t).view.read (Elt Ideal) f (ix2 r n)
    = f (ix2 (⟨1536 + (row t r).val, part_lt (row t r)⟩ : Fin 2048) n) := by
  have e : (6 + t.val) * 256 + r.val = 1536 + (t.val * 256 + r.val) := by omega
  blk_ext [show (cfg0.win 1).index t = _ from (place t).2.1, e]

theorem w_at (t : Fin cfg0.N) (f : Vec Ideal S256x1024 .f32) (r : Fin 256) (n : Fin 1024) : ((cfg0.win 2).blk t).view.read (Elt Ideal) f (ix2 r n) = f (ix2 (row t r) n) := by
  blk_ext [show (cfg0.win 2).index t = _ from (place t).2.2.1]

theorem m_at (t : Fin cfg0.N) (f : Vec Ideal S256x1024 .f32) (r : Fin 256) (n : Fin 1024) : ((cfg0.win 3).blk t).view.read (Elt Ideal) f (ix2 r n) = f (ix2 (row t r) n) := by
  blk_ext [show (cfg0.win 3).index t = _ from (place t).2.2.2.1]

theorem v_at (t : Fin cfg0.N) (f : Vec Ideal S256x1024 .f32) (r : Fin 256) (n : Fin 1024) : ((cfg0.win 4).blk t).view.read (Elt Ideal) f (ix2 r n) = f (ix2 (row t r) n) := by
  blk_ext [show (cfg0.win 4).index t = _ from (place t).2.2.2.2.1]

theorem total_place (t : Fin cfg0.N) (r : Fin 256) (n : Fin 1024) : ((cfg0.win 5).blk t).view.emb (ix2 r n) = (ix2 (row t r) n : S256x1024.Idx) := by
  blk_ext [show (cfg0.win 5).index t = _ from (place t).2.2.2.2.2.1]

theorem step_place (t : Fin cfg0.N) (r : Fin 256) (n : Fin 1024) : ((cfg0.win 6).blk t).view.emb (ix2 r n) = (ix2 (row t r) n : S256x1024.Idx) := by
  blk_ext [show (cfg0.win 6).index t = _ from (place t).2.2.2.2.2.2.1]

theorem mean_place (t : Fin cfg0.N) (r : Fin 256) (n : Fin 1024) : ((cfg0.win 7).blk t).view.emb (ix2 r n) = (ix2 (row t r) n : S256x1024.Idx) := by
  blk_ext [show (cfg0.win 7).index t = _ from (place t).2.2.2.2.2.2.2.1]

theorem square_place (t : Fin cfg0.N) (r : Fin 256) (n : Fin 1024) : ((cfg0.win 8).blk t).view.emb (ix2 r n) = (ix2 (row t r) n : S256x1024.Idx) := by
  blk_ext [show (cfg0.win 8).index t = _ from (place t).2.2.2.2.2.2.2.2]

/-- The two parts' blocks. -/
abbrev blkMine (t : Fin cfg0.N) : Vec Ideal S256x1024 .f32 := iblk m c 0 t
abbrev blkTheirs (t : Fin cfg0.N) : Vec Ideal S256x1024 .f32 := iblk m c 1 t

theorem total_at (t : Fin cfg0.N) (r : Fin 256) (n : Fin 1024) : (blkMine m c t (ix2 r n) : EReal) + blkTheirs m c t (ix2 r n) = total m c (ix2 (row t r) n) :=
  congrArg₂ (fun p q : EReal => p + q) (mine_at t (V m c main_arg0) r n) (theirs_at t (V m c main_arg1) r n)

/-! ## The arrays after the last point -/

theorem final_total : (dats m 0 c).arrAt 5 cfg0.N = total m c := by
  refine (dats m 0 c).arrAt_eq_of_covers 5 _ (by decide +kernel) fun t hf y => ?_
  obtain ⟨r, n, rfl⟩ : ∃ (r : Fin 256) (n : Fin 1024), y = ix2 r n := ⟨_, _, ValueIdx.eq_ix2 y⟩
  rw [total_place]
  blk_simp
  rw [after0_5]
  frame_out
  exact total_at m c t r n

theorem final_step : (dats m 0 c).arrAt 6 cfg0.N = steps m c := by
  refine (dats m 0 c).arrAt_eq_of_covers 6 _ (by decide +kernel) fun t hf y => ?_
  obtain ⟨r, n, rfl⟩ : ∃ (r : Fin 256) (n : Fin 1024), y = ix2 r n := ⟨_, _, ValueIdx.eq_ix2 y⟩
  rw [step_place]
  blk_simp
  rw [after0_6]
  frame_out
  refine (step_at _ _ _ _ _ (ix2 r n)).trans ?_
  have e := total_at m c t r n
  exact congr (congrArg₂ Adam.step (w_at t (V m c main_arg2) r n) (congrArg₂ Adam.mean (m_at t (V m c main_arg3) r n) e)) (congrArg₂ Adam.square (v_at t (V m c main_arg4) r n) e)

theorem final_mean : (dats m 0 c).arrAt 7 cfg0.N = means m c := by
  refine (dats m 0 c).arrAt_eq_of_covers 7 _ (by decide +kernel) fun t hf y => ?_
  obtain ⟨r, n, rfl⟩ : ∃ (r : Fin 256) (n : Fin 1024), y = ix2 r n := ⟨_, _, ValueIdx.eq_ix2 y⟩
  rw [mean_place]
  blk_simp
  rw [after0_7]
  frame_out
  refine (mean_at _ _ _ (ix2 r n)).trans ?_
  exact congrArg₂ Adam.mean (m_at t (V m c main_arg3) r n) (total_at m c t r n)

theorem final_square : (dats m 0 c).arrAt 8 cfg0.N = squares m c := by
  refine (dats m 0 c).arrAt_eq_of_covers 8 _ (by decide +kernel) fun t hf y => ?_
  obtain ⟨r, n, rfl⟩ : ∃ (r : Fin 256) (n : Fin 1024), y = ix2 r n := ⟨_, _, ValueIdx.eq_ix2 y⟩
  rw [square_place]
  blk_simp
  rw [after0_8]
  frame_out
  refine (square_at _ _ _ (ix2 r n)).trans ?_
  exact congrArg₂ Adam.square (v_at t (V m c main_arg4) r n) (total_at m c t r n)

/-- The reference's rows of the sum. -/
theorem sum_at (a b : FVec Ideal Cert.Reference19Ideal.S2048x1024 .f32) (y : Cert.Reference19Ideal.S256x1024.Idx) :
    extractStridedSlice Cert.Reference19Ideal.S256x1024 ![1536, 0] (addf a b) Cert.Reference19Ideal.Gen.slices_S2048x1024_S256x1024_1536_0 y = sum a b y := by
  obtain ⟨s, n, rfl⟩ : ∃ (s : Fin 256) (n : Fin 1024), y = ix2 s n := ⟨_, _, ValueIdx.eq_ix2 y⟩
  pointwise
  simp only [ix2_eq_valueIdx]

open Idealize.SL.Sem

/-! ## The claims -/

theorem frame_kernel : @Cert.quiescent_Kernel19 Cert.Kernel19.Gen.facts := fun m ρ _ => Cert.Kernel19.Gen.frame (F := Bits) m ρ

theorem frame_kernel_ideal : @Cert.quiescent_Kernel19Ideal Cert.Kernel19Ideal.Gen.facts := fun m ρ _ => Cert.Kernel19Ideal.Gen.frame (F := Ideal) m ρ

theorem frame_reference : @Cert.quiescent_Reference19Ideal Cert.Reference19Ideal.Gen.facts := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem preserves : Cert.preserves_Kernel19_Kernel19Ideal :=
  ⟨IdealRules.named_const.statement κ "m_scale" .f32 0x3FC48605#32 ((8388608 / 5463681 : ℝ) : EReal) rfl,
    IdealRules.named_const.statement κ "v_scale" .f32 0x42C8E6D3#32 ((268435456 / 2672307 : ℝ) : EReal) rfl⟩

/-- The call returns the summed gradient, the step and the two means. -/
theorem agree : @Cert.algebraic_Kernel19Ideal_Reference19Ideal Cert.Kernel19Ideal.Gen.facts Cert.Reference19Ideal.Gen.facts :=
  fun m ρ m' ρ' _ ha => ⟨total m, steps m, means m, squares m,
    (θ_run Cert.Kernel19Ideal.defs _ _).mono (fun r h c => ⟨(h c).1.trans (final_total m c), (h c).2.1.trans (final_step m c),
      (h c).2.2.1.trans (final_mean m c), (h c).2.2.2.1.trans (final_square m c), (h c).2.2.2.2⟩) (Cert.Kernel19Ideal.Value.run_blocks (F := Ideal) m ρ),
    (θ_run Cert.Reference19Ideal.defs _ _).mono (fun r h c => by
      obtain ⟨a0, a1, a2, a3, a4⟩ := ha c
      have e := sum_at (m ((c.tc : Thread nD τ).loc main_arg0)) (m ((c.tc : Thread nD τ).loc main_arg1))
      refine ⟨(h c).1.trans ?_, (h c).2.1.trans ?_, (h c).2.2.1.trans ?_, (h c).2.2.2.1.trans ?_, (h c).2.2.2.2⟩
      · rw [a0, a1]
        exact funext e
      · rw [a0, a1, a2, a3, a4]
        funext y
        exact (congrArg (fun g : EReal => Adam.step (m ((c.tc : Thread nD τ).loc main_arg2) y) (Adam.mean (m ((c.tc : Thread nD τ).loc main_arg3) y) g) (Adam.square (m ((c.tc : Thread nD τ).loc main_arg4) y) g)) (e y))
      · rw [a0, a1, a3]
        funext y
        exact congrArg (Adam.mean (m ((c.tc : Thread nD τ).loc main_arg3) y)) (e y)
      · rw [a0, a1, a4]
        funext y
        exact congrArg (Adam.square (m ((c.tc : Thread nD τ).loc main_arg4) y)) (e y))
      (Cert.Reference19Ideal.Value.run (F := Ideal) m' ρ')⟩

end Calls.AdamInB

end
-- ==== Proof.Calls.AdamOutB.lean ====
module

public import proofs.«01_k».proof.Defs
public import proofs.«01_k».proof.Proof.Calls.Adam
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

/-! AdamW for `w_out_b`: 128 rows of the summed gradients from row 1792 on, 1 block of 128. -/

namespace Calls.AdamOutB

open Cert.Kernel20Ideal Cert.Kernel20Ideal.Gen
open Idealize.ShloMosaic hiding ix0 ix1 ix2 ix3 ix4 ix5
open Idealize.ShloMosaic.TcCoe
open Idealize.ShloMosaic.ValueIdx
open Idealize.ShloMosaic.Pipeline (Dat)

theorem m_scale : Named.named (F := Ideal) κ "m_scale" (φ := .f32) 0x3FC48605#32 = ((8388608 / 5463681 : ℝ) : EReal) :=
  IdealRules.named_const.ideal_named_scalar _ _ _ _ rfl

theorem v_scale : Named.named (F := Ideal) κ "v_scale" (φ := .f32) 0x42C8E6D3#32 = ((268435456 / 2672307 : ℝ) : EReal) :=
  IdealRules.named_const.ideal_named_scalar _ _ _ _ rfl

/-! ## What a point stores, entry by entry -/

theorem mean_at (a b f : Vec Ideal S128x1024 .f32) (i : S128x1024.Idx) : k0_pay3 a b f i = Adam.mean (f i) (a i + b i) := by
  unfold k0_pay3 k0_pay2
  pointwise
  rfl

theorem square_at (a b f : Vec Ideal S128x1024 .f32) (i : S128x1024.Idx) : k0_pay4 a b f i = Adam.square (f i) (a i + b i) := by
  unfold k0_pay4 k0_pay2
  pointwise
  rfl

theorem step_at (a b w f v : Vec Ideal S128x1024 .f32) (i : S128x1024.Idx) :
    k0_pay1 (k0_pay5 a b f v w) (Scalar.ofBits .f32 0xBA83126F#32) i = Adam.step (w i) (Adam.mean (f i) (a i + b i)) (Adam.square (v i) (a i + b i)) := by
  unfold k0_pay1 k0_pay5
  pointwise
  rw [m_scale, v_scale, Adam.div_mean, Adam.div_square, mean_at, square_at]
  rfl

variable (m : (ℓ : Loc nD τ sig) → Buf (Elt Ideal) ℓ) (c : Dev nD)

/-! ## The arrays the call returns -/

theorem part_lt (r : Fin 128) : 1792 + r.val < 2048 := by omega

/-- The rows of the two siblings' sum that the call takes. -/
abbrev sum (a b : Vec Ideal S2048x1024 .f32) : Vec Ideal S128x1024 .f32 := fun y =>
  (a (ix2 (⟨1792 + (y 0).val, part_lt (y 0)⟩ : Fin 2048) (y 1)) : EReal) + b (ix2 (⟨1792 + (y 0).val, part_lt (y 0)⟩ : Fin 2048) (y 1))

abbrev total : Vec Ideal S128x1024 .f32 := sum (m ((c.tc : Thread nD τ).loc main_arg0)) (m ((c.tc : Thread nD τ).loc main_arg1))

abbrev means : Vec Ideal S128x1024 .f32 := fun y => Adam.mean (m ((c.tc : Thread nD τ).loc main_arg3) y) (total m c y)

abbrev squares : Vec Ideal S128x1024 .f32 := fun y => Adam.square (m ((c.tc : Thread nD τ).loc main_arg4) y) (total m c y)

abbrev steps : Vec Ideal S128x1024 .f32 := fun y => Adam.step (m ((c.tc : Thread nD τ).loc main_arg2) y) (means m c y) (squares m c y)

/-! ## Where the blocks lie -/

theorem place : ∀ t : Fin grid0.N, win0_0.index t = ![14 + t.val, 0] ∧ win0_1.index t = ![14 + t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] := by
  decide +kernel

theorem row_lt (t : Fin cfg0.N) (r : Fin 128) : t.val * 128 + r.val < 128 := by
  have hN : cfg0.N = 1 := N_0
  omega

/-- The array's row that point `t` has as its row `r`. -/
abbrev row (t : Fin cfg0.N) (r : Fin 128) : Fin 128 := ⟨t.val * 128 + r.val, row_lt t r⟩

theorem mine_at (t : Fin cfg0.N) (f : Vec Ideal S2048x1024 .f32) (r : Fin 128) (n : Fin 1024) : ((cfg0.win 0).blk t).view.read (Elt Ideal) f (ix2 r n)
    = f (ix2 (⟨1792 + (row t r).val, part_lt (row t r)⟩ : Fin 2048) n) := by
  have e : (14 + t.val) * 128 + r.val = 1792 + (t.val * 128 + r.val) := by omega
  blk_ext [show (cfg0.win 0).index t = _ from (place t).1, e]

theorem theirs_at (t : Fin cfg0.N) (f : Vec Ideal S2048x1024 .f32) (r : Fin 128) (n : Fin 1024) : ((cfg0.win 1).blk t).view.read (Elt Ideal) f (ix2 r n)
    = f (ix2 (⟨1792 + (row t r).val, part_lt (row t r)⟩ : Fin 2048) n) := by
  have e : (14 + t.val) * 128 + r.val = 1792 + (t.val * 128 + r.val) := by omega
  blk_ext [show (cfg0.win 1).index t = _ from (place t).2.1, e]

theorem w_at (t : Fin cfg0.N) (f : Vec Ideal S128x1024 .f32) (r : Fin 128) (n : Fin 1024) : ((cfg0.win 2).blk t).view.read (Elt Ideal) f (ix2 r n) = f (ix2 (row t r) n) := by
  blk_ext [show (cfg0.win 2).index t = _ from (place t).2.2.1]

theorem m_at (t : Fin cfg0.N) (f : Vec Ideal S128x1024 .f32) (r : Fin 128) (n : Fin 1024) : ((cfg0.win 3).blk t).view.read (Elt Ideal) f (ix2 r n) = f (ix2 (row t r) n) := by
  blk_ext [show (cfg0.win 3).index t = _ from (place t).2.2.2.1]

theorem v_at (t : Fin cfg0.N) (f : Vec Ideal S128x1024 .f32) (r : Fin 128) (n : Fin 1024) : ((cfg0.win 4).blk t).view.read (Elt Ideal) f (ix2 r n) = f (ix2 (row t r) n) := by
  blk_ext [show (cfg0.win 4).index t = _ from (place t).2.2.2.2.1]

theorem total_place (t : Fin cfg0.N) (r : Fin 128) (n : Fin 1024) : ((cfg0.win 5).blk t).view.emb (ix2 r n) = (ix2 (row t r) n : S128x1024.Idx) := by
  blk_ext [show (cfg0.win 5).index t = _ from (place t).2.2.2.2.2.1]

theorem step_place (t : Fin cfg0.N) (r : Fin 128) (n : Fin 1024) : ((cfg0.win 6).blk t).view.emb (ix2 r n) = (ix2 (row t r) n : S128x1024.Idx) := by
  blk_ext [show (cfg0.win 6).index t = _ from (place t).2.2.2.2.2.2.1]

theorem mean_place (t : Fin cfg0.N) (r : Fin 128) (n : Fin 1024) : ((cfg0.win 7).blk t).view.emb (ix2 r n) = (ix2 (row t r) n : S128x1024.Idx) := by
  blk_ext [show (cfg0.win 7).index t = _ from (place t).2.2.2.2.2.2.2.1]

theorem square_place (t : Fin cfg0.N) (r : Fin 128) (n : Fin 1024) : ((cfg0.win 8).blk t).view.emb (ix2 r n) = (ix2 (row t r) n : S128x1024.Idx) := by
  blk_ext [show (cfg0.win 8).index t = _ from (place t).2.2.2.2.2.2.2.2]

/-- The two parts' blocks. -/
abbrev blkMine (t : Fin cfg0.N) : Vec Ideal S128x1024 .f32 := iblk m c 0 t
abbrev blkTheirs (t : Fin cfg0.N) : Vec Ideal S128x1024 .f32 := iblk m c 1 t

theorem total_at (t : Fin cfg0.N) (r : Fin 128) (n : Fin 1024) : (blkMine m c t (ix2 r n) : EReal) + blkTheirs m c t (ix2 r n) = total m c (ix2 (row t r) n) :=
  congrArg₂ (fun p q : EReal => p + q) (mine_at t (V m c main_arg0) r n) (theirs_at t (V m c main_arg1) r n)

/-! ## The arrays after the last point -/

theorem final_total : (dats m 0 c).arrAt 5 cfg0.N = total m c := by
  refine (dats m 0 c).arrAt_eq_of_covers 5 _ (by decide +kernel) fun t hf y => ?_
  obtain ⟨r, n, rfl⟩ : ∃ (r : Fin 128) (n : Fin 1024), y = ix2 r n := ⟨_, _, ValueIdx.eq_ix2 y⟩
  rw [total_place]
  blk_simp
  rw [after0_5]
  frame_out
  exact total_at m c t r n

theorem final_step : (dats m 0 c).arrAt 6 cfg0.N = steps m c := by
  refine (dats m 0 c).arrAt_eq_of_covers 6 _ (by decide +kernel) fun t hf y => ?_
  obtain ⟨r, n, rfl⟩ : ∃ (r : Fin 128) (n : Fin 1024), y = ix2 r n := ⟨_, _, ValueIdx.eq_ix2 y⟩
  rw [step_place]
  blk_simp
  rw [after0_6]
  frame_out
  refine (step_at _ _ _ _ _ (ix2 r n)).trans ?_
  have e := total_at m c t r n
  exact congr (congrArg₂ Adam.step (w_at t (V m c main_arg2) r n) (congrArg₂ Adam.mean (m_at t (V m c main_arg3) r n) e)) (congrArg₂ Adam.square (v_at t (V m c main_arg4) r n) e)

theorem final_mean : (dats m 0 c).arrAt 7 cfg0.N = means m c := by
  refine (dats m 0 c).arrAt_eq_of_covers 7 _ (by decide +kernel) fun t hf y => ?_
  obtain ⟨r, n, rfl⟩ : ∃ (r : Fin 128) (n : Fin 1024), y = ix2 r n := ⟨_, _, ValueIdx.eq_ix2 y⟩
  rw [mean_place]
  blk_simp
  rw [after0_7]
  frame_out
  refine (mean_at _ _ _ (ix2 r n)).trans ?_
  exact congrArg₂ Adam.mean (m_at t (V m c main_arg3) r n) (total_at m c t r n)

theorem final_square : (dats m 0 c).arrAt 8 cfg0.N = squares m c := by
  refine (dats m 0 c).arrAt_eq_of_covers 8 _ (by decide +kernel) fun t hf y => ?_
  obtain ⟨r, n, rfl⟩ : ∃ (r : Fin 128) (n : Fin 1024), y = ix2 r n := ⟨_, _, ValueIdx.eq_ix2 y⟩
  rw [square_place]
  blk_simp
  rw [after0_8]
  frame_out
  refine (square_at _ _ _ (ix2 r n)).trans ?_
  exact congrArg₂ Adam.square (v_at t (V m c main_arg4) r n) (total_at m c t r n)

/-- The reference's rows of the sum. -/
theorem sum_at (a b : FVec Ideal Cert.Reference20Ideal.S2048x1024 .f32) (y : Cert.Reference20Ideal.S128x1024.Idx) :
    extractStridedSlice Cert.Reference20Ideal.S128x1024 ![1792, 0] (addf a b) Cert.Reference20Ideal.Gen.slices_S2048x1024_S128x1024_1792_0 y = sum a b y := by
  obtain ⟨s, n, rfl⟩ : ∃ (s : Fin 128) (n : Fin 1024), y = ix2 s n := ⟨_, _, ValueIdx.eq_ix2 y⟩
  pointwise
  simp only [ix2_eq_valueIdx]

open Idealize.SL.Sem

/-! ## The claims -/

theorem frame_kernel : @Cert.quiescent_Kernel20 Cert.Kernel20.Gen.facts := fun m ρ _ => Cert.Kernel20.Gen.frame (F := Bits) m ρ

theorem frame_kernel_ideal : @Cert.quiescent_Kernel20Ideal Cert.Kernel20Ideal.Gen.facts := fun m ρ _ => Cert.Kernel20Ideal.Gen.frame (F := Ideal) m ρ

theorem frame_reference : @Cert.quiescent_Reference20Ideal Cert.Reference20Ideal.Gen.facts := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem preserves : Cert.preserves_Kernel20_Kernel20Ideal :=
  ⟨IdealRules.named_const.statement κ "m_scale" .f32 0x3FC48605#32 ((8388608 / 5463681 : ℝ) : EReal) rfl,
    IdealRules.named_const.statement κ "v_scale" .f32 0x42C8E6D3#32 ((268435456 / 2672307 : ℝ) : EReal) rfl⟩

/-- The call returns the summed gradient, the step and the two means. -/
theorem agree : @Cert.algebraic_Kernel20Ideal_Reference20Ideal Cert.Kernel20Ideal.Gen.facts Cert.Reference20Ideal.Gen.facts :=
  fun m ρ m' ρ' _ ha => ⟨total m, steps m, means m, squares m,
    (θ_run Cert.Kernel20Ideal.defs _ _).mono (fun r h c => ⟨(h c).1.trans (final_total m c), (h c).2.1.trans (final_step m c),
      (h c).2.2.1.trans (final_mean m c), (h c).2.2.2.1.trans (final_square m c), (h c).2.2.2.2⟩) (Cert.Kernel20Ideal.Value.run_blocks (F := Ideal) m ρ),
    (θ_run Cert.Reference20Ideal.defs _ _).mono (fun r h c => by
      obtain ⟨a0, a1, a2, a3, a4⟩ := ha c
      have e := sum_at (m ((c.tc : Thread nD τ).loc main_arg0)) (m ((c.tc : Thread nD τ).loc main_arg1))
      refine ⟨(h c).1.trans ?_, (h c).2.1.trans ?_, (h c).2.2.1.trans ?_, (h c).2.2.2.1.trans ?_, (h c).2.2.2.2⟩
      · rw [a0, a1]
        exact funext e
      · rw [a0, a1, a2, a3, a4]
        funext y
        exact (congrArg (fun g : EReal => Adam.step (m ((c.tc : Thread nD τ).loc main_arg2) y) (Adam.mean (m ((c.tc : Thread nD τ).loc main_arg3) y) g) (Adam.square (m ((c.tc : Thread nD τ).loc main_arg4) y) g)) (e y))
      · rw [a0, a1, a3]
        funext y
        exact congrArg (Adam.mean (m ((c.tc : Thread nD τ).loc main_arg3) y)) (e y)
      · rw [a0, a1, a4]
        funext y
        exact congrArg (Adam.square (m ((c.tc : Thread nD τ).loc main_arg4) y)) (e y))
      (Cert.Reference20Ideal.Value.run (F := Ideal) m' ρ')⟩

end Calls.AdamOutB

end
-- ==== Proof.Calls.AdamSmall.lean ====
module

public import proofs.«01_k».proof.Defs
public import proofs.«01_k».proof.Proof.Calls.Adam
public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

/-! AdamW for the packed small weights: 128 rows of the summed gradients from row 1920 on, 1 block of 128. -/

namespace Calls.AdamSmall

open Cert.Kernel21Ideal Cert.Kernel21Ideal.Gen
open Idealize.ShloMosaic hiding ix0 ix1 ix2 ix3 ix4 ix5
open Idealize.ShloMosaic.TcCoe
open Idealize.ShloMosaic.ValueIdx
open Idealize.ShloMosaic.Pipeline (Dat)

theorem m_scale : Named.named (F := Ideal) κ "m_scale" (φ := .f32) 0x3FC48605#32 = ((8388608 / 5463681 : ℝ) : EReal) :=
  IdealRules.named_const.ideal_named_scalar _ _ _ _ rfl

theorem v_scale : Named.named (F := Ideal) κ "v_scale" (φ := .f32) 0x42C8E6D3#32 = ((268435456 / 2672307 : ℝ) : EReal) :=
  IdealRules.named_const.ideal_named_scalar _ _ _ _ rfl

/-! ## What a point stores, entry by entry -/

theorem mean_at (a b f : Vec Ideal S128x1024 .f32) (i : S128x1024.Idx) : k0_pay3 a b f i = Adam.mean (f i) (a i + b i) := by
  unfold k0_pay3 k0_pay2
  pointwise
  rfl

theorem square_at (a b f : Vec Ideal S128x1024 .f32) (i : S128x1024.Idx) : k0_pay4 a b f i = Adam.square (f i) (a i + b i) := by
  unfold k0_pay4 k0_pay2
  pointwise
  rfl

theorem step_at (a b w f v : Vec Ideal S128x1024 .f32) (i : S128x1024.Idx) :
    k0_pay1 (k0_pay5 a b f v w) (Scalar.ofBits .f32 0xBA83126F#32) i = Adam.step (w i) (Adam.mean (f i) (a i + b i)) (Adam.square (v i) (a i + b i)) := by
  unfold k0_pay1 k0_pay5
  pointwise
  rw [m_scale, v_scale, Adam.div_mean, Adam.div_square, mean_at, square_at]
  rfl

variable (m : (ℓ : Loc nD τ sig) → Buf (Elt Ideal) ℓ) (c : Dev nD)

/-! ## The arrays the call returns -/

theorem part_lt (r : Fin 128) : 1920 + r.val < 2048 := by omega

/-- The rows of the two siblings' sum that the call takes. -/
abbrev sum (a b : Vec Ideal S2048x1024 .f32) : Vec Ideal S128x1024 .f32 := fun y =>
  (a (ix2 (⟨1920 + (y 0).val, part_lt (y 0)⟩ : Fin 2048) (y 1)) : EReal) + b (ix2 (⟨1920 + (y 0).val, part_lt (y 0)⟩ : Fin 2048) (y 1))

abbrev total : Vec Ideal S128x1024 .f32 := sum (m ((c.tc : Thread nD τ).loc main_arg0)) (m ((c.tc : Thread nD τ).loc main_arg1))

abbrev means : Vec Ideal S128x1024 .f32 := fun y => Adam.mean (m ((c.tc : Thread nD τ).loc main_arg3) y) (total m c y)

abbrev squares : Vec Ideal S128x1024 .f32 := fun y => Adam.square (m ((c.tc : Thread nD τ).loc main_arg4) y) (total m c y)

abbrev steps : Vec Ideal S128x1024 .f32 := fun y => Adam.step (m ((c.tc : Thread nD τ).loc main_arg2) y) (means m c y) (squares m c y)

/-! ## Where the blocks lie -/

theorem place : ∀ t : Fin grid0.N, win0_0.index t = ![15 + t.val, 0] ∧ win0_1.index t = ![15 + t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] := by
  decide +kernel

theorem row_lt (t : Fin cfg0.N) (r : Fin 128) : t.val * 128 + r.val < 128 := by
  have hN : cfg0.N = 1 := N_0
  omega

/-- The array's row that point `t` has as its row `r`. -/
abbrev row (t : Fin cfg0.N) (r : Fin 128) : Fin 128 := ⟨t.val * 128 + r.val, row_lt t r⟩

theorem mine_at (t : Fin cfg0.N) (f : Vec Ideal S2048x1024 .f32) (r : Fin 128) (n : Fin 1024) : ((cfg0.win 0).blk t).view.read (Elt Ideal) f (ix2 r n)
    = f (ix2 (⟨1920 + (row t r).val, part_lt (row t r)⟩ : Fin 2048) n) := by
  have e : (15 + t.val) * 128 + r.val = 1920 + (t.val * 128 + r.val) := by omega
  blk_ext [show (cfg0.win 0).index t = _ from (place t).1, e]

theorem theirs_at (t : Fin cfg0.N) (f : Vec Ideal S2048x1024 .f32) (r : Fin 128) (n : Fin 1024) : ((cfg0.win 1).blk t).view.read (Elt Ideal) f (ix2 r n)
    = f (ix2 (⟨1920 + (row t r).val, part_lt (row t r)⟩ : Fin 2048) n) := by
  have e : (15 + t.val) * 128 + r.val = 1920 + (t.val * 128 + r.val) := by omega
  blk_ext [show (cfg0.win 1).index t = _ from (place t).2.1, e]

theorem w_at (t : Fin cfg0.N) (f : Vec Ideal S128x1024 .f32) (r : Fin 128) (n : Fin 1024) : ((cfg0.win 2).blk t).view.read (Elt Ideal) f (ix2 r n) = f (ix2 (row t r) n) := by
  blk_ext [show (cfg0.win 2).index t = _ from (place t).2.2.1]

theorem m_at (t : Fin cfg0.N) (f : Vec Ideal S128x1024 .f32) (r : Fin 128) (n : Fin 1024) : ((cfg0.win 3).blk t).view.read (Elt Ideal) f (ix2 r n) = f (ix2 (row t r) n) := by
  blk_ext [show (cfg0.win 3).index t = _ from (place t).2.2.2.1]

theorem v_at (t : Fin cfg0.N) (f : Vec Ideal S128x1024 .f32) (r : Fin 128) (n : Fin 1024) : ((cfg0.win 4).blk t).view.read (Elt Ideal) f (ix2 r n) = f (ix2 (row t r) n) := by
  blk_ext [show (cfg0.win 4).index t = _ from (place t).2.2.2.2.1]

theorem total_place (t : Fin cfg0.N) (r : Fin 128) (n : Fin 1024) : ((cfg0.win 5).blk t).view.emb (ix2 r n) = (ix2 (row t r) n : S128x1024.Idx) := by
  blk_ext [show (cfg0.win 5).index t = _ from (place t).2.2.2.2.2.1]

theorem step_place (t : Fin cfg0.N) (r : Fin 128) (n : Fin 1024) : ((cfg0.win 6).blk t).view.emb (ix2 r n) = (ix2 (row t r) n : S128x1024.Idx) := by
  blk_ext [show (cfg0.win 6).index t = _ from (place t).2.2.2.2.2.2.1]

theorem mean_place (t : Fin cfg0.N) (r : Fin 128) (n : Fin 1024) : ((cfg0.win 7).blk t).view.emb (ix2 r n) = (ix2 (row t r) n : S128x1024.Idx) := by
  blk_ext [show (cfg0.win 7).index t = _ from (place t).2.2.2.2.2.2.2.1]

theorem square_place (t : Fin cfg0.N) (r : Fin 128) (n : Fin 1024) : ((cfg0.win 8).blk t).view.emb (ix2 r n) = (ix2 (row t r) n : S128x1024.Idx) := by
  blk_ext [show (cfg0.win 8).index t = _ from (place t).2.2.2.2.2.2.2.2]

/-- The two parts' blocks. -/
abbrev blkMine (t : Fin cfg0.N) : Vec Ideal S128x1024 .f32 := iblk m c 0 t
abbrev blkTheirs (t : Fin cfg0.N) : Vec Ideal S128x1024 .f32 := iblk m c 1 t

theorem total_at (t : Fin cfg0.N) (r : Fin 128) (n : Fin 1024) : (blkMine m c t (ix2 r n) : EReal) + blkTheirs m c t (ix2 r n) = total m c (ix2 (row t r) n) :=
  congrArg₂ (fun p q : EReal => p + q) (mine_at t (V m c main_arg0) r n) (theirs_at t (V m c main_arg1) r n)

/-! ## The arrays after the last point -/

theorem final_total : (dats m 0 c).arrAt 5 cfg0.N = total m c := by
  refine (dats m 0 c).arrAt_eq_of_covers 5 _ (by decide +kernel) fun t hf y => ?_
  obtain ⟨r, n, rfl⟩ : ∃ (r : Fin 128) (n : Fin 1024), y = ix2 r n := ⟨_, _, ValueIdx.eq_ix2 y⟩
  rw [total_place]
  blk_simp
  rw [after0_5]
  frame_out
  exact total_at m c t r n

theorem final_step : (dats m 0 c).arrAt 6 cfg0.N = steps m c := by
  refine (dats m 0 c).arrAt_eq_of_covers 6 _ (by decide +kernel) fun t hf y => ?_
  obtain ⟨r, n, rfl⟩ : ∃ (r : Fin 128) (n : Fin 1024), y = ix2 r n := ⟨_, _, ValueIdx.eq_ix2 y⟩
  rw [step_place]
  blk_simp
  rw [after0_6]
  frame_out
  refine (step_at _ _ _ _ _ (ix2 r n)).trans ?_
  have e := total_at m c t r n
  exact congr (congrArg₂ Adam.step (w_at t (V m c main_arg2) r n) (congrArg₂ Adam.mean (m_at t (V m c main_arg3) r n) e)) (congrArg₂ Adam.square (v_at t (V m c main_arg4) r n) e)

theorem final_mean : (dats m 0 c).arrAt 7 cfg0.N = means m c := by
  refine (dats m 0 c).arrAt_eq_of_covers 7 _ (by decide +kernel) fun t hf y => ?_
  obtain ⟨r, n, rfl⟩ : ∃ (r : Fin 128) (n : Fin 1024), y = ix2 r n := ⟨_, _, ValueIdx.eq_ix2 y⟩
  rw [mean_place]
  blk_simp
  rw [after0_7]
  frame_out
  refine (mean_at _ _ _ (ix2 r n)).trans ?_
  exact congrArg₂ Adam.mean (m_at t (V m c main_arg3) r n) (total_at m c t r n)

theorem final_square : (dats m 0 c).arrAt 8 cfg0.N = squares m c := by
  refine (dats m 0 c).arrAt_eq_of_covers 8 _ (by decide +kernel) fun t hf y => ?_
  obtain ⟨r, n, rfl⟩ : ∃ (r : Fin 128) (n : Fin 1024), y = ix2 r n := ⟨_, _, ValueIdx.eq_ix2 y⟩
  rw [square_place]
  blk_simp
  rw [after0_8]
  frame_out
  refine (square_at _ _ _ (ix2 r n)).trans ?_
  exact congrArg₂ Adam.square (v_at t (V m c main_arg4) r n) (total_at m c t r n)

/-- The reference's rows of the sum. -/
theorem sum_at (a b : FVec Ideal Cert.Reference21Ideal.S2048x1024 .f32) (y : Cert.Reference21Ideal.S128x1024.Idx) :
    extractStridedSlice Cert.Reference21Ideal.S128x1024 ![1920, 0] (addf a b) Cert.Reference21Ideal.Gen.slices_S2048x1024_S128x1024_1920_0 y = sum a b y := by
  obtain ⟨s, n, rfl⟩ : ∃ (s : Fin 128) (n : Fin 1024), y = ix2 s n := ⟨_, _, ValueIdx.eq_ix2 y⟩
  pointwise
  simp only [ix2_eq_valueIdx]

open Idealize.SL.Sem

/-! ## The claims -/

theorem frame_kernel : @Cert.quiescent_Kernel21 Cert.Kernel21.Gen.facts := fun m ρ _ => Cert.Kernel21.Gen.frame (F := Bits) m ρ

theorem frame_kernel_ideal : @Cert.quiescent_Kernel21Ideal Cert.Kernel21Ideal.Gen.facts := fun m ρ _ => Cert.Kernel21Ideal.Gen.frame (F := Ideal) m ρ

theorem frame_reference : @Cert.quiescent_Reference21Ideal Cert.Reference21Ideal.Gen.facts := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem preserves : Cert.preserves_Kernel21_Kernel21Ideal :=
  ⟨IdealRules.named_const.statement κ "m_scale" .f32 0x3FC48605#32 ((8388608 / 5463681 : ℝ) : EReal) rfl,
    IdealRules.named_const.statement κ "v_scale" .f32 0x42C8E6D3#32 ((268435456 / 2672307 : ℝ) : EReal) rfl⟩

/-- The call returns the summed gradient, the step and the two means. -/
theorem agree : @Cert.algebraic_Kernel21Ideal_Reference21Ideal Cert.Kernel21Ideal.Gen.facts Cert.Reference21Ideal.Gen.facts :=
  fun m ρ m' ρ' _ ha => ⟨total m, steps m, means m, squares m,
    (θ_run Cert.Kernel21Ideal.defs _ _).mono (fun r h c => ⟨(h c).1.trans (final_total m c), (h c).2.1.trans (final_step m c),
      (h c).2.2.1.trans (final_mean m c), (h c).2.2.2.1.trans (final_square m c), (h c).2.2.2.2⟩) (Cert.Kernel21Ideal.Value.run_blocks (F := Ideal) m ρ),
    (θ_run Cert.Reference21Ideal.defs _ _).mono (fun r h c => by
      obtain ⟨a0, a1, a2, a3, a4⟩ := ha c
      have e := sum_at (m ((c.tc : Thread nD τ).loc main_arg0)) (m ((c.tc : Thread nD τ).loc main_arg1))
      refine ⟨(h c).1.trans ?_, (h c).2.1.trans ?_, (h c).2.2.1.trans ?_, (h c).2.2.2.1.trans ?_, (h c).2.2.2.2⟩
      · rw [a0, a1]
        exact funext e
      · rw [a0, a1, a2, a3, a4]
        funext y
        exact (congrArg (fun g : EReal => Adam.step (m ((c.tc : Thread nD τ).loc main_arg2) y) (Adam.mean (m ((c.tc : Thread nD τ).loc main_arg3) y) g) (Adam.square (m ((c.tc : Thread nD τ).loc main_arg4) y) g)) (e y))
      · rw [a0, a1, a3]
        funext y
        exact congrArg (Adam.mean (m ((c.tc : Thread nD τ).loc main_arg3) y)) (e y)
      · rw [a0, a1, a4]
        funext y
        exact congrArg (Adam.square (m ((c.tc : Thread nD τ).loc main_arg4) y)) (e y))
      (Cert.Reference21Ideal.Value.run (F := Ideal) m' ρ')⟩

end Calls.AdamSmall

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Kernel2.Launch
public import proofs.«01_k».proof.Proof.Gen.Kernel2Ideal.Value
public import proofs.«01_k».proof.Proof.Gen.Reference2Ideal.Run
public import proofs.«01_k».proof.Proof.Gen.Kernel3.Launch
public import proofs.«01_k».proof.Proof.Gen.Kernel3Ideal.Value
public import proofs.«01_k».proof.Proof.Gen.Reference3Ideal.Run
public import proofs.«01_k».proof.Proof.Gen.Kernel4.Launch
public import proofs.«01_k».proof.Proof.Gen.Kernel4Ideal.Value
public import proofs.«01_k».proof.Proof.Gen.Reference4Ideal.Run
public import proofs.«01_k».proof.Proof.Gen.Kernel5.Launch
public import proofs.«01_k».proof.Proof.Gen.Kernel5Ideal.Value
public import proofs.«01_k».proof.Proof.Gen.Reference5Ideal.Run
public import proofs.«01_k».proof.Proof.Gen.Kernel6.Launch
public import proofs.«01_k».proof.Proof.Gen.Kernel6Ideal.Value
public import proofs.«01_k».proof.Proof.Gen.Reference6Ideal.Run
public import proofs.«01_k».proof.Proof.Gen.Kernel7.Launch
public import proofs.«01_k».proof.Proof.Gen.Kernel7Ideal.Value
public import proofs.«01_k».proof.Proof.Gen.Reference7Ideal.Run
public import proofs.«01_k».proof.Proof.Gen.Kernel8.Launch
public import proofs.«01_k».proof.Proof.Gen.Kernel8Ideal.Value
public import proofs.«01_k».proof.Proof.Gen.Reference8Ideal.Run
public import proofs.«01_k».proof.Proof.Gen.Kernel9.Launch
public import proofs.«01_k».proof.Proof.Gen.Kernel9Ideal.Value
public import proofs.«01_k».proof.Proof.Gen.Reference9Ideal.Run
public import proofs.«01_k».proof.Proof.Gen.Kernel10.Launch
public import proofs.«01_k».proof.Proof.Gen.Kernel10Ideal.Value
public import proofs.«01_k».proof.Proof.Gen.Reference10Ideal.Run
public import proofs.«01_k».proof.Proof.Gen.Kernel11.Launch
public import proofs.«01_k».proof.Proof.Gen.Kernel11Ideal.Value
public import proofs.«01_k».proof.Proof.Gen.Reference11Ideal.Run
public import proofs.«01_k».proof.Proof.Gen.Kernel12.Launch
public import proofs.«01_k».proof.Proof.Gen.Kernel12Ideal.Value
public import proofs.«01_k».proof.Proof.Gen.Reference12Ideal.Run
public import proofs.«01_k».proof.Proof.Gen.Kernel13.Launch
public import proofs.«01_k».proof.Proof.Gen.Kernel13Ideal.Value
public import proofs.«01_k».proof.Proof.Gen.Reference13Ideal.Run
public import proofs.«01_k».proof.Proof.Gen.Kernel14.Launch
public import proofs.«01_k».proof.Proof.Gen.Kernel14Ideal.Value
public import proofs.«01_k».proof.Proof.Gen.Reference14Ideal.Run
public import proofs.«01_k».proof.Proof.Gen.Kernel15.Launch
public import proofs.«01_k».proof.Proof.Gen.Kernel15Ideal.Launch
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Pre_finite_gate
public import proofs.«01_k».proof.Proof.Gen.Pre_finite_products
public import proofs.«01_k».proof.Proof.Gen.Pre_finite_mixer
public import proofs.«01_k».proof.Proof.Frames
public import proofs.«01_k».proof.Proof.ReferenceFrame
public import proofs.«01_k».proof.Proof.Value.Claim
public import proofs.«01_k».proof.Proof.Calls.Frames
public import proofs.«01_k».proof.Proof.Calls.GradInA
public import proofs.«01_k».proof.Proof.Calls.DMix
public import proofs.«01_k».proof.Proof.Calls.GradInB
public import proofs.«01_k».proof.Proof.Calls.GradKv
public import proofs.«01_k».proof.Proof.Calls.GradOutA
public import proofs.«01_k».proof.Proof.Calls.GradOutB
public import proofs.«01_k».proof.Proof.Calls.InProjB
public import proofs.«01_k».proof.Proof.Calls.OutProjA
public import proofs.«01_k».proof.Proof.Calls.OutBBwd
public import proofs.«01_k».proof.Proof.Calls.RmsBwd
public import proofs.«01_k».proof.Proof.Calls.Loss
public import proofs.«01_k».proof.Proof.Calls.MixerFwd
public import proofs.«01_k».proof.Proof.Calls.MixerBwd
public import proofs.«01_k».proof.Proof.Calls.SwapClaim
public import proofs.«01_k».proof.Proof.Calls.AdamInA
public import proofs.«01_k».proof.Proof.Calls.AdamOutA
public import proofs.«01_k».proof.Proof.Calls.AdamKv
public import proofs.«01_k».proof.Proof.Calls.AdamInB
public import proofs.«01_k».proof.Proof.Calls.AdamOutB
public import proofs.«01_k».proof.Proof.Calls.AdamSmall

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite_gate.Gen.facts,
  Cert.Pre_finite_products.Gen.facts,
  Cert.Pre_finite_mixer.Gen.facts,
  frame_kernel, frame_kernel_ideal, frame_reference,
  Calls.frame_kernel_2, Calls.frame_kernel_ideal_2, Calls.frame_reference_2,
  Calls.frame_kernel_3, Calls.frame_kernel_ideal_3, Calls.frame_reference_3,
  Calls.frame_kernel_4, Calls.frame_kernel_ideal_4, Calls.frame_reference_4,
  Calls.frame_kernel_5, Calls.frame_kernel_ideal_5, Calls.frame_reference_5,
  Calls.frame_kernel_6, Calls.frame_kernel_ideal_6, Calls.frame_reference_6,
  Calls.frame_kernel_7, Calls.frame_kernel_ideal_7, Calls.frame_reference_7,
  Calls.frame_kernel_8, Calls.frame_kernel_ideal_8, Calls.frame_reference_8,
  Calls.frame_kernel_9, Calls.frame_kernel_ideal_9, Calls.frame_reference_9,
  Calls.frame_kernel_10, Calls.frame_kernel_ideal_10, Calls.frame_kernel_ideal_pre_10, Calls.frame_reference_10, Calls.frame_reference_pre_10,
  Calls.frame_kernel_11, Calls.frame_kernel_ideal_11, Calls.frame_kernel_ideal_pre_11, Calls.frame_reference_11, Calls.frame_reference_pre_11,
  Calls.frame_kernel_12, Calls.frame_kernel_ideal_12, Calls.frame_reference_12,
  Calls.frame_kernel_13, Calls.frame_kernel_ideal_13, Calls.frame_reference_13,
  Calls.frame_kernel_14, Calls.frame_kernel_ideal_14, Calls.frame_kernel_ideal_pre_14, Calls.frame_reference_14, Calls.frame_reference_pre_14,
  Calls.frame_kernel_15, Calls.frame_kernel_ideal_15, Calls.frame_reference_15,
  Calls.AdamInA.frame_kernel, Calls.AdamInA.frame_kernel_ideal, Calls.AdamInA.frame_reference,
  Calls.AdamOutA.frame_kernel, Calls.AdamOutA.frame_kernel_ideal, Calls.AdamOutA.frame_reference,
  Calls.AdamKv.frame_kernel, Calls.AdamKv.frame_kernel_ideal, Calls.AdamKv.frame_reference,
  Calls.AdamInB.frame_kernel, Calls.AdamInB.frame_kernel_ideal, Calls.AdamInB.frame_reference,
  Calls.AdamOutB.frame_kernel, Calls.AdamOutB.frame_kernel_ideal, Calls.AdamOutB.frame_reference,
  Calls.AdamSmall.frame_kernel, Calls.AdamSmall.frame_kernel_ideal, Calls.AdamSmall.frame_reference,
  trivial, values_agree,
  trivial, Calls.GradInA.agree,
  trivial, Calls.DMix.agree,
  trivial, Calls.GradInB.agree,
  trivial, Calls.GradKv.agree,
  trivial, Calls.GradOutA.agree,
  trivial, Calls.GradOutB.agree,
  trivial, Calls.InProjB.agree,
  trivial, Calls.OutProjA.agree,
  trivial, Calls.OutBBwd.agree,
  trivial, Calls.RmsBwd.agree,
  trivial, Calls.Loss.agree,
  trivial, Calls.MixerFwd.agree,
  trivial, Calls.MixerBwd.agree,
  trivial, Calls.Swap.agree,
  Calls.AdamInA.preserves, Calls.AdamInA.agree,
  Calls.AdamOutA.preserves, Calls.AdamOutA.agree,
  Calls.AdamKv.preserves, Calls.AdamKv.agree,
  Calls.AdamInB.preserves, Calls.AdamInB.agree,
  Calls.AdamOutB.preserves, Calls.AdamOutB.agree,
  Calls.AdamSmall.preserves, Calls.AdamSmall.agree⟩

end Cert.Proof

end
